-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_Attention (m : (ℓ : Loc Cert.Attention.nD Cert.Attention.τ Cert.Attention.sig) → Buf (Elt Bits) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2))
      ∧ r.2.sem = fun _ => 0)

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v66) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Mixer_MixerIdeal : Prop :=
  True

def algebraic_MixerIdeal_MixerReferenceIdeal [hMixerIdeal : Cert.MixerIdeal.Facts] [hMixerReferenceIdeal : Cert.MixerReferenceIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerReferenceIdeal.nD Cert.MixerReferenceIdeal.τ Cert.MixerReferenceIdeal.sig) → Buf (Elt Ideal) ℓ) (g' : Dev Cert.MixerReferenceIdeal.nD → PrngReg), Pre_MixerIdeal m →
    (∀ c : Dev Cert.MixerIdeal.nD,
      m' ((c.tc : Thread Cert.MixerReferenceIdeal.nD Cert.MixerReferenceIdeal.τ).loc Cert.MixerReferenceIdeal.main_arg0) = m ((c.tc : Thread Cert.MixerIdeal.nD Cert.MixerIdeal.τ).loc Cert.MixerIdeal.main_arg0)
      ∧ m' ((c.tc : Thread Cert.MixerReferenceIdeal.nD Cert.MixerReferenceIdeal.τ).loc Cert.MixerReferenceIdeal.main_arg1) = m ((c.tc : Thread Cert.MixerIdeal.nD Cert.MixerIdeal.τ).loc Cert.MixerIdeal.main_arg1)
      ∧ m' ((c.tc : Thread Cert.MixerReferenceIdeal.nD Cert.MixerReferenceIdeal.τ).loc Cert.MixerReferenceIdeal.main_arg2) = m ((c.tc : Thread Cert.MixerIdeal.nD Cert.MixerIdeal.τ).loc Cert.MixerIdeal.main_arg2)
      ∧ m' ((c.tc : Thread Cert.MixerReferenceIdeal.nD Cert.MixerReferenceIdeal.τ).loc Cert.MixerReferenceIdeal.main_arg3) = m ((c.tc : Thread Cert.MixerIdeal.nD Cert.MixerIdeal.τ).loc Cert.MixerIdeal.main_arg3)
      ∧ m' ((c.tc : Thread Cert.MixerReferenceIdeal.nD Cert.MixerReferenceIdeal.τ).loc Cert.MixerReferenceIdeal.main_arg4) = m ((c.tc : Thread Cert.MixerIdeal.nD Cert.MixerIdeal.τ).loc Cert.MixerIdeal.main_arg4)
      ∧ m' ((c.tc : Thread Cert.MixerReferenceIdeal.nD Cert.MixerReferenceIdeal.τ).loc Cert.MixerReferenceIdeal.main_arg5) = m ((c.tc : Thread Cert.MixerIdeal.nD Cert.MixerIdeal.τ).loc Cert.MixerIdeal.main_arg5)
      ∧ m' ((c.tc : Thread Cert.MixerReferenceIdeal.nD Cert.MixerReferenceIdeal.τ).loc Cert.MixerReferenceIdeal.main_arg6) = m ((c.tc : Thread Cert.MixerIdeal.nD Cert.MixerIdeal.τ).loc Cert.MixerIdeal.main_arg6)
      ∧ m' ((c.tc : Thread Cert.MixerReferenceIdeal.nD Cert.MixerReferenceIdeal.τ).loc Cert.MixerReferenceIdeal.main_arg7) = m ((c.tc : Thread Cert.MixerIdeal.nD Cert.MixerIdeal.τ).loc Cert.MixerIdeal.main_arg7)
      ∧ m' ((c.tc : Thread Cert.MixerReferenceIdeal.nD Cert.MixerReferenceIdeal.τ).loc Cert.MixerReferenceIdeal.main_arg8) = m ((c.tc : Thread Cert.MixerIdeal.nD Cert.MixerIdeal.τ).loc Cert.MixerIdeal.main_arg8)) →
    ∃ (v0 : (c : Dev Cert.MixerIdeal.nD) → Buf (Elt Ideal) ((c.tc : Thread Cert.MixerIdeal.nD Cert.MixerIdeal.τ).loc Cert.MixerIdeal.main_v17)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v17) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8))
      ∧ θ_run (Cert.MixerReferenceIdeal.defs (F := Ideal)) (onTc (τ := Cert.MixerReferenceIdeal.τ) (Cert.MixerReferenceIdeal.main (F := Ideal))) ⟨m', fun _ => 0, g'⟩ (fun r => ∀ c : Dev Cert.MixerReferenceIdeal.nD,
          r.2.mem ((c.tc : Thread Cert.MixerReferenceIdeal.nD Cert.MixerReferenceIdeal.τ).loc Cert.MixerReferenceIdeal.main_v190) = v0 c
          ∧ r.2.mem ((c.tc : Thread Cert.MixerReferenceIdeal.nD Cert.MixerReferenceIdeal.τ).loc Cert.MixerReferenceIdeal.main_arg0) = m' ((c.tc : Thread Cert.MixerReferenceIdeal.nD Cert.MixerReferenceIdeal.τ).loc Cert.MixerReferenceIdeal.main_arg0)
          ∧ r.2.mem ((c.tc : Thread Cert.MixerReferenceIdeal.nD Cert.MixerReferenceIdeal.τ).loc Cert.MixerReferenceIdeal.main_arg1) = m' ((c.tc : Thread Cert.MixerReferenceIdeal.nD Cert.MixerReferenceIdeal.τ).loc Cert.MixerReferenceIdeal.main_arg1)
          ∧ r.2.mem ((c.tc : Thread Cert.MixerReferenceIdeal.nD Cert.MixerReferenceIdeal.τ).loc Cert.MixerReferenceIdeal.main_arg2) = m' ((c.tc : Thread Cert.MixerReferenceIdeal.nD Cert.MixerReferenceIdeal.τ).loc Cert.MixerReferenceIdeal.main_arg2)
          ∧ r.2.mem ((c.tc : Thread Cert.MixerReferenceIdeal.nD Cert.MixerReferenceIdeal.τ).loc Cert.MixerReferenceIdeal.main_arg3) = m' ((c.tc : Thread Cert.MixerReferenceIdeal.nD Cert.MixerReferenceIdeal.τ).loc Cert.MixerReferenceIdeal.main_arg3)
          ∧ r.2.mem ((c.tc : Thread Cert.MixerReferenceIdeal.nD Cert.MixerReferenceIdeal.τ).loc Cert.MixerReferenceIdeal.main_arg4) = m' ((c.tc : Thread Cert.MixerReferenceIdeal.nD Cert.MixerReferenceIdeal.τ).loc Cert.MixerReferenceIdeal.main_arg4)
          ∧ r.2.mem ((c.tc : Thread Cert.MixerReferenceIdeal.nD Cert.MixerReferenceIdeal.τ).loc Cert.MixerReferenceIdeal.main_arg5) = m' ((c.tc : Thread Cert.MixerReferenceIdeal.nD Cert.MixerReferenceIdeal.τ).loc Cert.MixerReferenceIdeal.main_arg5)
          ∧ r.2.mem ((c.tc : Thread Cert.MixerReferenceIdeal.nD Cert.MixerReferenceIdeal.τ).loc Cert.MixerReferenceIdeal.main_arg6) = m' ((c.tc : Thread Cert.MixerReferenceIdeal.nD Cert.MixerReferenceIdeal.τ).loc Cert.MixerReferenceIdeal.main_arg6)
          ∧ r.2.mem ((c.tc : Thread Cert.MixerReferenceIdeal.nD Cert.MixerReferenceIdeal.τ).loc Cert.MixerReferenceIdeal.main_arg7) = m' ((c.tc : Thread Cert.MixerReferenceIdeal.nD Cert.MixerReferenceIdeal.τ).loc Cert.MixerReferenceIdeal.main_arg7)
          ∧ r.2.mem ((c.tc : Thread Cert.MixerReferenceIdeal.nD Cert.MixerReferenceIdeal.τ).loc Cert.MixerReferenceIdeal.main_arg8) = m' ((c.tc : Thread Cert.MixerReferenceIdeal.nD Cert.MixerReferenceIdeal.τ).loc Cert.MixerReferenceIdeal.main_arg8))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v51_0)) (v1 : (c : Dev Cert.ProjectionIdeal.nD) → Buf (Elt Ideal) ((c.tc : Thread Cert.ProjectionIdeal.nD Cert.ProjectionIdeal.τ).loc Cert.ProjectionIdeal.main_v51_1)) (v2 : (c : Dev Cert.ProjectionIdeal.nD) → Buf (Elt Ideal) ((c.tc : Thread Cert.ProjectionIdeal.nD Cert.ProjectionIdeal.τ).loc Cert.ProjectionIdeal.main_v51_2)) (v3 : (c : Dev Cert.ProjectionIdeal.nD) → Buf (Elt Ideal) ((c.tc : Thread Cert.ProjectionIdeal.nD Cert.ProjectionIdeal.τ).loc Cert.ProjectionIdeal.main_v51_3)) (v4 : (c : Dev Cert.ProjectionIdeal.nD) → Buf (Elt Ideal) ((c.tc : Thread Cert.ProjectionIdeal.nD Cert.ProjectionIdeal.τ).loc Cert.ProjectionIdeal.main_v51_4)) (v5 : (c : Dev Cert.ProjectionIdeal.nD) → Buf (Elt Ideal) ((c.tc : Thread Cert.ProjectionIdeal.nD Cert.ProjectionIdeal.τ).loc Cert.ProjectionIdeal.main_v51_5)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v51_0) = v0 c
          ∧ r.2.mem ((c.tc : Thread Cert.ProjectionIdeal.nD Cert.ProjectionIdeal.τ).loc Cert.ProjectionIdeal.main_v51_1) = v1 c
          ∧ r.2.mem ((c.tc : Thread Cert.ProjectionIdeal.nD Cert.ProjectionIdeal.τ).loc Cert.ProjectionIdeal.main_v51_2) = v2 c
          ∧ r.2.mem ((c.tc : Thread Cert.ProjectionIdeal.nD Cert.ProjectionIdeal.τ).loc Cert.ProjectionIdeal.main_v51_3) = v3 c
          ∧ r.2.mem ((c.tc : Thread Cert.ProjectionIdeal.nD Cert.ProjectionIdeal.τ).loc Cert.ProjectionIdeal.main_v51_4) = v4 c
          ∧ r.2.mem ((c.tc : Thread Cert.ProjectionIdeal.nD Cert.ProjectionIdeal.τ).loc Cert.ProjectionIdeal.main_v51_5) = v5 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v111) = v0 c
          ∧ r.2.mem ((c.tc : Thread Cert.ProjectionReferenceIdeal.nD Cert.ProjectionReferenceIdeal.τ).loc Cert.ProjectionReferenceIdeal.main_v114) = v1 c
          ∧ r.2.mem ((c.tc : Thread Cert.ProjectionReferenceIdeal.nD Cert.ProjectionReferenceIdeal.τ).loc Cert.ProjectionReferenceIdeal.main_v116) = v2 c
          ∧ r.2.mem ((c.tc : Thread Cert.ProjectionReferenceIdeal.nD Cert.ProjectionReferenceIdeal.τ).loc Cert.ProjectionReferenceIdeal.main_v117) = v3 c
          ∧ r.2.mem ((c.tc : Thread Cert.ProjectionReferenceIdeal.nD Cert.ProjectionReferenceIdeal.τ).loc Cert.ProjectionReferenceIdeal.main_v119) = v4 c
          ∧ r.2.mem ((c.tc : Thread Cert.ProjectionReferenceIdeal.nD Cert.ProjectionReferenceIdeal.τ).loc Cert.ProjectionReferenceIdeal.main_v121) = v5 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2))

def Claim : Prop :=
  ∃ (hFfn : Cert.Ffn.Facts) (hFfnIdeal : Cert.FfnIdeal.Facts) (hFfnReferenceIdeal : Cert.FfnReferenceIdeal.Facts) (hMixer : Cert.Mixer.Facts) (hMixerIdeal : Cert.MixerIdeal.Facts) (hMixerReferenceIdeal : Cert.MixerReferenceIdeal.Facts) (hAttention : Cert.Attention.Facts) (hProjection : Cert.Projection.Facts) (hProjectionIdeal : Cert.ProjectionIdeal.Facts) (hProjectionReferenceIdeal : Cert.ProjectionReferenceIdeal.Facts),
    quiescent_Ffn (hFfn := hFfn)
    ∧ quiescent_FfnIdeal (hFfnIdeal := hFfnIdeal)
    ∧ quiescent_FfnReferenceIdeal (hFfnReferenceIdeal := hFfnReferenceIdeal)
    ∧ quiescent_Mixer (hMixer := hMixer)
    ∧ quiescent_MixerIdeal (hMixerIdeal := hMixerIdeal)
    ∧ quiescent_MixerReferenceIdeal (hMixerReferenceIdeal := hMixerReferenceIdeal)
    ∧ quiescent_Attention (hAttention := hAttention)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Ffn_FfnIdeal
    ∧ algebraic_FfnIdeal_FfnReferenceIdeal (hFfnIdeal := hFfnIdeal) (hFfnReferenceIdeal := hFfnReferenceIdeal)
    ∧ preserves_Mixer_MixerIdeal
    ∧ algebraic_MixerIdeal_MixerReferenceIdeal (hMixerIdeal := hMixerIdeal) (hMixerReferenceIdeal := hMixerReferenceIdeal)
    ∧ preserves_Projection_ProjectionIdeal
    ∧ algebraic_ProjectionIdeal_ProjectionReferenceIdeal (hProjectionIdeal := hProjectionIdeal) (hProjectionReferenceIdeal := hProjectionReferenceIdeal)
-- ==== Ffn.lean ====
abbrev S2x8192x1024 : Shape := ⟨3, ![2, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x512x1024 : Shape := ⟨3, ![1, 512, 1024]⟩
abbrev S1x16x1024 : Shape := ⟨3, ![1, 16, 1024]⟩
abbrev S528x1024 : Shape := ⟨2, ![528, 1024]⟩
abbrev S512x2816 : Shape := ⟨2, ![512, 2816]⟩
abbrev S528x2816 : Shape := ⟨2, ![528, 2816]⟩
abbrev S512x1024 : Shape := ⟨2, ![512, 1024]⟩
abbrev S16x1024 : Shape := ⟨2, ![16, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1024x2816 : Shape := ⟨2, ![1024, 2816]⟩
abbrev S3x2816 : Shape := ⟨2, ![3, 2816]⟩
abbrev S1x2816 : Shape := ⟨2, ![1, 2816]⟩
abbrev S16x2816 : Shape := ⟨2, ![16, 2816]⟩

abbrev nBuf : Space → Nat
  | .hbm => 18
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1024x5632, .f32⟩
  | .hbm, ⟨10, _⟩ => ⟨S1024x5632, .bf16⟩
  | .hbm, ⟨11, _⟩ => ⟨S3x5632, .f32⟩
  | .hbm, ⟨12, _⟩ => ⟨S5632, .f32⟩
  | .hbm, ⟨13, _⟩ => ⟨S1x5632, .f32⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1024, .f32⟩
  | .local _ .vmem, ⟨5, _⟩ => ⟨S1024x5632, .bf16⟩
  | .local _ .vmem, ⟨6, _⟩ => ⟨S3x5632, .f32⟩
  | .local _ .vmem, ⟨7, _⟩ => ⟨S1x5632, .f32⟩
  | .local _ .vmem, ⟨8, _⟩ => ⟨S2816x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S528x1024, .bf16⟩
  | .local _ .vmem, ⟨13, _⟩ => ⟨S512x2816, .bf16⟩
  | .local _ .vmem, ⟨14, _⟩ => ⟨S528x2816, .f32⟩
  | .local _ .vmem, ⟨15, _⟩ => ⟨S528x2816, .f32⟩
  | .local _ .vmem, ⟨16, _⟩ => ⟨S528x2816, .f32⟩
  | .local _ .vmem, ⟨17, _⟩ => ⟨S528x2816, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnReferenceIdeal.lean ====
abbrev S2x8192x1024 : Shape := ⟨3, ![2, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S2x8194x5632 : Shape := ⟨3, ![2, 8194, 5632]⟩
abbrev S1x1x5632 : Shape := ⟨3, ![1, 1, 5632]⟩
abbrev S5632 : Shape := ⟨1, ![5632]⟩
abbrev S2x8192x2816 : Shape := ⟨3, ![2, 8192, 2816]⟩
abbrev S2816x1024 : Shape := ⟨2, ![2816, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1024x5632, .f32⟩
  | .hbm, ⟨25, _⟩ => ⟨S2x8192x5632, .f32⟩
  | .hbm, ⟨26, _⟩ => ⟨S_, .i32⟩
  | .hbm, ⟨27, _⟩ => ⟨S_, .f32⟩
  | .hbm, ⟨28, _⟩ => ⟨S2x8194x5632, .f32⟩
  | .hbm, ⟨29, _⟩ => ⟨S2x8192x5632, .f32⟩
  | .hbm, ⟨30, _⟩ => ⟨S1x1x5632, .f32⟩
  | .hbm, ⟨31, _⟩ => ⟨S5632, .f32⟩
  | .hbm, ⟨32, _⟩ => ⟨S1x1x5632, .f32⟩
  | .hbm, ⟨33, _⟩ => ⟨S2x8192x5632, .f32⟩
  | .hbm, ⟨34, _⟩ => ⟨S2x8192x5632, .f32⟩
  | .hbm, ⟨35, _⟩ => ⟨S2x8192x5632, .f32⟩
  | .hbm, ⟨36, _⟩ => ⟨S1x1x5632, .f32⟩
  | .hbm, ⟨37, _⟩ => ⟨S5632, .f32⟩
  | .hbm, ⟨38, _⟩ => ⟨S1x1x5632, .f32⟩
  | .hbm, ⟨39, _⟩ => ⟨S2x8192x5632, .f32⟩
  | .hbm, ⟨40, _⟩ => ⟨S2x8192x5632, .f32⟩
  | .hbm, ⟨41, _⟩ => ⟨S2x8192x5632, .f32⟩
  | .hbm, ⟨42, _⟩ => ⟨S2x8192x5632, .f32⟩
  | .hbm, ⟨43, _⟩ => ⟨S1x1x5632, .f32⟩
  | .hbm, ⟨44, _⟩ => ⟨S5632, .f32⟩
  | .hbm, ⟨45, _⟩ => ⟨S1x1x5632, .f32⟩
  | .hbm, ⟨46, _⟩ => ⟨S2x8192x5632, .f32⟩
  | .hbm, ⟨47, _⟩ => ⟨S2x8192x5632, .f32⟩
  | .hbm, ⟨48, _⟩ => ⟨S2x8192x5632, .f32⟩
  | .hbm, ⟨49, _⟩ => ⟨S5632, .f32⟩
  | .hbm, ⟨50, _⟩ => ⟨S1x1x5632, .f32⟩
  | .hbm, ⟨51, _⟩ => ⟨S2x8192x5632, .f32⟩
  | .hbm, ⟨52, _⟩ => ⟨S2x8192x5632, .f32⟩
  | .hbm, ⟨53, _⟩ => ⟨S2x8192x2816, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S_, .f32⟩
  | .hbm, ⟨58, _⟩ => ⟨S2x8192x2816, .f32⟩
  | .hbm, ⟨59, _⟩ => ⟨S2x8192x2816, .f32⟩
  | .hbm, ⟨60, _⟩ => ⟨S_, .f32⟩
  | .hbm, ⟨61, _⟩ => ⟨S2x8192x2816, .f32⟩
  | .hbm, ⟨62, _⟩ => ⟨S2x8192x2816, .f32⟩
  | .hbm, ⟨63, _⟩ => ⟨S2x8192x2816, .f32⟩
  | .hbm, ⟨64, _⟩ => ⟨S2x8192x2816, .f32⟩
  | .hbm, ⟨65, _⟩ => ⟨S2816x1024, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S_, .f32⟩
  | .hbm, ⟨70, _⟩ => ⟨S2x8192, .f32⟩
  | .hbm, ⟨71, _⟩ => ⟨S2x8192x1, .f32⟩
  | .hbm, ⟨72, _⟩ => ⟨S_, .f32⟩
  | .hbm, ⟨73, _⟩ => ⟨S2x8192x1, .f32⟩
  | .hbm, ⟨74, _⟩ => ⟨S2x8192x1, .f32⟩
  | .hbm, ⟨75, _⟩ => ⟨S_, .f32⟩
  | .hbm, ⟨76, _⟩ => ⟨S2x8192x1, .f32⟩
  | .hbm, ⟨77, _⟩ => ⟨S2x8192x1, .f32⟩
  | .hbm, ⟨78, _⟩ => ⟨S2x8192x1, .f32⟩
  | .hbm, ⟨79, _⟩ => ⟨S2x8192x1024, .f32⟩
  | .hbm, ⟨80, _⟩ => ⟨S2x8192x1024, .f32⟩
  | .hbm, ⟨81, _⟩ => ⟨S1x1x1024, .f32⟩
  | .hbm, ⟨82, _⟩ => ⟨S2x8192x1024, .f32⟩
  | .hbm, ⟨83, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_2 : Ref sig .tc := ⟨.hbm, 57, rfl⟩
abbrev main_v45 : Ref sig .tc := ⟨.hbm, 58, rfl⟩
abbrev main_v46 : Ref sig .tc := ⟨.hbm, 59, rfl⟩
abbrev main_cst_3 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_cst_6 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Mixer.lean ====
abbrev S2x8192x1024 : Shape := ⟨3, ![2, 8192, 1024]⟩
abbrev S2x8192x512 : Shape := ⟨3, ![2, 8192, 512]⟩
abbrev S1x1024 : Shape := ⟨2, ![1, 1024]⟩
abbrev S1x1024x4680 : Shape := ⟨3, ![1, 1024, 4680]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S1024x4680 : Shape := ⟨2, ![1024, 4680]⟩
abbrev S1024 : Shape := ⟨1, ![1024]⟩
abbrev S1024x512 : Shape := ⟨2, ![1024, 512]⟩
abbrev S1024x2048 : Shape := ⟨2, ![1024, 2048]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1x16x1024 : Shape := ⟨3, ![1, 16, 1024]⟩
abbrev S1x512x512 : Shape := ⟨3, ![1, 512, 512]⟩
abbrev S528x512 : Shape := ⟨2, ![528, 512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S16x512 : Shape := ⟨2, ![16, 512]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S512x2048 : Shape := ⟨2, ![512, 2048]⟩

abbrev nBuf : Space → Nat
  | .hbm => 27
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S1x1024, .f32⟩
  | .hbm, ⟨3, _⟩ => ⟨S1x1024x4680, .f32⟩
  | .hbm, ⟨4, _⟩ => ⟨S1x4x128x128, .f32⟩
  | .hbm, ⟨5, _⟩ => ⟨S1x512, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1024x4680, .f32⟩
  | .hbm, ⟨10, _⟩ => ⟨S1024, .f32⟩
  | .hbm, ⟨11, _⟩ => ⟨S1x1024, .f32⟩
  | .hbm, ⟨12, _⟩ => ⟨S1024x512, .f32⟩
  | .hbm, ⟨13, _⟩ => ⟨S1024x512, .bf16⟩
  | .hbm, ⟨14, _⟩ => ⟨S1024x2048, .f32⟩
  | .hbm, ⟨15, _⟩ => ⟨S1024x2048, .bf16⟩
  | .hbm, ⟨16, _⟩ => ⟨S4x128x128, .f32⟩
  | .hbm, ⟨17, _⟩ => ⟨S4x128x128, .bf16⟩
  | .hbm, ⟨18, _⟩ => ⟨S512, .f32⟩
  | .hbm, ⟨19, _⟩ => ⟨S1x512, .f32⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S1024x1024, .f32⟩
  | .hbm, ⟨25, _⟩ => ⟨S1024x1024, .bf16⟩
  | .hbm, ⟨26, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x1024, .f32⟩
  | .local _ .vmem, ⟨7, _⟩ => ⟨S1024x512, .bf16⟩
  | .local _ .vmem, ⟨8, _⟩ => ⟨S1024x2048, .bf16⟩
  | .local _ .vmem, ⟨9, _⟩ => ⟨S4x128x128, .bf16⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x512x1024, .f32⟩
  | .local _ .vmem, ⟨15, _⟩ => ⟨S1x512x1024, .f32⟩
  | .local _ .vmem, ⟨16, _⟩ => ⟨S528x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixerReferenceIdeal.lean ====
abbrev S2x8192x1024 : Shape := ⟨3, ![2, 8192, 1024]⟩
abbrev S2x8192x512 : Shape := ⟨3, ![2, 8192, 512]⟩
abbrev S1x1024 : Shape := ⟨2, ![1, 1024]⟩
abbrev S1x1024x4680 : Shape := ⟨3, ![1, 1024, 4680]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x4680 : Shape := ⟨2, ![1024, 4680]⟩
abbrev S2x8192x4680 : Shape := ⟨3, ![2, 8192, 4680]⟩
abbrev S2x8192x4x128 : Shape := ⟨4, ![2, 8192, 4, 128]⟩
abbrev S2x8192x2048 : Shape := ⟨3, ![2, 8192, 2048]⟩
abbrev S2x8207x4x128 : Shape := ⟨4, ![2, 8207, 4, 128]⟩
abbrev S8192 : Shape := ⟨1, ![8192]⟩
abbrev S2x8192x1x128 : Shape := ⟨4, ![2, 8192, 1, 128]⟩
abbrev S2x8192x128 : Shape := ⟨3, ![2, 8192, 128]⟩
abbrev S1x8192x1 : Shape := ⟨3, ![1, 8192, 1]⟩
abbrev S4x128x128 : Shape := ⟨3, ![4, 128, 128]⟩
abbrev S4x128x2x8192 : Shape := ⟨4, ![4, 128, 2, 8192]⟩
abbrev S512 : Shape := ⟨1, ![512]⟩
abbrev S1x1x512 : Shape := ⟨3, ![1, 1, 512]⟩
abbrev S512x1024 : Shape := ⟨2, ![512, 1024]⟩
abbrev S1024x1024 : Shape := ⟨2, ![1024, 1024]⟩

abbrev nBuf : Space → Nat
  | .hbm => 219
  | .vmem => 0
  | .smem => 0
  | _ => 0

abbrev hbmTy0_0 (i : Nat) : BufTy := match i % 128 with
  | 0 => ⟨S2x8192x1024, .f32⟩
  | 1 => ⟨S2x8192x512, .bf16⟩
  | 2 => ⟨S1x1024, .f32⟩
  | 3 => ⟨S1x1024x4680, .f32⟩
  | 4 => ⟨S1x4x128x128, .f32⟩
  | 5 => ⟨S1x512, .f32⟩
  | 6 => ⟨S1x512x1024, .f32⟩
  | 7 => ⟨S1x512x1024, .f32⟩
  | 8 => ⟨S1x1024x1024, .f32⟩
  | 9 => ⟨S1024, .f32⟩
  | 10 => ⟨S2x8192x1024, .f32⟩
  | 11 => ⟨S_, .f32⟩
  | 12 => ⟨S2x8192, .f32⟩
  | 13 => ⟨S2x8192x1, .f32⟩
  | 14 => ⟨S_, .f32⟩
  | 15 => ⟨S2x8192x1, .f32⟩
  | 16 => ⟨S2x8192x1, .f32⟩
  | 17 => ⟨S_, .f32⟩
  | 18 => ⟨S2x8192x1, .f32⟩
  | 19 => ⟨S2x8192x1, .f32⟩
  | 20 => ⟨S2x8192x1, .f32⟩
  | 21 => ⟨S2x8192x1024, .f32⟩
  | 22 => ⟨S2x8192x1024, .f32⟩
  | 23 => ⟨S1x1x1024, .f32⟩
  | 24 => ⟨S2x8192x1024, .f32⟩
  | 25 => ⟨S2x8192x1024, .f32⟩
  | 26 => ⟨S1024x4680, .f32⟩
  | 27 => ⟨S2x8192x4680, .f32⟩
  | 28 => ⟨S2x8192x512, .f32⟩
  | 29 => ⟨S2x8192x4x128, .f32⟩
  | 30 => ⟨S2x8192x2048, .f32⟩
  | 31 => ⟨S2x8192x2048, .f32⟩
  | 32 => ⟨S2x8192x2048, .f32⟩
  | 33 => ⟨S_, .f32⟩
  | 34 => ⟨S2x8192x2048, .f32⟩
  | 35 => ⟨S2x8192x2048, .f32⟩
  | 36 => ⟨S_, .f32⟩
  | 37 => ⟨S2x8192x2048, .f32⟩
  | 38 => ⟨S2x8192x2048, .f32⟩
  | 39 => ⟨S_, .i32⟩
  | 40 => ⟨S_, .f32⟩
  | 41 => ⟨S2x8207x4x128, .f32⟩
  | 42 => ⟨S8192, .i32⟩
  | 43 => ⟨S2x8192x1x128, .f32⟩
  | 44 => ⟨S2x8192x128, .f32⟩
  | 45 => ⟨S_, .f32⟩
  | 46 => ⟨S2x8192x128, .f32⟩
  | 47 => ⟨S2x8192x128, .f32⟩
  | 48 => ⟨S2x8192x1x128, .f32⟩
  | 49 => ⟨S2x8192x128, .f32⟩
  | 50 => ⟨S2x8192x128, .f32⟩
  | 51 => ⟨S_, .i32⟩
  | 52 => ⟨S8192, .i32⟩
  | 53 => ⟨S8192, .i32⟩
  | 54 => ⟨S_, .i32⟩
  | 55 => ⟨S8192, .i32⟩
  | 56 => ⟨S8192, .i32⟩
  | 57 => ⟨S8192, .f32⟩
  | 58 => ⟨S1x8192x1, .f32⟩
  | 59 => ⟨S2x8192x128, .f32⟩
  | 60 => ⟨S2x8192x128, .f32⟩
  | 61 => ⟨S2x8192x1x128, .f32⟩
  | 62 => ⟨S2x8192x128, .f32⟩
  | 63 => ⟨S2x8192x128, .f32⟩
  | 64 => ⟨S2x8192x1x128, .f32⟩
  | 65 => ⟨S2x8192x128, .f32⟩
  | 66 => ⟨S_, .f32⟩
  | 67 => ⟨S2x8192x128, .f32⟩
  | 68 => ⟨S2x8192x128, .f32⟩
  | 69 => ⟨S2x8192x1x128, .f32⟩
  | 70 => ⟨S2x8192x128, .f32⟩
  | 71 => ⟨S2x8192x128, .f32⟩
  | 72 => ⟨S2x8192x1x128, .f32⟩
  | 73 => ⟨S2x8192x128, .f32⟩
  | 74 => ⟨S2x8192x128, .f32⟩
  | 75 => ⟨S2x8192x1x128, .f32⟩
  | 76 => ⟨S2x8192x128, .f32⟩
  | 77 => ⟨S2x8192x128, .f32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S8192, .f32⟩
  | 85 => ⟨S1x8192x1, .f32⟩
  | 86 => ⟨S2x8192x128, .f32⟩
  | 87 => ⟨S2x8192x128, .f32⟩
  | 88 => ⟨S2x8192x1x128, .f32⟩
  | 89 => ⟨S2x8192x128, .f32⟩
  | 90 => ⟨S2x8192x128, .f32⟩
  | 91 => ⟨S2x8192x1x128, .f32⟩
  | 92 => ⟨S2x8192x128, .f32⟩
  | 93 => ⟨S_, .f32⟩
  | 94 => ⟨S2x8192x128, .f32⟩
  | 95 => ⟨S2x8192x128, .f32⟩
  | 96 => ⟨S2x8192x1x128, .f32⟩
  | 97 => ⟨S2x8192x128, .f32⟩
  | 98 => ⟨S2x8192x128, .f32⟩
  | 99 => ⟨S2x8192x1x128, .f32⟩
  | 100 => ⟨S2x8192x128, .f32⟩
  | 101 => ⟨S2x8192x128, .f32⟩
  | 102 => ⟨S2x8192x1x128, .f32⟩
  | 103 => ⟨S2x8192x128, .f32⟩
  | 104 => ⟨S2x8192x128, .f32⟩
  | 105 => ⟨S2x8192x1x128, .f32⟩
  | 106 => ⟨S2x8192x128, .f32⟩
  | 107 => ⟨S2x8192x128, .f32⟩
  | 108 => ⟨S2x8192x1x128, .f32⟩
  | 109 => ⟨S2x8192x128, .f32⟩
  | 110 => ⟨S2x8192x128, .f32⟩
  | 111 => ⟨S2x8192x1x128, .f32⟩
  | 112 => ⟨S2x8192x128, .f32⟩
  | 113 => ⟨S2x8192x128, .f32⟩
  | 114 => ⟨S2x8192x1x128, .f32⟩
  | 115 => ⟨S2x8192x128, .f32⟩
  | 116 => ⟨S2x8192x128, .f32⟩
  | 117 => ⟨S_, .i32⟩
  | 118 => ⟨S8192, .i32⟩
  | 119 => ⟨S8192, .i32⟩
  | 120 => ⟨S_, .i32⟩
  | 121 => ⟨S8192, .i32⟩
  | 122 => ⟨S8192, .i32⟩
  | 123 => ⟨S8192, .f32⟩
  | 124 => ⟨S1x8192x1, .f32⟩
  | 125 => ⟨S2x8192x128, .f32⟩
  | 126 => ⟨S2x8192x128, .f32⟩
  | 127 => ⟨S2x8192x1x128, .f32⟩
  | _ => ⟨S2x8192x1024, .f32⟩

abbrev hbmTy0_1 (i : Nat) : BufTy := match i % 128 with
  | 0 => ⟨S2x8192x128, .f32⟩
  | 1 => ⟨S2x8192x128, .f32⟩
  | 2 => ⟨S2x8192x1x128, .f32⟩
  | 3 => ⟨S2x8192x128, .f32⟩
  | 4 => ⟨S_, .f32⟩
  | 5 => ⟨S2x8192x128, .f32⟩
  | 6 => ⟨S2x8192x128, .f32⟩
  | 7 => ⟨S2x8192x1x128, .f32⟩
  | 8 => ⟨S2x8192x128, .f32⟩
  | 9 => ⟨S2x8192x128, .f32⟩
  | 10 => ⟨S2x8192x1x128, .f32⟩
  | 11 => ⟨S2x8192x128, .f32⟩
  | 12 => ⟨S2x8192x128, .f32⟩
  | 13 => ⟨S2x8192x1x128, .f32⟩
  | 14 => ⟨S2x8192x128, .f32⟩
  | 15 => ⟨S2x8192x128, .f32⟩
  | 16 => ⟨S2x8192x1x128, .f32⟩
  | 17 => ⟨S2x8192x128, .f32⟩
  | 18 => ⟨S2x8192x128, .f32⟩
  | 19 => ⟨S2x8192x1x128, .f32⟩
  | 20 => ⟨S2x8192x128, .f32⟩
  | 21 => ⟨S2x8192x128, .f32⟩
  | 22 => ⟨S2x8192x1x128, .f32⟩
  | 23 => ⟨S2x8192x128, .f32⟩
  | 24 => ⟨S2x8192x128, .f32⟩
  | 25 => ⟨S2x8192x1x128, .f32⟩
  | 26 => ⟨S2x8192x128, .f32⟩
  | 27 => ⟨S2x8192x128, .f32⟩
  | 28 => ⟨S2x8192x1x128, .f32⟩
  | 29 => ⟨S2x8192x128, .f32⟩
  | 30 => ⟨S2x8192x128, .f32⟩
  | 31 => ⟨S2x8192x1x128, .f32⟩
  | 32 => ⟨S2x8192x128, .f32⟩
  | 33 => ⟨S2x8192x128, .f32⟩
  | 34 => ⟨S2x8192x1x128, .f32⟩
  | 35 => ⟨S2x8192x128, .f32⟩
  | 36 => ⟨S2x8192x128, .f32⟩
  | 37 => ⟨S2x8192x1x128, .f32⟩
  | 38 => ⟨S2x8192x128, .f32⟩
  | 39 => ⟨S2x8192x128, .f32⟩
  | 40 => ⟨S2x8192x1x128, .f32⟩
  | 41 => ⟨S2x8192x128, .f32⟩
  | 42 => ⟨S2x8192x128, .f32⟩
  | 43 => ⟨S2x8192x1x128, .f32⟩
  | 44 => ⟨S2x8192x128, .f32⟩
  | 45 => ⟨S2x8192x128, .f32⟩
  | 46 => ⟨S2x8192x1x128, .f32⟩
  | 47 => ⟨S2x8192x128, .f32⟩
  | 48 => ⟨S2x8192x128, .f32⟩
  | 49 => ⟨S2x8192x1x128, .f32⟩
  | 50 => ⟨S2x8192x128, .f32⟩
  | 51 => ⟨S2x8192x128, .f32⟩
  | 52 => ⟨S_, .i32⟩
  | 53 => ⟨S8192, .i32⟩
  | 54 => ⟨S8192, .i32⟩
  | 55 => ⟨S_, .i32⟩
  | 56 => ⟨S8192, .i32⟩
  | 57 => ⟨S8192, .i32⟩
  | 58 => ⟨S8192, .f32⟩
  | 59 => ⟨S1x8192x1, .f32⟩
  | 60 => ⟨S2x8192x128, .f32⟩
  | 61 => ⟨S2x8192x128, .f32⟩
  | 62 => ⟨S2x8192x1x128, .f32⟩
  | 63 => ⟨S2x8192x128, .f32⟩
  | 64 => ⟨S2x8192x128, .f32⟩
  | 65 => ⟨S2x8192x1x128, .f32⟩
  | 66 => ⟨S2x8192x1x128, .f32⟩
  | 67 => ⟨S2x8192x1x128, .f32⟩
  | 68 => ⟨S2x8192x1x128, .f32⟩
  | 69 => ⟨S2x8192x4x128, .f32⟩
  | 70 => ⟨S4x128x128, .f32⟩
  | 71 => ⟨S4x128x2x8192, .f32⟩
  | 72 => ⟨S2x8192x4x128, .f32⟩
  | 73 => ⟨S2x8192x512, .f32⟩
  | 74 => ⟨S512, .f32⟩
  | 75 => ⟨S1x1x512, .f32⟩
  | 76 => ⟨S2x8192x512, .f32⟩
  | 77 => ⟨S2x8192x512, .f32⟩
  | 78 => ⟨S512x1024, .f32⟩
  | 79 => ⟨S2x8192x1024, .f32⟩
  | 80 => ⟨S2x8192x512, .f32⟩
  | 81 => ⟨S512x1024, .f32⟩
  | 82 => ⟨S2x8192x1024, .f32⟩
  | 83 => ⟨S2x8192x1024, .f32⟩
  | 84 => ⟨S2x8192x1024, .f32⟩
  | 85 => ⟨S2x8192x1024, .f32⟩
  | 86 => ⟨S2x8192x1024, .f32⟩
  | 87 => ⟨S2x8192x1024, .f32⟩
  | 88 => ⟨S1024x1024, .f32⟩
  | 89 => ⟨S2x8192x1024, .f32⟩
  | 90 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_8 : Ref sig .tc := ⟨.hbm, 78, rfl⟩
abbrev main_v58 : Ref sig .tc := ⟨.hbm, 79, rfl⟩
abbrev main_v59 : Ref sig .tc := ⟨.hbm, 80, rfl⟩
abbrev main_c_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_10 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_c_11 : Ref sig .tc := ⟨.hbm, 117, rfl⟩
abbrev main_v94 : Ref sig .tc := ⟨.hbm, 118, rfl⟩
abbrev main_v95 : Ref sig .tc := ⟨.hbm, 119, rfl⟩
abbrev main_c_12 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_13 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_c_14 : Ref sig .tc := ⟨.hbm, 180, rfl⟩
abbrev main_v154 : Ref sig .tc := ⟨.hbm, 181, rfl⟩
abbrev main_v155 : Ref sig .tc := ⟨.hbm, 182, rfl⟩
abbrev main_c_15 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩

abbrev nD : Nat := 1
abbrev τ : Topo := Topo.v7x

variable {F : FTy → Type} [FloatOps F]
-- ==== Attention.lean ====
abbrev S2x512x8192 : Shape := ⟨3, ![2, 512, 8192]⟩
abbrev S2x8x8192 : Shape := ⟨3, ![2, 8, 8192]⟩
abbrev S2x8192x64 : Shape := ⟨3, ![2, 8192, 64]⟩
abbrev S2x8192x512 : Shape := ⟨3, ![2, 8192, 512]⟩
abbrev S2x16x8x80x512 : Shape := ⟨5, ![2, 16, 8, 80, 512]⟩
abbrev S1x512x256 : Shape := ⟨3, ![1, 512, 256]⟩
abbrev S1x8x256 : Shape := ⟨3, ![1, 8, 256]⟩
abbrev S1x8192x64 : Shape := ⟨3, ![1, 8192, 64]⟩
abbrev S1x8192x512 : Shape := ⟨3, ![1, 8192, 512]⟩
abbrev S1x16x8x80x512 : Shape := ⟨5, ![1, 16, 8, 80, 512]⟩
abbrev S1x256x512 : Shape := ⟨3, ![1, 256, 512]⟩
abbrev S8192x256 : Shape := ⟨2, ![8192, 256]⟩
abbrev S8x128x256 : Shape := ⟨3, ![8, 128, 256]⟩
abbrev S8x80x256 : Shape := ⟨3, ![8, 80, 256]⟩
abbrev S8x256 : Shape := ⟨2, ![8, 256]⟩
abbrev S512x256 : Shape := ⟨2, ![512, 256]⟩
abbrev S64x256 : Shape := ⟨2, ![64, 256]⟩
abbrev S1x64x64 : Shape := ⟨3, ![1, 64, 64]⟩
abbrev S64x64 : Shape := ⟨2, ![64, 64]⟩
abbrev S1x64x256 : Shape := ⟨3, ![1, 64, 256]⟩
abbrev S1x1x256 : Shape := ⟨3, ![1, 1, 256]⟩
abbrev S1x256 : Shape := ⟨2, ![1, 256]⟩
abbrev S256x256 : Shape := ⟨2, ![256, 256]⟩
abbrev S16x256 : Shape := ⟨2, ![16, 256]⟩
abbrev S256 : Shape := ⟨1, ![256]⟩
abbrev S1 : Shape := ⟨1, ![1]⟩
abbrev S1x1x1 : Shape := ⟨3, ![1, 1, 1]⟩
abbrev S128x256 : Shape := ⟨2, ![128, 256]⟩
abbrev S1x128x256 : Shape := ⟨3, ![1, 128, 256]⟩
abbrev S1x1x1x80x512 : Shape := ⟨5, ![1, 1, 1, 80, 512]⟩
abbrev S80x512 : Shape := ⟨2, ![80, 512]⟩
abbrev S80x256 : Shape := ⟨2, ![80, 256]⟩
abbrev S1x80x256 : Shape := ⟨3, ![1, 80, 256]⟩
abbrev S1x256x128 : Shape := ⟨3, ![1, 256, 128]⟩
abbrev S256x128 : Shape := ⟨2, ![256, 128]⟩
abbrev S1x256x256 : Shape := ⟨3, ![1, 256, 256]⟩
abbrev S256x512 : Shape := ⟨2, ![256, 512]⟩

abbrev nBuf : Space → Nat
  | .hbm => 7
  | .vmem => 35
  | .smem => 0
  | _ => 0

abbrev bufTy : (tb : Table) → Fin (tcTables nBuf tb) → BufTy
  | .hbm, ⟨0, _⟩ => ⟨S2x512x8192, .bf16⟩
  | .hbm, ⟨1, _⟩ => ⟨S2x8x8192, .f32⟩
  | .hbm, ⟨2, _⟩ => ⟨S2x512x8192, .bf16⟩
  | .hbm, ⟨3, _⟩ => ⟨S2x8192x64, .bf16⟩
  | .hbm, ⟨4, _⟩ => ⟨S2x8192x512, .bf16⟩
  | .hbm, ⟨5, _⟩ => ⟨S2x16x8x80x512, .bf16⟩
  | .hbm, ⟨6, _⟩ => ⟨S2x8192x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x8x256, .f32⟩
  | .local _ .vmem, ⟨3, _⟩ => ⟨S1x8x256, .f32⟩
  | .local _ .vmem, ⟨4, _⟩ => ⟨S1x512x256, .bf16⟩
  | .local _ .vmem, ⟨5, _⟩ => ⟨S1x512x256, .bf16⟩
  | .local _ .vmem, ⟨6, _⟩ => ⟨S1x8192x64, .bf16⟩
  | .local _ .vmem, ⟨7, _⟩ => ⟨S1x8192x512, .bf16⟩
  | .local _ .vmem, ⟨8, _⟩ => ⟨S1x16x8x80x512, .bf16⟩
  | .local _ .vmem, ⟨9, _⟩ => ⟨S1x256x512, .bf16⟩
  | .local _ .vmem, ⟨10, _⟩ => ⟨S1x256x512, .bf16⟩
  | .local _ .vmem, ⟨11, _⟩ => ⟨S8192x256, .i32⟩
  | .local _ .vmem, ⟨12, _⟩ => ⟨S8192x256, .i16⟩
  | .local _ .vmem, ⟨13, _⟩ => ⟨S8x128x256, .bf16⟩
  | .local _ .vmem, ⟨14, _⟩ => ⟨S8x80x256, .f32⟩
  | .local _ .vmem, ⟨15, _⟩ => ⟨S8x256, .f32⟩
  | .local _ .vmem, ⟨16, _⟩ => ⟨S8x256, .f32⟩
  | .local _ .vmem, ⟨17, _⟩ => ⟨S512x256, .f32⟩
  | .local _ .vmem, ⟨18, _⟩ => ⟨S512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x256, .f32⟩
  | .local _ .vmem, ⟨25, _⟩ => ⟨S1x512x256, .f32⟩
  | .local _ .vmem, ⟨26, _⟩ => ⟨S1x512x256, .f32⟩
  | .local _ .vmem, ⟨27, _⟩ => ⟨S1x512x256, .bf16⟩
  | .local _ .vmem, ⟨28, _⟩ => ⟨S1x512x256, .bf16⟩
  | .local _ .vmem, ⟨29, _⟩ => ⟨S1x512x256, .bf16⟩
  | .local _ .vmem, ⟨30, _⟩ => ⟨S1x512x256, .bf16⟩
  | .local _ .vmem, ⟨31, _⟩ => ⟨S1x512x256, .bf16⟩
  | .local _ .vmem, ⟨32, _⟩ => ⟨S1x512x256, .bf16⟩
  | .local _ .vmem, ⟨33, _⟩ => ⟨S1x512x256, .bf16⟩
  | .local _ .vmem, ⟨34, _⟩ => ⟨S1x512x256, .bf16⟩
  | _, _ => ⟨S2x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_scratch11 : Ref sig .tc := ⟨.vmem, 22, rfl⟩
abbrev cc0_scratch12 : Ref sig .tc := ⟨.vmem, 23, rfl⟩
abbrev cc0_scratch13 : Ref sig .tc := ⟨.vmem, 24, rfl⟩
abbrev cc0_scratch14 : Ref sig .tc := ⟨.vmem, 25, rfl⟩
abbrev cc0_scratch15 : Ref sig .tc := ⟨.vmem, 26, rfl⟩
abbrev cc0_scratch16 : Ref sig .tc := ⟨.vmem, 27, rfl⟩
abbrev cc0_scratch17 : Ref sig .tc := ⟨.vmem, 28, rfl⟩
abbrev cc0_scratch18 : Ref sig .tc := ⟨.vmem, 29, rfl⟩
abbrev cc0_scratch19 : Ref sig .tc := ⟨.vmem, 30, rfl⟩
abbrev cc0_scratch20 : Ref sig .tc := ⟨.vmem, 31, rfl⟩
abbrev cc0_scratch21 : Ref sig .tc := ⟨.vmem, 32, rfl⟩
abbrev cc0_scratch22 : Ref sig .tc := ⟨.vmem, 33, rfl⟩
abbrev cc0_scratch23 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨2, ![2, 32], ![false, false]⟩

@[reducible] def k0_t1_loop (i : grid0.Coords) : Scf.Loop 32 :=
  let c0_i32_0 : BitVec 32 := 0#32
  let arg1 : BitVec 32 := BitVec.ofNat 32 (i 1).val
  let v4 : BitVec 32 := Scalar.subi arg1 c0_i32_0
  let c1_i32_1 : BitVec 32 := 1#32
  let v6 : BitVec 32 := Scalar.divsi v4 c1_i32_1
  let v7 : BitVec 32 := Scalar.muli v6 c1_i32_1
  let v8 : BitVec 32 := Scalar.addi c0_i32_0 v7
  let c1_i32_2 : BitVec 32 := 1#32
  ⟨c0_i32_0, v8, c1_i32_2⟩
def k0_mult1 (i : grid0.Coords) (k0_t1 : Fin (k0_t1_loop i).trips) : BitVec 32 :=
  let c0_i32_0 : BitVec 32 := 0#32
  let c1_i32_2 : BitVec 32 := 1#32
  let arg33 : BitVec 32 := Scf.iv c0_i32_0 c1_i32_2 k0_t1
  let c256_i32_649 : BitVec 32 := 256#32
  let v887 : BitVec 32 := Scalar.muli arg33 c256_i32_649
  v887
def k0_off1 (i : grid0.Coords) (k0_t1 : Fin (k0_t1_loop i).trips) (c0_i32_650 : BitVec 32) : Fin 3 → Nat :=
  let c0_651 : Index := 0#32
  let c0_i32_0 : BitVec 32 := 0#32
  let c1_i32_2 : BitVec 32 := 1#32
  let arg33 : BitVec 32 := Scf.iv c0_i32_0 c1_i32_2 k0_t1
  let c256_i32_649 : BitVec 32 := 256#32
  let v887 : BitVec 32 := Scalar.muli arg33 c256_i32_649
  let v888 : BitVec 32 := v887
  let v889 : BitVec 32 := Scalar.addi v888 c0_i32_650
  let v890 : Index := Scalar.indexCast v889
  let c0_652 : Index := 0#32
  ![0, v890.toNat, 0]
def k0_off2 (i : grid0.Coords) (k0_t1 : Fin (k0_t1_loop i).trips) (c0_i32_650 : BitVec 32) : Fin 2 → Nat :=
  let c0_i32_0 : BitVec 32 := 0#32
  let c1_i32_2 : BitVec 32 := 1#32
  let arg33 : BitVec 32 := Scf.iv c0_i32_0 c1_i32_2 k0_t1
  let c256_i32_649 : BitVec 32 := 256#32
  let v887 : BitVec 32 := Scalar.muli arg33 c256_i32_649
  let v888 : BitVec 32 := v887
  let v889 : BitVec 32 := Scalar.addi v888 c0_i32_650
  let v982 : Index := Scalar.indexCast v889
  let c0_721 : Index := 0#32
  ![v982.toNat, 0]
@[reducible] def k0_t2_loop (i : grid0.Coords) : Scf.Loop 32 :=
  let c0_i32_0 : BitVec 32 := 0#32
  let arg1 : BitVec 32 := BitVec.ofNat 32 (i 1).val
  let v4 : BitVec 32 := Scalar.subi arg1 c0_i32_0
  let c1_i32_1 : BitVec 32 := 1#32
  let v6 : BitVec 32 := Scalar.divsi v4 c1_i32_1
  let v7 : BitVec 32 := Scalar.muli v6 c1_i32_1
  let v8 : BitVec 32 := Scalar.addi c0_i32_0 v7
  let v5 : BitVec 32 := Scalar.addi c0_i32_0 v4
  let c1_i32_3 : BitVec 32 := 1#32
  ⟨v8, v5, c1_i32_3⟩
def k0_mult2 (i : grid0.Coords) (k0_t2 : Fin (k0_t2_loop i).trips) : BitVec 32 :=
  let c0_i32_0 : BitVec 32 := 0#32
  let arg1 : BitVec 32 := BitVec.ofNat 32 (i 1).val
  let v4 : BitVec 32 := Scalar.subi arg1 c0_i32_0
  let c1_i32_1 : BitVec 32 := 1#32
  let v6 : BitVec 32 := Scalar.divsi v4 c1_i32_1
  let v7 : BitVec 32 := Scalar.muli v6 c1_i32_1
  let v8 : BitVec 32 := Scalar.addi c0_i32_0 v7
  let c1_i32_3 : BitVec 32 := 1#32
  let arg33 : BitVec 32 := Scf.iv v8 c1_i32_3 k0_t2
  let c256_i32_649 : BitVec 32 := 256#32
  let v887 : BitVec 32 := Scalar.muli arg33 c256_i32_649
  v887
def k0_off3 (i : grid0.Coords) (k0_t2 : Fin (k0_t2_loop i).trips) (c0_i32_650 : BitVec 32) : Fin 3 → Nat :=
  let c0_651 : Index := 0#32
  let c0_i32_0 : BitVec 32 := 0#32
  let arg1 : BitVec 32 := BitVec.ofNat 32 (i 1).val
  let v4 : BitVec 32 := Scalar.subi arg1 c0_i32_0
  let c1_i32_1 : BitVec 32 := 1#32
  let v6 : BitVec 32 := Scalar.divsi v4 c1_i32_1
  let v7 : BitVec 32 := Scalar.muli v6 c1_i32_1
  let v8 : BitVec 32 := Scalar.addi c0_i32_0 v7
  let c1_i32_3 : BitVec 32 := 1#32
  let arg33 : BitVec 32 := Scf.iv v8 c1_i32_3 k0_t2
  let c256_i32_649 : BitVec 32 := 256#32
  let v887 : BitVec 32 := Scalar.muli arg33 c256_i32_649
  let v888 : BitVec 32 := v887
  let v889 : BitVec 32 := Scalar.addi v888 c0_i32_650
  let v890 : Index := Scalar.indexCast v889
  let c0_652 : Index := 0#32
  ![0, v890.toNat, 0]
def k0_off4 (i : grid0.Coords) (k0_t2 : Fin (k0_t2_loop i).trips) (c0_i32_650 : BitVec 32) : Fin 2 → Nat :=
  let c0_i32_0 : BitVec 32 := 0#32
  let arg1 : BitVec 32 := BitVec.ofNat 32 (i 1).val
  let v4 : BitVec 32 := Scalar.subi arg1 c0_i32_0
  let c1_i32_1 : BitVec 32 := 1#32
  let v6 : BitVec 32 := Scalar.divsi v4 c1_i32_1
  let v7 : BitVec 32 := Scalar.muli v6 c1_i32_1
  let v8 : BitVec 32 := Scalar.addi c0_i32_0 v7
  let c1_i32_3 : BitVec 32 := 1#32
  let arg33 : BitVec 32 := Scf.iv v8 c1_i32_3 k0_t2
  let c256_i32_649 : BitVec 32 := 256#32
  let v887 : BitVec 32 := Scalar.muli arg33 c256_i32_649
  let v888 : BitVec 32 := v887
  let v889 : BitVec 32 := Scalar.addi v888 c0_i32_650
  let v982 : Index := Scalar.indexCast v889
  let c0_721 : Index := 0#32
  ![v982.toNat, 0]
def k0_mult3 (i : grid0.Coords) : BitVec 32 :=
  let arg1 : BitVec 32 := BitVec.ofNat 32 (i 1).val
  let c256_i32_4 : BitVec 32 := 256#32
  let v9 : BitVec 32 := Scalar.muli arg1 c256_i32_4
  v9
def k0_off5 (i : grid0.Coords) (c0_i32_5 : BitVec 32) : Fin 3 → Nat :=
  let c0 : Index := 0#32
  let arg1 : BitVec 32 := BitVec.ofNat 32 (i 1).val
  let c256_i32_4 : BitVec 32 := 256#32
  let v9 : BitVec 32 := Scalar.muli arg1 c256_i32_4
  let v10 : BitVec 32 := v9
  let v11 : BitVec 32 := Scalar.addi v10 c0_i32_5
  let v12 : Index := Scalar.indexCast v11
  let c0_6 : Index := 0#32
  ![0, v12.toNat, 0]
def k0_off6 (i : grid0.Coords) (c0_i32_5 : BitVec 32) : Fin 2 → Nat :=
  let arg1 : BitVec 32 := BitVec.ofNat 32 (i 1).val
  let c256_i32_4 : BitVec 32 := 256#32
  let v9 : BitVec 32 := Scalar.muli arg1 c256_i32_4
  let v10 : BitVec 32 := v9
  let v11 : BitVec 32 := Scalar.addi v10 c0_i32_5
  let v109 : Index := Scalar.indexCast v11
  let c0_60 : Index := 0#32
  ![v109.toNat, 0]
def k0_cond1 (i : grid0.Coords) : BitVec 1 :=
  let arg1 : BitVec 32 := BitVec.ofNat 32 (i 1).val
  let c1_i32_294 : BitVec 32 := 1#32
  let v465 : BitVec 32 := Scalar.addi arg1 c1_i32_294
  let c2_i32_295 : BitVec 32 := 2#32
  let c0_i32_296 : BitVec 32 := 0#32
  let v466 : BitVec 1 := Scalar.cmpi .eq c2_i32_295 c0_i32_296
  let c1_i32_297 : BitVec 32 := 1#32
  let v467 : BitVec 32 := Scalar.select v466 c1_i32_297 c2_i32_295
  let v468 : BitVec 32 := Scalar.remsi v465 v467
  let c0_i32_299 : BitVec 32 := 0#32
  let v470 : BitVec 1 := Scalar.cmpi .slt v468 c0_i32_299
  let c0_i32_300 : BitVec 32 := 0#32
  let v471 : BitVec 1 := Scalar.cmpi .slt v467 c0_i32_300
  let v472 : BitVec 1 := Scalar.xori v470 v471
  let c0_i32_298 : BitVec 32 := 0#32
  let v469 : BitVec 1 := Scalar.cmpi .ne v468 c0_i32_298
  let v473 : BitVec 1 := Scalar.andi v472 v469
  let v474 : BitVec 32 := Scalar.addi v468 v467
  let v475 : BitVec 32 := Scalar.select v473 v474 v468
  let c0_i32_301 : BitVec 32 := 0#32
  let v476 : BitVec 1 := Scalar.cmpi .ne v475 c0_i32_301
  let v477 : BitVec 32 := Scalar.extui v476
  let c0_i32_302 : BitVec 32 := 0#32
  let v478 : BitVec 1 := Scalar.cmpi .ne v477 c0_i32_302
  v478

def k0_mult4 (i : grid0.Coords) : BitVec 32 :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  v1
def k0_off7 (i : grid0.Coords) : Fin 2 → Nat :=
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let v888 : BitVec 32 := v1
  let v889 : Index := Scalar.indexCast v888
  let c0_650 : Index := 0#32
  ![v889.toNat, 0]
@[reducible] def k0_t3_loop : Scf.Loop 32 :=
  let c0_i32_305 : BitVec 32 := 0#32
  let c16_i32_306 : BitVec 32 := 16#32
  let v482 : BitVec 32 := Scalar.addi c0_i32_305 c16_i32_306
  let c1_i32_307 : BitVec 32 := 1#32
  ⟨c0_i32_305, v482, c1_i32_307⟩
@[reducible] def k0_t4_loop (i : grid0.Coords) : Scf.Loop 32 :=
  let c0_i32_660 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_653 : BitVec 32 := 0#32
  let v901 : BitVec 1 := Scalar.cmpi .sgt v1 c0_i32_653
  let v902 : BitVec 32 := Scalar.extui v901
  let c0_i32_654 : BitVec 32 := 0#32
  let v903 : BitVec 1 := Scalar.cmpi .slt v1 c0_i32_654
  let v904 : BitVec 32 := Scalar.extui v903
  let v905 : BitVec 32 := Scalar.subi v902 v904
  let c256_i32_652 : BitVec 32 := 256#32
  let c0_i32_655 : BitVec 32 := 0#32
  let v906 : BitVec 1 := Scalar.cmpi .sgt c256_i32_652 c0_i32_655
  let v907 : BitVec 32 := Scalar.extui v906
  let c0_i32_656 : BitVec 32 := 0#32
  let v908 : BitVec 1 := Scalar.cmpi .slt c256_i32_652 c0_i32_656
  let v909 : BitVec 32 := Scalar.extui v908
  let v910 : BitVec 32 := Scalar.subi v907 v909
  let v911 : BitVec 1 := Scalar.cmpi .ne v905 v910
  let v912 : BitVec 32 := Scalar.remsi v1 c256_i32_652
  let c0_i32_657 : BitVec 32 := 0#32
  let v913 : BitVec 1 := Scalar.cmpi .ne v912 c0_i32_657
  let v914 : BitVec 1 := Scalar.andi v911 v913
  let v900 : BitVec 32 := Scalar.divsi v1 c256_i32_652
  let c1_i32_658 : BitVec 32 := 1#32
  let v915 : BitVec 32 := Scalar.subi v900 c1_i32_658
  let v916 : BitVec 32 := Scalar.select v914 v915 v900
  let v918 : BitVec 32 := Scalar.subi v916 c0_i32_660
  let c1_i32_661 : BitVec 32 := 1#32
  let v920 : BitVec 32 := Scalar.divsi v918 c1_i32_661
  let v921 : BitVec 32 := Scalar.muli v920 c1_i32_661
  let v922 : BitVec 32 := Scalar.addi c0_i32_660 v921
  let c1_i32_662 : BitVec 32 := 1#32
  ⟨c0_i32_660, v922, c1_i32_662⟩
def k0_mult5 (i : grid0.Coords) (k0_t4 : Fin (k0_t4_loop i).trips) : BitVec 32 :=
  let c0_i32_660 : BitVec 32 := 0#32
  let c1_i32_662 : BitVec 32 := 1#32
  let arg37 : BitVec 32 := Scf.iv c0_i32_660 c1_i32_662 k0_t4
  let c256_i32_666 : BitVec 32 := 256#32
  let v933 : BitVec 32 := Scalar.muli arg37 c256_i32_666
  v933
def k0_off8 (i : grid0.Coords) (k0_t4 : Fin (k0_t4_loop i).trips) : Fin 2 → Nat :=
  let c0_i32_660 : BitVec 32 := 0#32
  let c1_i32_662 : BitVec 32 := 1#32
  let arg37 : BitVec 32 := Scf.iv c0_i32_660 c1_i32_662 k0_t4
  let c256_i32_666 : BitVec 32 := 256#32
  let v933 : BitVec 32 := Scalar.muli arg37 c256_i32_666
  let v934 : BitVec 32 := v933
  let v935 : Index := Scalar.indexCast v934
  let c0_667 : Index := 0#32
  ![v935.toNat, 0]
@[reducible] def k0_t5_loop (i : grid0.Coords) : Scf.Loop 32 :=
  let c0_i32_660 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_653 : BitVec 32 := 0#32
  let v901 : BitVec 1 := Scalar.cmpi .sgt v1 c0_i32_653
  let v902 : BitVec 32 := Scalar.extui v901
  let c0_i32_654 : BitVec 32 := 0#32
  let v903 : BitVec 1 := Scalar.cmpi .slt v1 c0_i32_654
  let v904 : BitVec 32 := Scalar.extui v903
  let v905 : BitVec 32 := Scalar.subi v902 v904
  let c256_i32_652 : BitVec 32 := 256#32
  let c0_i32_655 : BitVec 32 := 0#32
  let v906 : BitVec 1 := Scalar.cmpi .sgt c256_i32_652 c0_i32_655
  let v907 : BitVec 32 := Scalar.extui v906
  let c0_i32_656 : BitVec 32 := 0#32
  let v908 : BitVec 1 := Scalar.cmpi .slt c256_i32_652 c0_i32_656
  let v909 : BitVec 32 := Scalar.extui v908
  let v910 : BitVec 32 := Scalar.subi v907 v909
  let v911 : BitVec 1 := Scalar.cmpi .ne v905 v910
  let v912 : BitVec 32 := Scalar.remsi v1 c256_i32_652
  let c0_i32_657 : BitVec 32 := 0#32
  let v913 : BitVec 1 := Scalar.cmpi .ne v912 c0_i32_657
  let v914 : BitVec 1 := Scalar.andi v911 v913
  let v900 : BitVec 32 := Scalar.divsi v1 c256_i32_652
  let c1_i32_658 : BitVec 32 := 1#32
  let v915 : BitVec 32 := Scalar.subi v900 c1_i32_658
  let v916 : BitVec 32 := Scalar.select v914 v915 v900
  let v918 : BitVec 32 := Scalar.subi v916 c0_i32_660
  let c1_i32_661 : BitVec 32 := 1#32
  let v920 : BitVec 32 := Scalar.divsi v918 c1_i32_661
  let v921 : BitVec 32 := Scalar.muli v920 c1_i32_661
  let v922 : BitVec 32 := Scalar.addi c0_i32_660 v921
  let v919 : BitVec 32 := Scalar.addi c0_i32_660 v918
  let c1_i32_663 : BitVec 32 := 1#32
  ⟨v922, v919, c1_i32_663⟩
def k0_mult6 (i : grid0.Coords) (k0_t5 : Fin (k0_t5_loop i).trips) : BitVec 32 :=
  let c0_i32_660 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_653 : BitVec 32 := 0#32
  let v901 : BitVec 1 := Scalar.cmpi .sgt v1 c0_i32_653
  let v902 : BitVec 32 := Scalar.extui v901
  let c0_i32_654 : BitVec 32 := 0#32
  let v903 : BitVec 1 := Scalar.cmpi .slt v1 c0_i32_654
  let v904 : BitVec 32 := Scalar.extui v903
  let v905 : BitVec 32 := Scalar.subi v902 v904
  let c256_i32_652 : BitVec 32 := 256#32
  let c0_i32_655 : BitVec 32 := 0#32
  let v906 : BitVec 1 := Scalar.cmpi .sgt c256_i32_652 c0_i32_655
  let v907 : BitVec 32 := Scalar.extui v906
  let c0_i32_656 : BitVec 32 := 0#32
  let v908 : BitVec 1 := Scalar.cmpi .slt c256_i32_652 c0_i32_656
  let v909 : BitVec 32 := Scalar.extui v908
  let v910 : BitVec 32 := Scalar.subi v907 v909
  let v911 : BitVec 1 := Scalar.cmpi .ne v905 v910
  let v912 : BitVec 32 := Scalar.remsi v1 c256_i32_652
  let c0_i32_657 : BitVec 32 := 0#32
  let v913 : BitVec 1 := Scalar.cmpi .ne v912 c0_i32_657
  let v914 : BitVec 1 := Scalar.andi v911 v913
  let v900 : BitVec 32 := Scalar.divsi v1 c256_i32_652
  let c1_i32_658 : BitVec 32 := 1#32
  let v915 : BitVec 32 := Scalar.subi v900 c1_i32_658
  let v916 : BitVec 32 := Scalar.select v914 v915 v900
  let v918 : BitVec 32 := Scalar.subi v916 c0_i32_660
  let c1_i32_661 : BitVec 32 := 1#32
  let v920 : BitVec 32 := Scalar.divsi v918 c1_i32_661
  let v921 : BitVec 32 := Scalar.muli v920 c1_i32_661
  let v922 : BitVec 32 := Scalar.addi c0_i32_660 v921
  let c1_i32_663 : BitVec 32 := 1#32
  let arg37 : BitVec 32 := Scf.iv v922 c1_i32_663 k0_t5
  let c256_i32_666 : BitVec 32 := 256#32
  let v933 : BitVec 32 := Scalar.muli arg37 c256_i32_666
  v933
def k0_off9 (i : grid0.Coords) (k0_t5 : Fin (k0_t5_loop i).trips) : Fin 2 → Nat :=
  let c0_i32_660 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_653 : BitVec 32 := 0#32
  let v901 : BitVec 1 := Scalar.cmpi .sgt v1 c0_i32_653
  let v902 : BitVec 32 := Scalar.extui v901
  let c0_i32_654 : BitVec 32 := 0#32
  let v903 : BitVec 1 := Scalar.cmpi .slt v1 c0_i32_654
  let v904 : BitVec 32 := Scalar.extui v903
  let v905 : BitVec 32 := Scalar.subi v902 v904
  let c256_i32_652 : BitVec 32 := 256#32
  let c0_i32_655 : BitVec 32 := 0#32
  let v906 : BitVec 1 := Scalar.cmpi .sgt c256_i32_652 c0_i32_655
  let v907 : BitVec 32 := Scalar.extui v906
  let c0_i32_656 : BitVec 32 := 0#32
  let v908 : BitVec 1 := Scalar.cmpi .slt c256_i32_652 c0_i32_656
  let v909 : BitVec 32 := Scalar.extui v908
  let v910 : BitVec 32 := Scalar.subi v907 v909
  let v911 : BitVec 1 := Scalar.cmpi .ne v905 v910
  let v912 : BitVec 32 := Scalar.remsi v1 c256_i32_652
  let c0_i32_657 : BitVec 32 := 0#32
  let v913 : BitVec 1 := Scalar.cmpi .ne v912 c0_i32_657
  let v914 : BitVec 1 := Scalar.andi v911 v913
  let v900 : BitVec 32 := Scalar.divsi v1 c256_i32_652
  let c1_i32_658 : BitVec 32 := 1#32
  let v915 : BitVec 32 := Scalar.subi v900 c1_i32_658
  let v916 : BitVec 32 := Scalar.select v914 v915 v900
  let v918 : BitVec 32 := Scalar.subi v916 c0_i32_660
  let c1_i32_661 : BitVec 32 := 1#32
  let v920 : BitVec 32 := Scalar.divsi v918 c1_i32_661
  let v921 : BitVec 32 := Scalar.muli v920 c1_i32_661
  let v922 : BitVec 32 := Scalar.addi c0_i32_660 v921
  let c1_i32_663 : BitVec 32 := 1#32
  let arg37 : BitVec 32 := Scf.iv v922 c1_i32_663 k0_t5
  let c256_i32_666 : BitVec 32 := 256#32
  let v933 : BitVec 32 := Scalar.muli arg37 c256_i32_666
  let v934 : BitVec 32 := v933
  let v935 : Index := Scalar.indexCast v934
  let c0_667 : Index := 0#32
  ![v935.toNat, 0]
@[reducible] def k0_t6_loop (i : grid0.Coords) : Scf.Loop 32 :=
  let c0_i32_319 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_312 : BitVec 32 := 0#32
  let v489 : BitVec 1 := Scalar.cmpi .sgt v1 c0_i32_312
  let v490 : BitVec 32 := Scalar.extui v489
  let c0_i32_313 : BitVec 32 := 0#32
  let v491 : BitVec 1 := Scalar.cmpi .slt v1 c0_i32_313
  let v492 : BitVec 32 := Scalar.extui v491
  let v493 : BitVec 32 := Scalar.subi v490 v492
  let c256_i32_311 : BitVec 32 := 256#32
  let c0_i32_314 : BitVec 32 := 0#32
  let v494 : BitVec 1 := Scalar.cmpi .sgt c256_i32_311 c0_i32_314
  let v495 : BitVec 32 := Scalar.extui v494
  let c0_i32_315 : BitVec 32 := 0#32
  let v496 : BitVec 1 := Scalar.cmpi .slt c256_i32_311 c0_i32_315
  let v497 : BitVec 32 := Scalar.extui v496
  let v498 : BitVec 32 := Scalar.subi v495 v497
  let v499 : BitVec 1 := Scalar.cmpi .ne v493 v498
  let v500 : BitVec 32 := Scalar.remsi v1 c256_i32_311
  let c0_i32_316 : BitVec 32 := 0#32
  let v501 : BitVec 1 := Scalar.cmpi .ne v500 c0_i32_316
  let v502 : BitVec 1 := Scalar.andi v499 v501
  let v488 : BitVec 32 := Scalar.divsi v1 c256_i32_311
  let c1_i32_317 : BitVec 32 := 1#32
  let v503 : BitVec 32 := Scalar.subi v488 c1_i32_317
  let v504 : BitVec 32 := Scalar.select v502 v503 v488
  let v505 : BitVec 32 := Scalar.subi v504 c0_i32_319
  let c1_i32_320 : BitVec 32 := 1#32
  let v507 : BitVec 32 := Scalar.divsi v505 c1_i32_320
  let v508 : BitVec 32 := Scalar.muli v507 c1_i32_320
  let v509 : BitVec 32 := Scalar.addi c0_i32_319 v508
  let c1_i32_321 : BitVec 32 := 1#32
  ⟨c0_i32_319, v509, c1_i32_321⟩
def k0_mult7 (i : grid0.Coords) (k0_t6 : Fin (k0_t6_loop i).trips) : BitVec 32 :=
  let c0_i32_319 : BitVec 32 := 0#32
  let c1_i32_321 : BitVec 32 := 1#32
  let arg33 : BitVec 32 := Scf.iv c0_i32_319 c1_i32_321 k0_t6
  let c256_i32_649 : BitVec 32 := 256#32
  let v887 : BitVec 32 := Scalar.muli arg33 c256_i32_649
  v887
def k0_off10 (i : grid0.Coords) (k0_t6 : Fin (k0_t6_loop i).trips) : Fin 2 → Nat :=
  let c0_i32_319 : BitVec 32 := 0#32
  let c1_i32_321 : BitVec 32 := 1#32
  let arg33 : BitVec 32 := Scf.iv c0_i32_319 c1_i32_321 k0_t6
  let c256_i32_649 : BitVec 32 := 256#32
  let v887 : BitVec 32 := Scalar.muli arg33 c256_i32_649
  let v888 : BitVec 32 := v887
  let v889 : Index := Scalar.indexCast v888
  let c0_650 : Index := 0#32
  ![v889.toNat, 0]
@[reducible] def k0_t7_loop (i : grid0.Coords) : Scf.Loop 32 :=
  let c0_i32_319 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_312 : BitVec 32 := 0#32
  let v489 : BitVec 1 := Scalar.cmpi .sgt v1 c0_i32_312
  let v490 : BitVec 32 := Scalar.extui v489
  let c0_i32_313 : BitVec 32 := 0#32
  let v491 : BitVec 1 := Scalar.cmpi .slt v1 c0_i32_313
  let v492 : BitVec 32 := Scalar.extui v491
  let v493 : BitVec 32 := Scalar.subi v490 v492
  let c256_i32_311 : BitVec 32 := 256#32
  let c0_i32_314 : BitVec 32 := 0#32
  let v494 : BitVec 1 := Scalar.cmpi .sgt c256_i32_311 c0_i32_314
  let v495 : BitVec 32 := Scalar.extui v494
  let c0_i32_315 : BitVec 32 := 0#32
  let v496 : BitVec 1 := Scalar.cmpi .slt c256_i32_311 c0_i32_315
  let v497 : BitVec 32 := Scalar.extui v496
  let v498 : BitVec 32 := Scalar.subi v495 v497
  let v499 : BitVec 1 := Scalar.cmpi .ne v493 v498
  let v500 : BitVec 32 := Scalar.remsi v1 c256_i32_311
  let c0_i32_316 : BitVec 32 := 0#32
  let v501 : BitVec 1 := Scalar.cmpi .ne v500 c0_i32_316
  let v502 : BitVec 1 := Scalar.andi v499 v501
  let v488 : BitVec 32 := Scalar.divsi v1 c256_i32_311
  let c1_i32_317 : BitVec 32 := 1#32
  let v503 : BitVec 32 := Scalar.subi v488 c1_i32_317
  let v504 : BitVec 32 := Scalar.select v502 v503 v488
  let v505 : BitVec 32 := Scalar.subi v504 c0_i32_319
  let c1_i32_320 : BitVec 32 := 1#32
  let v507 : BitVec 32 := Scalar.divsi v505 c1_i32_320
  let v508 : BitVec 32 := Scalar.muli v507 c1_i32_320
  let v509 : BitVec 32 := Scalar.addi c0_i32_319 v508
  let v506 : BitVec 32 := Scalar.addi c0_i32_319 v505
  let c1_i32_322 : BitVec 32 := 1#32
  ⟨v509, v506, c1_i32_322⟩
def k0_mult8 (i : grid0.Coords) (k0_t7 : Fin (k0_t7_loop i).trips) : BitVec 32 :=
  let c0_i32_319 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_312 : BitVec 32 := 0#32
  let v489 : BitVec 1 := Scalar.cmpi .sgt v1 c0_i32_312
  let v490 : BitVec 32 := Scalar.extui v489
  let c0_i32_313 : BitVec 32 := 0#32
  let v491 : BitVec 1 := Scalar.cmpi .slt v1 c0_i32_313
  let v492 : BitVec 32 := Scalar.extui v491
  let v493 : BitVec 32 := Scalar.subi v490 v492
  let c256_i32_311 : BitVec 32 := 256#32
  let c0_i32_314 : BitVec 32 := 0#32
  let v494 : BitVec 1 := Scalar.cmpi .sgt c256_i32_311 c0_i32_314
  let v495 : BitVec 32 := Scalar.extui v494
  let c0_i32_315 : BitVec 32 := 0#32
  let v496 : BitVec 1 := Scalar.cmpi .slt c256_i32_311 c0_i32_315
  let v497 : BitVec 32 := Scalar.extui v496
  let v498 : BitVec 32 := Scalar.subi v495 v497
  let v499 : BitVec 1 := Scalar.cmpi .ne v493 v498
  let v500 : BitVec 32 := Scalar.remsi v1 c256_i32_311
  let c0_i32_316 : BitVec 32 := 0#32
  let v501 : BitVec 1 := Scalar.cmpi .ne v500 c0_i32_316
  let v502 : BitVec 1 := Scalar.andi v499 v501
  let v488 : BitVec 32 := Scalar.divsi v1 c256_i32_311
  let c1_i32_317 : BitVec 32 := 1#32
  let v503 : BitVec 32 := Scalar.subi v488 c1_i32_317
  let v504 : BitVec 32 := Scalar.select v502 v503 v488
  let v505 : BitVec 32 := Scalar.subi v504 c0_i32_319
  let c1_i32_320 : BitVec 32 := 1#32
  let v507 : BitVec 32 := Scalar.divsi v505 c1_i32_320
  let v508 : BitVec 32 := Scalar.muli v507 c1_i32_320
  let v509 : BitVec 32 := Scalar.addi c0_i32_319 v508
  let c1_i32_322 : BitVec 32 := 1#32
  let arg33 : BitVec 32 := Scf.iv v509 c1_i32_322 k0_t7
  let c256_i32_649 : BitVec 32 := 256#32
  let v887 : BitVec 32 := Scalar.muli arg33 c256_i32_649
  v887
def k0_off11 (i : grid0.Coords) (k0_t7 : Fin (k0_t7_loop i).trips) : Fin 2 → Nat :=
  let c0_i32_319 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_312 : BitVec 32 := 0#32
  let v489 : BitVec 1 := Scalar.cmpi .sgt v1 c0_i32_312
  let v490 : BitVec 32 := Scalar.extui v489
  let c0_i32_313 : BitVec 32 := 0#32
  let v491 : BitVec 1 := Scalar.cmpi .slt v1 c0_i32_313
  let v492 : BitVec 32 := Scalar.extui v491
  let v493 : BitVec 32 := Scalar.subi v490 v492
  let c256_i32_311 : BitVec 32 := 256#32
  let c0_i32_314 : BitVec 32 := 0#32
  let v494 : BitVec 1 := Scalar.cmpi .sgt c256_i32_311 c0_i32_314
  let v495 : BitVec 32 := Scalar.extui v494
  let c0_i32_315 : BitVec 32 := 0#32
  let v496 : BitVec 1 := Scalar.cmpi .slt c256_i32_311 c0_i32_315
  let v497 : BitVec 32 := Scalar.extui v496
  let v498 : BitVec 32 := Scalar.subi v495 v497
  let v499 : BitVec 1 := Scalar.cmpi .ne v493 v498
  let v500 : BitVec 32 := Scalar.remsi v1 c256_i32_311
  let c0_i32_316 : BitVec 32 := 0#32
  let v501 : BitVec 1 := Scalar.cmpi .ne v500 c0_i32_316
  let v502 : BitVec 1 := Scalar.andi v499 v501
  let v488 : BitVec 32 := Scalar.divsi v1 c256_i32_311
  let c1_i32_317 : BitVec 32 := 1#32
  let v503 : BitVec 32 := Scalar.subi v488 c1_i32_317
  let v504 : BitVec 32 := Scalar.select v502 v503 v488
  let v505 : BitVec 32 := Scalar.subi v504 c0_i32_319
  let c1_i32_320 : BitVec 32 := 1#32
  let v507 : BitVec 32 := Scalar.divsi v505 c1_i32_320
  let v508 : BitVec 32 := Scalar.muli v507 c1_i32_320
  let v509 : BitVec 32 := Scalar.addi c0_i32_319 v508
  let c1_i32_322 : BitVec 32 := 1#32
  let arg33 : BitVec 32 := Scf.iv v509 c1_i32_322 k0_t7
  let c256_i32_649 : BitVec 32 := 256#32
  let v887 : BitVec 32 := Scalar.muli arg33 c256_i32_649
  let v888 : BitVec 32 := v887
  let v889 : Index := Scalar.indexCast v888
  let c0_650 : Index := 0#32
  ![v889.toNat, 0]
@[reducible] def k0_t8_loop (i : grid0.Coords) : Scf.Loop 32 :=
  let c0_i32_658 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_651 : BitVec 32 := 0#32
  let v901 : BitVec 1 := Scalar.cmpi .sgt v1 c0_i32_651
  let v902 : BitVec 32 := Scalar.extui v901
  let c0_i32_652 : BitVec 32 := 0#32
  let v903 : BitVec 1 := Scalar.cmpi .slt v1 c0_i32_652
  let v904 : BitVec 32 := Scalar.extui v903
  let v905 : BitVec 32 := Scalar.subi v902 v904
  let c256_i32_650 : BitVec 32 := 256#32
  let c0_i32_653 : BitVec 32 := 0#32
  let v906 : BitVec 1 := Scalar.cmpi .sgt c256_i32_650 c0_i32_653
  let v907 : BitVec 32 := Scalar.extui v906
  let c0_i32_654 : BitVec 32 := 0#32
  let v908 : BitVec 1 := Scalar.cmpi .slt c256_i32_650 c0_i32_654
  let v909 : BitVec 32 := Scalar.extui v908
  let v910 : BitVec 32 := Scalar.subi v907 v909
  let v911 : BitVec 1 := Scalar.cmpi .ne v905 v910
  let v912 : BitVec 32 := Scalar.remsi v1 c256_i32_650
  let c0_i32_655 : BitVec 32 := 0#32
  let v913 : BitVec 1 := Scalar.cmpi .ne v912 c0_i32_655
  let v914 : BitVec 1 := Scalar.andi v911 v913
  let v900 : BitVec 32 := Scalar.divsi v1 c256_i32_650
  let c1_i32_656 : BitVec 32 := 1#32
  let v915 : BitVec 32 := Scalar.subi v900 c1_i32_656
  let v916 : BitVec 32 := Scalar.select v914 v915 v900
  let v918 : BitVec 32 := Scalar.subi v916 c0_i32_658
  let c1_i32_659 : BitVec 32 := 1#32
  let v920 : BitVec 32 := Scalar.divsi v918 c1_i32_659
  let v921 : BitVec 32 := Scalar.muli v920 c1_i32_659
  let v922 : BitVec 32 := Scalar.addi c0_i32_658 v921
  let c1_i32_660 : BitVec 32 := 1#32
  ⟨c0_i32_658, v922, c1_i32_660⟩
def k0_mult9 (i : grid0.Coords) (k0_t8 : Fin (k0_t8_loop i).trips) : BitVec 32 :=
  let c0_i32_658 : BitVec 32 := 0#32
  let c1_i32_660 : BitVec 32 := 1#32
  let arg38 : BitVec 32 := Scf.iv c0_i32_658 c1_i32_660 k0_t8
  let c256_i32_732 : BitVec 32 := 256#32
  let v1089 : BitVec 32 := Scalar.muli arg38 c256_i32_732
  v1089
def k0_off12 (i : grid0.Coords) (k0_t8 : Fin (k0_t8_loop i).trips) : Fin 2 → Nat :=
  let c0_i32_658 : BitVec 32 := 0#32
  let c1_i32_660 : BitVec 32 := 1#32
  let arg38 : BitVec 32 := Scf.iv c0_i32_658 c1_i32_660 k0_t8
  let c256_i32_732 : BitVec 32 := 256#32
  let v1089 : BitVec 32 := Scalar.muli arg38 c256_i32_732
  let v1090 : BitVec 32 := v1089
  let v1091 : Index := Scalar.indexCast v1090
  let c0_733 : Index := 0#32
  ![v1091.toNat, 0]
@[reducible] def k0_t9_loop (i : grid0.Coords) : Scf.Loop 32 :=
  let c0_i32_658 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_651 : BitVec 32 := 0#32
  let v901 : BitVec 1 := Scalar.cmpi .sgt v1 c0_i32_651
  let v902 : BitVec 32 := Scalar.extui v901
  let c0_i32_652 : BitVec 32 := 0#32
  let v903 : BitVec 1 := Scalar.cmpi .slt v1 c0_i32_652
  let v904 : BitVec 32 := Scalar.extui v903
  let v905 : BitVec 32 := Scalar.subi v902 v904
  let c256_i32_650 : BitVec 32 := 256#32
  let c0_i32_653 : BitVec 32 := 0#32
  let v906 : BitVec 1 := Scalar.cmpi .sgt c256_i32_650 c0_i32_653
  let v907 : BitVec 32 := Scalar.extui v906
  let c0_i32_654 : BitVec 32 := 0#32
  let v908 : BitVec 1 := Scalar.cmpi .slt c256_i32_650 c0_i32_654
  let v909 : BitVec 32 := Scalar.extui v908
  let v910 : BitVec 32 := Scalar.subi v907 v909
  let v911 : BitVec 1 := Scalar.cmpi .ne v905 v910
  let v912 : BitVec 32 := Scalar.remsi v1 c256_i32_650
  let c0_i32_655 : BitVec 32 := 0#32
  let v913 : BitVec 1 := Scalar.cmpi .ne v912 c0_i32_655
  let v914 : BitVec 1 := Scalar.andi v911 v913
  let v900 : BitVec 32 := Scalar.divsi v1 c256_i32_650
  let c1_i32_656 : BitVec 32 := 1#32
  let v915 : BitVec 32 := Scalar.subi v900 c1_i32_656
  let v916 : BitVec 32 := Scalar.select v914 v915 v900
  let v918 : BitVec 32 := Scalar.subi v916 c0_i32_658
  let c1_i32_659 : BitVec 32 := 1#32
  let v920 : BitVec 32 := Scalar.divsi v918 c1_i32_659
  let v921 : BitVec 32 := Scalar.muli v920 c1_i32_659
  let v922 : BitVec 32 := Scalar.addi c0_i32_658 v921
  let v919 : BitVec 32 := Scalar.addi c0_i32_658 v918
  let c1_i32_661 : BitVec 32 := 1#32
  ⟨v922, v919, c1_i32_661⟩
def k0_mult10 (i : grid0.Coords) (k0_t9 : Fin (k0_t9_loop i).trips) : BitVec 32 :=
  let c0_i32_658 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_651 : BitVec 32 := 0#32
  let v901 : BitVec 1 := Scalar.cmpi .sgt v1 c0_i32_651
  let v902 : BitVec 32 := Scalar.extui v901
  let c0_i32_652 : BitVec 32 := 0#32
  let v903 : BitVec 1 := Scalar.cmpi .slt v1 c0_i32_652
  let v904 : BitVec 32 := Scalar.extui v903
  let v905 : BitVec 32 := Scalar.subi v902 v904
  let c256_i32_650 : BitVec 32 := 256#32
  let c0_i32_653 : BitVec 32 := 0#32
  let v906 : BitVec 1 := Scalar.cmpi .sgt c256_i32_650 c0_i32_653
  let v907 : BitVec 32 := Scalar.extui v906
  let c0_i32_654 : BitVec 32 := 0#32
  let v908 : BitVec 1 := Scalar.cmpi .slt c256_i32_650 c0_i32_654
  let v909 : BitVec 32 := Scalar.extui v908
  let v910 : BitVec 32 := Scalar.subi v907 v909
  let v911 : BitVec 1 := Scalar.cmpi .ne v905 v910
  let v912 : BitVec 32 := Scalar.remsi v1 c256_i32_650
  let c0_i32_655 : BitVec 32 := 0#32
  let v913 : BitVec 1 := Scalar.cmpi .ne v912 c0_i32_655
  let v914 : BitVec 1 := Scalar.andi v911 v913
  let v900 : BitVec 32 := Scalar.divsi v1 c256_i32_650
  let c1_i32_656 : BitVec 32 := 1#32
  let v915 : BitVec 32 := Scalar.subi v900 c1_i32_656
  let v916 : BitVec 32 := Scalar.select v914 v915 v900
  let v918 : BitVec 32 := Scalar.subi v916 c0_i32_658
  let c1_i32_659 : BitVec 32 := 1#32
  let v920 : BitVec 32 := Scalar.divsi v918 c1_i32_659
  let v921 : BitVec 32 := Scalar.muli v920 c1_i32_659
  let v922 : BitVec 32 := Scalar.addi c0_i32_658 v921
  let c1_i32_661 : BitVec 32 := 1#32
  let arg38 : BitVec 32 := Scf.iv v922 c1_i32_661 k0_t9
  let c256_i32_732 : BitVec 32 := 256#32
  let v1089 : BitVec 32 := Scalar.muli arg38 c256_i32_732
  v1089
def k0_off13 (i : grid0.Coords) (k0_t9 : Fin (k0_t9_loop i).trips) : Fin 2 → Nat :=
  let c0_i32_658 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_651 : BitVec 32 := 0#32
  let v901 : BitVec 1 := Scalar.cmpi .sgt v1 c0_i32_651
  let v902 : BitVec 32 := Scalar.extui v901
  let c0_i32_652 : BitVec 32 := 0#32
  let v903 : BitVec 1 := Scalar.cmpi .slt v1 c0_i32_652
  let v904 : BitVec 32 := Scalar.extui v903
  let v905 : BitVec 32 := Scalar.subi v902 v904
  let c256_i32_650 : BitVec 32 := 256#32
  let c0_i32_653 : BitVec 32 := 0#32
  let v906 : BitVec 1 := Scalar.cmpi .sgt c256_i32_650 c0_i32_653
  let v907 : BitVec 32 := Scalar.extui v906
  let c0_i32_654 : BitVec 32 := 0#32
  let v908 : BitVec 1 := Scalar.cmpi .slt c256_i32_650 c0_i32_654
  let v909 : BitVec 32 := Scalar.extui v908
  let v910 : BitVec 32 := Scalar.subi v907 v909
  let v911 : BitVec 1 := Scalar.cmpi .ne v905 v910
  let v912 : BitVec 32 := Scalar.remsi v1 c256_i32_650
  let c0_i32_655 : BitVec 32 := 0#32
  let v913 : BitVec 1 := Scalar.cmpi .ne v912 c0_i32_655
  let v914 : BitVec 1 := Scalar.andi v911 v913
  let v900 : BitVec 32 := Scalar.divsi v1 c256_i32_650
  let c1_i32_656 : BitVec 32 := 1#32
  let v915 : BitVec 32 := Scalar.subi v900 c1_i32_656
  let v916 : BitVec 32 := Scalar.select v914 v915 v900
  let v918 : BitVec 32 := Scalar.subi v916 c0_i32_658
  let c1_i32_659 : BitVec 32 := 1#32
  let v920 : BitVec 32 := Scalar.divsi v918 c1_i32_659
  let v921 : BitVec 32 := Scalar.muli v920 c1_i32_659
  let v922 : BitVec 32 := Scalar.addi c0_i32_658 v921
  let c1_i32_661 : BitVec 32 := 1#32
  let arg38 : BitVec 32 := Scf.iv v922 c1_i32_661 k0_t9
  let c256_i32_732 : BitVec 32 := 256#32
  let v1089 : BitVec 32 := Scalar.muli arg38 c256_i32_732
  let v1090 : BitVec 32 := v1089
  let v1091 : Index := Scalar.indexCast v1090
  let c0_733 : Index := 0#32
  ![v1091.toNat, 0]
@[reducible] def k0_t10_loop (i : grid0.Coords) : Scf.Loop 32 :=
  let c0_i32_679 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_672 : BitVec 32 := 0#32
  let v949 : BitVec 1 := Scalar.cmpi .sgt v1 c0_i32_672
  let v950 : BitVec 32 := Scalar.extui v949
  let c0_i32_673 : BitVec 32 := 0#32
  let v951 : BitVec 1 := Scalar.cmpi .slt v1 c0_i32_673
  let v952 : BitVec 32 := Scalar.extui v951
  let v953 : BitVec 32 := Scalar.subi v950 v952
  let c256_i32_671 : BitVec 32 := 256#32
  let c0_i32_674 : BitVec 32 := 0#32
  let v954 : BitVec 1 := Scalar.cmpi .sgt c256_i32_671 c0_i32_674
  let v955 : BitVec 32 := Scalar.extui v954
  let c0_i32_675 : BitVec 32 := 0#32
  let v956 : BitVec 1 := Scalar.cmpi .slt c256_i32_671 c0_i32_675
  let v957 : BitVec 32 := Scalar.extui v956
  let v958 : BitVec 32 := Scalar.subi v955 v957
  let v959 : BitVec 1 := Scalar.cmpi .ne v953 v958
  let v960 : BitVec 32 := Scalar.remsi v1 c256_i32_671
  let c0_i32_676 : BitVec 32 := 0#32
  let v961 : BitVec 1 := Scalar.cmpi .ne v960 c0_i32_676
  let v962 : BitVec 1 := Scalar.andi v959 v961
  let v948 : BitVec 32 := Scalar.divsi v1 c256_i32_671
  let c1_i32_677 : BitVec 32 := 1#32
  let v963 : BitVec 32 := Scalar.subi v948 c1_i32_677
  let v964 : BitVec 32 := Scalar.select v962 v963 v948
  let v966 : BitVec 32 := Scalar.subi v964 c0_i32_679
  let c1_i32_680 : BitVec 32 := 1#32
  let v968 : BitVec 32 := Scalar.divsi v966 c1_i32_680
  let v969 : BitVec 32 := Scalar.muli v968 c1_i32_680
  let v970 : BitVec 32 := Scalar.addi c0_i32_679 v969
  let c1_i32_681 : BitVec 32 := 1#32
  ⟨c0_i32_679, v970, c1_i32_681⟩
def k0_mult11 (i : grid0.Coords) (k0_t10 : Fin (k0_t10_loop i).trips) : BitVec 32 :=
  let c0_i32_679 : BitVec 32 := 0#32
  let c1_i32_681 : BitVec 32 := 1#32
  let arg38 : BitVec 32 := Scf.iv c0_i32_679 c1_i32_681 k0_t10
  let c256_i32_732 : BitVec 32 := 256#32
  let v1089 : BitVec 32 := Scalar.muli arg38 c256_i32_732
  v1089
def k0_off14 (i : grid0.Coords) (k0_t10 : Fin (k0_t10_loop i).trips) : Fin 2 → Nat :=
  let c0_i32_679 : BitVec 32 := 0#32
  let c1_i32_681 : BitVec 32 := 1#32
  let arg38 : BitVec 32 := Scf.iv c0_i32_679 c1_i32_681 k0_t10
  let c256_i32_732 : BitVec 32 := 256#32
  let v1089 : BitVec 32 := Scalar.muli arg38 c256_i32_732
  let v1090 : BitVec 32 := v1089
  let v1091 : Index := Scalar.indexCast v1090
  let c0_733 : Index := 0#32
  ![v1091.toNat, 0]
@[reducible] def k0_t11_loop (i : grid0.Coords) : Scf.Loop 32 :=
  let c0_i32_679 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_672 : BitVec 32 := 0#32
  let v949 : BitVec 1 := Scalar.cmpi .sgt v1 c0_i32_672
  let v950 : BitVec 32 := Scalar.extui v949
  let c0_i32_673 : BitVec 32 := 0#32
  let v951 : BitVec 1 := Scalar.cmpi .slt v1 c0_i32_673
  let v952 : BitVec 32 := Scalar.extui v951
  let v953 : BitVec 32 := Scalar.subi v950 v952
  let c256_i32_671 : BitVec 32 := 256#32
  let c0_i32_674 : BitVec 32 := 0#32
  let v954 : BitVec 1 := Scalar.cmpi .sgt c256_i32_671 c0_i32_674
  let v955 : BitVec 32 := Scalar.extui v954
  let c0_i32_675 : BitVec 32 := 0#32
  let v956 : BitVec 1 := Scalar.cmpi .slt c256_i32_671 c0_i32_675
  let v957 : BitVec 32 := Scalar.extui v956
  let v958 : BitVec 32 := Scalar.subi v955 v957
  let v959 : BitVec 1 := Scalar.cmpi .ne v953 v958
  let v960 : BitVec 32 := Scalar.remsi v1 c256_i32_671
  let c0_i32_676 : BitVec 32 := 0#32
  let v961 : BitVec 1 := Scalar.cmpi .ne v960 c0_i32_676
  let v962 : BitVec 1 := Scalar.andi v959 v961
  let v948 : BitVec 32 := Scalar.divsi v1 c256_i32_671
  let c1_i32_677 : BitVec 32 := 1#32
  let v963 : BitVec 32 := Scalar.subi v948 c1_i32_677
  let v964 : BitVec 32 := Scalar.select v962 v963 v948
  let v966 : BitVec 32 := Scalar.subi v964 c0_i32_679
  let c1_i32_680 : BitVec 32 := 1#32
  let v968 : BitVec 32 := Scalar.divsi v966 c1_i32_680
  let v969 : BitVec 32 := Scalar.muli v968 c1_i32_680
  let v970 : BitVec 32 := Scalar.addi c0_i32_679 v969
  let v967 : BitVec 32 := Scalar.addi c0_i32_679 v966
  let c1_i32_682 : BitVec 32 := 1#32
  ⟨v970, v967, c1_i32_682⟩
def k0_mult12 (i : grid0.Coords) (k0_t11 : Fin (k0_t11_loop i).trips) : BitVec 32 :=
  let c0_i32_679 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_672 : BitVec 32 := 0#32
  let v949 : BitVec 1 := Scalar.cmpi .sgt v1 c0_i32_672
  let v950 : BitVec 32 := Scalar.extui v949
  let c0_i32_673 : BitVec 32 := 0#32
  let v951 : BitVec 1 := Scalar.cmpi .slt v1 c0_i32_673
  let v952 : BitVec 32 := Scalar.extui v951
  let v953 : BitVec 32 := Scalar.subi v950 v952
  let c256_i32_671 : BitVec 32 := 256#32
  let c0_i32_674 : BitVec 32 := 0#32
  let v954 : BitVec 1 := Scalar.cmpi .sgt c256_i32_671 c0_i32_674
  let v955 : BitVec 32 := Scalar.extui v954
  let c0_i32_675 : BitVec 32 := 0#32
  let v956 : BitVec 1 := Scalar.cmpi .slt c256_i32_671 c0_i32_675
  let v957 : BitVec 32 := Scalar.extui v956
  let v958 : BitVec 32 := Scalar.subi v955 v957
  let v959 : BitVec 1 := Scalar.cmpi .ne v953 v958
  let v960 : BitVec 32 := Scalar.remsi v1 c256_i32_671
  let c0_i32_676 : BitVec 32 := 0#32
  let v961 : BitVec 1 := Scalar.cmpi .ne v960 c0_i32_676
  let v962 : BitVec 1 := Scalar.andi v959 v961
  let v948 : BitVec 32 := Scalar.divsi v1 c256_i32_671
  let c1_i32_677 : BitVec 32 := 1#32
  let v963 : BitVec 32 := Scalar.subi v948 c1_i32_677
  let v964 : BitVec 32 := Scalar.select v962 v963 v948
  let v966 : BitVec 32 := Scalar.subi v964 c0_i32_679
  let c1_i32_680 : BitVec 32 := 1#32
  let v968 : BitVec 32 := Scalar.divsi v966 c1_i32_680
  let v969 : BitVec 32 := Scalar.muli v968 c1_i32_680
  let v970 : BitVec 32 := Scalar.addi c0_i32_679 v969
  let c1_i32_682 : BitVec 32 := 1#32
  let arg38 : BitVec 32 := Scf.iv v970 c1_i32_682 k0_t11
  let c256_i32_732 : BitVec 32 := 256#32
  let v1089 : BitVec 32 := Scalar.muli arg38 c256_i32_732
  v1089
def k0_off15 (i : grid0.Coords) (k0_t11 : Fin (k0_t11_loop i).trips) : Fin 2 → Nat :=
  let c0_i32_679 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_672 : BitVec 32 := 0#32
  let v949 : BitVec 1 := Scalar.cmpi .sgt v1 c0_i32_672
  let v950 : BitVec 32 := Scalar.extui v949
  let c0_i32_673 : BitVec 32 := 0#32
  let v951 : BitVec 1 := Scalar.cmpi .slt v1 c0_i32_673
  let v952 : BitVec 32 := Scalar.extui v951
  let v953 : BitVec 32 := Scalar.subi v950 v952
  let c256_i32_671 : BitVec 32 := 256#32
  let c0_i32_674 : BitVec 32 := 0#32
  let v954 : BitVec 1 := Scalar.cmpi .sgt c256_i32_671 c0_i32_674
  let v955 : BitVec 32 := Scalar.extui v954
  let c0_i32_675 : BitVec 32 := 0#32
  let v956 : BitVec 1 := Scalar.cmpi .slt c256_i32_671 c0_i32_675
  let v957 : BitVec 32 := Scalar.extui v956
  let v958 : BitVec 32 := Scalar.subi v955 v957
  let v959 : BitVec 1 := Scalar.cmpi .ne v953 v958
  let v960 : BitVec 32 := Scalar.remsi v1 c256_i32_671
  let c0_i32_676 : BitVec 32 := 0#32
  let v961 : BitVec 1 := Scalar.cmpi .ne v960 c0_i32_676
  let v962 : BitVec 1 := Scalar.andi v959 v961
  let v948 : BitVec 32 := Scalar.divsi v1 c256_i32_671
  let c1_i32_677 : BitVec 32 := 1#32
  let v963 : BitVec 32 := Scalar.subi v948 c1_i32_677
  let v964 : BitVec 32 := Scalar.select v962 v963 v948
  let v966 : BitVec 32 := Scalar.subi v964 c0_i32_679
  let c1_i32_680 : BitVec 32 := 1#32
  let v968 : BitVec 32 := Scalar.divsi v966 c1_i32_680
  let v969 : BitVec 32 := Scalar.muli v968 c1_i32_680
  let v970 : BitVec 32 := Scalar.addi c0_i32_679 v969
  let c1_i32_682 : BitVec 32 := 1#32
  let arg38 : BitVec 32 := Scf.iv v970 c1_i32_682 k0_t11
  let c256_i32_732 : BitVec 32 := 256#32
  let v1089 : BitVec 32 := Scalar.muli arg38 c256_i32_732
  let v1090 : BitVec 32 := v1089
  let v1091 : Index := Scalar.indexCast v1090
  let c0_733 : Index := 0#32
  ![v1091.toNat, 0]
@[reducible] def k0_t12_loop (i : grid0.Coords) : Scf.Loop 32 :=
  let c0_i32_700 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_693 : BitVec 32 := 0#32
  let v997 : BitVec 1 := Scalar.cmpi .sgt v1 c0_i32_693
  let v998 : BitVec 32 := Scalar.extui v997
  let c0_i32_694 : BitVec 32 := 0#32
  let v999 : BitVec 1 := Scalar.cmpi .slt v1 c0_i32_694
  let v1000 : BitVec 32 := Scalar.extui v999
  let v1001 : BitVec 32 := Scalar.subi v998 v1000
  let c256_i32_692 : BitVec 32 := 256#32
  let c0_i32_695 : BitVec 32 := 0#32
  let v1002 : BitVec 1 := Scalar.cmpi .sgt c256_i32_692 c0_i32_695
  let v1003 : BitVec 32 := Scalar.extui v1002
  let c0_i32_696 : BitVec 32 := 0#32
  let v1004 : BitVec 1 := Scalar.cmpi .slt c256_i32_692 c0_i32_696
  let v1005 : BitVec 32 := Scalar.extui v1004
  let v1006 : BitVec 32 := Scalar.subi v1003 v1005
  let v1007 : BitVec 1 := Scalar.cmpi .ne v1001 v1006
  let v1008 : BitVec 32 := Scalar.remsi v1 c256_i32_692
  let c0_i32_697 : BitVec 32 := 0#32
  let v1009 : BitVec 1 := Scalar.cmpi .ne v1008 c0_i32_697
  let v1010 : BitVec 1 := Scalar.andi v1007 v1009
  let v996 : BitVec 32 := Scalar.divsi v1 c256_i32_692
  let c1_i32_698 : BitVec 32 := 1#32
  let v1011 : BitVec 32 := Scalar.subi v996 c1_i32_698
  let v1012 : BitVec 32 := Scalar.select v1010 v1011 v996
  let v1014 : BitVec 32 := Scalar.subi v1012 c0_i32_700
  let c1_i32_701 : BitVec 32 := 1#32
  let v1016 : BitVec 32 := Scalar.divsi v1014 c1_i32_701
  let v1017 : BitVec 32 := Scalar.muli v1016 c1_i32_701
  let v1018 : BitVec 32 := Scalar.addi c0_i32_700 v1017
  let c1_i32_702 : BitVec 32 := 1#32
  ⟨c0_i32_700, v1018, c1_i32_702⟩
def k0_mult13 (i : grid0.Coords) (k0_t12 : Fin (k0_t12_loop i).trips) : BitVec 32 :=
  let c0_i32_700 : BitVec 32 := 0#32
  let c1_i32_702 : BitVec 32 := 1#32
  let arg38 : BitVec 32 := Scf.iv c0_i32_700 c1_i32_702 k0_t12
  let c256_i32_732 : BitVec 32 := 256#32
  let v1089 : BitVec 32 := Scalar.muli arg38 c256_i32_732
  v1089
def k0_off16 (i : grid0.Coords) (k0_t12 : Fin (k0_t12_loop i).trips) : Fin 2 → Nat :=
  let c0_i32_700 : BitVec 32 := 0#32
  let c1_i32_702 : BitVec 32 := 1#32
  let arg38 : BitVec 32 := Scf.iv c0_i32_700 c1_i32_702 k0_t12
  let c256_i32_732 : BitVec 32 := 256#32
  let v1089 : BitVec 32 := Scalar.muli arg38 c256_i32_732
  let v1090 : BitVec 32 := v1089
  let v1091 : Index := Scalar.indexCast v1090
  let c0_733 : Index := 0#32
  ![v1091.toNat, 0]
@[reducible] def k0_t13_loop (i : grid0.Coords) : Scf.Loop 32 :=
  let c0_i32_700 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_693 : BitVec 32 := 0#32
  let v997 : BitVec 1 := Scalar.cmpi .sgt v1 c0_i32_693
  let v998 : BitVec 32 := Scalar.extui v997
  let c0_i32_694 : BitVec 32 := 0#32
  let v999 : BitVec 1 := Scalar.cmpi .slt v1 c0_i32_694
  let v1000 : BitVec 32 := Scalar.extui v999
  let v1001 : BitVec 32 := Scalar.subi v998 v1000
  let c256_i32_692 : BitVec 32 := 256#32
  let c0_i32_695 : BitVec 32 := 0#32
  let v1002 : BitVec 1 := Scalar.cmpi .sgt c256_i32_692 c0_i32_695
  let v1003 : BitVec 32 := Scalar.extui v1002
  let c0_i32_696 : BitVec 32 := 0#32
  let v1004 : BitVec 1 := Scalar.cmpi .slt c256_i32_692 c0_i32_696
  let v1005 : BitVec 32 := Scalar.extui v1004
  let v1006 : BitVec 32 := Scalar.subi v1003 v1005
  let v1007 : BitVec 1 := Scalar.cmpi .ne v1001 v1006
  let v1008 : BitVec 32 := Scalar.remsi v1 c256_i32_692
  let c0_i32_697 : BitVec 32 := 0#32
  let v1009 : BitVec 1 := Scalar.cmpi .ne v1008 c0_i32_697
  let v1010 : BitVec 1 := Scalar.andi v1007 v1009
  let v996 : BitVec 32 := Scalar.divsi v1 c256_i32_692
  let c1_i32_698 : BitVec 32 := 1#32
  let v1011 : BitVec 32 := Scalar.subi v996 c1_i32_698
  let v1012 : BitVec 32 := Scalar.select v1010 v1011 v996
  let v1014 : BitVec 32 := Scalar.subi v1012 c0_i32_700
  let c1_i32_701 : BitVec 32 := 1#32
  let v1016 : BitVec 32 := Scalar.divsi v1014 c1_i32_701
  let v1017 : BitVec 32 := Scalar.muli v1016 c1_i32_701
  let v1018 : BitVec 32 := Scalar.addi c0_i32_700 v1017
  let v1015 : BitVec 32 := Scalar.addi c0_i32_700 v1014
  let c1_i32_703 : BitVec 32 := 1#32
  ⟨v1018, v1015, c1_i32_703⟩
def k0_mult14 (i : grid0.Coords) (k0_t13 : Fin (k0_t13_loop i).trips) : BitVec 32 :=
  let c0_i32_700 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_693 : BitVec 32 := 0#32
  let v997 : BitVec 1 := Scalar.cmpi .sgt v1 c0_i32_693
  let v998 : BitVec 32 := Scalar.extui v997
  let c0_i32_694 : BitVec 32 := 0#32
  let v999 : BitVec 1 := Scalar.cmpi .slt v1 c0_i32_694
  let v1000 : BitVec 32 := Scalar.extui v999
  let v1001 : BitVec 32 := Scalar.subi v998 v1000
  let c256_i32_692 : BitVec 32 := 256#32
  let c0_i32_695 : BitVec 32 := 0#32
  let v1002 : BitVec 1 := Scalar.cmpi .sgt c256_i32_692 c0_i32_695
  let v1003 : BitVec 32 := Scalar.extui v1002
  let c0_i32_696 : BitVec 32 := 0#32
  let v1004 : BitVec 1 := Scalar.cmpi .slt c256_i32_692 c0_i32_696
  let v1005 : BitVec 32 := Scalar.extui v1004
  let v1006 : BitVec 32 := Scalar.subi v1003 v1005
  let v1007 : BitVec 1 := Scalar.cmpi .ne v1001 v1006
  let v1008 : BitVec 32 := Scalar.remsi v1 c256_i32_692
  let c0_i32_697 : BitVec 32 := 0#32
  let v1009 : BitVec 1 := Scalar.cmpi .ne v1008 c0_i32_697
  let v1010 : BitVec 1 := Scalar.andi v1007 v1009
  let v996 : BitVec 32 := Scalar.divsi v1 c256_i32_692
  let c1_i32_698 : BitVec 32 := 1#32
  let v1011 : BitVec 32 := Scalar.subi v996 c1_i32_698
  let v1012 : BitVec 32 := Scalar.select v1010 v1011 v996
  let v1014 : BitVec 32 := Scalar.subi v1012 c0_i32_700
  let c1_i32_701 : BitVec 32 := 1#32
  let v1016 : BitVec 32 := Scalar.divsi v1014 c1_i32_701
  let v1017 : BitVec 32 := Scalar.muli v1016 c1_i32_701
  let v1018 : BitVec 32 := Scalar.addi c0_i32_700 v1017
  let c1_i32_703 : BitVec 32 := 1#32
  let arg38 : BitVec 32 := Scf.iv v1018 c1_i32_703 k0_t13
  let c256_i32_732 : BitVec 32 := 256#32
  let v1089 : BitVec 32 := Scalar.muli arg38 c256_i32_732
  v1089
def k0_off17 (i : grid0.Coords) (k0_t13 : Fin (k0_t13_loop i).trips) : Fin 2 → Nat :=
  let c0_i32_700 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_693 : BitVec 32 := 0#32
  let v997 : BitVec 1 := Scalar.cmpi .sgt v1 c0_i32_693
  let v998 : BitVec 32 := Scalar.extui v997
  let c0_i32_694 : BitVec 32 := 0#32
  let v999 : BitVec 1 := Scalar.cmpi .slt v1 c0_i32_694
  let v1000 : BitVec 32 := Scalar.extui v999
  let v1001 : BitVec 32 := Scalar.subi v998 v1000
  let c256_i32_692 : BitVec 32 := 256#32
  let c0_i32_695 : BitVec 32 := 0#32
  let v1002 : BitVec 1 := Scalar.cmpi .sgt c256_i32_692 c0_i32_695
  let v1003 : BitVec 32 := Scalar.extui v1002
  let c0_i32_696 : BitVec 32 := 0#32
  let v1004 : BitVec 1 := Scalar.cmpi .slt c256_i32_692 c0_i32_696
  let v1005 : BitVec 32 := Scalar.extui v1004
  let v1006 : BitVec 32 := Scalar.subi v1003 v1005
  let v1007 : BitVec 1 := Scalar.cmpi .ne v1001 v1006
  let v1008 : BitVec 32 := Scalar.remsi v1 c256_i32_692
  let c0_i32_697 : BitVec 32 := 0#32
  let v1009 : BitVec 1 := Scalar.cmpi .ne v1008 c0_i32_697
  let v1010 : BitVec 1 := Scalar.andi v1007 v1009
  let v996 : BitVec 32 := Scalar.divsi v1 c256_i32_692
  let c1_i32_698 : BitVec 32 := 1#32
  let v1011 : BitVec 32 := Scalar.subi v996 c1_i32_698
  let v1012 : BitVec 32 := Scalar.select v1010 v1011 v996
  let v1014 : BitVec 32 := Scalar.subi v1012 c0_i32_700
  let c1_i32_701 : BitVec 32 := 1#32
  let v1016 : BitVec 32 := Scalar.divsi v1014 c1_i32_701
  let v1017 : BitVec 32 := Scalar.muli v1016 c1_i32_701
  let v1018 : BitVec 32 := Scalar.addi c0_i32_700 v1017
  let c1_i32_703 : BitVec 32 := 1#32
  let arg38 : BitVec 32 := Scf.iv v1018 c1_i32_703 k0_t13
  let c256_i32_732 : BitVec 32 := 256#32
  let v1089 : BitVec 32 := Scalar.muli arg38 c256_i32_732
  let v1090 : BitVec 32 := v1089
  let v1091 : Index := Scalar.indexCast v1090
  let c0_733 : Index := 0#32
  ![v1091.toNat, 0]
@[reducible] def k0_t14_loop (i : grid0.Coords) : Scf.Loop 32 :=
  let c0_i32_721 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_714 : BitVec 32 := 0#32
  let v1045 : BitVec 1 := Scalar.cmpi .sgt v1 c0_i32_714
  let v1046 : BitVec 32 := Scalar.extui v1045
  let c0_i32_715 : BitVec 32 := 0#32
  let v1047 : BitVec 1 := Scalar.cmpi .slt v1 c0_i32_715
  let v1048 : BitVec 32 := Scalar.extui v1047
  let v1049 : BitVec 32 := Scalar.subi v1046 v1048
  let c256_i32_713 : BitVec 32 := 256#32
  let c0_i32_716 : BitVec 32 := 0#32
  let v1050 : BitVec 1 := Scalar.cmpi .sgt c256_i32_713 c0_i32_716
  let v1051 : BitVec 32 := Scalar.extui v1050
  let c0_i32_717 : BitVec 32 := 0#32
  let v1052 : BitVec 1 := Scalar.cmpi .slt c256_i32_713 c0_i32_717
  let v1053 : BitVec 32 := Scalar.extui v1052
  let v1054 : BitVec 32 := Scalar.subi v1051 v1053
  let v1055 : BitVec 1 := Scalar.cmpi .ne v1049 v1054
  let v1056 : BitVec 32 := Scalar.remsi v1 c256_i32_713
  let c0_i32_718 : BitVec 32 := 0#32
  let v1057 : BitVec 1 := Scalar.cmpi .ne v1056 c0_i32_718
  let v1058 : BitVec 1 := Scalar.andi v1055 v1057
  let v1044 : BitVec 32 := Scalar.divsi v1 c256_i32_713
  let c1_i32_719 : BitVec 32 := 1#32
  let v1059 : BitVec 32 := Scalar.subi v1044 c1_i32_719
  let v1060 : BitVec 32 := Scalar.select v1058 v1059 v1044
  let v1062 : BitVec 32 := Scalar.subi v1060 c0_i32_721
  let c1_i32_722 : BitVec 32 := 1#32
  let v1064 : BitVec 32 := Scalar.divsi v1062 c1_i32_722
  let v1065 : BitVec 32 := Scalar.muli v1064 c1_i32_722
  let v1066 : BitVec 32 := Scalar.addi c0_i32_721 v1065
  let c1_i32_723 : BitVec 32 := 1#32
  ⟨c0_i32_721, v1066, c1_i32_723⟩
def k0_mult15 (i : grid0.Coords) (k0_t14 : Fin (k0_t14_loop i).trips) : BitVec 32 :=
  let c0_i32_721 : BitVec 32 := 0#32
  let c1_i32_723 : BitVec 32 := 1#32
  let arg38 : BitVec 32 := Scf.iv c0_i32_721 c1_i32_723 k0_t14
  let c256_i32_732 : BitVec 32 := 256#32
  let v1089 : BitVec 32 := Scalar.muli arg38 c256_i32_732
  v1089
def k0_off18 (i : grid0.Coords) (k0_t14 : Fin (k0_t14_loop i).trips) : Fin 2 → Nat :=
  let c0_i32_721 : BitVec 32 := 0#32
  let c1_i32_723 : BitVec 32 := 1#32
  let arg38 : BitVec 32 := Scf.iv c0_i32_721 c1_i32_723 k0_t14
  let c256_i32_732 : BitVec 32 := 256#32
  let v1089 : BitVec 32 := Scalar.muli arg38 c256_i32_732
  let v1090 : BitVec 32 := v1089
  let v1091 : Index := Scalar.indexCast v1090
  let c0_733 : Index := 0#32
  ![v1091.toNat, 0]
@[reducible] def k0_t15_loop (i : grid0.Coords) : Scf.Loop 32 :=
  let c0_i32_721 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_714 : BitVec 32 := 0#32
  let v1045 : BitVec 1 := Scalar.cmpi .sgt v1 c0_i32_714
  let v1046 : BitVec 32 := Scalar.extui v1045
  let c0_i32_715 : BitVec 32 := 0#32
  let v1047 : BitVec 1 := Scalar.cmpi .slt v1 c0_i32_715
  let v1048 : BitVec 32 := Scalar.extui v1047
  let v1049 : BitVec 32 := Scalar.subi v1046 v1048
  let c256_i32_713 : BitVec 32 := 256#32
  let c0_i32_716 : BitVec 32 := 0#32
  let v1050 : BitVec 1 := Scalar.cmpi .sgt c256_i32_713 c0_i32_716
  let v1051 : BitVec 32 := Scalar.extui v1050
  let c0_i32_717 : BitVec 32 := 0#32
  let v1052 : BitVec 1 := Scalar.cmpi .slt c256_i32_713 c0_i32_717
  let v1053 : BitVec 32 := Scalar.extui v1052
  let v1054 : BitVec 32 := Scalar.subi v1051 v1053
  let v1055 : BitVec 1 := Scalar.cmpi .ne v1049 v1054
  let v1056 : BitVec 32 := Scalar.remsi v1 c256_i32_713
  let c0_i32_718 : BitVec 32 := 0#32
  let v1057 : BitVec 1 := Scalar.cmpi .ne v1056 c0_i32_718
  let v1058 : BitVec 1 := Scalar.andi v1055 v1057
  let v1044 : BitVec 32 := Scalar.divsi v1 c256_i32_713
  let c1_i32_719 : BitVec 32 := 1#32
  let v1059 : BitVec 32 := Scalar.subi v1044 c1_i32_719
  let v1060 : BitVec 32 := Scalar.select v1058 v1059 v1044
  let v1062 : BitVec 32 := Scalar.subi v1060 c0_i32_721
  let c1_i32_722 : BitVec 32 := 1#32
  let v1064 : BitVec 32 := Scalar.divsi v1062 c1_i32_722
  let v1065 : BitVec 32 := Scalar.muli v1064 c1_i32_722
  let v1066 : BitVec 32 := Scalar.addi c0_i32_721 v1065
  let v1063 : BitVec 32 := Scalar.addi c0_i32_721 v1062
  let c1_i32_724 : BitVec 32 := 1#32
  ⟨v1066, v1063, c1_i32_724⟩
def k0_mult16 (i : grid0.Coords) (k0_t15 : Fin (k0_t15_loop i).trips) : BitVec 32 :=
  let c0_i32_721 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_714 : BitVec 32 := 0#32
  let v1045 : BitVec 1 := Scalar.cmpi .sgt v1 c0_i32_714
  let v1046 : BitVec 32 := Scalar.extui v1045
  let c0_i32_715 : BitVec 32 := 0#32
  let v1047 : BitVec 1 := Scalar.cmpi .slt v1 c0_i32_715
  let v1048 : BitVec 32 := Scalar.extui v1047
  let v1049 : BitVec 32 := Scalar.subi v1046 v1048
  let c256_i32_713 : BitVec 32 := 256#32
  let c0_i32_716 : BitVec 32 := 0#32
  let v1050 : BitVec 1 := Scalar.cmpi .sgt c256_i32_713 c0_i32_716
  let v1051 : BitVec 32 := Scalar.extui v1050
  let c0_i32_717 : BitVec 32 := 0#32
  let v1052 : BitVec 1 := Scalar.cmpi .slt c256_i32_713 c0_i32_717
  let v1053 : BitVec 32 := Scalar.extui v1052
  let v1054 : BitVec 32 := Scalar.subi v1051 v1053
  let v1055 : BitVec 1 := Scalar.cmpi .ne v1049 v1054
  let v1056 : BitVec 32 := Scalar.remsi v1 c256_i32_713
  let c0_i32_718 : BitVec 32 := 0#32
  let v1057 : BitVec 1 := Scalar.cmpi .ne v1056 c0_i32_718
  let v1058 : BitVec 1 := Scalar.andi v1055 v1057
  let v1044 : BitVec 32 := Scalar.divsi v1 c256_i32_713
  let c1_i32_719 : BitVec 32 := 1#32
  let v1059 : BitVec 32 := Scalar.subi v1044 c1_i32_719
  let v1060 : BitVec 32 := Scalar.select v1058 v1059 v1044
  let v1062 : BitVec 32 := Scalar.subi v1060 c0_i32_721
  let c1_i32_722 : BitVec 32 := 1#32
  let v1064 : BitVec 32 := Scalar.divsi v1062 c1_i32_722
  let v1065 : BitVec 32 := Scalar.muli v1064 c1_i32_722
  let v1066 : BitVec 32 := Scalar.addi c0_i32_721 v1065
  let c1_i32_724 : BitVec 32 := 1#32
  let arg38 : BitVec 32 := Scf.iv v1066 c1_i32_724 k0_t15
  let c256_i32_732 : BitVec 32 := 256#32
  let v1089 : BitVec 32 := Scalar.muli arg38 c256_i32_732
  v1089
def k0_off19 (i : grid0.Coords) (k0_t15 : Fin (k0_t15_loop i).trips) : Fin 2 → Nat :=
  let c0_i32_721 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_714 : BitVec 32 := 0#32
  let v1045 : BitVec 1 := Scalar.cmpi .sgt v1 c0_i32_714
  let v1046 : BitVec 32 := Scalar.extui v1045
  let c0_i32_715 : BitVec 32 := 0#32
  let v1047 : BitVec 1 := Scalar.cmpi .slt v1 c0_i32_715
  let v1048 : BitVec 32 := Scalar.extui v1047
  let v1049 : BitVec 32 := Scalar.subi v1046 v1048
  let c256_i32_713 : BitVec 32 := 256#32
  let c0_i32_716 : BitVec 32 := 0#32
  let v1050 : BitVec 1 := Scalar.cmpi .sgt c256_i32_713 c0_i32_716
  let v1051 : BitVec 32 := Scalar.extui v1050
  let c0_i32_717 : BitVec 32 := 0#32
  let v1052 : BitVec 1 := Scalar.cmpi .slt c256_i32_713 c0_i32_717
  let v1053 : BitVec 32 := Scalar.extui v1052
  let v1054 : BitVec 32 := Scalar.subi v1051 v1053
  let v1055 : BitVec 1 := Scalar.cmpi .ne v1049 v1054
  let v1056 : BitVec 32 := Scalar.remsi v1 c256_i32_713
  let c0_i32_718 : BitVec 32 := 0#32
  let v1057 : BitVec 1 := Scalar.cmpi .ne v1056 c0_i32_718
  let v1058 : BitVec 1 := Scalar.andi v1055 v1057
  let v1044 : BitVec 32 := Scalar.divsi v1 c256_i32_713
  let c1_i32_719 : BitVec 32 := 1#32
  let v1059 : BitVec 32 := Scalar.subi v1044 c1_i32_719
  let v1060 : BitVec 32 := Scalar.select v1058 v1059 v1044
  let v1062 : BitVec 32 := Scalar.subi v1060 c0_i32_721
  let c1_i32_722 : BitVec 32 := 1#32
  let v1064 : BitVec 32 := Scalar.divsi v1062 c1_i32_722
  let v1065 : BitVec 32 := Scalar.muli v1064 c1_i32_722
  let v1066 : BitVec 32 := Scalar.addi c0_i32_721 v1065
  let c1_i32_724 : BitVec 32 := 1#32
  let arg38 : BitVec 32 := Scf.iv v1066 c1_i32_724 k0_t15
  let c256_i32_732 : BitVec 32 := 256#32
  let v1089 : BitVec 32 := Scalar.muli arg38 c256_i32_732
  let v1090 : BitVec 32 := v1089
  let v1091 : Index := Scalar.indexCast v1090
  let c0_733 : Index := 0#32
  ![v1091.toNat, 0]
@[reducible] def k0_t16_loop : Scf.Loop 32 :=
  let c0_i32_649 : BitVec 32 := 0#32
  let c13_i32 : BitVec 32 := 13#32
  let v887 : BitVec 32 := Scalar.addi c0_i32_649 c13_i32
  let c1_i32_650 : BitVec 32 := 1#32
  ⟨c0_i32_649, v887, c1_i32_650⟩
@[reducible] def k0_t17_loop (i : grid0.Coords) : Scf.Loop 32 :=
  let c0_i32_673 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_666 : BitVec 32 := 0#32
  let v917 : BitVec 1 := Scalar.cmpi .sgt v1 c0_i32_666
  let v918 : BitVec 32 := Scalar.extui v917
  let c0_i32_667 : BitVec 32 := 0#32
  let v919 : BitVec 1 := Scalar.cmpi .slt v1 c0_i32_667
  let v920 : BitVec 32 := Scalar.extui v919
  let v921 : BitVec 32 := Scalar.subi v918 v920
  let c256_i32_665 : BitVec 32 := 256#32
  let c0_i32_668 : BitVec 32 := 0#32
  let v922 : BitVec 1 := Scalar.cmpi .sgt c256_i32_665 c0_i32_668
  let v923 : BitVec 32 := Scalar.extui v922
  let c0_i32_669 : BitVec 32 := 0#32
  let v924 : BitVec 1 := Scalar.cmpi .slt c256_i32_665 c0_i32_669
  let v925 : BitVec 32 := Scalar.extui v924
  let v926 : BitVec 32 := Scalar.subi v923 v925
  let v927 : BitVec 1 := Scalar.cmpi .ne v921 v926
  let v928 : BitVec 32 := Scalar.remsi v1 c256_i32_665
  let c0_i32_670 : BitVec 32 := 0#32
  let v929 : BitVec 1 := Scalar.cmpi .ne v928 c0_i32_670
  let v930 : BitVec 1 := Scalar.andi v927 v929
  let v916 : BitVec 32 := Scalar.divsi v1 c256_i32_665
  let c1_i32_671 : BitVec 32 := 1#32
  let v931 : BitVec 32 := Scalar.subi v916 c1_i32_671
  let v932 : BitVec 32 := Scalar.select v930 v931 v916
  let v934 : BitVec 32 := Scalar.subi v932 c0_i32_673
  let c1_i32_674 : BitVec 32 := 1#32
  let v936 : BitVec 32 := Scalar.divsi v934 c1_i32_674
  let v937 : BitVec 32 := Scalar.muli v936 c1_i32_674
  let v938 : BitVec 32 := Scalar.addi c0_i32_673 v937
  let c1_i32_675 : BitVec 32 := 1#32
  ⟨c0_i32_673, v938, c1_i32_675⟩
def k0_mult17 (i : grid0.Coords) (k0_t17 : Fin (k0_t17_loop i).trips) : BitVec 32 :=
  let c0_i32_673 : BitVec 32 := 0#32
  let c1_i32_675 : BitVec 32 := 1#32
  let arg35 : BitVec 32 := Scf.iv c0_i32_673 c1_i32_675 k0_t17
  let c256_i32_678 : BitVec 32 := 256#32
  let v946 : BitVec 32 := Scalar.muli arg35 c256_i32_678
  v946
def k0_off20 (i : grid0.Coords) (k0_t17 : Fin (k0_t17_loop i).trips) : Fin 2 → Nat :=
  let c0_i32_673 : BitVec 32 := 0#32
  let c1_i32_675 : BitVec 32 := 1#32
  let arg35 : BitVec 32 := Scf.iv c0_i32_673 c1_i32_675 k0_t17
  let c256_i32_678 : BitVec 32 := 256#32
  let v946 : BitVec 32 := Scalar.muli arg35 c256_i32_678
  let v947 : BitVec 32 := v946
  let v948 : Index := Scalar.indexCast v947
  let c0_679 : Index := 0#32
  ![v948.toNat, 0]
@[reducible] def k0_t18_loop (i : grid0.Coords) : Scf.Loop 32 :=
  let c0_i32_673 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_666 : BitVec 32 := 0#32
  let v917 : BitVec 1 := Scalar.cmpi .sgt v1 c0_i32_666
  let v918 : BitVec 32 := Scalar.extui v917
  let c0_i32_667 : BitVec 32 := 0#32
  let v919 : BitVec 1 := Scalar.cmpi .slt v1 c0_i32_667
  let v920 : BitVec 32 := Scalar.extui v919
  let v921 : BitVec 32 := Scalar.subi v918 v920
  let c256_i32_665 : BitVec 32 := 256#32
  let c0_i32_668 : BitVec 32 := 0#32
  let v922 : BitVec 1 := Scalar.cmpi .sgt c256_i32_665 c0_i32_668
  let v923 : BitVec 32 := Scalar.extui v922
  let c0_i32_669 : BitVec 32 := 0#32
  let v924 : BitVec 1 := Scalar.cmpi .slt c256_i32_665 c0_i32_669
  let v925 : BitVec 32 := Scalar.extui v924
  let v926 : BitVec 32 := Scalar.subi v923 v925
  let v927 : BitVec 1 := Scalar.cmpi .ne v921 v926
  let v928 : BitVec 32 := Scalar.remsi v1 c256_i32_665
  let c0_i32_670 : BitVec 32 := 0#32
  let v929 : BitVec 1 := Scalar.cmpi .ne v928 c0_i32_670
  let v930 : BitVec 1 := Scalar.andi v927 v929
  let v916 : BitVec 32 := Scalar.divsi v1 c256_i32_665
  let c1_i32_671 : BitVec 32 := 1#32
  let v931 : BitVec 32 := Scalar.subi v916 c1_i32_671
  let v932 : BitVec 32 := Scalar.select v930 v931 v916
  let v934 : BitVec 32 := Scalar.subi v932 c0_i32_673
  let c1_i32_674 : BitVec 32 := 1#32
  let v936 : BitVec 32 := Scalar.divsi v934 c1_i32_674
  let v937 : BitVec 32 := Scalar.muli v936 c1_i32_674
  let v938 : BitVec 32 := Scalar.addi c0_i32_673 v937
  let v935 : BitVec 32 := Scalar.addi c0_i32_673 v934
  let c1_i32_676 : BitVec 32 := 1#32
  ⟨v938, v935, c1_i32_676⟩
def k0_mult18 (i : grid0.Coords) (k0_t18 : Fin (k0_t18_loop i).trips) : BitVec 32 :=
  let c0_i32_673 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_666 : BitVec 32 := 0#32
  let v917 : BitVec 1 := Scalar.cmpi .sgt v1 c0_i32_666
  let v918 : BitVec 32 := Scalar.extui v917
  let c0_i32_667 : BitVec 32 := 0#32
  let v919 : BitVec 1 := Scalar.cmpi .slt v1 c0_i32_667
  let v920 : BitVec 32 := Scalar.extui v919
  let v921 : BitVec 32 := Scalar.subi v918 v920
  let c256_i32_665 : BitVec 32 := 256#32
  let c0_i32_668 : BitVec 32 := 0#32
  let v922 : BitVec 1 := Scalar.cmpi .sgt c256_i32_665 c0_i32_668
  let v923 : BitVec 32 := Scalar.extui v922
  let c0_i32_669 : BitVec 32 := 0#32
  let v924 : BitVec 1 := Scalar.cmpi .slt c256_i32_665 c0_i32_669
  let v925 : BitVec 32 := Scalar.extui v924
  let v926 : BitVec 32 := Scalar.subi v923 v925
  let v927 : BitVec 1 := Scalar.cmpi .ne v921 v926
  let v928 : BitVec 32 := Scalar.remsi v1 c256_i32_665
  let c0_i32_670 : BitVec 32 := 0#32
  let v929 : BitVec 1 := Scalar.cmpi .ne v928 c0_i32_670
  let v930 : BitVec 1 := Scalar.andi v927 v929
  let v916 : BitVec 32 := Scalar.divsi v1 c256_i32_665
  let c1_i32_671 : BitVec 32 := 1#32
  let v931 : BitVec 32 := Scalar.subi v916 c1_i32_671
  let v932 : BitVec 32 := Scalar.select v930 v931 v916
  let v934 : BitVec 32 := Scalar.subi v932 c0_i32_673
  let c1_i32_674 : BitVec 32 := 1#32
  let v936 : BitVec 32 := Scalar.divsi v934 c1_i32_674
  let v937 : BitVec 32 := Scalar.muli v936 c1_i32_674
  let v938 : BitVec 32 := Scalar.addi c0_i32_673 v937
  let c1_i32_676 : BitVec 32 := 1#32
  let arg35 : BitVec 32 := Scf.iv v938 c1_i32_676 k0_t18
  let c256_i32_678 : BitVec 32 := 256#32
  let v946 : BitVec 32 := Scalar.muli arg35 c256_i32_678
  v946
def k0_off21 (i : grid0.Coords) (k0_t18 : Fin (k0_t18_loop i).trips) : Fin 2 → Nat :=
  let c0_i32_673 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_666 : BitVec 32 := 0#32
  let v917 : BitVec 1 := Scalar.cmpi .sgt v1 c0_i32_666
  let v918 : BitVec 32 := Scalar.extui v917
  let c0_i32_667 : BitVec 32 := 0#32
  let v919 : BitVec 1 := Scalar.cmpi .slt v1 c0_i32_667
  let v920 : BitVec 32 := Scalar.extui v919
  let v921 : BitVec 32 := Scalar.subi v918 v920
  let c256_i32_665 : BitVec 32 := 256#32
  let c0_i32_668 : BitVec 32 := 0#32
  let v922 : BitVec 1 := Scalar.cmpi .sgt c256_i32_665 c0_i32_668
  let v923 : BitVec 32 := Scalar.extui v922
  let c0_i32_669 : BitVec 32 := 0#32
  let v924 : BitVec 1 := Scalar.cmpi .slt c256_i32_665 c0_i32_669
  let v925 : BitVec 32 := Scalar.extui v924
  let v926 : BitVec 32 := Scalar.subi v923 v925
  let v927 : BitVec 1 := Scalar.cmpi .ne v921 v926
  let v928 : BitVec 32 := Scalar.remsi v1 c256_i32_665
  let c0_i32_670 : BitVec 32 := 0#32
  let v929 : BitVec 1 := Scalar.cmpi .ne v928 c0_i32_670
  let v930 : BitVec 1 := Scalar.andi v927 v929
  let v916 : BitVec 32 := Scalar.divsi v1 c256_i32_665
  let c1_i32_671 : BitVec 32 := 1#32
  let v931 : BitVec 32 := Scalar.subi v916 c1_i32_671
  let v932 : BitVec 32 := Scalar.select v930 v931 v916
  let v934 : BitVec 32 := Scalar.subi v932 c0_i32_673
  let c1_i32_674 : BitVec 32 := 1#32
  let v936 : BitVec 32 := Scalar.divsi v934 c1_i32_674
  let v937 : BitVec 32 := Scalar.muli v936 c1_i32_674
  let v938 : BitVec 32 := Scalar.addi c0_i32_673 v937
  let c1_i32_676 : BitVec 32 := 1#32
  let arg35 : BitVec 32 := Scf.iv v938 c1_i32_676 k0_t18
  let c256_i32_678 : BitVec 32 := 256#32
  let v946 : BitVec 32 := Scalar.muli arg35 c256_i32_678
  let v947 : BitVec 32 := v946
  let v948 : Index := Scalar.indexCast v947
  let c0_679 : Index := 0#32
  ![v948.toNat, 0]
@[reducible] def k0_t19_loop (i : grid0.Coords) : Scf.Loop 32 :=
  let c0_i32_660 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_653 : BitVec 32 := 0#32
  let v891 : BitVec 1 := Scalar.cmpi .sgt v1 c0_i32_653
  let v892 : BitVec 32 := Scalar.extui v891
  let c0_i32_654 : BitVec 32 := 0#32
  let v893 : BitVec 1 := Scalar.cmpi .slt v1 c0_i32_654
  let v894 : BitVec 32 := Scalar.extui v893
  let v895 : BitVec 32 := Scalar.subi v892 v894
  let c256_i32_652 : BitVec 32 := 256#32
  let c0_i32_655 : BitVec 32 := 0#32
  let v896 : BitVec 1 := Scalar.cmpi .sgt c256_i32_652 c0_i32_655
  let v897 : BitVec 32 := Scalar.extui v896
  let c0_i32_656 : BitVec 32 := 0#32
  let v898 : BitVec 1 := Scalar.cmpi .slt c256_i32_652 c0_i32_656
  let v899 : BitVec 32 := Scalar.extui v898
  let v900 : BitVec 32 := Scalar.subi v897 v899
  let v901 : BitVec 1 := Scalar.cmpi .ne v895 v900
  let v902 : BitVec 32 := Scalar.remsi v1 c256_i32_652
  let c0_i32_657 : BitVec 32 := 0#32
  let v903 : BitVec 1 := Scalar.cmpi .ne v902 c0_i32_657
  let v904 : BitVec 1 := Scalar.andi v901 v903
  let v890 : BitVec 32 := Scalar.divsi v1 c256_i32_652
  let c1_i32_658 : BitVec 32 := 1#32
  let v905 : BitVec 32 := Scalar.subi v890 c1_i32_658
  let v906 : BitVec 32 := Scalar.select v904 v905 v890
  let v907 : BitVec 32 := Scalar.subi v906 c0_i32_660
  let c1_i32_661 : BitVec 32 := 1#32
  let v909 : BitVec 32 := Scalar.divsi v907 c1_i32_661
  let v910 : BitVec 32 := Scalar.muli v909 c1_i32_661
  let v911 : BitVec 32 := Scalar.addi c0_i32_660 v910
  let c1_i32_662 : BitVec 32 := 1#32
  ⟨c0_i32_660, v911, c1_i32_662⟩
def k0_mult19 (i : grid0.Coords) (k0_t19 : Fin (k0_t19_loop i).trips) : BitVec 32 :=
  let c0_i32_660 : BitVec 32 := 0#32
  let c1_i32_662 : BitVec 32 := 1#32
  let arg33 : BitVec 32 := Scf.iv c0_i32_660 c1_i32_662 k0_t19
  let c256_i32_664 : BitVec 32 := 256#32
  let v912 : BitVec 32 := Scalar.muli arg33 c256_i32_664
  v912
def k0_off22 (i : grid0.Coords) (k0_t19 : Fin (k0_t19_loop i).trips) : Fin 2 → Nat :=
  let c0_i32_660 : BitVec 32 := 0#32
  let c1_i32_662 : BitVec 32 := 1#32
  let arg33 : BitVec 32 := Scf.iv c0_i32_660 c1_i32_662 k0_t19
  let c256_i32_664 : BitVec 32 := 256#32
  let v912 : BitVec 32 := Scalar.muli arg33 c256_i32_664
  let v913 : BitVec 32 := v912
  let v914 : Index := Scalar.indexCast v913
  let c0_665 : Index := 0#32
  ![v914.toNat, 0]
@[reducible] def k0_t20_loop (i : grid0.Coords) : Scf.Loop 32 :=
  let c0_i32_660 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_653 : BitVec 32 := 0#32
  let v891 : BitVec 1 := Scalar.cmpi .sgt v1 c0_i32_653
  let v892 : BitVec 32 := Scalar.extui v891
  let c0_i32_654 : BitVec 32 := 0#32
  let v893 : BitVec 1 := Scalar.cmpi .slt v1 c0_i32_654
  let v894 : BitVec 32 := Scalar.extui v893
  let v895 : BitVec 32 := Scalar.subi v892 v894
  let c256_i32_652 : BitVec 32 := 256#32
  let c0_i32_655 : BitVec 32 := 0#32
  let v896 : BitVec 1 := Scalar.cmpi .sgt c256_i32_652 c0_i32_655
  let v897 : BitVec 32 := Scalar.extui v896
  let c0_i32_656 : BitVec 32 := 0#32
  let v898 : BitVec 1 := Scalar.cmpi .slt c256_i32_652 c0_i32_656
  let v899 : BitVec 32 := Scalar.extui v898
  let v900 : BitVec 32 := Scalar.subi v897 v899
  let v901 : BitVec 1 := Scalar.cmpi .ne v895 v900
  let v902 : BitVec 32 := Scalar.remsi v1 c256_i32_652
  let c0_i32_657 : BitVec 32 := 0#32
  let v903 : BitVec 1 := Scalar.cmpi .ne v902 c0_i32_657
  let v904 : BitVec 1 := Scalar.andi v901 v903
  let v890 : BitVec 32 := Scalar.divsi v1 c256_i32_652
  let c1_i32_658 : BitVec 32 := 1#32
  let v905 : BitVec 32 := Scalar.subi v890 c1_i32_658
  let v906 : BitVec 32 := Scalar.select v904 v905 v890
  let v907 : BitVec 32 := Scalar.subi v906 c0_i32_660
  let c1_i32_661 : BitVec 32 := 1#32
  let v909 : BitVec 32 := Scalar.divsi v907 c1_i32_661
  let v910 : BitVec 32 := Scalar.muli v909 c1_i32_661
  let v911 : BitVec 32 := Scalar.addi c0_i32_660 v910
  let v908 : BitVec 32 := Scalar.addi c0_i32_660 v907
  let c1_i32_663 : BitVec 32 := 1#32
  ⟨v911, v908, c1_i32_663⟩
def k0_mult20 (i : grid0.Coords) (k0_t20 : Fin (k0_t20_loop i).trips) : BitVec 32 :=
  let c0_i32_660 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_653 : BitVec 32 := 0#32
  let v891 : BitVec 1 := Scalar.cmpi .sgt v1 c0_i32_653
  let v892 : BitVec 32 := Scalar.extui v891
  let c0_i32_654 : BitVec 32 := 0#32
  let v893 : BitVec 1 := Scalar.cmpi .slt v1 c0_i32_654
  let v894 : BitVec 32 := Scalar.extui v893
  let v895 : BitVec 32 := Scalar.subi v892 v894
  let c256_i32_652 : BitVec 32 := 256#32
  let c0_i32_655 : BitVec 32 := 0#32
  let v896 : BitVec 1 := Scalar.cmpi .sgt c256_i32_652 c0_i32_655
  let v897 : BitVec 32 := Scalar.extui v896
  let c0_i32_656 : BitVec 32 := 0#32
  let v898 : BitVec 1 := Scalar.cmpi .slt c256_i32_652 c0_i32_656
  let v899 : BitVec 32 := Scalar.extui v898
  let v900 : BitVec 32 := Scalar.subi v897 v899
  let v901 : BitVec 1 := Scalar.cmpi .ne v895 v900
  let v902 : BitVec 32 := Scalar.remsi v1 c256_i32_652
  let c0_i32_657 : BitVec 32 := 0#32
  let v903 : BitVec 1 := Scalar.cmpi .ne v902 c0_i32_657
  let v904 : BitVec 1 := Scalar.andi v901 v903
  let v890 : BitVec 32 := Scalar.divsi v1 c256_i32_652
  let c1_i32_658 : BitVec 32 := 1#32
  let v905 : BitVec 32 := Scalar.subi v890 c1_i32_658
  let v906 : BitVec 32 := Scalar.select v904 v905 v890
  let v907 : BitVec 32 := Scalar.subi v906 c0_i32_660
  let c1_i32_661 : BitVec 32 := 1#32
  let v909 : BitVec 32 := Scalar.divsi v907 c1_i32_661
  let v910 : BitVec 32 := Scalar.muli v909 c1_i32_661
  let v911 : BitVec 32 := Scalar.addi c0_i32_660 v910
  let c1_i32_663 : BitVec 32 := 1#32
  let arg33 : BitVec 32 := Scf.iv v911 c1_i32_663 k0_t20
  let c256_i32_664 : BitVec 32 := 256#32
  let v912 : BitVec 32 := Scalar.muli arg33 c256_i32_664
  v912
def k0_off23 (i : grid0.Coords) (k0_t20 : Fin (k0_t20_loop i).trips) : Fin 2 → Nat :=
  let c0_i32_660 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c0_i32_653 : BitVec 32 := 0#32
  let v891 : BitVec 1 := Scalar.cmpi .sgt v1 c0_i32_653
  let v892 : BitVec 32 := Scalar.extui v891
  let c0_i32_654 : BitVec 32 := 0#32
  let v893 : BitVec 1 := Scalar.cmpi .slt v1 c0_i32_654
  let v894 : BitVec 32 := Scalar.extui v893
  let v895 : BitVec 32 := Scalar.subi v892 v894
  let c256_i32_652 : BitVec 32 := 256#32
  let c0_i32_655 : BitVec 32 := 0#32
  let v896 : BitVec 1 := Scalar.cmpi .sgt c256_i32_652 c0_i32_655
  let v897 : BitVec 32 := Scalar.extui v896
  let c0_i32_656 : BitVec 32 := 0#32
  let v898 : BitVec 1 := Scalar.cmpi .slt c256_i32_652 c0_i32_656
  let v899 : BitVec 32 := Scalar.extui v898
  let v900 : BitVec 32 := Scalar.subi v897 v899
  let v901 : BitVec 1 := Scalar.cmpi .ne v895 v900
  let v902 : BitVec 32 := Scalar.remsi v1 c256_i32_652
  let c0_i32_657 : BitVec 32 := 0#32
  let v903 : BitVec 1 := Scalar.cmpi .ne v902 c0_i32_657
  let v904 : BitVec 1 := Scalar.andi v901 v903
  let v890 : BitVec 32 := Scalar.divsi v1 c256_i32_652
  let c1_i32_658 : BitVec 32 := 1#32
  let v905 : BitVec 32 := Scalar.subi v890 c1_i32_658
  let v906 : BitVec 32 := Scalar.select v904 v905 v890
  let v907 : BitVec 32 := Scalar.subi v906 c0_i32_660
  let c1_i32_661 : BitVec 32 := 1#32
  let v909 : BitVec 32 := Scalar.divsi v907 c1_i32_661
  let v910 : BitVec 32 := Scalar.muli v909 c1_i32_661
  let v911 : BitVec 32 := Scalar.addi c0_i32_660 v910
  let c1_i32_663 : BitVec 32 := 1#32
  let arg33 : BitVec 32 := Scf.iv v911 c1_i32_663 k0_t20
  let c256_i32_664 : BitVec 32 := 256#32
  let v912 : BitVec 32 := Scalar.muli arg33 c256_i32_664
  let v913 : BitVec 32 := v912
  let v914 : Index := Scalar.indexCast v913
  let c0_665 : Index := 0#32
  ![v914.toNat, 0]
@[reducible] def k0_t21_loop (i : grid0.Coords) : Scf.Loop 32 :=
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_449 : BitVec 32 := 1#32
  ⟨c0_i32_447, v687, c1_i32_449⟩
def k0_off24 (i : grid0.Coords) (k0_t21 : Fin (k0_t21_loop i).trips) : Fin 5 → Nat :=
  let c0_651 : Index := 0#32
  let c0_i32_447 : BitVec 32 := 0#32
  let c1_i32_449 : BitVec 32 := 1#32
  let arg33 : BitVec 32 := Scf.iv c0_i32_447 c1_i32_449 k0_t21
  let c1_i32_649 : BitVec 32 := 1#32
  let v887 : BitVec 32 := Scalar.subi arg33 c1_i32_649
  let c0_i32_650 : BitVec 32 := 0#32
  let v888 : BitVec 32 := Scalar.maxsi v887 c0_i32_650
  let v889 : Index := Scalar.indexCast v888
  let c0_652 : Index := 0#32
  let c0_653 : Index := 0#32
  let c0_654 : Index := 0#32
  ![0, v889.toNat, 0, 0, 0]
def k0_off25 (i : grid0.Coords) (k0_t21 : Fin (k0_t21_loop i).trips) : Fin 5 → Nat :=
  let c0_667 : Index := 0#32
  let c0_i32_447 : BitVec 32 := 0#32
  let c1_i32_449 : BitVec 32 := 1#32
  let arg33 : BitVec 32 := Scf.iv c0_i32_447 c1_i32_449 k0_t21
  let c1_i32_649 : BitVec 32 := 1#32
  let v887 : BitVec 32 := Scalar.subi arg33 c1_i32_649
  let c0_i32_650 : BitVec 32 := 0#32
  let v888 : BitVec 32 := Scalar.maxsi v887 c0_i32_650
  let v904 : Index := Scalar.indexCast v888
  let c1_668 : Index := 1#32
  let c0_669 : Index := 0#32
  let c0_670 : Index := 0#32
  ![0, v904.toNat, 1, 0, 0]
def k0_off26 (i : grid0.Coords) (k0_t21 : Fin (k0_t21_loop i).trips) : Fin 5 → Nat :=
  let c0_683 : Index := 0#32
  let c0_i32_447 : BitVec 32 := 0#32
  let c1_i32_449 : BitVec 32 := 1#32
  let arg33 : BitVec 32 := Scf.iv c0_i32_447 c1_i32_449 k0_t21
  let c1_i32_649 : BitVec 32 := 1#32
  let v887 : BitVec 32 := Scalar.subi arg33 c1_i32_649
  let c0_i32_650 : BitVec 32 := 0#32
  let v888 : BitVec 32 := Scalar.maxsi v887 c0_i32_650
  let v919 : Index := Scalar.indexCast v888
  let c2_684 : Index := 2#32
  let c0_685 : Index := 0#32
  let c0_686 : Index := 0#32
  ![0, v919.toNat, 2, 0, 0]
def k0_off27 (i : grid0.Coords) (k0_t21 : Fin (k0_t21_loop i).trips) : Fin 5 → Nat :=
  let c0_699 : Index := 0#32
  let c0_i32_447 : BitVec 32 := 0#32
  let c1_i32_449 : BitVec 32 := 1#32
  let arg33 : BitVec 32 := Scf.iv c0_i32_447 c1_i32_449 k0_t21
  let c1_i32_649 : BitVec 32 := 1#32
  let v887 : BitVec 32 := Scalar.subi arg33 c1_i32_649
  let c0_i32_650 : BitVec 32 := 0#32
  let v888 : BitVec 32 := Scalar.maxsi v887 c0_i32_650
  let v934 : Index := Scalar.indexCast v888
  let c3_700 : Index := 3#32
  let c0_701 : Index := 0#32
  let c0_702 : Index := 0#32
  ![0, v934.toNat, 3, 0, 0]
def k0_off28 (i : grid0.Coords) (k0_t21 : Fin (k0_t21_loop i).trips) : Fin 5 → Nat :=
  let c0_715 : Index := 0#32
  let c0_i32_447 : BitVec 32 := 0#32
  let c1_i32_449 : BitVec 32 := 1#32
  let arg33 : BitVec 32 := Scf.iv c0_i32_447 c1_i32_449 k0_t21
  let c1_i32_649 : BitVec 32 := 1#32
  let v887 : BitVec 32 := Scalar.subi arg33 c1_i32_649
  let c0_i32_650 : BitVec 32 := 0#32
  let v888 : BitVec 32 := Scalar.maxsi v887 c0_i32_650
  let v949 : Index := Scalar.indexCast v888
  let c4_716 : Index := 4#32
  let c0_717 : Index := 0#32
  let c0_718 : Index := 0#32
  ![0, v949.toNat, 4, 0, 0]
def k0_off29 (i : grid0.Coords) (k0_t21 : Fin (k0_t21_loop i).trips) : Fin 5 → Nat :=
  let c0_731 : Index := 0#32
  let c0_i32_447 : BitVec 32 := 0#32
  let c1_i32_449 : BitVec 32 := 1#32
  let arg33 : BitVec 32 := Scf.iv c0_i32_447 c1_i32_449 k0_t21
  let c1_i32_649 : BitVec 32 := 1#32
  let v887 : BitVec 32 := Scalar.subi arg33 c1_i32_649
  let c0_i32_650 : BitVec 32 := 0#32
  let v888 : BitVec 32 := Scalar.maxsi v887 c0_i32_650
  let v964 : Index := Scalar.indexCast v888
  let c5_732 : Index := 5#32
  let c0_733 : Index := 0#32
  let c0_734 : Index := 0#32
  ![0, v964.toNat, 5, 0, 0]
def k0_off30 (i : grid0.Coords) (k0_t21 : Fin (k0_t21_loop i).trips) : Fin 5 → Nat :=
  let c0_747 : Index := 0#32
  let c0_i32_447 : BitVec 32 := 0#32
  let c1_i32_449 : BitVec 32 := 1#32
  let arg33 : BitVec 32 := Scf.iv c0_i32_447 c1_i32_449 k0_t21
  let c1_i32_649 : BitVec 32 := 1#32
  let v887 : BitVec 32 := Scalar.subi arg33 c1_i32_649
  let c0_i32_650 : BitVec 32 := 0#32
  let v888 : BitVec 32 := Scalar.maxsi v887 c0_i32_650
  let v979 : Index := Scalar.indexCast v888
  let c6_748 : Index := 6#32
  let c0_749 : Index := 0#32
  let c0_750 : Index := 0#32
  ![0, v979.toNat, 6, 0, 0]
def k0_off31 (i : grid0.Coords) (k0_t21 : Fin (k0_t21_loop i).trips) : Fin 5 → Nat :=
  let c0_763 : Index := 0#32
  let c0_i32_447 : BitVec 32 := 0#32
  let c1_i32_449 : BitVec 32 := 1#32
  let arg33 : BitVec 32 := Scf.iv c0_i32_447 c1_i32_449 k0_t21
  let c1_i32_649 : BitVec 32 := 1#32
  let v887 : BitVec 32 := Scalar.subi arg33 c1_i32_649
  let c0_i32_650 : BitVec 32 := 0#32
  let v888 : BitVec 32 := Scalar.maxsi v887 c0_i32_650
  let v994 : Index := Scalar.indexCast v888
  let c7_764 : Index := 7#32
  let c0_765 : Index := 0#32
  let c0_766 : Index := 0#32
  ![0, v994.toNat, 7, 0, 0]
def k0_mult21 (i : grid0.Coords) (k0_t21 : Fin (k0_t21_loop i).trips) : BitVec 32 :=
  let c0_i32_447 : BitVec 32 := 0#32
  let c1_i32_449 : BitVec 32 := 1#32
  let arg33 : BitVec 32 := Scf.iv c0_i32_447 c1_i32_449 k0_t21
  let c512_i32 : BitVec 32 := 512#32
  let v1009 : BitVec 32 := Scalar.muli arg33 c512_i32
  v1009
def k0_off32 (i : grid0.Coords) (k0_t21 : Fin (k0_t21_loop i).trips) : Fin 2 → Nat :=
  let c0_i32_447 : BitVec 32 := 0#32
  let c1_i32_449 : BitVec 32 := 1#32
  let arg33 : BitVec 32 := Scf.iv c0_i32_447 c1_i32_449 k0_t21
  let c512_i32 : BitVec 32 := 512#32
  let v1009 : BitVec 32 := Scalar.muli arg33 c512_i32
  let v1010 : BitVec 32 := v1009
  let v1011 : Index := Scalar.indexCast v1010
  let c0_779 : Index := 0#32
  ![v1011.toNat, 0]
def k0_off33 (i : grid0.Coords) (k0_t21 : Fin (k0_t21_loop i).trips) (c0_i32_784 : BitVec 32) : Fin 3 → Nat :=
  let c0_785 : Index := 0#32
  let c0_i32_447 : BitVec 32 := 0#32
  let c1_i32_449 : BitVec 32 := 1#32
  let arg33 : BitVec 32 := Scf.iv c0_i32_447 c1_i32_449 k0_t21
  let c512_i32 : BitVec 32 := 512#32
  let v1009 : BitVec 32 := Scalar.muli arg33 c512_i32
  let v1010 : BitVec 32 := v1009
  let v1021 : BitVec 32 := Scalar.addi v1010 c0_i32_784
  let v1022 : Index := Scalar.indexCast v1021
  let c0_786 : Index := 0#32
  ![0, v1022.toNat, 0]
def k0_off34 (i : grid0.Coords) (k0_t21 : Fin (k0_t21_loop i).trips) (c0_i32_824 : BitVec 32) : Fin 3 → Nat :=
  let c0_825 : Index := 0#32
  let c0_i32_447 : BitVec 32 := 0#32
  let c1_i32_449 : BitVec 32 := 1#32
  let arg33 : BitVec 32 := Scf.iv c0_i32_447 c1_i32_449 k0_t21
  let c512_i32 : BitVec 32 := 512#32
  let v1009 : BitVec 32 := Scalar.muli arg33 c512_i32
  let v1010 : BitVec 32 := v1009
  let v1061 : BitVec 32 := Scalar.addi v1010 c0_i32_824
  let v1062 : Index := Scalar.indexCast v1061
  let c128_826 : Index := 128#32
  ![0, v1062.toNat, 128]
def k0_off35 (i : grid0.Coords) (k0_t21 : Fin (k0_t21_loop i).trips) (c0_i32_864 : BitVec 32) : Fin 3 → Nat :=
  let c0_865 : Index := 0#32
  let c0_i32_447 : BitVec 32 := 0#32
  let c1_i32_449 : BitVec 32 := 1#32
  let arg33 : BitVec 32 := Scf.iv c0_i32_447 c1_i32_449 k0_t21
  let c512_i32 : BitVec 32 := 512#32
  let v1009 : BitVec 32 := Scalar.muli arg33 c512_i32
  let v1010 : BitVec 32 := v1009
  let v1101 : BitVec 32 := Scalar.addi v1010 c0_i32_864
  let v1102 : Index := Scalar.indexCast v1101
  let c256_866 : Index := 256#32
  ![0, v1102.toNat, 256]
def k0_off36 (i : grid0.Coords) (k0_t21 : Fin (k0_t21_loop i).trips) (c0_i32_904 : BitVec 32) : Fin 3 → Nat :=
  let c0_905 : Index := 0#32
  let c0_i32_447 : BitVec 32 := 0#32
  let c1_i32_449 : BitVec 32 := 1#32
  let arg33 : BitVec 32 := Scf.iv c0_i32_447 c1_i32_449 k0_t21
  let c512_i32 : BitVec 32 := 512#32
  let v1009 : BitVec 32 := Scalar.muli arg33 c512_i32
  let v1010 : BitVec 32 := v1009
  let v1141 : BitVec 32 := Scalar.addi v1010 c0_i32_904
  let v1142 : Index := Scalar.indexCast v1141
  let c384_906 : Index := 384#32
  ![0, v1142.toNat, 384]
@[reducible] def k0_t22_loop (i : grid0.Coords) : Scf.Loop 32 :=
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let v684 : BitVec 32 := Scalar.addi c0_i32_447 v683
  let c1_i32_450 : BitVec 32 := 1#32
  ⟨v687, v684, c1_i32_450⟩
def k0_off37 (i : grid0.Coords) (k0_t22 : Fin (k0_t22_loop i).trips) : Fin 5 → Nat :=
  let c0_651 : Index := 0#32
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c1_i32_649 : BitVec 32 := 1#32
  let v887 : BitVec 32 := Scalar.subi arg33 c1_i32_649
  let c0_i32_650 : BitVec 32 := 0#32
  let v888 : BitVec 32 := Scalar.maxsi v887 c0_i32_650
  let v889 : Index := Scalar.indexCast v888
  let c0_652 : Index := 0#32
  let c0_653 : Index := 0#32
  let c0_654 : Index := 0#32
  ![0, v889.toNat, 0, 0, 0]
def k0_off38 (i : grid0.Coords) (k0_t22 : Fin (k0_t22_loop i).trips) : Fin 5 → Nat :=
  let c0_667 : Index := 0#32
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c1_i32_649 : BitVec 32 := 1#32
  let v887 : BitVec 32 := Scalar.subi arg33 c1_i32_649
  let c0_i32_650 : BitVec 32 := 0#32
  let v888 : BitVec 32 := Scalar.maxsi v887 c0_i32_650
  let v904 : Index := Scalar.indexCast v888
  let c1_668 : Index := 1#32
  let c0_669 : Index := 0#32
  let c0_670 : Index := 0#32
  ![0, v904.toNat, 1, 0, 0]
def k0_off39 (i : grid0.Coords) (k0_t22 : Fin (k0_t22_loop i).trips) : Fin 5 → Nat :=
  let c0_683 : Index := 0#32
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c1_i32_649 : BitVec 32 := 1#32
  let v887 : BitVec 32 := Scalar.subi arg33 c1_i32_649
  let c0_i32_650 : BitVec 32 := 0#32
  let v888 : BitVec 32 := Scalar.maxsi v887 c0_i32_650
  let v919 : Index := Scalar.indexCast v888
  let c2_684 : Index := 2#32
  let c0_685 : Index := 0#32
  let c0_686 : Index := 0#32
  ![0, v919.toNat, 2, 0, 0]
def k0_off40 (i : grid0.Coords) (k0_t22 : Fin (k0_t22_loop i).trips) : Fin 5 → Nat :=
  let c0_699 : Index := 0#32
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c1_i32_649 : BitVec 32 := 1#32
  let v887 : BitVec 32 := Scalar.subi arg33 c1_i32_649
  let c0_i32_650 : BitVec 32 := 0#32
  let v888 : BitVec 32 := Scalar.maxsi v887 c0_i32_650
  let v934 : Index := Scalar.indexCast v888
  let c3_700 : Index := 3#32
  let c0_701 : Index := 0#32
  let c0_702 : Index := 0#32
  ![0, v934.toNat, 3, 0, 0]
def k0_off41 (i : grid0.Coords) (k0_t22 : Fin (k0_t22_loop i).trips) : Fin 5 → Nat :=
  let c0_715 : Index := 0#32
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c1_i32_649 : BitVec 32 := 1#32
  let v887 : BitVec 32 := Scalar.subi arg33 c1_i32_649
  let c0_i32_650 : BitVec 32 := 0#32
  let v888 : BitVec 32 := Scalar.maxsi v887 c0_i32_650
  let v949 : Index := Scalar.indexCast v888
  let c4_716 : Index := 4#32
  let c0_717 : Index := 0#32
  let c0_718 : Index := 0#32
  ![0, v949.toNat, 4, 0, 0]
def k0_off42 (i : grid0.Coords) (k0_t22 : Fin (k0_t22_loop i).trips) : Fin 5 → Nat :=
  let c0_731 : Index := 0#32
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c1_i32_649 : BitVec 32 := 1#32
  let v887 : BitVec 32 := Scalar.subi arg33 c1_i32_649
  let c0_i32_650 : BitVec 32 := 0#32
  let v888 : BitVec 32 := Scalar.maxsi v887 c0_i32_650
  let v964 : Index := Scalar.indexCast v888
  let c5_732 : Index := 5#32
  let c0_733 : Index := 0#32
  let c0_734 : Index := 0#32
  ![0, v964.toNat, 5, 0, 0]
def k0_off43 (i : grid0.Coords) (k0_t22 : Fin (k0_t22_loop i).trips) : Fin 5 → Nat :=
  let c0_747 : Index := 0#32
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c1_i32_649 : BitVec 32 := 1#32
  let v887 : BitVec 32 := Scalar.subi arg33 c1_i32_649
  let c0_i32_650 : BitVec 32 := 0#32
  let v888 : BitVec 32 := Scalar.maxsi v887 c0_i32_650
  let v979 : Index := Scalar.indexCast v888
  let c6_748 : Index := 6#32
  let c0_749 : Index := 0#32
  let c0_750 : Index := 0#32
  ![0, v979.toNat, 6, 0, 0]
def k0_off44 (i : grid0.Coords) (k0_t22 : Fin (k0_t22_loop i).trips) : Fin 5 → Nat :=
  let c0_763 : Index := 0#32
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c1_i32_649 : BitVec 32 := 1#32
  let v887 : BitVec 32 := Scalar.subi arg33 c1_i32_649
  let c0_i32_650 : BitVec 32 := 0#32
  let v888 : BitVec 32 := Scalar.maxsi v887 c0_i32_650
  let v994 : Index := Scalar.indexCast v888
  let c7_764 : Index := 7#32
  let c0_765 : Index := 0#32
  let c0_766 : Index := 0#32
  ![0, v994.toNat, 7, 0, 0]
def k0_mult22 (i : grid0.Coords) (k0_t22 : Fin (k0_t22_loop i).trips) : BitVec 32 :=
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c512_i32 : BitVec 32 := 512#32
  let v1009 : BitVec 32 := Scalar.muli arg33 c512_i32
  v1009
def k0_off45 (i : grid0.Coords) (k0_t22 : Fin (k0_t22_loop i).trips) : Fin 2 → Nat :=
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c512_i32 : BitVec 32 := 512#32
  let v1009 : BitVec 32 := Scalar.muli arg33 c512_i32
  let v1010 : BitVec 32 := v1009
  let v1011 : Index := Scalar.indexCast v1010
  let c0_779 : Index := 0#32
  ![v1011.toNat, 0]
def k0_off46 (i : grid0.Coords) (k0_t22 : Fin (k0_t22_loop i).trips) (c0_i32_784 : BitVec 32) : Fin 3 → Nat :=
  let c0_785 : Index := 0#32
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c512_i32 : BitVec 32 := 512#32
  let v1009 : BitVec 32 := Scalar.muli arg33 c512_i32
  let v1010 : BitVec 32 := v1009
  let v1021 : BitVec 32 := Scalar.addi v1010 c0_i32_784
  let v1022 : Index := Scalar.indexCast v1021
  let c0_786 : Index := 0#32
  ![0, v1022.toNat, 0]
def k0_off47 (i : grid0.Coords) (k0_t22 : Fin (k0_t22_loop i).trips) (c0_i32_824 : BitVec 32) : Fin 3 → Nat :=
  let c0_825 : Index := 0#32
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c512_i32 : BitVec 32 := 512#32
  let v1009 : BitVec 32 := Scalar.muli arg33 c512_i32
  let v1010 : BitVec 32 := v1009
  let v1061 : BitVec 32 := Scalar.addi v1010 c0_i32_824
  let v1062 : Index := Scalar.indexCast v1061
  let c128_826 : Index := 128#32
  ![0, v1062.toNat, 128]
def k0_off48 (i : grid0.Coords) (k0_t22 : Fin (k0_t22_loop i).trips) (c0_i32_864 : BitVec 32) : Fin 3 → Nat :=
  let c0_865 : Index := 0#32
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c512_i32 : BitVec 32 := 512#32
  let v1009 : BitVec 32 := Scalar.muli arg33 c512_i32
  let v1010 : BitVec 32 := v1009
  let v1101 : BitVec 32 := Scalar.addi v1010 c0_i32_864
  let v1102 : Index := Scalar.indexCast v1101
  let c256_866 : Index := 256#32
  ![0, v1102.toNat, 256]
def k0_off49 (i : grid0.Coords) (k0_t22 : Fin (k0_t22_loop i).trips) (c0_i32_904 : BitVec 32) : Fin 3 → Nat :=
  let c0_905 : Index := 0#32
  let c0_i32_447 : BitVec 32 := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let v683 : BitVec 32 := Scalar.subi v464 c0_i32_447
  let c1_i32_448 : BitVec 32 := 1#32
  let v685 : BitVec 32 := Scalar.divsi v683 c1_i32_448
  let v686 : BitVec 32 := Scalar.muli v685 c1_i32_448
  let v687 : BitVec 32 := Scalar.addi c0_i32_447 v686
  let c1_i32_450 : BitVec 32 := 1#32
  let arg33 : BitVec 32 := Scf.iv v687 c1_i32_450 k0_t22
  let c512_i32 : BitVec 32 := 512#32
  let v1009 : BitVec 32 := Scalar.muli arg33 c512_i32
  let v1010 : BitVec 32 := v1009
  let v1141 : BitVec 32 := Scalar.addi v1010 c0_i32_904
  let v1142 : Index := Scalar.indexCast v1141
  let c384_906 : Index := 384#32
  ![0, v1142.toNat, 384]
def k0_off50 (i : grid0.Coords) : Fin 5 → Nat :=
  let c0_452 : Index := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let c1_i32_451 : BitVec 32 := 1#32
  let v688 : BitVec 32 := Scalar.subi v464 c1_i32_451
  let v689 : Index := Scalar.indexCast v688
  let c0_453 : Index := 0#32
  let c0_454 : Index := 0#32
  let c0_455 : Index := 0#32
  ![0, v689.toNat, 0, 0, 0]
def k0_off51 (i : grid0.Coords) : Fin 5 → Nat :=
  let c0_468 : Index := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let c1_i32_451 : BitVec 32 := 1#32
  let v688 : BitVec 32 := Scalar.subi v464 c1_i32_451
  let v704 : Index := Scalar.indexCast v688
  let c1_469 : Index := 1#32
  let c0_470 : Index := 0#32
  let c0_471 : Index := 0#32
  ![0, v704.toNat, 1, 0, 0]
def k0_off52 (i : grid0.Coords) : Fin 5 → Nat :=
  let c0_484 : Index := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let c1_i32_451 : BitVec 32 := 1#32
  let v688 : BitVec 32 := Scalar.subi v464 c1_i32_451
  let v719 : Index := Scalar.indexCast v688
  let c2_485 : Index := 2#32
  let c0_486 : Index := 0#32
  let c0_487 : Index := 0#32
  ![0, v719.toNat, 2, 0, 0]
def k0_off53 (i : grid0.Coords) : Fin 5 → Nat :=
  let c0_500 : Index := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let c1_i32_451 : BitVec 32 := 1#32
  let v688 : BitVec 32 := Scalar.subi v464 c1_i32_451
  let v734 : Index := Scalar.indexCast v688
  let c3_501 : Index := 3#32
  let c0_502 : Index := 0#32
  let c0_503 : Index := 0#32
  ![0, v734.toNat, 3, 0, 0]
def k0_off54 (i : grid0.Coords) : Fin 5 → Nat :=
  let c0_516 : Index := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let c1_i32_451 : BitVec 32 := 1#32
  let v688 : BitVec 32 := Scalar.subi v464 c1_i32_451
  let v749 : Index := Scalar.indexCast v688
  let c4_517 : Index := 4#32
  let c0_518 : Index := 0#32
  let c0_519 : Index := 0#32
  ![0, v749.toNat, 4, 0, 0]
def k0_off55 (i : grid0.Coords) : Fin 5 → Nat :=
  let c0_532 : Index := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let c1_i32_451 : BitVec 32 := 1#32
  let v688 : BitVec 32 := Scalar.subi v464 c1_i32_451
  let v764 : Index := Scalar.indexCast v688
  let c5_533 : Index := 5#32
  let c0_534 : Index := 0#32
  let c0_535 : Index := 0#32
  ![0, v764.toNat, 5, 0, 0]
def k0_off56 (i : grid0.Coords) : Fin 5 → Nat :=
  let c0_548 : Index := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let c1_i32_451 : BitVec 32 := 1#32
  let v688 : BitVec 32 := Scalar.subi v464 c1_i32_451
  let v779 : Index := Scalar.indexCast v688
  let c6_549 : Index := 6#32
  let c0_550 : Index := 0#32
  let c0_551 : Index := 0#32
  ![0, v779.toNat, 6, 0, 0]
def k0_off57 (i : grid0.Coords) : Fin 5 → Nat :=
  let c0_564 : Index := 0#32
  let arg1 : BitVec 32 := BitVec.ofNat 32 (i 1).val
  let c2_i32 : BitVec 32 := 2#32
  let v447 : BitVec 32 := Scalar.addi arg1 c2_i32
  let c0_i32_288 : BitVec 32 := 0#32
  let v449 : BitVec 1 := Scalar.cmpi .sgt v447 c0_i32_288
  let v450 : BitVec 32 := Scalar.extui v449
  let c0_i32_289 : BitVec 32 := 0#32
  let v451 : BitVec 1 := Scalar.cmpi .slt v447 c0_i32_289
  let v452 : BitVec 32 := Scalar.extui v451
  let v453 : BitVec 32 := Scalar.subi v450 v452
  let c2_i32_287 : BitVec 32 := 2#32
  let c0_i32_290 : BitVec 32 := 0#32
  let v454 : BitVec 1 := Scalar.cmpi .sgt c2_i32_287 c0_i32_290
  let v455 : BitVec 32 := Scalar.extui v454
  let c0_i32_291 : BitVec 32 := 0#32
  let v456 : BitVec 1 := Scalar.cmpi .slt c2_i32_287 c0_i32_291
  let v457 : BitVec 32 := Scalar.extui v456
  let v458 : BitVec 32 := Scalar.subi v455 v457
  let v459 : BitVec 1 := Scalar.cmpi .ne v453 v458
  let v460 : BitVec 32 := Scalar.remsi v447 c2_i32_287
  let c0_i32_292 : BitVec 32 := 0#32
  let v461 : BitVec 1 := Scalar.cmpi .ne v460 c0_i32_292
  let v462 : BitVec 1 := Scalar.andi v459 v461
  let v448 : BitVec 32 := Scalar.divsi v447 c2_i32_287
  let c1_i32_293 : BitVec 32 := 1#32
  let v463 : BitVec 32 := Scalar.subi v448 c1_i32_293
  let v464 : BitVec 32 := Scalar.select v462 v463 v448
  let c1_i32_451 : BitVec 32 := 1#32
  let v688 : BitVec 32 := Scalar.subi v464 c1_i32_451
  let v794 : Index := Scalar.indexCast v688
  let c7_565 : Index := 7#32
  let c0_566 : Index := 0#32
  let c0_567 : Index := 0#32
  ![0, v794.toNat, 7, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8192x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x8192x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x16x8x80x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Projection.lean ====
abbrev S2x8192x1024 : Shape := ⟨3, ![2, 8192, 1024]⟩
abbrev S1x1024 : Shape := ⟨2, ![1, 1024]⟩
abbrev S1x1024x4680 : Shape := ⟨3, ![1, 1024, 4680]⟩
abbrev S1024x4680 : Shape := ⟨2, ![1024, 4680]⟩
abbrev S1024x512 : Shape := ⟨2, ![1024, 512]⟩
abbrev S1024x64 : Shape := ⟨2, ![1024, 64]⟩
abbrev S_ : Shape := ⟨0, ![]⟩
abbrev S1024x640 : Shape := ⟨2, ![1024, 640]⟩
abbrev S1024x8 : Shape := ⟨2, ![1024, 8]⟩
abbrev S1024x1552 : Shape := ⟨2, ![1024, 1552]⟩
abbrev S1552x1024 : Shape := ⟨2, ![1552, 1024]⟩
abbrev S1024 : Shape := ⟨1, ![1024]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8x8192 : Shape := ⟨2, ![8, 8192]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S2x512x8192 : Shape := ⟨3, ![2, 512, 8192]⟩
abbrev S2x16x8x80x512 : Shape := ⟨5, ![2, 16, 8, 80, 512]⟩
abbrev S2x8x8192 : Shape := ⟨3, ![2, 8, 8192]⟩
abbrev S2x8192x512 : Shape := ⟨3, ![2, 8192, 512]⟩
abbrev S2x8192x64 : Shape := ⟨3, ![2, 8192, 64]⟩
abbrev S1x512x1024 : Shape := ⟨3, ![1, 512, 1024]⟩
abbrev S8x512 : Shape := ⟨2, ![8, 512]⟩
abbrev S512x128 : Shape := ⟨2, ![512, 128]⟩
abbrev S1x512x512 : Shape := ⟨3, ![1, 512, 512]⟩
abbrev S1x1x8x80x512 : Shape := ⟨5, ![1, 1, 8, 80, 512]⟩
abbrev S1x8x512 : Shape := ⟨3, ![1, 8, 512]⟩
abbrev S1x512x64 : Shape := ⟨3, ![1, 512, 64]⟩
abbrev S512x1024 : Shape := ⟨2, ![512, 1024]⟩
abbrev S512 : Shape := ⟨1, ![512]⟩
abbrev S512x1 : Shape := ⟨2, ![512, 1]⟩
abbrev S512x640 : Shape := ⟨2, ![512, 640]⟩
abbrev S1552x512 : Shape := ⟨2, ![1552, 512]⟩
abbrev S512x512 : Shape := ⟨2, ![512, 512]⟩
abbrev S48x512 : Shape := ⟨2, ![48, 512]⟩
abbrev S16x512 : Shape := ⟨2, ![16, 512]⟩
abbrev S64x512 : Shape := ⟨2, ![64, 512]⟩
abbrev S1x1x1x64x512 : Shape := ⟨5, ![1, 1, 1, 64, 512]⟩
abbrev S1x1x1x16x512 : Shape := ⟨5, ![1, 1, 1, 16, 512]⟩
abbrev S1x512x128 : Shape := ⟨3, ![1, 512, 128]⟩
abbrev S512x64 : Shape := ⟨2, ![512, 64]⟩

abbrev nBuf : Space → Nat
  | .hbm => 69
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4680, .f32⟩
  | .hbm, ⟨3, _⟩ => ⟨S1024x4680, .f32⟩
  | .hbm, ⟨4, _⟩ => ⟨S1024x512, .f32⟩
  | .hbm, ⟨5, _⟩ => ⟨S1024x64, .f32⟩
  | .hbm, ⟨6, _⟩ => ⟨S_, .f32⟩
  | .hbm, ⟨7, _⟩ => ⟨S1024x64, .f32⟩
  | .hbm, ⟨8, _⟩ => ⟨S1024x640, .f32⟩
  | .hbm, ⟨9, _⟩ => ⟨S1024x640, .bf16⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x8, .f32⟩
  | .hbm, ⟨14, _⟩ => ⟨S_, .f32⟩
  | .hbm, ⟨15, _⟩ => ⟨S1024x8, .f32⟩
  | .hbm, ⟨16, _⟩ => ⟨S1024x1552, .f32⟩
  | .hbm, ⟨17, _⟩ => ⟨S1552x1024, .f32⟩
  | .hbm, ⟨18, _⟩ => ⟨S1552x1024, .bf16⟩
  | .hbm, ⟨19, _⟩ => ⟨S1024, .f32⟩
  | .hbm, ⟨20, _⟩ => ⟨S1x1024, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8192, .f32⟩
  | .hbm, ⟨35, _⟩ => ⟨S8192x1, .f32⟩
  | .hbm, ⟨36, _⟩ => ⟨S1x8, .f32⟩
  | .hbm, ⟨37, _⟩ => ⟨S8192x8, .f32⟩
  | .hbm, ⟨38, _⟩ => ⟨S8192x8, .f32⟩
  | .hbm, ⟨39, _⟩ => ⟨S8192x8, .f32⟩
  | .hbm, ⟨40, _⟩ => ⟨S8192x8, .f32⟩
  | .hbm, ⟨41, _⟩ => ⟨S8192x8, .f32⟩
  | .hbm, ⟨42, _⟩ => ⟨S_, .f32⟩
  | .hbm, ⟨43, _⟩ => ⟨S8192x48, .f32⟩
  | .hbm, ⟨44, _⟩ => ⟨S_, .f32⟩
  | .hbm, ⟨45, _⟩ => ⟨S8192x8, .f32⟩
  | .hbm, ⟨46, _⟩ => ⟨S_, .f32⟩
  | .hbm, ⟨47, _⟩ => ⟨S8192x48, .f32⟩
  | .hbm, ⟨48, _⟩ => ⟨S8192x64, .f32⟩
  | .hbm, ⟨49, _⟩ => ⟨S8192x64, .f32⟩
  | .hbm, ⟨50, _⟩ => ⟨S8192x8, .f32⟩
  | .hbm, ⟨51, _⟩ => ⟨S8192x64, .f32⟩
  | .hbm, ⟨52, _⟩ => ⟨S8x8192, .f32⟩
  | .hbm, ⟨53, _⟩ => ⟨S8x8192, .f32⟩
  | .hbm, ⟨54, _⟩ => ⟨S1x8192x1x64, .f32⟩
  | .hbm, ⟨55, _⟩ => ⟨S1x8192x2x64, .f32⟩
  | .hbm, ⟨56, _⟩ => ⟨S8192x128, .f32⟩
  | .hbm, ⟨57, _⟩ => ⟨S1x8192x1x64, .f32⟩
  | .hbm, ⟨58, _⟩ => ⟨S1x8192x2x64, .f32⟩
  | .hbm, ⟨59, _⟩ => ⟨S8192x128, .f32⟩
  | .hbm, ⟨60, _⟩ => ⟨S1x8192x1x64, .f32⟩
  | .hbm, ⟨61, _⟩ => ⟨S1x8192x2x64, .f32⟩
  | .hbm, ⟨62, _⟩ => ⟨S8192x128, .f32⟩
  | .hbm, ⟨63, _⟩ => ⟨S2x512x8192, .bf16⟩
  | .hbm, ⟨64, _⟩ => ⟨S2x512x8192, .bf16⟩
  | .hbm, ⟨65, _⟩ => ⟨S2x16x8x80x512, .bf16⟩
  | .hbm, ⟨66, _⟩ => ⟨S2x8x8192, .f32⟩
  | .hbm, ⟨67, _⟩ => ⟨S2x8192x512, .bf16⟩
  | .hbm, ⟨68, _⟩ => ⟨S2x8192x64, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x640, .bf16⟩
  | .local _ .vmem, ⟨4, _⟩ => ⟨S1552x1024, .bf16⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x1x8x80x512, .bf16⟩
  | .local _ .vmem, ⟨20, _⟩ => ⟨S1x1x8x80x512, .bf16⟩
  | .local _ .vmem, ⟨21, _⟩ => ⟨S1x8x512, .f32⟩
  | .local _ .vmem, ⟨22, _⟩ => ⟨S1x8x512, .f32⟩
  | .local _ .vmem, ⟨23, _⟩ => ⟨S1x512x512, .bf16⟩
  | .local _ .vmem, ⟨24, _⟩ => ⟨S1x512x512, .bf16⟩
  | .local _ .vmem, ⟨25, _⟩ => ⟨S1x512x64, .bf16⟩
  | .local _ .vmem, ⟨26, _⟩ => ⟨S1x512x64, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51_0 : Ref sig .tc := ⟨.hbm, 63, rfl⟩
abbrev main_v51_1 : Ref sig .tc := ⟨.hbm, 64, rfl⟩
abbrev main_v51_2 : Ref sig .tc := ⟨.hbm, 65, rfl⟩
abbrev main_v51_3 : Ref sig .tc := ⟨.hbm, 66, rfl⟩
abbrev main_v51_4 : Ref sig .tc := ⟨.hbm, 67, rfl⟩
abbrev main_v51_5 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1552x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x80x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjectionReferenceIdeal.lean ====
abbrev S2x8192x1024 : Shape := ⟨3, ![2, 8192, 1024]⟩
abbrev S1x1024 : Shape := ⟨2, ![1, 1024]⟩
abbrev S1x1024x4680 : Shape := ⟨3, ![1, 1024, 4680]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x4680 : Shape := ⟨2, ![1024, 4680]⟩
abbrev S2x8192x4680 : Shape := ⟨3, ![2, 8192, 4680]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x512 : Shape := ⟨3, ![2, 8192, 512]⟩
abbrev S2x8192x8x64 : Shape := ⟨4, ![2, 8192, 8, 64]⟩
abbrev S2x8192x8x8 : Shape := ⟨4, ![2, 8192, 8, 8]⟩
abbrev S2x8192x8x48 : Shape := ⟨4, ![2, 8192, 8, 48]⟩
abbrev S2x16x512x8x64 : Shape := ⟨5, ![2, 16, 512, 8, 64]⟩
abbrev S2x8192x64 : Shape := ⟨3, ![2, 8192, 64]⟩
abbrev S2x8192x1x64 : Shape := ⟨4, ![2, 8192, 1, 64]⟩
abbrev S2x8192x1x8 : Shape := ⟨4, ![2, 8192, 1, 8]⟩
abbrev S2x8192x1x48 : Shape := ⟨4, ![2, 8192, 1, 48]⟩
abbrev S2x8192x8 : Shape := ⟨3, ![2, 8192, 8]⟩
abbrev S2x16x512x8x1 : Shape := ⟨5, ![2, 16, 512, 8, 1]⟩
abbrev S2x16x512x8x15 : Shape := ⟨5, ![2, 16, 512, 8, 15]⟩
abbrev S2x16x512x8x80 : Shape := ⟨5, ![2, 16, 512, 8, 80]⟩
abbrev S2x512x8192 : Shape := ⟨3, ![2, 512, 8192]⟩
abbrev S2x16x8x80x512 : Shape := ⟨5, ![2, 16, 8, 80, 512]⟩
abbrev S2x8x8192 : Shape := ⟨3, ![2, 8, 8192]⟩

abbrev nBuf : Space → Nat
  | .hbm => 136
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x4680, .f32⟩
  | 3 => ⟨S1024, .f32⟩
  | 4 => ⟨S2x8192x1024, .f32⟩
  | 5 => ⟨S_, .f32⟩
  | 6 => ⟨S2x8192, .f32⟩
  | 7 => ⟨S2x8192x1, .f32⟩
  | 8 => ⟨S_, .f32⟩
  | 9 => ⟨S2x8192x1, .f32⟩
  | 10 => ⟨S2x8192x1, .f32⟩
  | 11 => ⟨S_, .f32⟩
  | 12 => ⟨S2x8192x1, .f32⟩
  | 13 => ⟨S2x8192x1, .f32⟩
  | 14 => ⟨S2x8192x1, .f32⟩
  | 15 => ⟨S2x8192x1024, .f32⟩
  | 16 => ⟨S2x8192x1024, .f32⟩
  | 17 => ⟨S1x1x1024, .f32⟩
  | 18 => ⟨S2x8192x1024, .f32⟩
  | 19 => ⟨S2x8192x1024, .f32⟩
  | 20 => ⟨S1024x4680, .f32⟩
  | 21 => ⟨S2x8192x4680, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S8192, .f32⟩
  | 36 => ⟨S8192x1, .f32⟩
  | 37 => ⟨S1x8, .f32⟩
  | 38 => ⟨S8192x8, .f32⟩
  | 39 => ⟨S8192x8, .f32⟩
  | 40 => ⟨S8192x8, .f32⟩
  | 41 => ⟨S8192x8, .f32⟩
  | 42 => ⟨S1x8192x1x8, .f32⟩
  | 43 => ⟨S8192x8, .f32⟩
  | 44 => ⟨S1x8192x1x8, .f32⟩
  | 45 => ⟨S2x8192x512, .f32⟩
  | 46 => ⟨S2x8192x8x64, .f32⟩
  | 47 => ⟨S2x8192x8x8, .f32⟩
  | 48 => ⟨S2x8192x8x8, .f32⟩
  | 49 => ⟨S2x8192x8x8, .f32⟩
  | 50 => ⟨S2x8192x8x8, .f32⟩
  | 51 => ⟨S2x8192x8x8, .f32⟩
  | 52 => ⟨S2x8192x8x8, .f32⟩
  | 53 => ⟨S2x8192x8x8, .f32⟩
  | 54 => ⟨S2x8192x8x8, .f32⟩
  | 55 => ⟨S2x8192x8x8, .f32⟩
  | 56 => ⟨S2x8192x8x8, .f32⟩
  | 57 => ⟨S2x8192x8x8, .f32⟩
  | 58 => ⟨S2x8192x8x8, .f32⟩
  | 59 => ⟨S2x8192x8x48, .f32⟩
  | 60 => ⟨S2x8192x8x64, .f32⟩
  | 61 => ⟨S_, .f32⟩
  | 62 => ⟨S2x8192x8x64, .f32⟩
  | 63 => ⟨S2x8192x8x64, .f32⟩
  | 64 => ⟨S2x8192x512, .f32⟩
  | 65 => ⟨S2x8192x8x64, .f32⟩
  | 66 => ⟨S2x8192x8x8, .f32⟩
  | 67 => ⟨S2x8192x8x8, .f32⟩
  | 68 => ⟨S2x8192x8x8, .f32⟩
  | 69 => ⟨S2x8192x8x8, .f32⟩
  | 70 => ⟨S2x8192x8x8, .f32⟩
  | 71 => ⟨S2x8192x8x8, .f32⟩
  | 72 => ⟨S2x8192x8x8, .f32⟩
  | 73 => ⟨S2x8192x8x8, .f32⟩
  | 74 => ⟨S2x8192x8x8, .f32⟩
  | 75 => ⟨S2x8192x8x8, .f32⟩
  | 76 => ⟨S2x8192x8x8, .f32⟩
  | 77 => ⟨S2x8192x8x8, .f32⟩
  | 78 => ⟨S2x8192x8x48, .f32⟩
  | 79 => ⟨S2x8192x8x64, .f32⟩
  | 80 => ⟨S2x8192x512, .f32⟩
  | 81 => ⟨S2x16x512x8x64, .f32⟩
  | 82 => ⟨S2x8192x512, .f32⟩
  | 83 => ⟨S2x8192x8x64, .f32⟩
  | 84 => ⟨S2x8192x8x8, .f32⟩
  | 85 => ⟨S2x8192x8x8, .f32⟩
  | 86 => ⟨S2x8192x8x8, .f32⟩
  | 87 => ⟨S2x8192x8x8, .f32⟩
  | 88 => ⟨S2x8192x8x8, .f32⟩
  | 89 => ⟨S2x8192x8x8, .f32⟩
  | 90 => ⟨S2x8192x8x8, .f32⟩
  | 91 => ⟨S2x8192x8x8, .f32⟩
  | 92 => ⟨S2x8192x8x8, .f32⟩
  | 93 => ⟨S2x8192x8x8, .f32⟩
  | 94 => ⟨S2x8192x8x8, .f32⟩
  | 95 => ⟨S2x8192x8x8, .f32⟩
  | 96 => ⟨S2x8192x8x48, .f32⟩
  | 97 => ⟨S2x8192x8x64, .f32⟩
  | 98 => ⟨S2x8192x64, .f32⟩
  | 99 => ⟨S2x8192x1x64, .f32⟩
  | 100 => ⟨S2x8192x1x8, .f32⟩
  | 101 => ⟨S2x8192x1x8, .f32⟩
  | 102 => ⟨S2x8192x1x8, .f32⟩
  | 103 => ⟨S2x8192x1x8, .f32⟩
  | 104 => ⟨S2x8192x1x8, .f32⟩
  | 105 => ⟨S2x8192x1x8, .f32⟩
  | 106 => ⟨S2x8192x1x8, .f32⟩
  | 107 => ⟨S2x8192x1x8, .f32⟩
  | 108 => ⟨S2x8192x1x8, .f32⟩
  | 109 => ⟨S2x8192x1x8, .f32⟩
  | 110 => ⟨S2x8192x1x8, .f32⟩
  | 111 => ⟨S2x8192x1x8, .f32⟩
  | 112 => ⟨S2x8192x1x48, .f32⟩
  | 113 => ⟨S2x8192x1x64, .f32⟩
  | 114 => ⟨S2x8192x8, .f32⟩
  | 115 => ⟨S_, .f32⟩
  | 116 => ⟨S2x8192x8, .f32⟩
  | 117 => ⟨S2x8192x8, .f32⟩
  | 118 => ⟨S_, .f32⟩
  | 119 => ⟨S2x16x512x8x1, .f32⟩
  | 120 => ⟨S_, .f32⟩
  | 121 => ⟨S2x16x512x8x15, .f32⟩
  | 122 => ⟨S2x16x512x8x80, .f32⟩
  | 123 => ⟨S2x8192x512, .f32⟩
  | 124 => ⟨S2x512x8192, .f32⟩
  | 125 => ⟨S2x512x8192, .bf16⟩
  | 126 => ⟨S2x8192x512, .f32⟩
  | 127 => ⟨S2x512x8192, .f32⟩
  | _ => ⟨S2x8192x1024, .f32⟩

abbrev hbmTy0_1 (i : Nat) : BufTy := match i % 128 with
  | 0 => ⟨S2x512x8192, .bf16⟩
  | 1 => ⟨S2x16x8x80x512, .f32⟩
  | 2 => ⟨S2x16x8x80x512, .bf16⟩
  | 3 => ⟨S2x8x8192, .f32⟩
  | 4 => ⟨S2x8192x512, .f32⟩
  | 5 => ⟨S2x8192x512, .bf16⟩
  | 6 => ⟨S2x8192x64, .f32⟩
  | 7 => ⟨S2x8192x64, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_cst_7 : Ref sig .tc := ⟨.hbm, 115, rfl⟩
abbrev main_v104 : Ref sig .tc := ⟨.hbm, 116, rfl⟩
abbrev main_v105 : Ref sig .tc := ⟨.hbm, 117, rfl⟩
abbrev main_cst_8 : Ref sig .tc := ⟨.hbm, 118, rfl⟩
abbrev main_v106 : Ref sig .tc := ⟨.hbm, 119, rfl⟩
abbrev main_cst_9 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩

abbrev nD : Nat := 1
abbrev τ : Topo := Topo.v7x

variable {F : FTy → Type} [FloatOps F]
-- ==== Proof.FfnSpec.lean ====
/- The feed-forward block as one formula over the extended reals, and the two lemmas about it that the kernel's tiles need. -/
module

public import Idealize.ShloMosaic.Lib.Pointwise

@[expose] public section

noncomputable section

namespace Cert.FfnSpec

open Idealize.ShloMosaic

/-- The weighted root-mean-square norm of a row of 1024 numbers, at its entry `k`. -/
def rms (x g : Fin 1024 → EReal) (k : Fin 1024) : EReal :=
  x k * Ideal.rsqrt (Ideal.div (∑ i, x i * x i) (Ideal.ofBits FTy.f32 1149239296#32) + Ideal.ofBits FTy.f32 897988541#32) * g k

/-- One channel of the up-projection of a normalised row. -/
def up (x g w : Fin 1024 → EReal) : EReal := ∑ k, rms x g k * w k

/-- The gated product of two numbers: the first times its logistic, times the second. -/
def gate (a b : EReal) : EReal := a * Ideal.logistic a * b

/-- A sequence of 8192 numbers with two zeros put before it. -/
def padded (u : Fin 8192 → EReal) (t : ℕ) : EReal := if h : 2 ≤ t ∧ t - 2 < 8192 then u ⟨t - 2, h.2⟩ else 0

/-- Three taps along a sequence from place `s`, and a bias. -/
def conv (p : ℕ → EReal) (w : Fin 3 → EReal) (e : EReal) (s : ℕ) : EReal := e + p s * w 0 + p (s + 1) * w 1 + p (s + 2) * w 2

/-- Channel `f` of the first half of 5632. -/
def lo (f : Fin 2816) : Fin 5632 := ⟨f.val, by omega⟩

/-- Channel `f` of the second half of 5632. -/
def hi (f : Fin 2816) : Fin 5632 := ⟨2816 + f.val, by omega⟩

/-- The residual and the down-projection of the gated channels, normalised: the block's last steps, from the convolved channels `v` of one row. -/
def down (h : Fin 1024 → EReal) (v : Fin 5632 → EReal) (wd : Fin 2816 → Fin 1024 → EReal) (gf : Fin 1024 → EReal) (n : Fin 1024) : EReal :=
  rms (fun k => h k + ∑ f, gate (v (lo f)) (v (hi f)) * wd f k) gf n

/-- The whole block at token `s`, entry `n`: norm, up-projection, causal three-tap convolution, gated product, down-projection, residual, norm. -/
def ffn (h : Fin 8192 → Fin 1024 → EReal) (g : Fin 1024 → EReal) (w : Fin 1024 → Fin 5632 → EReal) (cw : Fin 3 → Fin 5632 → EReal)
    (cb : Fin 5632 → EReal) (wd : Fin 2816 → Fin 1024 → EReal) (gf : Fin 1024 → EReal) (s : Fin 8192) (n : Fin 1024) : EReal :=
  down (h s) (fun f => conv (padded fun t => up (h t) g fun k => w k f) (fun j => cw j f) (cb f) s.val) wd gf n

/-- The convolution reads only its three taps. -/
theorem conv_congr {p q : ℕ → EReal} {w w' : Fin 3 → EReal} {e e' : EReal} {s t : ℕ} (h : ∀ j < 3, p (s + j) = q (t + j)) (hw : ∀ j, w j = w' j)
    (he : e = e') : conv p w e s = conv q w' e' t := by
  have h0 : p s = q t := h 0 (by omega)
  have h1 : p (s + 1) = q (t + 1) := h 1 (by omega)
  have h2 : p (s + 2) = q (t + 2) := h 2 (by omega)
  simp only [conv, h0, h1, h2, hw, he]

end Cert.FfnSpec

end

end
-- ==== Proof.FfnBlock.lean ====
module
public import proofs.«01_k».proof.Proof.Gen.FfnIdeal.Value
public import Idealize.ShloMosaic.Lib.Pipeline.ValueKit.Tiles
public import proofs.«01_k».proof.Proof.FfnSpec
@[expose] public section
set_option maxRecDepth 16384
noncomputable section
namespace Cert.FfnIdeal.RefValue
open Cert.FfnIdeal Cert.FfnIdeal.Gen Cert.FfnIdeal.Value Idealize.ShloMosaic Idealize.ShloMosaic.TcCoe Idealize.SL.Sem
open Idealize.ShloMosaic.Pipeline (Dat)
theorem hz2 : (![0, 0] : Fin 2 → ℕ) = fun _ => 0 := funext fun a => by fin_cases a <;> rfl
theorem hz3 : (![0, 0, 0] : Fin 3 → ℕ) = fun _ => 0 := funext fun a => by fin_cases a <;> rfl

/-- Reading a buffer of 528 rows that two stores filled, rows 0 to 15 and rows 16 to 527: at each row, what the store that holds the row put there. -/
theorem allAt_rows {n : ℕ} {e : EltTy} (w0 : (⟨2, ![16, n]⟩ : Shape).Idx → Elt Ideal e) (w1 : (⟨2, ![512, n]⟩ : Shape).Idx → Elt Ideal e) (r : Fin 528) (k : Fin n) (v : Elt Ideal e)
    (hv : v = if h : r.val < 16 then w0 (ix2 ⟨r.val, h⟩ k) else w1 (ix2 ⟨r.val - 16, by omega⟩ k)) :
    View.TileAt (S := ⟨2, ![528, n]⟩) (ix2 r k) ![0, 0] ![16, n] w0 v ∧ View.TileAt (S := ⟨2, ![528, n]⟩) (ix2 r k) ![16, 0] ![512, n] w1 v := by
  subst hv
  constructor
  · intro x hx
    have h0 := hx 0
    have h1 := hx 1
    have hr : r.val < 16 := by
      have : (x 0).val < 16 := (x 0).isLt
      have h0' : r.val = 0 + (x 0).val := h0
      omega
    rw [dif_pos hr]
    refine congrArg w0 (funext fun a => Fin.ext ?_)
    fin_cases a
    · exact (h0.trans (Nat.zero_add _)).symm
    · exact (h1.trans (Nat.zero_add _)).symm
  · intro x hx
    have h0 : r.val = 16 + (x 0).val := hx 0
    have h1 := hx 1
    have hr : ¬ r.val < 16 := by omega
    rw [dif_neg hr]
    refine congrArg w1 (funext fun a => Fin.ext ?_)
    fin_cases a
    · show (x 0).val = r.val - 16
      omega
    · exact (h1.trans (Nat.zero_add _)).symm

theorem mem_rows {n : ℕ} (inb0 : ∀ a, (![0, 0] : Fin 2 → ℕ) a + (![16, n] : Fin 2 → ℕ) a ≤ (⟨2, ![528, n]⟩ : Shape).size a)
    (inb1 : ∀ a, (![16, 0] : Fin 2 → ℕ) a + (![512, n] : Fin 2 → ℕ) a ≤ (⟨2, ![528, n]⟩ : Shape).size a) (r : Fin 528) (k : Fin n) :
    ix2 r k ∈ (Rect.unit (s := ⟨2, ![528, n]⟩) ![0, 0] ![16, n] inb0).set ∨ ix2 r k ∈ (Rect.unit (s := ⟨2, ![528, n]⟩) ![16, 0] ![512, n] inb1).set := by
  rw [Rect.mem_set_unit, Rect.mem_set_unit]
  by_cases h : r.val < 16
  · refine .inl fun a => ?_
    fin_cases a
    · exact ⟨Nat.zero_le _, show r.val < 0 + 16 by omega⟩
    · exact ⟨Nat.zero_le _, show k.val < 0 + n by omega⟩
  · refine .inr fun a => ?_
    fin_cases a
    · exact ⟨show 16 ≤ r.val by omega, show r.val < 16 + 512 by omega⟩
    · exact ⟨Nat.zero_le _, show k.val < 0 + n by omega⟩

/-- The two stores, the upper rows first. -/
theorem canon_rows {n : ℕ} {e : EltTy} (w0 : (⟨2, ![16, n]⟩ : Shape).Idx → Elt Ideal e) (w1 : (⟨2, ![512, n]⟩ : Shape).Idx → Elt Ideal e)
    (inb0 : ∀ a, (![0, 0] : Fin 2 → ℕ) a + (![16, n] : Fin 2 → ℕ) a ≤ (⟨2, ![528, n]⟩ : Shape).size a)
    (inb1 : ∀ a, (![16, 0] : Fin 2 → ℕ) a + (![512, n] : Fin 2 → ℕ) a ≤ (⟨2, ![528, n]⟩ : Shape).size a) (r : Fin 528) (k : Fin n) :
    View.canon (Val := Elt Ideal) (s := ⟨2, ![528, n]⟩) [⟨Rect.unit ![16, 0] ![512, n] inb1, w1⟩, ⟨Rect.unit ![0, 0] ![16, n] inb0, w0⟩] (ix2 r k)
      = if h : r.val < 16 then w0 (ix2 ⟨r.val, h⟩ k) else w1 (ix2 ⟨r.val - 16, by omega⟩ k) :=
  View.canon_eq_of_allAt _ _ _ (by
    rcases mem_rows inb0 inb1 r k with h | h
    · exact ⟨⟨Rect.unit ![0, 0] ![16, n] inb0, w0⟩, List.mem_cons_of_mem _ List.mem_cons_self, h⟩
    · exact ⟨⟨Rect.unit ![16, 0] ![512, n] inb1, w1⟩, List.mem_cons_self, h⟩) (by
    obtain ⟨h0, h1⟩ := allAt_rows w0 w1 r k _ rfl
    exact View.allAt_cons_unit _ _ _ _ _ h1 (View.allAt_cons_unit _ _ _ _ _ h0 (View.allAt_nil _ _)))

/-- The two stores, the lower rows first. -/
theorem canon_rows' {n : ℕ} {e : EltTy} (w0 : (⟨2, ![16, n]⟩ : Shape).Idx → Elt Ideal e) (w1 : (⟨2, ![512, n]⟩ : Shape).Idx → Elt Ideal e)
    (inb0 : ∀ a, (![0, 0] : Fin 2 → ℕ) a + (![16, n] : Fin 2 → ℕ) a ≤ (⟨2, ![528, n]⟩ : Shape).size a)
    (inb1 : ∀ a, (![16, 0] : Fin 2 → ℕ) a + (![512, n] : Fin 2 → ℕ) a ≤ (⟨2, ![528, n]⟩ : Shape).size a) (r : Fin 528) (k : Fin n) :
    View.canon (Val := Elt Ideal) (s := ⟨2, ![528, n]⟩) [⟨Rect.unit ![0, 0] ![16, n] inb0, w0⟩, ⟨Rect.unit ![16, 0] ![512, n] inb1, w1⟩] (ix2 r k)
      = if h : r.val < 16 then w0 (ix2 ⟨r.val, h⟩ k) else w1 (ix2 ⟨r.val - 16, by omega⟩ k) :=
  View.canon_eq_of_allAt _ _ _ (by
    rcases mem_rows inb0 inb1 r k with h | h
    · exact ⟨⟨Rect.unit ![0, 0] ![16, n] inb0, w0⟩, List.mem_cons_self, h⟩
    · exact ⟨⟨Rect.unit ![16, 0] ![512, n] inb1, w1⟩, List.mem_cons_of_mem _ List.mem_cons_self, h⟩) (by
    obtain ⟨h0, h1⟩ := allAt_rows w0 w1 r k _ rfl
    exact View.allAt_cons_unit _ _ _ _ _ h0 (View.allAt_cons_unit _ _ _ _ _ h1 (View.allAt_nil _ _)))

/-- The normalised rows that a grid point keeps: sixteen of the rows before its block, then its block's. -/
def hnV (x0 : FVec Ideal S1x512x1024 .f32) (x1 : FVec Ideal S1x16x1024 .f32) (x2 : FVec Ideal S1x1024 .f32) : FVec Ideal S528x1024 .bf16 :=
  View.canon (Val := Elt Ideal) (s := S528x1024) (e := .bf16) [⟨Rect.unit ![16, 0] ![512, 1024] inb_S528x1024_S512x1024_16_0, k0_pay5 (F := Ideal) x2 x0⟩,
    ⟨Rect.unit ![0, 0] ![16, 1024] inb_S528x1024_S16x1024_0_0, k0_pay4 (F := Ideal) x2 x1⟩]

/-- The up-projection's first 2816 channels of those rows. -/
def uaV (i1 : BitVec 32) (hn : FVec Ideal S528x1024 .bf16) (x3 : FVec Ideal S1024x5632 .bf16) : FVec Ideal S528x2816 .f32 :=
  View.canon (Val := Elt Ideal) (s := S528x2816) (e := .f32) [⟨Rect.unit ![0, 0] ![16, 2816] inb_S528x2816_S16x2816_0_0, k0_pay8 (F := Ideal) i1 hn (View.ld (Val := Elt Ideal) (S := S1024x5632) (e' := .bf16) x3 (Rect.unit (s := S1024x5632) ![0, 0] ![1024, 2816] inb_S1024x5632_S1024x2816_0_0))⟩,
    ⟨Rect.unit ![16, 0] ![512, 2816] inb_S528x2816_S512x2816_16_0, k0_pay7 (F := Ideal) hn (View.ld (Val := Elt Ideal) (S := S1024x5632) (e' := .bf16) x3 (Rect.unit (s := S1024x5632) ![0, 0] ![1024, 2816] inb_S1024x5632_S1024x2816_0_0))⟩]

/-- Its other 2816 channels. -/
def ubV (i1 : BitVec 32) (hn : FVec Ideal S528x1024 .bf16) (x3 : FVec Ideal S1024x5632 .bf16) : FVec Ideal S528x2816 .f32 :=
  View.canon (Val := Elt Ideal) (s := S528x2816) (e := .f32) [⟨Rect.unit ![0, 0] ![16, 2816] inb_S528x2816_S16x2816_0_0, k0_pay12 (F := Ideal) (Scalar.cmpi .eq i1 0#32) hn (View.ld (Val := Elt Ideal) (S := S1024x5632) (e' := .bf16) x3 (Rect.unit (s := S1024x5632) ![0, 2816] ![1024, 2816] inb_S1024x5632_S1024x2816_0_2816))⟩,
    ⟨Rect.unit ![16, 0] ![512, 2816] inb_S528x2816_S512x2816_16_0, k0_pay11 (F := Ideal) hn (View.ld (Val := Elt Ideal) (S := S1024x5632) (e' := .bf16) x3 (Rect.unit (s := S1024x5632) ![0, 2816] ![1024, 2816] inb_S1024x5632_S1024x2816_0_2816))⟩]

/-- What a grid point leaves in the output's block, as the printed payloads of the blocks it loads. -/
theorem out_eq  (c : Dev nD) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S528x1024 .bf16) (harg11 : arg11.IsWhole) (arg12 : Memref sig .tc .vmem S512x2816 .bf16) (harg12 : arg12.IsWhole) (arg13 : Memref sig .tc .vmem S528x2816 .f32) (harg13 : arg13.IsWhole) (arg14 : Memref sig .tc .vmem S528x2816 .f32) (harg14 : arg14.IsWhole) (arg15 : Memref sig .tc .vmem S528x2816 .f32) (harg15 : arg15.IsWhole) (arg16 : Memref sig .tc .vmem S528x2816 .f32) (harg16 : arg16.IsWhole)
    (x0 : Vec Ideal S1x512x1024 .f32) (x1 : Vec Ideal S1x16x1024 .f32) (x2 : Vec Ideal S1x1024 .f32) (x3 : Vec Ideal S1024x5632 .bf16) (x4 : Vec Ideal S3x5632 .f32) (x5 : Vec Ideal S1x5632 .f32) (x6 : Vec Ideal S2816x1024 .bf16) (x7 : Vec Ideal S1x1024 .f32)  :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 =
      k0_pay1 (k0_pay3 x0) (k0_pay13 (k0_pay9 (View.ld (Val := Elt Ideal) (S := S3x5632) (e' := .f32) x4 (Rect.unit (s := S3x5632) ![0, 0] ![3, 2816] inb_S3x5632_S3x2816_0_0)) (View.ld (Val := Elt Ideal) (S := S1x5632) (e' := .f32) x5 (Rect.unit (s := S1x5632) ![0, 0] ![1, 2816] inb_S1x5632_S1x2816_0_0))
          (View.ld (Val := Elt Ideal) (S := S528x2816) (e' := .f32) (uaV (BitVec.ofNat 32 (i 1)) (hnV x0 x1 x2) x3) (Rect.unit (s := S528x2816) ![14, 0] ![512, 2816] inb_S528x2816_S512x2816_14_0)) (View.ld (Val := Elt Ideal) (S := S528x2816) (e' := .f32) (uaV (BitVec.ofNat 32 (i 1)) (hnV x0 x1 x2) x3) (Rect.unit (s := S528x2816) ![15, 0] ![512, 2816] inb_S528x2816_S512x2816_15_0)) (View.ld (Val := Elt Ideal) (S := S528x2816) (e' := .f32) (uaV (BitVec.ofNat 32 (i 1)) (hnV x0 x1 x2) x3) (Rect.unit (s := S528x2816) ![16, 0] ![512, 2816] inb_S528x2816_S512x2816_16_0)))
        (View.ld (Val := Elt Ideal) (S := S3x5632) (e' := .f32) x4 (Rect.unit (s := S3x5632) ![0, 2816] ![3, 2816] inb_S3x5632_S3x2816_0_2816)) (View.ld (Val := Elt Ideal) (S := S1x5632) (e' := .f32) x5 (Rect.unit (s := S1x5632) ![0, 2816] ![1, 2816] inb_S1x5632_S1x2816_0_2816))
        (View.ld (Val := Elt Ideal) (S := S528x2816) (e' := .f32) (ubV (BitVec.ofNat 32 (i 1)) (hnV x0 x1 x2) x3) (Rect.unit (s := S528x2816) ![14, 0] ![512, 2816] inb_S528x2816_S512x2816_14_0)) (View.ld (Val := Elt Ideal) (S := S528x2816) (e' := .f32) (ubV (BitVec.ofNat 32 (i 1)) (hnV x0 x1 x2) x3) (Rect.unit (s := S528x2816) ![15, 0] ![512, 2816] inb_S528x2816_S512x2816_15_0)) (View.ld (Val := Elt Ideal) (S := S528x2816) (e' := .f32) (ubV (BitVec.ofNat 32 (i 1)) (hnV x0 x1 x2) x3) (Rect.unit (s := S528x2816) ![16, 0] ![512, 2816] inb_S528x2816_S512x2816_16_0))) x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)]
  unfold kernelRun0_A
  dsimp only
  sl_unfold_words
  rw [View.canon_unit_zero hz3]
  simp only [View.readAt_eq_ld, View.ld_unit_zero (S := S1x512x1024) hz3, View.ld_unit_zero (S := S1x16x1024) hz3, View.ld_unit_zero (S := S1x1024) hz2, View.ld_unit_zero (S := S2816x1024) hz2, harg2.read_unread, harg3.read_unread, harg4.read_unread, harg5.read_unread, harg6.read_unread, harg7.read_unread, harg8.read_unread, harg9.read_unread, View.readCov_unit_zero (S := S512x2816) arg12.view hz2, shapeCast_self]
  have hA : ∀ L : List (View.Piece (Elt Ideal) S528x1024 .bf16), arg11.view.readCov L (Rect.unit ![0, 0] ![528, 1024] inb_S528x1024_S528x1024_0_0).toLoadRect = View.canon L := fun L =>
    (View.readCov_eq_canon' _ _ _).trans (View.ld_unit_zero (S := S528x1024) hz2 _ _)
  simp only [hA]
  simp only [View.readCov_eq_canon']
  rfl

open Cert.FfnSpec

theorem pay5_apply (x2 : FVec Ideal S1x1024 .f32) (x0 : FVec Ideal S1x512x1024 .f32) (r : Fin 512) (k : Fin 1024) :
    k0_pay5 (F := Ideal) x2 x0 (ix2 r k) = rms (fun k => x0 (ix3 0 r k)) (fun k => x2 (ix2 0 k)) k := by
  unfold rms
  pointwise [k0_pay5, k0_pay3, k0_pay2]

theorem pay4_apply (x2 : FVec Ideal S1x1024 .f32) (x1 : FVec Ideal S1x16x1024 .f32) (r : Fin 16) (k : Fin 1024) :
    k0_pay4 (F := Ideal) x2 x1 (ix2 r k) = rms (fun k => x1 (ix3 0 r k)) (fun k => x2 (ix2 0 k)) k := by
  unfold rms
  pointwise [k0_pay4, k0_pay2]

theorem pay7_apply (hn : FVec Ideal S528x1024 .bf16) (x3 : FVec Ideal S1024x2816 .bf16) (r : Fin 512) (f : Fin 2816) :
    k0_pay7 (F := Ideal) hn x3 (ix2 r f) = ∑ k : Fin 1024, hn (ix2 (⟨16 + r.val, by omega⟩ : Fin 528) k) * x3 (ix2 k f) := by
  pointwise [k0_pay7, k0_pay6]

theorem pay11_apply (hn : FVec Ideal S528x1024 .bf16) (x3 : FVec Ideal S1024x2816 .bf16) (r : Fin 512) (f : Fin 2816) :
    k0_pay11 (F := Ideal) hn x3 (ix2 r f) = ∑ k : Fin 1024, hn (ix2 (⟨16 + r.val, by omega⟩ : Fin 528) k) * x3 (ix2 k f) := by
  pointwise [k0_pay11, k0_pay10]

theorem select_first {α : Type} (i1 : BitVec 32) (a b : α) : Scalar.select (Scalar.cmpi .eq i1 0#32) a b = if i1 = 0#32 then a else b := by
  by_cases h : i1 = 0#32
  · rw [if_pos h, h]
    rfl
  · rw [if_neg h]
    have : (i1 == 0#32) = false := beq_eq_false_iff_ne.mpr h
    show (if BitVec.ofBool (i1 == 0#32) = 1 then a else b) = b
    rw [this]
    rfl

theorem pay8_apply (i1 : BitVec 32) (hn : FVec Ideal S528x1024 .bf16) (x3 : FVec Ideal S1024x2816 .bf16) (r : Fin 16) (f : Fin 2816) :
    k0_pay8 (F := Ideal) i1 hn x3 (ix2 r f) = if i1 = 0#32 then 0 else ∑ k : Fin 1024, hn (ix2 (⟨r.val, by omega⟩ : Fin 528) k) * x3 (ix2 k f) := by
  rw [← select_first]
  pointwise [k0_pay8, k0_pay6]

theorem pay12_apply (i1 : BitVec 32) (hn : FVec Ideal S528x1024 .bf16) (x3 : FVec Ideal S1024x2816 .bf16) (r : Fin 16) (f : Fin 2816) :
    k0_pay12 (F := Ideal) (Scalar.cmpi .eq i1 0#32) hn x3 (ix2 r f) = if i1 = 0#32 then 0 else ∑ k : Fin 1024, hn (ix2 (⟨r.val, by omega⟩ : Fin 528) k) * x3 (ix2 k f) := by
  rw [← select_first]
  pointwise [k0_pay12, k0_pay10]

theorem pay9_apply (x4 : FVec Ideal S3x2816 .f32) (x5 : FVec Ideal S1x2816 .f32) (a b d : FVec Ideal S512x2816 .f32) (r : Fin 512) (k : Fin 2816) :
    k0_pay9 (F := Ideal) x4 x5 a b d (ix2 r k) = x5 (ix2 0 k) + a (ix2 r k) * x4 (ix2 0 k) + b (ix2 r k) * x4 (ix2 1 k) + d (ix2 r k) * x4 (ix2 2 k) := by
  pointwise [k0_pay9]

theorem pay13_apply (v : FVec Ideal S512x2816 .f32) (x4 : FVec Ideal S3x2816 .f32) (x5 : FVec Ideal S1x2816 .f32) (a b d : FVec Ideal S512x2816 .f32) (r : Fin 512) (k : Fin 2816) :
    k0_pay13 (F := Ideal) v x4 x5 a b d (ix2 r k) = gate (v (ix2 r k)) (x5 (ix2 0 k) + a (ix2 r k) * x4 (ix2 0 k) + b (ix2 r k) * x4 (ix2 1 k) + d (ix2 r k) * x4 (ix2 2 k)) := by
  unfold gate
  pointwise [k0_pay13]

theorem pay1_apply (h : FVec Ideal S512x1024 .f32) (v : FVec Ideal S512x2816 .bf16) (x6 : FVec Ideal S2816x1024 .bf16) (x7 : FVec Ideal S1x1024 .f32) (r : Fin 512) (n : Fin 1024) :
    k0_pay1 (F := Ideal) h v x6 x7 (ix3 0 r n) = rms (fun k => h (ix2 r k) + ∑ f : Fin 2816, v (ix2 r f) * x6 (ix2 f k)) (fun k => x7 (ix2 0 k)) n := by
  unfold rms
  pointwise [k0_pay1]

/-- Row `q` of the 528 rows that a grid point normalises: sixteen from the block before, then its own block's. -/
def src (x0 : FVec Ideal S1x512x1024 .f32) (x1 : FVec Ideal S1x16x1024 .f32) (q : Fin 528) (k : Fin 1024) : EReal :=
  if h : q.val < 16 then x1 (ix3 0 ⟨q.val, h⟩ k) else x0 (ix3 0 ⟨q.val - 16, by omega⟩ k)

theorem hnV_apply (x0 : FVec Ideal S1x512x1024 .f32) (x1 : FVec Ideal S1x16x1024 .f32) (x2 : FVec Ideal S1x1024 .f32) (q : Fin 528) (k : Fin 1024) :
    hnV x0 x1 x2 (ix2 q k) = rms (src x0 x1 q) (fun k => x2 (ix2 0 k)) k := by
  unfold hnV
  refine (canon_rows _ _ _ _ q k).trans ?_
  by_cases h : q.val < 16
  · rw [dif_pos h, pay4_apply]
    congr 1
    funext k
    rw [src, dif_pos h]
  · rw [dif_neg h, pay5_apply]
    congr 1
    funext k
    rw [src, dif_neg h]

/-- Channel `f` of row `q` as the grid point keeps it: the up-projection of the normalised row, zero in the first sixteen rows of a sequence's first point. -/
def bufT (i1 : BitVec 32) (x0 : FVec Ideal S1x512x1024 .f32) (x1 : FVec Ideal S1x16x1024 .f32) (x2 : FVec Ideal S1x1024 .f32) (x3 : FVec Ideal S1024x5632 .bf16) (f : Fin 5632) (q : ℕ) : EReal :=
  if h : q < 528 then (if q < 16 ∧ i1 = 0#32 then 0 else up (src x0 x1 ⟨q, h⟩) (fun k => x2 (ix2 0 k)) (fun k => x3 (ix2 k f))) else 0

theorem uaV_apply (i1 : BitVec 32) (x0 : FVec Ideal S1x512x1024 .f32) (x1 : FVec Ideal S1x16x1024 .f32) (x2 : FVec Ideal S1x1024 .f32) (x3 : FVec Ideal S1024x5632 .bf16) (q : Fin 528) (f : Fin 2816) :
    uaV i1 (hnV x0 x1 x2) x3 (ix2 q f) = bufT i1 x0 x1 x2 x3 (lo f) q.val := by
  unfold uaV bufT
  refine (canon_rows' _ _ _ _ q f).trans ?_
  rw [dif_pos q.isLt]
  have hw : ∀ k : Fin 1024, (View.ld (Val := Elt Ideal) (S := S1024x5632) (e' := .bf16) x3 (Rect.unit (s := S1024x5632) ![0, 0] ![1024, 2816] inb_S1024x5632_S1024x2816_0_0)) (ix2 k f) = x3 (ix2 k (lo f)) := fun k =>
    View.ld_unit_apply_of _ _ _ _ _ _ fun a => by fin_cases a <;> exact (Nat.zero_add _).symm
  by_cases h : q.val < 16
  · rw [dif_pos h, pay8_apply]
    by_cases hi : i1 = 0#32
    · rw [if_pos hi, if_pos ⟨h, hi⟩]
    · rw [if_neg hi, if_neg (fun h => hi h.2)]
      unfold up
      exact Finset.sum_congr rfl fun k _ => by rw [hw, hnV_apply]
  · rw [dif_neg h, pay7_apply, if_neg (fun h' => h h'.1)]
    unfold up
    have e : (⟨16 + (⟨q.val - 16, by omega⟩ : Fin 512).val, by show 16 + (q.val - 16) < 528; omega⟩ : Fin 528) = q := Fin.ext (by show 16 + (q.val - 16) = q.val; omega)
    exact Finset.sum_congr rfl fun k _ => by rw [hw, e, hnV_apply]

theorem ubV_apply (i1 : BitVec 32) (x0 : FVec Ideal S1x512x1024 .f32) (x1 : FVec Ideal S1x16x1024 .f32) (x2 : FVec Ideal S1x1024 .f32) (x3 : FVec Ideal S1024x5632 .bf16) (q : Fin 528) (f : Fin 2816) :
    ubV i1 (hnV x0 x1 x2) x3 (ix2 q f) = bufT i1 x0 x1 x2 x3 (hi f) q.val := by
  unfold ubV bufT
  refine (canon_rows' _ _ _ _ q f).trans ?_
  rw [dif_pos q.isLt]
  have hw : ∀ k : Fin 1024, (View.ld (Val := Elt Ideal) (S := S1024x5632) (e' := .bf16) x3 (Rect.unit (s := S1024x5632) ![0, 2816] ![1024, 2816] inb_S1024x5632_S1024x2816_0_2816)) (ix2 k f) = x3 (ix2 k (hi f)) := fun k =>
    View.ld_unit_apply_of _ _ _ _ _ _ fun a => by
      fin_cases a
      · exact (Nat.zero_add _).symm
      · rfl
  by_cases h : q.val < 16
  · rw [dif_pos h, pay12_apply]
    by_cases hi : i1 = 0#32
    · rw [if_pos hi, if_pos ⟨h, hi⟩]
    · rw [if_neg hi, if_neg (fun h => hi h.2)]
      unfold up
      exact Finset.sum_congr rfl fun k _ => by rw [hw, hnV_apply]
  · rw [dif_neg h, pay11_apply, if_neg (fun h' => h h'.1)]
    unfold up
    have e : (⟨16 + (⟨q.val - 16, by omega⟩ : Fin 512).val, by show 16 + (q.val - 16) < 528; omega⟩ : Fin 528) = q := Fin.ext (by show 16 + (q.val - 16) = q.val; omega)
    exact Finset.sum_congr rfl fun k _ => by rw [hw, e, hnV_apply]

theorem ld_rows (u : FVec Ideal S528x2816 .f32) (o : ℕ) (inb) (r : Fin 512) (f : Fin 2816) (q : Fin 528) (hq : q.val = o + r.val) :
    View.ld (Val := Elt Ideal) (S := S528x2816) (e' := .f32) u (Rect.unit (s := S528x2816) ![o, 0] ![512, 2816] inb) (ix2 r f) = u (ix2 q f) :=
  View.ld_unit_apply_of _ _ _ _ _ _ fun a => by
    fin_cases a
    · exact hq
    · exact (Nat.zero_add _).symm

/-- A grid point's result at row `r`, entry `n` of its block: the block's last steps at the row's convolved channels. -/
theorem out_apply  (c : Dev nD) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S3x5632 .f32) (harg6 : arg6.IsWhole) (arg7 : Memref sig .tc .vmem S1x5632 .f32) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S528x1024 .bf16) (harg11 : arg11.IsWhole) (arg12 : Memref sig .tc .vmem S512x2816 .bf16) (harg12 : arg12.IsWhole) (arg13 : Memref sig .tc .vmem S528x2816 .f32) (harg13 : arg13.IsWhole) (arg14 : Memref sig .tc .vmem S528x2816 .f32) (harg14 : arg14.IsWhole) (arg15 : Memref sig .tc .vmem S528x2816 .f32) (harg15 : arg15.IsWhole) (arg16 : Memref sig .tc .vmem S528x2816 .f32) (harg16 : arg16.IsWhole)
    (x0 : Vec Ideal S1x512x1024 .f32) (x1 : Vec Ideal S1x16x1024 .f32) (x2 : Vec Ideal S1x1024 .f32) (x3 : Vec Ideal S1024x5632 .bf16) (x4 : Vec Ideal S3x5632 .f32) (x5 : Vec Ideal S1x5632 .f32) (x6 : Vec Ideal S2816x1024 .bf16) (x7 : Vec Ideal S1x1024 .f32)  (r : Fin 512) (n : Fin 1024) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 (ix3 0 r n) =
      down (fun k => x0 (ix3 0 r k)) (fun f => conv (bufT (BitVec.ofNat 32 (i 1)) x0 x1 x2 x3 f) (fun j => x4 (ix2 j f)) (x5 (ix2 0 f)) (14 + r.val))
        (fun f k => x6 (ix2 f k)) (fun k => x7 (ix2 0 k)) n := by
  rw [out_eq, pay1_apply]
  unfold down
  refine congrArg (fun x => rms x _ n) (funext fun k => ?_)
  have h3 : k0_pay3 (F := Ideal) x0 (ix2 r k) = x0 (ix3 0 r k) := by pointwise [k0_pay3]
  rw [h3]
  refine congrArg _ (Finset.sum_congr rfl fun f _ => ?_)
  have a0 : ∀ j : Fin 3, View.ld (Val := Elt Ideal) (S := S3x5632) (e' := .f32) x4 (Rect.unit (s := S3x5632) ![0, 0] ![3, 2816] inb_S3x5632_S3x2816_0_0) (ix2 j f) = x4 (ix2 j (lo f)) := fun j =>
    View.ld_unit_apply_of _ _ _ _ _ _ fun a => by fin_cases a <;> exact (Nat.zero_add _).symm
  have a1 : View.ld (Val := Elt Ideal) (S := S1x5632) (e' := .f32) x5 (Rect.unit (s := S1x5632) ![0, 0] ![1, 2816] inb_S1x5632_S1x2816_0_0) (ix2 (0 : Fin 1) f) = x5 (ix2 0 (lo f)) :=
    View.ld_unit_apply_of _ _ _ _ _ _ fun a => by fin_cases a <;> exact (Nat.zero_add _).symm
  have b0 : ∀ j : Fin 3, View.ld (Val := Elt Ideal) (S := S3x5632) (e' := .f32) x4 (Rect.unit (s := S3x5632) ![0, 2816] ![3, 2816] inb_S3x5632_S3x2816_0_2816) (ix2 j f) = x4 (ix2 j (hi f)) := fun j =>
    View.ld_unit_apply_of _ _ _ _ _ _ fun a => by
      fin_cases a
      · exact (Nat.zero_add _).symm
      · rfl
  have b1 : View.ld (Val := Elt Ideal) (S := S1x5632) (e' := .f32) x5 (Rect.unit (s := S1x5632) ![0, 2816] ![1, 2816] inb_S1x5632_S1x2816_0_2816) (ix2 (0 : Fin 1) f) = x5 (ix2 0 (hi f)) :=
    View.ld_unit_apply_of _ _ _ _ _ _ fun a => by
      fin_cases a
      · exact (Nat.zero_add _).symm
      · rfl
  rw [pay13_apply, pay9_apply, a0, a0, a0, a1, b0, b0, b0, b1]
  rw [ld_rows _ 14 _ r f ⟨14 + r.val, by omega⟩ rfl, ld_rows _ 15 _ r f ⟨14 + r.val + 1, by omega⟩ (by show 14 + r.val + 1 = 15 + r.val; omega), ld_rows _ 16 _ r f ⟨14 + r.val + 2, by omega⟩ (by show 14 + r.val + 2 = 16 + r.val; omega),
    ld_rows _ 14 _ r f ⟨14 + r.val, by omega⟩ rfl, ld_rows _ 15 _ r f ⟨14 + r.val + 1, by omega⟩ (by show 14 + r.val + 1 = 15 + r.val; omega), ld_rows _ 16 _ r f ⟨14 + r.val + 2, by omega⟩ (by show 14 + r.val + 2 = 16 + r.val; omega)]
  simp only [uaV_apply, ubV_apply]
  rfl

end Cert.FfnIdeal.RefValue
end
end
-- ==== Proof.FfnVal.lean ====
/- The kernel's output array is the formula of the program's arguments: each grid point's block at its coordinates, the host's casts and reshapes read, the padding and the rows of the block before. -/
module

public import proofs.«01_k».proof.Proof.FfnBlock
public import Idealize.ShloMosaic.Lib.Pipeline.ValueKit

@[expose] public section

set_option maxRecDepth 16384

noncomputable section

namespace Cert.FfnIdeal.RefValue

open Cert.FfnIdeal Cert.FfnIdeal.Gen Cert.FfnIdeal.Value Cert.FfnSpec Idealize.ShloMosaic Idealize.ShloMosaic.TcCoe Idealize.SL.Sem
open Idealize.ShloMosaic.Pipeline (Dat)

/-- The rows that point `i` of a sequence keeps are the sequence's rows with two zeros before it: row `q` of the point's buffer, from the fourteenth on, is place `512 i + q - 14` of them. -/
theorem bufT_eq (i : ℕ) (hi : i < 16) (x0 : FVec Ideal S1x512x1024 .f32) (x1 : FVec Ideal S1x16x1024 .f32) (x2 : FVec Ideal S1x1024 .f32) (x3 : FVec Ideal S1024x5632 .bf16)
    (H : Fin 8192 → Fin 1024 → EReal) (h0 : ∀ (r : Fin 512) (k : Fin 1024), x0 (ix3 0 r k) = H ⟨512 * i + r.val, by omega⟩ k)
    (h1 : ∀ (q : Fin 16) (k : Fin 1024), 0 < i → x1 (ix3 0 q k) = H ⟨512 * i - 16 + q.val, by omega⟩ k) (f : Fin 5632) (q : ℕ) (hq : 14 ≤ q) (hq' : q < 528) :
    bufT (BitVec.ofNat 32 i) x0 x1 x2 x3 f q = padded (fun t => up (H t) (fun k => x2 (ix2 0 k)) (fun k => x3 (ix2 k f))) (512 * i + q - 14) := by
  have hz : BitVec.ofNat 32 i = 0#32 ↔ i = 0 := by
    constructor
    · intro h
      have := congrArg BitVec.toNat h
      rw [BitVec.toNat_ofNat, Nat.mod_eq_of_lt (by omega)] at this
      exact this
    · rintro rfl
      rfl
  unfold bufT padded
  rw [dif_pos hq']
  by_cases h : q < 16 ∧ BitVec.ofNat 32 i = 0#32
  · rw [if_pos h, dif_neg]
    have := hz.mp h.2
    omega
  · rw [if_neg h, dif_pos (by have : ¬(q < 16 ∧ i = 0) := fun h' => h ⟨h'.1, hz.mpr h'.2⟩; omega)]
    refine congrArg (fun x => up x _ _) (funext fun k => ?_)
    unfold src
    by_cases hs : q < 16
    · have hpos : 0 < i := Nat.pos_of_ne_zero fun h' => h ⟨hs, hz.mpr h'⟩
      rw [dif_pos hs, h1 _ _ hpos]
      exact congrArg (fun t => H t k) (Fin.ext (by show 512 * i - 16 + q = 512 * i + q - 14 - 2; omega))
    · rw [dif_neg hs, h0]
      exact congrArg (fun t => H t k) (Fin.ext (by show 512 * i + (q - 16) = 512 * i + q - 14 - 2; omega))

variable (m : (ℓ : Loc nD τ sig) → Buf (Elt Ideal) ℓ) (c : Dev nD)

theorem V1 (k : Fin 1024) : (V m c main_v1 : FVec Ideal S1x1024 .f32) (ix2 0 k) = (m ((c : Thread nD τ).loc main_arg1) : FVec Ideal S1x1024 .f32) (ix2 0 k) := by
  have e : (V m c main_v1 : FVec Ideal S1x1024 .f32) = shapeCast S1x1024 (shapeCast S1024 (m ((c : Thread nD τ).loc main_arg1) : FVec Ideal S1x1024 .f32) shapeCasts_S1x1024_S1024) shapeCasts_S1024_S1x1024 := by
    simp only [V, hostOps0]
    after_results_simp
    rfl
  rw [e]
  pointwise

theorem readV3 (x : FVec Ideal S1x1024x5632 .f32) (k : Fin 1024) (f : Fin 5632) : (truncf (F := Ideal) .bf16 (shapeCast S1024x5632 x shapeCasts_S1x1024x5632_S1024x5632) bitsLt_bf16_f32) (ix2 k f) = x (ix3 0 k f) := by
  pointwise

theorem V3 (k : Fin 1024) (f : Fin 5632) : (V m c main_v3 : FVec Ideal S1024x5632 .bf16) (ix2 k f) = (m ((c : Thread nD τ).loc main_arg2) : FVec Ideal S1x1024x5632 .f32) (ix3 0 k f) := by
  have e : (V m c main_v3 : FVec Ideal S1024x5632 .bf16) = truncf (F := Ideal) .bf16 (shapeCast S1024x5632 (m ((c : Thread nD τ).loc main_arg2) : FVec Ideal S1x1024x5632 .f32) shapeCasts_S1x1024x5632_S1024x5632) bitsLt_bf16_f32 := by
    simp only [V, hostOps0]
    after_results_simp
    rfl
  rw [e]
  exact readV3 _ k f

theorem readV4 (x : FVec Ideal S1x3x5632 .f32) (j : Fin 3) (f : Fin 5632) : shapeCast S3x5632 x shapeCasts_S1x3x5632_S3x5632 (ix2 j f) = x (ix3 0 j f) := by
  pointwise

theorem V4 (j : Fin 3) (f : Fin 5632) : (V m c main_v4 : FVec Ideal S3x5632 .f32) (ix2 j f) = (m ((c : Thread nD τ).loc main_arg3) : FVec Ideal S1x3x5632 .f32) (ix3 0 j f) := by
  have e : (V m c main_v4 : FVec Ideal S3x5632 .f32) = shapeCast S3x5632 (m ((c : Thread nD τ).loc main_arg3) : FVec Ideal S1x3x5632 .f32) shapeCasts_S1x3x5632_S3x5632 := by
    simp only [V, hostOps0]
    after_results_simp
    rfl
  rw [e]
  exact readV4 _ j f

theorem V6 (f : Fin 5632) : (V m c main_v6 : FVec Ideal S1x5632 .f32) (ix2 0 f) = (m ((c : Thread nD τ).loc main_arg4) : FVec Ideal S1x5632 .f32) (ix2 0 f) := by
  have e : (V m c main_v6 : FVec Ideal S1x5632 .f32) = shapeCast S1x5632 (shapeCast S5632 (m ((c : Thread nD τ).loc main_arg4) : FVec Ideal S1x5632 .f32) shapeCasts_S1x5632_S5632) shapeCasts_S5632_S1x5632 := by
    simp only [V, hostOps0]
    after_results_simp
    rfl
  rw [e]
  pointwise

theorem readV8 (x : FVec Ideal S1x2816x1024 .f32) (f : Fin 2816) (k : Fin 1024) : (truncf (F := Ideal) .bf16 (shapeCast S2816x1024 x shapeCasts_S1x2816x1024_S2816x1024) bitsLt_bf16_f32) (ix2 f k) = x (ix3 0 f k) := by
  pointwise

theorem V8 (f : Fin 2816) (k : Fin 1024) : (V m c main_v8 : FVec Ideal S2816x1024 .bf16) (ix2 f k) = (m ((c : Thread nD τ).loc main_arg5) : FVec Ideal S1x2816x1024 .f32) (ix3 0 f k) := by
  have e : (V m c main_v8 : FVec Ideal S2816x1024 .bf16) = truncf (F := Ideal) .bf16 (shapeCast S2816x1024 (m ((c : Thread nD τ).loc main_arg5) : FVec Ideal S1x2816x1024 .f32) shapeCasts_S1x2816x1024_S2816x1024) bitsLt_bf16_f32 := by
    simp only [V, hostOps0]
    after_results_simp
    rfl
  rw [e]
  exact readV8 _ f k

theorem V9 (k : Fin 1024) : (V m c main_v9 : FVec Ideal S1x1024 .f32) (ix2 0 k) = (m ((c : Thread nD τ).loc main_arg6) : FVec Ideal S1024 .f32) (ix1 k) := by
  have e : (V m c main_v9 : FVec Ideal S1x1024 .f32) = shapeCast S1x1024 (m ((c : Thread nD τ).loc main_arg6) : FVec Ideal S1024 .f32) shapeCasts_S1024_S1x1024 := by
    simp only [V, hostOps0]
    after_results_simp
    rfl
  rw [e]
  pointwise

theorem idx8 : ∀ t : Fin cfg0.N, win0_8.index t = ![(grid0.coords t 0).val, (grid0.coords t 1).val, 0] :=
  (by decide +kernel : ∀ t : Fin grid0.N, win0_8.index t = ![(grid0.coords t 0).val, (grid0.coords t 1).val, 0])
theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![(grid0.coords t 0).val, 32 * (grid0.coords t 1).val - 1, 0] :=
  (by decide +kernel : ∀ t : Fin grid0.N, win0_1.index t = ![(grid0.coords t 0).val, 32 * (grid0.coords t 1).val - 1, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])

theorem lt16 (t : Fin cfg0.N) : (grid0.coords t 1).val < 16 := (grid0.coords t 1).isLt
theorem lt2 (t : Fin cfg0.N) : (grid0.coords t 0).val < 2 := (grid0.coords t 0).isLt

/-- The first argument at batch `b`, token `s`, entry `k`. -/
def H (b : Fin 2) (s : Fin 8192) (k : Fin 1024) : EReal := (m ((c : Thread nD τ).loc main_arg0) : FVec Ideal S2x8192x1024 .f32) (ix3 b s k)

theorem blk0 (t : Fin cfg0.N) (r : Fin 512) (k : Fin 1024) : (iblk m c 0 t : FVec Ideal S1x512x1024 .f32) (ix3 0 r k) =
    H m c ⟨(grid0.coords t 0).val, lt2 t⟩ ⟨512 * (grid0.coords t 1).val + r.val, by have := lt16 t; omega⟩ k := by
  unfold H
  rw [← V_main_arg0 m c]
  blk_simp [iblk]
  refine congrArg (V m c main_arg0) ?_
  blk_ext [idx0]

theorem blk1 (t : Fin cfg0.N) (q : Fin 16) (k : Fin 1024) (hi : 0 < (grid0.coords t 1).val) : (iblk m c 1 t : FVec Ideal S1x16x1024 .f32) (ix3 0 q k) =
    H m c ⟨(grid0.coords t 0).val, lt2 t⟩ ⟨512 * (grid0.coords t 1).val - 16 + q.val, by have := lt16 t; omega⟩ k := by
  unfold H
  rw [← V_main_arg0 m c]
  blk_simp [iblk]
  refine congrArg (V m c main_arg0) ?_
  blk_ext [idx1]

theorem blk2 (t : Fin cfg0.N) (k : Fin 1024) : (iblk m c 2 t : FVec Ideal S1x1024 .f32) (ix2 0 k) = (V m c main_v1 : FVec Ideal S1x1024 .f32) (ix2 0 k) := by
  blk_simp [iblk]
  refine congrArg (V m c main_v1) ?_
  blk_ext [idx2]
theorem blk3 (t : Fin cfg0.N) (k : Fin 1024) (f : Fin 5632) : (iblk m c 3 t : FVec Ideal S1024x5632 .bf16) (ix2 k f) = (V m c main_v3 : FVec Ideal S1024x5632 .bf16) (ix2 k f) := by
  blk_simp [iblk]
  refine congrArg (V m c main_v3) ?_
  blk_ext [idx3]
theorem blk4 (t : Fin cfg0.N) (j : Fin 3) (f : Fin 5632) : (iblk m c 4 t : FVec Ideal S3x5632 .f32) (ix2 j f) = (V m c main_v4 : FVec Ideal S3x5632 .f32) (ix2 j f) := by
  blk_simp [iblk]
  refine congrArg (V m c main_v4) ?_
  blk_ext [idx4]
theorem blk5 (t : Fin cfg0.N) (f : Fin 5632) : (iblk m c 5 t : FVec Ideal S1x5632 .f32) (ix2 0 f) = (V m c main_v6 : FVec Ideal S1x5632 .f32) (ix2 0 f) := by
  blk_simp [iblk]
  refine congrArg (V m c main_v6) ?_
  blk_ext [idx5]
theorem blk6 (t : Fin cfg0.N) (f : Fin 2816) (k : Fin 1024) : (iblk m c 6 t : FVec Ideal S2816x1024 .bf16) (ix2 f k) = (V m c main_v8 : FVec Ideal S2816x1024 .bf16) (ix2 f k) := by
  blk_simp [iblk]
  refine congrArg (V m c main_v8) ?_
  blk_ext [idx6]
theorem blk7 (t : Fin cfg0.N) (k : Fin 1024) : (iblk m c 7 t : FVec Ideal S1x1024 .f32) (ix2 0 k) = (V m c main_v9 : FVec Ideal S1x1024 .f32) (ix2 0 k) := by
  blk_simp [iblk]
  refine congrArg (V m c main_v9) ?_
  blk_ext [idx7]

/-- The formula, of the program's arguments. -/
def G (b : Fin 2) (s : Fin 8192) (n : Fin 1024) : EReal :=
  ffn (H m c b) (fun k => (m ((c : Thread nD τ).loc main_arg1) : FVec Ideal S1x1024 .f32) (ix2 0 k))
      (fun k f => (m ((c : Thread nD τ).loc main_arg2) : FVec Ideal S1x1024x5632 .f32) (ix3 0 k f))
      (fun j f => (m ((c : Thread nD τ).loc main_arg3) : FVec Ideal S1x3x5632 .f32) (ix3 0 j f))
      (fun f => (m ((c : Thread nD τ).loc main_arg4) : FVec Ideal S1x5632 .f32) (ix2 0 f))
      (fun f n => (m ((c : Thread nD τ).loc main_arg5) : FVec Ideal S1x2816x1024 .f32) (ix3 0 f n))
      (fun n => (m ((c : Thread nD τ).loc main_arg6) : FVec Ideal S1024 .f32) (ix1 n)) s n

/-- What grid point `t` writes back at row `r`, entry `n` of its block. -/
theorem point (t : Fin cfg0.N) (r : Fin 512) (n : Fin 1024) : outsAt0 m c t (ix3 0 r n) =
    G m c ⟨(grid0.coords t 0).val, lt2 t⟩ ⟨512 * (grid0.coords t 1).val + r.val, by have := lt16 t; omega⟩ n := by
  unfold outsAt0
  refine (out_apply ..).trans ?_
  unfold G ffn
  have e0 : (fun k => (iblk m c 0 t : FVec Ideal S1x512x1024 .f32) (ix3 0 r k)) = H m c ⟨(grid0.coords t 0).val, lt2 t⟩ ⟨512 * (grid0.coords t 1).val + r.val, by have := lt16 t; omega⟩ :=
    funext fun k => blk0 m c t r k
  have e6 : (fun f k => (iblk m c 6 t : FVec Ideal S2816x1024 .bf16) (ix2 f k)) = (fun f n => (m ((c : Thread nD τ).loc main_arg5) : FVec Ideal S1x2816x1024 .f32) (ix3 0 f n)) :=
    funext fun f => funext fun k => (blk6 m c t f k).trans (V8 m c f k)
  have e7 : (fun k => (iblk m c 7 t : FVec Ideal S1x1024 .f32) (ix2 0 k)) = (fun n => (m ((c : Thread nD τ).loc main_arg6) : FVec Ideal S1024 .f32) (ix1 n)) :=
    funext fun k => (blk7 m c t k).trans (V9 m c k)
  refine Eq.trans (congrArg (fun x => down x _ _ _ n) e0) ?_
  refine Eq.trans (congrArg (fun x => down _ _ x _ n) e6) ?_
  refine Eq.trans (congrArg (fun x => down _ _ _ x n) e7) ?_
  refine congrArg (fun x => down _ x _ _ n) (funext fun f => ?_)
  refine conv_congr (fun j hj => ?_) (fun j => (blk4 m c t j f).trans (V4 m c j f)) ((blk5 m c t f).trans (V6 m c f))
  refine (bufT_eq _ (lt16 t) _ _ _ _ (H m c ⟨(grid0.coords t 0).val, lt2 t⟩) (blk0 m c t) (blk1 m c t) f _ (by omega) (by omega)).trans ?_
  have e2 : (fun k => (iblk m c 2 t : FVec Ideal S1x1024 .f32) (ix2 0 k)) = (fun k => (m ((c : Thread nD τ).loc main_arg1) : FVec Ideal S1x1024 .f32) (ix2 0 k)) :=
    funext fun k => (blk2 m c t k).trans (V1 m c k)
  have e3 : (fun k => (iblk m c 3 t : FVec Ideal S1024x5632 .bf16) (ix2 k f)) = (fun k => (m ((c : Thread nD τ).loc main_arg2) : FVec Ideal S1x1024x5632 .f32) (ix3 0 k f)) :=
    funext fun k => (blk3 m c t k f).trans (V3 m c k f)
  have ej : 512 * (grid0.coords t 1).val + (14 + r.val + j) - 14 = 512 * (grid0.coords t 1).val + r.val + j := by omega
  rw [ej]
  refine Eq.trans (congrArg (fun x => padded (fun s => up (H m c ⟨(grid0.coords t 0).val, lt2 t⟩ s) x _) _) e2) ?_
  exact congrArg (fun x => padded (fun s => up (H m c ⟨(grid0.coords t 0).val, lt2 t⟩ s) _ x) _) e3

/-- The output array after the run. -/
theorem final : (dats m 0 c).arrAt 8 cfg0.N = (fun j => G m c (j 0) (j 1) (j 2) : FVec Ideal S2x8192x1024 .f32) := by
  refine (dats m 0 c).arrAt_eq_of_covers 8 _ (by decide +kernel) fun t hf y => ?_
  blk_simp
  rw [after0_8]
  obtain ⟨z, r, n, rfl⟩ : ∃ (z : Fin 1) (r : Fin 512) (n : Fin 1024), y = ix3 z r n := ⟨y 0, y 1, y 2, eq_ix3 y⟩
  obtain rfl : z = 0 := Subsingleton.elim _ _
  refine (point m c t r n).trans ?_
  have a : (win0_8.blk t).view.emb (ix3 0 r n) = ix3 (⟨(grid0.coords t 0).val, lt2 t⟩ : Fin 2) (⟨512 * (grid0.coords t 1).val + r.val, by have := lt16 t; omega⟩ : Fin 8192) n := by
    blk_ext [idx8]
  rw [a]
  rfl

end Cert.FfnIdeal.RefValue

end

end
-- ==== Proof.FfnRef.lean ====
/- What the reference computes: its composed term cut into the steps of the layer, each read at an index, and the formula they make. -/
module
public import proofs.«01_k».proof.Proof.Gen.FfnReferenceIdeal.Run
public import proofs.«01_k».proof.Proof.FfnSpec
@[expose] public section
set_option maxRecDepth 16384
noncomputable section
namespace Cert.FfnReferenceIdeal.RefValue
open Cert.FfnReferenceIdeal Cert.FfnReferenceIdeal.Gen Cert.FfnReferenceIdeal.Value Idealize.ShloMosaic Idealize.ShloMosaic.TcCoe Idealize.SL.Sem Idealize.ShloMosaic.StableHlo

/-- The reference's root-mean-square norm of the rows of `h`, weighted by `g`. -/
def normT (h : FVec Ideal S2x8192x1024 .f32) (g : FVec Ideal S1024 .f32) : FVec Ideal S2x8192x1024 .f32 :=
  mulf (mulf h (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf h h) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The reference's up-projection, with two rows of zeros put before each sequence. -/
def upT (x : FVec Ideal S2x8192x1024 .f32) (w : FVec Ideal S1x1024x5632 .f32) : FVec Ideal S2x8194x5632 .f32 :=
  pad S2x8194x5632 ![0, 2, 0] ![0, 0, 0] ![0, 0, 0] (Host.dotGeneral dot_S2x8192x1024_S1024x5632_S2x8192x5632_2_0_01_1_n_n none x (shapeCast _ w shapeCasts_S1x1024x5632_S1024x5632)) (sitofp .f32 (constantI S_ 32 0#32)) pads_S2x8192x5632_S2x8194x5632_000_200_000 h_S_

/-- The reference's three-tap convolution along the sequence. -/
def convT (u : FVec Ideal S2x8194x5632 .f32) (w : FVec Ideal S1x3x5632 .f32) (b : FVec Ideal S1x5632 .f32) : FVec Ideal S2x8192x5632 .f32 :=
  addf (addf (addf (mulf (extractStridedSlice S2x8192x5632 ![0, 0, 0] u slices_S2x8194x5632_S2x8192x5632_0_0_0) (broadcastInDim S2x8192x5632 ![0, 1, 2] bcast_S1x1x5632_S2x8192x5632_0_1_2 (broadcastInDim S1x1x5632 ![2] bcast_S5632_S1x1x5632_2 (shapeCast _ (extractStridedSlice S1x1x5632 ![0, 0, 0] w slices_S1x3x5632_S1x1x5632_0_0_0) shapeCasts_S1x1x5632_S5632)))) (mulf (extractStridedSlice S2x8192x5632 ![0, 1, 0] u slices_S2x8194x5632_S2x8192x5632_0_1_0) (broadcastInDim S2x8192x5632 ![0, 1, 2] bcast_S1x1x5632_S2x8192x5632_0_1_2 (broadcastInDim S1x1x5632 ![2] bcast_S5632_S1x1x5632_2 (shapeCast _ (extractStridedSlice S1x1x5632 ![0, 1, 0] w slices_S1x3x5632_S1x1x5632_0_1_0) shapeCasts_S1x1x5632_S5632))))) (mulf (extractStridedSlice S2x8192x5632 ![0, 2, 0] u slices_S2x8194x5632_S2x8192x5632_0_2_0) (broadcastInDim S2x8192x5632 ![0, 1, 2] bcast_S1x1x5632_S2x8192x5632_0_1_2 (broadcastInDim S1x1x5632 ![2] bcast_S5632_S1x1x5632_2 (shapeCast _ (extractStridedSlice S1x1x5632 ![0, 2, 0] w slices_S1x3x5632_S1x1x5632_0_2_0) shapeCasts_S1x1x5632_S5632))))) (broadcastInDim S2x8192x5632 ![0, 1, 2] bcast_S1x1x5632_S2x8192x5632_0_1_2 (broadcastInDim S1x1x5632 ![2] bcast_S5632_S1x1x5632_2 (shapeCast _ b shapeCasts_S1x5632_S5632)))

/-- The reference's gated product of the two halves of the convolution's channels. -/
def gateT (v : FVec Ideal S2x8192x5632 .f32) : FVec Ideal S2x8192x2816 .f32 :=
  mulf (mulf (extractStridedSlice S2x8192x2816 ![0, 0, 0] v slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] v slices_S2x8192x5632_S2x8192x2816_0_0_0)))))) (extractStridedSlice S2x8192x2816 ![0, 0, 2816] v slices_S2x8192x5632_S2x8192x2816_0_0_2816)

/-- The reference's down-projection added to its input. -/
def downT (h : FVec Ideal S2x8192x1024 .f32) (a : FVec Ideal S2x8192x2816 .f32) (w : FVec Ideal S1x2816x1024 .f32) : FVec Ideal S2x8192x1024 .f32 :=
  addf h (Host.dotGeneral dot_S2x8192x2816_S2816x1024_S2x8192x1024_2_0_01_1_n_n none a (shapeCast _ w shapeCasts_S1x2816x1024_S2816x1024))

/-- The reference's result is these pieces, one after the other. -/
theorem res_eq (m : (ℓ : Loc nD τ sig) → Buf (Elt Ideal) ℓ) (c : Dev nD) :
    res_out0 m c = normT (downT (m ((c.tc : Thread nD τ).loc main_arg0)) (gateT (convT (upT (normT (m ((c.tc : Thread nD τ).loc main_arg0)) (shapeCast _ (m ((c.tc : Thread nD τ).loc main_arg1)) shapeCasts_S1x1024_S1024)) (m ((c.tc : Thread nD τ).loc main_arg2))) (m ((c.tc : Thread nD τ).loc main_arg3)) (m ((c.tc : Thread nD τ).loc main_arg4)))) (m ((c.tc : Thread nD τ).loc main_arg5))) (m ((c.tc : Thread nD τ).loc main_arg6)) := rfl

open Cert.FfnSpec

theorem normT_apply (h : FVec Ideal S2x8192x1024 .f32) (g : FVec Ideal S1024 .f32) (b : Fin 2) (s : Fin 8192) (n : Fin 1024) :
    normT h g (ix3 b s n) = rms (fun k => h (ix3 b s k)) (fun k => g (ix1 k)) n := by
  unfold rms
  pointwise [normT]

theorem upT_apply (x : FVec Ideal S2x8192x1024 .f32) (w : FVec Ideal S1x1024x5632 .f32) (b : Fin 2) (s : Fin 8194) (n : Fin 5632) :
    upT x w (ix3 b s n) = padded (fun t => ∑ k : Fin 1024, x (ix3 b t k) * w (ix3 0 k n)) s.val := by
  unfold padded
  have h0 : (FloatOps.sitofp FTy.f32 0#32 : Ideal .f32) = 0 := by
    show (((0#32 : BitVec 32).toInt : ℝ) : EReal) = 0
    simp
  pointwise [upT]
  rw [h0]

theorem convT_apply (u : FVec Ideal S2x8194x5632 .f32) (w : FVec Ideal S1x3x5632 .f32) (e : FVec Ideal S1x5632 .f32) (b : Fin 2) (s : Fin 8192) (n : Fin 5632)
    (p : ℕ → EReal) (hp : ∀ t : Fin 8194, u (ix3 b t n) = p t.val) :
    convT u w e (ix3 b s n) = conv p (fun j => w (ix3 0 j n)) (e (ix2 0 n)) s.val := by
  unfold conv
  pointwise [convT]
  rw [hp, hp, hp]
  simp only [Nat.add_comm 1, Nat.add_comm 2]
  rw [add_comm _ (e _), ← add_assoc, ← add_assoc]

theorem gateT_apply (v : FVec Ideal S2x8192x5632 .f32) (b : Fin 2) (s : Fin 8192) (n : Fin 2816) :
    gateT v (ix3 b s n) = gate (v (ix3 b s (lo n))) (v (ix3 b s (hi n))) := by
  unfold gate Ideal.logistic lo hi
  pointwise [gateT]

theorem downT_apply (h : FVec Ideal S2x8192x1024 .f32) (a : FVec Ideal S2x8192x2816 .f32) (w : FVec Ideal S1x2816x1024 .f32) (b : Fin 2) (s : Fin 8192) (n : Fin 1024) :
    downT h a w (ix3 b s n) = h (ix3 b s n) + ∑ f : Fin 2816, a (ix3 b s f) * w (ix3 0 f n) := by
  pointwise [downT]

/-- The reference's result at an index is the formula of its arguments. -/
theorem res_apply (m : (ℓ : Loc nD τ sig) → Buf (Elt Ideal) ℓ) (c : Dev nD) (b : Fin 2) (s : Fin 8192) (n : Fin 1024) :
    res_out0 m c (ix3 b s n) = ffn (fun s k => (m ((c.tc : Thread nD τ).loc main_arg0) : FVec Ideal S2x8192x1024 .f32) (ix3 b s k))
      (fun k => (m ((c.tc : Thread nD τ).loc main_arg1) : FVec Ideal S1x1024 .f32) (ix2 0 k))
      (fun k f => (m ((c.tc : Thread nD τ).loc main_arg2) : FVec Ideal S1x1024x5632 .f32) (ix3 0 k f))
      (fun j f => (m ((c.tc : Thread nD τ).loc main_arg3) : FVec Ideal S1x3x5632 .f32) (ix3 0 j f))
      (fun f => (m ((c.tc : Thread nD τ).loc main_arg4) : FVec Ideal S1x5632 .f32) (ix2 0 f))
      (fun f n => (m ((c.tc : Thread nD τ).loc main_arg5) : FVec Ideal S1x2816x1024 .f32) (ix3 0 f n))
      (fun n => (m ((c.tc : Thread nD τ).loc main_arg6) : FVec Ideal S1024 .f32) (ix1 n)) s n := by
  have hg : ∀ k : Fin 1024, (shapeCast S1024 (m ((c.tc : Thread nD τ).loc main_arg1) : FVec Ideal S1x1024 .f32) shapeCasts_S1x1024_S1024) (ix1 k)
      = (m ((c.tc : Thread nD τ).loc main_arg1) : FVec Ideal S1x1024 .f32) (ix2 0 k) := fun k => by pointwise
  rw [res_eq, normT_apply]
  unfold ffn down
  refine congrArg (fun x => rms x _ n) (funext fun k => ?_)
  rw [downT_apply]
  refine congrArg _ (Finset.sum_congr rfl fun f _ => ?_)
  rw [gateT_apply, convT_apply _ _ _ _ _ _ _ (fun t => upT_apply _ _ _ _ _), convT_apply _ _ _ _ _ _ _ (fun t => upT_apply _ _ _ _ _)]
  simp only [normT_apply, hg]
  rfl

end Cert.FfnReferenceIdeal.RefValue

end

end
-- ==== Proof.FfnClaim.lean ====
/- The feed-forward kernel and its reference end with the same array: both are the formula of the arguments. -/
module

public import proofs.«01_k».proof.Defs
public import proofs.«01_k».proof.Proof.FfnVal
public import proofs.«01_k».proof.Proof.FfnRef

@[expose] public section

set_option maxRecDepth 16384

noncomputable section

namespace Cert.Proof

open Idealize.ShloMosaic Idealize.ShloMosaic.TcCoe Idealize.SL.Sem Cert.FfnSpec

/-- The reference of the feed-forward layer runs, leaves its arguments unchanged and ends with every counter at zero: it has no semaphore. -/
theorem ffnReference_frame : Cert.quiescent_FfnReferenceIdeal := by
  intro m ρ _
  refine (θ_run _ _ _).mono (fun r h => ⟨fun c => (h c).2, funext fun g => ?_⟩) (FfnReferenceIdeal.Value.run m ρ)
  rcases g with ⟨t, s | s⟩
  · exact absurd s.isLt (Nat.not_lt_zero _)
  · exact absurd s.isLt (Nat.not_lt_zero _)

/-- From memories that agree on the arguments, the kernel and the reference of the feed-forward layer end with equal results at the ideal instance, the arguments unchanged. -/
theorem ffn_algebraic : Cert.algebraic_FfnIdeal_FfnReferenceIdeal := by
  intro m ρ m' ρ' _ hag
  refine ⟨fun c => (fun j => FfnIdeal.RefValue.G m c (j 0) (j 1) (j 2) : FVec Ideal FfnIdeal.S2x8192x1024 .f32),
    (θ_run _ _ _).mono (fun _ h c => ⟨(h c).1.trans (FfnIdeal.RefValue.final m c), (h c).2⟩) (FfnIdeal.Value.run_blocks m ρ),
    (θ_run _ _ _).mono (fun _ h c => ⟨(h c).1.trans ?_, (h c).2⟩) (FfnReferenceIdeal.Value.run m' ρ')⟩
  obtain ⟨h0, h1, h2, h3, h4, h5, h6⟩ := hag c
  have key : ∀ (b : Fin 2) (s : Fin 8192) (n : Fin 1024), FfnReferenceIdeal.Value.res_out0 m' c (ix3 b s n) = FfnIdeal.RefValue.G m c b s n := by
    intro b s n
    rw [FfnReferenceIdeal.RefValue.res_apply, h0, h1, h2, h3, h4, h5, h6]
    rfl
  funext j
  exact (congrArg (FfnReferenceIdeal.Value.res_out0 m' c) (eq_ix3 j)).trans (key _ _ _)

end Cert.Proof

end

end
-- ==== Proof.MixSpec.lean ====
/- The mixer's last part as one formula over the extended reals: the pooling of the past tokens, the gates, the two projections and the output projection. -/
module

public import proofs.«01_k».proof.Proof.FfnSpec

@[expose] public section

noncomputable section

namespace Cert.MixSpec

open Idealize.ShloMosaic Cert.FfnSpec

/-- A sequence of 8192 numbers with fifteen zeros put before it. -/
def past (u : Fin 8192 → EReal) (t : ℕ) : EReal := if h : 15 ≤ t ∧ t - 15 < 8192 then u ⟨t - 15, h.2⟩ else 0

/-- The sum of the last `w` numbers of a sequence up to place `s`. -/
def trail (p : ℕ → EReal) (w : ℕ) (s : ℕ) : EReal := ∑ j ∈ Finset.range w, p (s - j)

/-- How many tokens the mean of token `t` is over: `t + 1`, at most `w`. -/
def nTok (t w : BitVec 32) : EReal := FloatOps.sitofp (F := Ideal) FTy.f32 (Scalar.minsi (t + 1#32) w)

/-- The mean of the last `w` numbers up to place `s`, less the number at `s`. -/
def pooled (p : ℕ → EReal) (w : ℕ) (n : EReal) (s : ℕ) : EReal := Ideal.div (trail p w s) n - p s

/-- The group of 128 in which channel `n` of 512 lies. -/
def grp (n : Fin 512) : Fin 4 := ⟨n.val / 128, by omega⟩

/-- The place of channel `n` of 512 in its group. -/
def lane (n : Fin 512) : Fin 128 := ⟨n.val % 128, by omega⟩

/-- How many tokens the mean of group `g` is over at most. -/
def win : Fin 4 → ℕ := ![2, 4, 8, 16]

/-- The two projections gated and added, the output projection and the residual. -/
def merge (x : Fin 1024 → EReal) (o : Fin 512 → EReal) (ga : Fin 2048 → EReal) (mx : Fin 512 → EReal) (wp wa : Fin 512 → Fin 1024 → EReal)
    (wo : Fin 1024 → Fin 1024 → EReal) (n : Fin 1024) : EReal :=
  x n + ∑ j : Fin 1024, (ga ⟨j.val, by omega⟩ * (∑ c, mx c * wp c j) + ga ⟨1024 + j.val, by omega⟩ * (∑ c, o c * wa c j)) * wo j n

/-- Equal parts make equal outputs. -/
theorem merge_congr {x x' : Fin 1024 → EReal} {o o' : Fin 512 → EReal} {ga ga' : Fin 2048 → EReal} {mx mx' : Fin 512 → EReal} {wp wp' wa wa' : Fin 512 → Fin 1024 → EReal}
    {wo wo' : Fin 1024 → Fin 1024 → EReal} (hx : x = x') (ho : o = o') (hg : ∀ j, ga j = ga' j) (hm : ∀ c, mx c = mx' c) (hp : wp = wp') (ha : wa = wa') (hw : wo = wo') (n : Fin 1024) :
    merge x o ga mx wp wa wo n = merge x' o' ga' mx' wp' wa' wo' n := by
  rw [hx, ho, funext hg, funext hm, hp, ha, hw]

/-- Equal rows and weights make equal projections. -/
theorem up_congr {x x' g g' w w' : Fin 1024 → EReal} (hx : x = x') (hg : g = g') (hw : w = w') : up x g w = up x' g' w' := by
  rw [hx, hg, hw]

/-- The pooled channel `e` of group `g` at token `t`, from the rows `x` of its sequence. -/
def poolCh (x : Fin 8192 → Fin 1024 → EReal) (ng : Fin 1024 → EReal) (w : Fin 1024 → Fin 512 → EReal) (t : Fin 8192) (g : Fin 4) (e : Fin 128) : EReal :=
  pooled (past fun s => up (x s) ng (fun k => w k ⟨g.val * 128 + e.val, by omega⟩)) (win g) (nTok (BitVec.ofNat 32 t.val) (BitVec.ofNat 32 (win g))) (15 + t.val)

/-- Row `t` of a sequence's output. -/
def mixRow (x : Fin 8192 → Fin 1024 → EReal) (o : Fin 512 → EReal) (ng : Fin 1024 → EReal) (w : Fin 1024 → Fin 512 → EReal) (wg : Fin 1024 → Fin 2048 → EReal)
    (pw : Fin 4 → Fin 128 → Fin 128 → EReal) (ps : Fin 512 → EReal) (wp wa : Fin 512 → Fin 1024 → EReal) (wo : Fin 1024 → Fin 1024 → EReal) (t : Fin 8192) : Fin 1024 → EReal :=
  merge (x t) o (fun j => Ideal.logistic (up (x t) ng (fun k => wg k j))) (fun c => (∑ e : Fin 128, poolCh x ng w t (grp c) e * pw (grp c) e (lane c)) * ps c) wp wa wo

end Cert.MixSpec

end

end
-- ==== Proof.MixBlock.lean ====
/- What a grid point of the mixer's kernel leaves in its block of the output, as the mixer's formula. -/
module

public import proofs.«01_k».proof.Proof.Gen.MixerIdeal.Value
public import Idealize.ShloMosaic.Lib.Pipeline.ValueKit.Tiles
public import proofs.«01_k».proof.Proof.MixSpec
public import proofs.«01_k».proof.Proof.FfnBlock

@[expose] public section

set_option maxRecDepth 16384

noncomputable section

namespace Cert.MixerIdeal.RefValue

open Cert.MixerIdeal Cert.MixerIdeal.Gen Cert.MixerIdeal.Value Idealize.ShloMosaic Idealize.ShloMosaic.TcCoe Idealize.SL.Sem
open Idealize.ShloMosaic.Pipeline (Dat)
open Cert.FfnIdeal.RefValue (hz2 hz3 canon_rows)

/-- The pooling channels that a grid point keeps: those of sixteen rows before its block, then those of its block's. -/
def uV (i : grid0.Coords) (x0 : FVec Ideal S1x512x1024 .f32) (x1 : FVec Ideal S1x16x1024 .f32) (x3 : FVec Ideal S1x1024 .f32) (x4 : FVec Ideal S1024x512 .bf16) : FVec Ideal S528x512 .f32 :=
  View.canon (Val := Elt Ideal) (s := S528x512) (e := .f32) [⟨Rect.unit ![16, 0] ![512, 512] inb_S528x512_S512x512_16_0, k0_pay7 (F := Ideal) (k0_pay4 (F := Ideal) x3 x0) x4⟩,
    ⟨Rect.unit ![0, 0] ![16, 512] inb_S528x512_S16x512_0_0, k0_pay6 (F := Ideal) (k0_pay5 (F := Ideal) i x3 x1 x4)⟩]

/-- What a grid point leaves in the output's block, as the printed payloads of the blocks it loads. -/
theorem out_eq (c : Dev nD) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x512x512 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S4x128x128 .bf16) (harg8 : arg8.IsWhole) (arg9 : Memref sig .tc .vmem S1x512 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x1024 .bf16) (harg12 : arg12.IsWhole) (arg13 : Memref sig .tc .vmem S1x512x1024 .f32) (harg13 : arg13.IsWhole) (arg14 : Memref sig .tc .vmem S528x512 .f32) (harg14 : arg14.IsWhole)
    (x0 : Vec Ideal S1x512x1024 .f32) (x1 : Vec Ideal S1x16x1024 .f32) (x2 : Vec Ideal S1x512x512 .bf16) (x3 : Vec Ideal S1x1024 .f32) (x4 : Vec Ideal S1024x512 .bf16) (x5 : Vec Ideal S1024x2048 .bf16) (x6 : Vec Ideal S4x128x128 .bf16) (x7 : Vec Ideal S1x512 .f32) (x8 : Vec Ideal S512x1024 .bf16) (x9 : Vec Ideal S512x1024 .bf16) (x10 : Vec Ideal S1024x1024 .bf16) :
    out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 =
      k0_pay1 (k0_pay3 x0) (k0_pay15 x2 x9) (k0_pay16 (k0_pay4 x3 x0) x5)
        (k0_pay17 (k0_pay4 x3 x0) (k0_pay8 (BitVec.ofNat 32 (i 1)))
        (k0_pay9 (BitVec.ofNat 32 (i 1)) (View.ld (Val := Elt Ideal) (S := S528x512) (e' := .f32) (uV i x0 x1 x3 x4) (Rect.unit (s := S528x512) ![16, 0] ![512, 128] inb_S528x512_S512x128_16_0)) (View.ld (Val := Elt Ideal) (S := S528x512) (e' := .f32) (uV i x0 x1 x3 x4) (Rect.unit (s := S528x512) ![15, 0] ![512, 128] inb_S528x512_S512x128_15_0)) (View.ld (Val := Elt Ideal) (S := S4x128x128) (e' := .bf16) x6 (Rect.unit (s := S4x128x128) ![0, 0, 0] ![1, 128, 128] inb_S4x128x128_S1x128x128_0_0_0)))
        (k0_pay11 (k0_pay8 (BitVec.ofNat 32 (i 1))) (View.ld (Val := Elt Ideal) (S := S528x512) (e' := .f32) (uV i x0 x1 x3 x4) (Rect.unit (s := S528x512) ![16, 128] ![512, 128] inb_S528x512_S512x128_16_128)) (k0_pay10 (View.ld (Val := Elt Ideal) (S := S528x512) (e' := .f32) (uV i x0 x1 x3 x4) (Rect.unit (s := S528x512) ![16, 128] ![512, 128] inb_S528x512_S512x128_16_128)) (View.ld (Val := Elt Ideal) (S := S528x512) (e' := .f32) (uV i x0 x1 x3 x4) (Rect.unit (s := S528x512) ![15, 128] ![512, 128] inb_S528x512_S512x128_15_128)) (View.ld (Val := Elt Ideal) (S := S528x512) (e' := .f32) (uV i x0 x1 x3 x4) (Rect.unit (s := S528x512) ![14, 128] ![512, 128] inb_S528x512_S512x128_14_128))) (View.ld (Val := Elt Ideal) (S := S528x512) (e' := .f32) (uV i x0 x1 x3 x4) (Rect.unit (s := S528x512) ![13, 128] ![512, 128] inb_S528x512_S512x128_13_128)) (View.ld (Val := Elt Ideal) (S := S4x128x128) (e' := .bf16) x6 (Rect.unit (s := S4x128x128) ![1, 0, 0] ![1, 128, 128] inb_S4x128x128_S1x128x128_1_0_0)))
        (k0_pay13 (k0_pay12 (k0_pay8 (BitVec.ofNat 32 (i 1))) (View.ld (Val := Elt Ideal) (S := S528x512) (e' := .f32) (uV i x0 x1 x3 x4) (Rect.unit (s := S528x512) ![16, 256] ![512, 128] inb_S528x512_S512x128_16_256)) (View.ld (Val := Elt Ideal) (S := S528x512) (e' := .f32) (uV i x0 x1 x3 x4) (Rect.unit (s := S528x512) ![15, 256] ![512, 128] inb_S528x512_S512x128_15_256)) (View.ld (Val := Elt Ideal) (S := S528x512) (e' := .f32) (uV i x0 x1 x3 x4) (Rect.unit (s := S528x512) ![14, 256] ![512, 128] inb_S528x512_S512x128_14_256)) (View.ld (Val := Elt Ideal) (S := S528x512) (e' := .f32) (uV i x0 x1 x3 x4) (Rect.unit (s := S528x512) ![13, 256] ![512, 128] inb_S528x512_S512x128_13_256)) (View.ld (Val := Elt Ideal) (S := S528x512) (e' := .f32) (uV i x0 x1 x3 x4) (Rect.unit (s := S528x512) ![12, 256] ![512, 128] inb_S528x512_S512x128_12_256)) (View.ld (Val := Elt Ideal) (S := S528x512) (e' := .f32) (uV i x0 x1 x3 x4) (Rect.unit (s := S528x512) ![11, 256] ![512, 128] inb_S528x512_S512x128_11_256)) (View.ld (Val := Elt Ideal) (S := S528x512) (e' := .f32) (uV i x0 x1 x3 x4) (Rect.unit (s := S528x512) ![10, 256] ![512, 128] inb_S528x512_S512x128_10_256)) (View.ld (Val := Elt Ideal) (S := S528x512) (e' := .f32) (uV i x0 x1 x3 x4) (Rect.unit (s := S528x512) ![9, 256] ![512, 128] inb_S528x512_S512x128_9_256))) (View.ld (Val := Elt Ideal) (S := S4x128x128) (e' := .bf16) x6 (Rect.unit (s := S4x128x128) ![2, 0, 0] ![1, 128, 128] inb_S4x128x128_S1x128x128_2_0_0)))
        (View.ld (Val := Elt Ideal) (S := S528x512) (e' := .f32) (uV i x0 x1 x3 x4) (Rect.unit (s := S528x512) ![16, 384] ![512, 128] inb_S528x512_S512x128_16_384)) (k0_pay14 (View.ld (Val := Elt Ideal) (S := S528x512) (e' := .f32) (uV i x0 x1 x3 x4) (Rect.unit (s := S528x512) ![16, 384] ![512, 128] inb_S528x512_S512x128_16_384)) (View.ld (Val := Elt Ideal) (S := S528x512) (e' := .f32) (uV i x0 x1 x3 x4) (Rect.unit (s := S528x512) ![15, 384] ![512, 128] inb_S528x512_S512x128_15_384)) (View.ld (Val := Elt Ideal) (S := S528x512) (e' := .f32) (uV i x0 x1 x3 x4) (Rect.unit (s := S528x512) ![14, 384] ![512, 128] inb_S528x512_S512x128_14_384)) (View.ld (Val := Elt Ideal) (S := S528x512) (e' := .f32) (uV i x0 x1 x3 x4) (Rect.unit (s := S528x512) ![13, 384] ![512, 128] inb_S528x512_S512x128_13_384)) (View.ld (Val := Elt Ideal) (S := S528x512) (e' := .f32) (uV i x0 x1 x3 x4) (Rect.unit (s := S528x512) ![12, 384] ![512, 128] inb_S528x512_S512x128_12_384)) (View.ld (Val := Elt Ideal) (S := S528x512) (e' := .f32) (uV i x0 x1 x3 x4) (Rect.unit (s := S528x512) ![11, 384] ![512, 128] inb_S528x512_S512x128_11_384)) (View.ld (Val := Elt Ideal) (S := S528x512) (e' := .f32) (uV i x0 x1 x3 x4) (Rect.unit (s := S528x512) ![10, 384] ![512, 128] inb_S528x512_S512x128_10_384)) (View.ld (Val := Elt Ideal) (S := S528x512) (e' := .f32) (uV i x0 x1 x3 x4) (Rect.unit (s := S528x512) ![9, 384] ![512, 128] inb_S528x512_S512x128_9_384)) (View.ld (Val := Elt Ideal) (S := S528x512) (e' := .f32) (uV i x0 x1 x3 x4) (Rect.unit (s := S528x512) ![8, 384] ![512, 128] inb_S528x512_S512x128_8_384)) (View.ld (Val := Elt Ideal) (S := S528x512) (e' := .f32) (uV i x0 x1 x3 x4) (Rect.unit (s := S528x512) ![7, 384] ![512, 128] inb_S528x512_S512x128_7_384)) (View.ld (Val := Elt Ideal) (S := S528x512) (e' := .f32) (uV i x0 x1 x3 x4) (Rect.unit (s := S528x512) ![6, 384] ![512, 128] inb_S528x512_S512x128_6_384)) (View.ld (Val := Elt Ideal) (S := S528x512) (e' := .f32) (uV i x0 x1 x3 x4) (Rect.unit (s := S528x512) ![5, 384] ![512, 128] inb_S528x512_S512x128_5_384)) (View.ld (Val := Elt Ideal) (S := S528x512) (e' := .f32) (uV i x0 x1 x3 x4) (Rect.unit (s := S528x512) ![4, 384] ![512, 128] inb_S528x512_S512x128_4_384))) (View.ld (Val := Elt Ideal) (S := S528x512) (e' := .f32) (uV i x0 x1 x3 x4) (Rect.unit (s := S528x512) ![3, 384] ![512, 128] inb_S528x512_S512x128_3_384)) (View.ld (Val := Elt Ideal) (S := S528x512) (e' := .f32) (uV i x0 x1 x3 x4) (Rect.unit (s := S528x512) ![2, 384] ![512, 128] inb_S528x512_S512x128_2_384)) (View.ld (Val := Elt Ideal) (S := S528x512) (e' := .f32) (uV i x0 x1 x3 x4) (Rect.unit (s := S528x512) ![1, 384] ![512, 128] inb_S528x512_S512x128_1_384)) (View.ld (Val := Elt Ideal) (S := S4x128x128) (e' := .bf16) x6 (Rect.unit (s := S4x128x128) ![3, 0, 0] ![1, 128, 128] inb_S4x128x128_S1x128x128_3_0_0)) x7 x8 x5) x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  rw [View.canon_unit_zero hz3]
  simp only [View.readAt_eq_ld, View.ld_unit_zero (S := S1x512x1024) hz3, View.ld_unit_zero (S := S1x16x1024) hz3, View.ld_unit_zero (S := S1x512x512) hz3, View.ld_unit_zero (S := S1x1024) hz2, View.ld_unit_zero (S := S1024x512) hz2, View.ld_unit_zero (S := S1024x2048) hz2, View.ld_unit_zero (S := S1x512) hz2, View.ld_unit_zero (S := S512x1024) hz2, View.ld_unit_zero (S := S1024x1024) hz2, harg2.read_unread, harg3.read_unread, harg4.read_unread, harg5.read_unread, harg6.read_unread, harg7.read_unread, harg8.read_unread, harg9.read_unread, harg10.read_unread, harg11.read_unread, harg12.read_unread, shapeCast_self]
  simp only [View.readCov_eq_canon']
  rfl

open Cert.FfnSpec Cert.MixSpec

theorem pay4_apply (x3 : FVec Ideal S1x1024 .f32) (x0 : FVec Ideal S1x512x1024 .f32) (r : Fin 512) (k : Fin 1024) :
    k0_pay4 (F := Ideal) x3 x0 (ix2 r k) = rms (fun k => x0 (ix3 0 r k)) (fun k => x3 (ix2 0 k)) k := by
  unfold rms
  pointwise [k0_pay4, k0_pay3, k0_pay2]

theorem pay7_apply (v : FVec Ideal S512x1024 .bf16) (x4 : FVec Ideal S1024x512 .bf16) (r : Fin 512) (f : Fin 512) :
    k0_pay7 (F := Ideal) v x4 (ix2 r f) = ∑ k : Fin 1024, v (ix2 r k) * x4 (ix2 k f) := by
  pointwise [k0_pay7]

theorem select_later {α : Type} (n : Fin 16) (a b : α) : Scalar.select (Scalar.cmpi .sgt (BitVec.ofNat 32 n.val) 0#32) a b = if n.val = 0 then b else a := by
  fin_cases n <;> rfl

theorem pay6_apply (i : grid0.Coords) (x3 : FVec Ideal S1x1024 .f32) (x1 : FVec Ideal S1x16x1024 .f32) (x4 : FVec Ideal S1024x512 .bf16) (r : Fin 16) (f : Fin 512) :
    k0_pay6 (F := Ideal) (k0_pay5 (F := Ideal) i x3 x1 x4) (ix2 r f) = if (i 1).val = 0 then 0 else up (fun k => x1 (ix3 0 r k)) (fun k => x3 (ix2 0 k)) (fun k => x4 (ix2 k f)) := by
  refine Eq.trans ?_ (select_later (i 1) _ _)
  unfold up rms
  pointwise [k0_pay6, k0_pay5, k0_pay2]

theorem pay8_apply (a : BitVec 32) (r : Fin 512) (e : Fin 128) : k0_pay8 a (ix2 r e) = a * 512#32 + BitVec.ofNat 32 r.val := by
  pointwise [k0_pay8]
  rfl

theorem pay16_apply (v : FVec Ideal S512x1024 .bf16) (x5 : FVec Ideal S1024x2048 .bf16) (r : Fin 512) (j : Fin 2048) :
    k0_pay16 (F := Ideal) v x5 (ix2 r j) = Ideal.logistic (∑ k : Fin 1024, v (ix2 r k) * x5 (ix2 k j)) := by
  pointwise [k0_pay16]

theorem pay15_apply (x2 : FVec Ideal S1x512x512 .bf16) (x9 : FVec Ideal S512x1024 .bf16) (r : Fin 512) (j : Fin 1024) :
    k0_pay15 (F := Ideal) x2 x9 (ix2 r j) = ∑ c : Fin 512, x2 (ix3 0 r c) * x9 (ix2 c j) := by
  pointwise [k0_pay15]

theorem pay1_apply (v3 v164 : FVec Ideal S512x1024 .f32) (v168 : FVec Ideal S512x2048 .f32) (v170 : FVec Ideal S512x1024 .f32) (x10 : FVec Ideal S1024x1024 .bf16) (r : Fin 512) (n : Fin 1024) :
    k0_pay1 (F := Ideal) v3 v164 v168 v170 x10 (ix3 0 r n) = v3 (ix2 r n) + ∑ j : Fin 1024, (v170 (ix2 r j) + v168 (ix2 r ⟨1024 + j.val, by omega⟩) * v164 (ix2 r j)) * x10 (ix2 j n) := by
  pointwise [k0_pay1]

theorem pay9_apply (a : BitVec 32) (L : ℕ → FVec Ideal S512x128 .f32) (w : FVec Ideal S1x128x128 .bf16) (r : Fin 512) (d : Fin 128) (t : BitVec 32)
    (p : Fin 128 → ℕ → EReal) (hn : ∀ e, k0_pay8 a (ix2 r e) = t) (hL : ∀ j e, L j (ix2 r e) = p e (16 + r.val - j)) :
    k0_pay9 (F := Ideal) a (L 0) (L 1) w (ix2 r d) = ∑ e, pooled (p e) 2 (nTok t 2#32) (16 + r.val) * w (ix3 0 e d) := by
  unfold pooled trail nTok
  pointwise [k0_pay9]
  simp only [hn, hL, Finset.sum_range_succ, Finset.sum_range_zero, zero_add]
  rfl

theorem pay11_apply (n : IVec S512x128 32) (L : ℕ → FVec Ideal S512x128 .f32) (w : FVec Ideal S1x128x128 .bf16) (r : Fin 512) (d : Fin 128) (t : BitVec 32)
    (p : Fin 128 → ℕ → EReal) (hn : ∀ e, n (ix2 r e) = t) (hL : ∀ j e, L j (ix2 r e) = p e (16 + r.val - j)) :
    k0_pay11 (F := Ideal) n (L 0) (k0_pay10 (F := Ideal) (L 0) (L 1) (L 2)) (L 3) w (ix2 r d) = ∑ e, pooled (p e) 4 (nTok t 4#32) (16 + r.val) * w (ix3 0 e d) := by
  unfold pooled trail nTok
  pointwise [k0_pay11, k0_pay10]
  simp only [hn, hL, Finset.sum_range_succ, Finset.sum_range_zero, zero_add]
  rfl

theorem pay13_apply (n : IVec S512x128 32) (L : ℕ → FVec Ideal S512x128 .f32) (w : FVec Ideal S1x128x128 .bf16) (r : Fin 512) (d : Fin 128) (t : BitVec 32)
    (p : Fin 128 → ℕ → EReal) (hn : ∀ e, n (ix2 r e) = t) (hL : ∀ j e, L j (ix2 r e) = p e (16 + r.val - j)) :
    k0_pay13 (F := Ideal) (k0_pay12 (F := Ideal) n (L 0) (L 1) (L 2) (L 3) (L 4) (L 5) (L 6) (L 7)) w (ix2 r d) = ∑ e, pooled (p e) 8 (nTok t 8#32) (16 + r.val) * w (ix3 0 e d) := by
  unfold pooled trail nTok
  pointwise [k0_pay13, k0_pay12]
  simp only [hn, hL, Finset.sum_range_succ, Finset.sum_range_zero, zero_add]
  rfl

theorem cat4 (f0 f1 f2 f3 : Fin 128 → EReal) (x : Fin 512) :
    (if h : x.val < 128 then f0 ⟨x.val, h⟩ else if h1 : x.val - 128 < 128 then f1 ⟨x.val - 128, h1⟩ else if h2 : x.val - 128 - 128 < 128 then f2 ⟨x.val - 128 - 128, h2⟩ else f3 ⟨x.val - 128 - 128 - 128, by omega⟩)
      = (![f0, f1, f2, f3] : Fin 4 → Fin 128 → EReal) (grp x) (lane x) := by
  have hx := x.isLt
  have key : ∀ (f : Fin 128 → EReal) (g : Fin 4) (y : Fin 128), (![f0, f1, f2, f3] : Fin 4 → Fin 128 → EReal) g = f → x.val = g.val * 128 + y.val → f y = (![f0, f1, f2, f3] : Fin 4 → Fin 128 → EReal) (grp x) (lane x) := fun f g y hf hy => by
    have hg : grp x = g := Fin.ext (by show x.val / 128 = g.val; omega)
    have hl : lane x = y := Fin.ext (by show x.val % 128 = y.val; omega)
    rw [hg, hl, hf]
  split
  · exact key f0 0 _ rfl (by show x.val = 0 * 128 + x.val; omega)
  · split
    · exact key f1 1 _ rfl (by show x.val = 1 * 128 + (x.val - 128); omega)
    · split
      · exact key f2 2 _ rfl (by show x.val = 2 * 128 + (x.val - 128 - 128); omega)
      · exact key f3 3 _ rfl (by show x.val = 3 * 128 + (x.val - 128 - 128 - 128); omega)

theorem pay17_apply (v16 : FVec Ideal S512x1024 .bf16) (v64 v82 v108 : FVec Ideal S512x128 .f32) (n : IVec S512x128 32) (L : ℕ → FVec Ideal S512x128 .f32) (w : FVec Ideal S1x128x128 .bf16)
    (x7 : FVec Ideal S1x512 .f32) (x8 : FVec Ideal S512x1024 .bf16) (x5 : FVec Ideal S1024x2048 .bf16) (r : Fin 512) (k : Fin 1024) (t : BitVec 32)
    (p : Fin 128 → ℕ → EReal) (hn : ∀ e, n (ix2 r e) = t) (hL : ∀ j e, L j (ix2 r e) = p e (16 + r.val - j)) :
    k0_pay17 (F := Ideal) v16 n v64 v82 v108 (L 0) (k0_pay14 (F := Ideal) (L 0) (L 1) (L 2) (L 3) (L 4) (L 5) (L 6) (L 7) (L 8) (L 9) (L 10) (L 11) (L 12)) (L 13) (L 14) (L 15) w x7 x8 x5 (ix2 r k) =
      k0_pay16 (F := Ideal) v16 x5 (ix2 r ⟨k.val, by omega⟩) * ∑ c : Fin 512, (![fun d => v64 (ix2 r d), fun d => v82 (ix2 r d), fun d => v108 (ix2 r d),
        fun d => ∑ e, pooled (p e) 16 (nTok t 16#32) (16 + r.val) * w (ix3 0 e d)] : Fin 4 → Fin 128 → EReal) (grp c) (lane c) * x7 (ix2 0 c) * x8 (ix2 c k) := by
  simp only [← cat4]
  unfold pooled trail nTok
  pointwise [k0_pay17, k0_pay14]
  simp only [hn, hL, Finset.sum_range_succ, Finset.sum_range_zero, zero_add]
  rfl

/-- Row `q` of the 528 rows whose pooling channels a grid point keeps: sixteen from the block before, then its own block's. -/
def src (x0 : FVec Ideal S1x512x1024 .f32) (x1 : FVec Ideal S1x16x1024 .f32) (q : Fin 528) (k : Fin 1024) : EReal :=
  if h : q.val < 16 then x1 (ix3 0 ⟨q.val, h⟩ k) else x0 (ix3 0 ⟨q.val - 16, by omega⟩ k)

/-- Pooling channel `f` of row `q` as the grid point keeps it: zero in the first sixteen rows of a sequence's first point. -/
def bufT (i : grid0.Coords) (x0 : FVec Ideal S1x512x1024 .f32) (x1 : FVec Ideal S1x16x1024 .f32) (x3 : FVec Ideal S1x1024 .f32) (x4 : FVec Ideal S1024x512 .bf16) (f : Fin 512) (q : ℕ) : EReal :=
  if h : q < 528 then (if q < 16 ∧ (i 1).val = 0 then 0 else up (src x0 x1 ⟨q, h⟩) (fun k => x3 (ix2 0 k)) (fun k => x4 (ix2 k f))) else 0

theorem uV_apply (i : grid0.Coords) (x0 : FVec Ideal S1x512x1024 .f32) (x1 : FVec Ideal S1x16x1024 .f32) (x3 : FVec Ideal S1x1024 .f32) (x4 : FVec Ideal S1024x512 .bf16) (q : Fin 528) (f : Fin 512) :
    uV i x0 x1 x3 x4 (ix2 q f) = bufT i x0 x1 x3 x4 f q.val := by
  unfold uV bufT
  refine (canon_rows _ _ _ _ q f).trans ?_
  rw [dif_pos q.isLt]
  by_cases h : q.val < 16
  · rw [dif_pos h, pay6_apply]
    by_cases hi : (i 1).val = 0
    · rw [if_pos hi, if_pos ⟨h, hi⟩]
    · rw [if_neg hi, if_neg (fun h => hi h.2)]
      have : src x0 x1 ⟨q.val, q.isLt⟩ = fun k => x1 (ix3 0 ⟨q.val, h⟩ k) := funext fun k => dif_pos h
      rw [this]
  · rw [dif_neg h, pay7_apply, if_neg (fun h' => h h'.1)]
    have : src x0 x1 ⟨q.val, q.isLt⟩ = fun k => x0 (ix3 0 ⟨q.val - 16, by omega⟩ k) := funext fun k => dif_neg h
    rw [this]
    unfold up
    exact Finset.sum_congr rfl fun k _ => by rw [pay4_apply]

/-- Group `g` of the kept channels, the rows `j` before those of the block. -/
def shiftV (u : FVec Ideal S528x512 .f32) (g : Fin 4) (j : ℕ) : FVec Ideal S512x128 .f32 :=
  fun x => u (ix2 (⟨16 + (x 0).val - j, by have : (x 0).val < 512 := (x 0).isLt; omega⟩ : Fin 528) (⟨g.val * 128 + (x 1).val, by have : (x 1).val < 128 := (x 1).isLt; omega⟩ : Fin 512))

theorem ld_shift (u : FVec Ideal S528x512 .f32) (o c : ℕ) (inb) (g : Fin 4) (j : ℕ) (ho : o + j = 16) (hc : c = g.val * 128) :
    View.ld (Val := Elt Ideal) (S := S528x512) (e' := .f32) u (Rect.unit (s := S528x512) ![o, c] ![512, 128] inb) = shiftV u g j := by
  funext x
  obtain ⟨r, e, rfl⟩ : ∃ (r : Fin 512) (e : Fin 128), x = ix2 r e := ⟨x 0, x 1, eq_ix2 x⟩
  refine View.ld_unit_apply_of _ _ _ _ _ _ fun a => ?_
  fin_cases a
  · show 16 + r.val - j = o + r.val
    omega
  · show g.val * 128 + e.val = c + e.val
    omega

theorem ld_w (x6 : FVec Ideal S4x128x128 .bf16) (g : Fin 4) (o : ℕ) (ho : o = g.val) (inb) (e d : Fin 128) :
    View.ld (Val := Elt Ideal) (S := S4x128x128) (e' := .bf16) x6 (Rect.unit (s := S4x128x128) ![o, 0, 0] ![1, 128, 128] inb) (ix3 (0 : Fin 1) e d) = x6 (ix3 g e d) :=
  View.ld_unit_apply_of _ _ _ _ _ _ fun a => by
    subst ho
    fin_cases a
    · rfl
    · exact (Nat.zero_add _).symm
    · exact (Nat.zero_add _).symm

theorem vec4 {f : Fin 4 → Fin 128 → EReal} (f0 f1 f2 f3 : Fin 128 → EReal) (h0 : ∀ d, f0 d = f 0 d) (h1 : ∀ d, f1 d = f 1 d) (h2 : ∀ d, f2 d = f 2 d) (h3 : ∀ d, f3 d = f 3 d) (g : Fin 4) (d : Fin 128) :
    (![f0, f1, f2, f3] : Fin 4 → Fin 128 → EReal) g d = f g d := by
  fin_cases g
  · exact h0 d
  · exact h1 d
  · exact h2 d
  · exact h3 d

/-- A grid point's result at row `r`, entry `n` of its block: the mixer's last steps at the row's pooled channels. -/
theorem out_apply (c : Dev nD) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x512x512 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1024x2048 .bf16) (harg7 : arg7.IsWhole) (arg8 : Memref sig .tc .vmem S4x128x128 .bf16) (harg8 : arg8.IsWhole) (arg9 : Memref sig .tc .vmem S1x512 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x1024 .bf16) (harg12 : arg12.IsWhole) (arg13 : Memref sig .tc .vmem S1x512x1024 .f32) (harg13 : arg13.IsWhole) (arg14 : Memref sig .tc .vmem S528x512 .f32) (harg14 : arg14.IsWhole)
    (x0 : Vec Ideal S1x512x1024 .f32) (x1 : Vec Ideal S1x16x1024 .f32) (x2 : Vec Ideal S1x512x512 .bf16) (x3 : Vec Ideal S1x1024 .f32) (x4 : Vec Ideal S1024x512 .bf16) (x5 : Vec Ideal S1024x2048 .bf16) (x6 : Vec Ideal S4x128x128 .bf16) (x7 : Vec Ideal S1x512 .f32) (x8 : Vec Ideal S512x1024 .bf16) (x9 : Vec Ideal S512x1024 .bf16) (x10 : Vec Ideal S1024x1024 .bf16) (r : Fin 512) (n : Fin 1024) :
    out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 (ix3 0 r n) =
      merge (fun k => x0 (ix3 0 r k)) (fun c => x2 (ix3 0 r c)) (fun j => Ideal.logistic (up (fun k => x0 (ix3 0 r k)) (fun k => x3 (ix2 0 k)) (fun k => x5 (ix2 k j))))
        (fun c => (∑ e : Fin 128, pooled (bufT i x0 x1 x3 x4 ⟨(grp c).val * 128 + e.val, by omega⟩) (win (grp c))
          (nTok (BitVec.ofNat 32 (i 1).val * 512#32 + BitVec.ofNat 32 r.val) (BitVec.ofNat 32 (win (grp c)))) (16 + r.val) * x6 (ix3 (grp c) e (lane c))) * x7 (ix2 0 c))
        (fun c k => x8 (ix2 c k)) (fun c k => x9 (ix2 c k)) (fun j k => x10 (ix2 j k)) n := by
  rw [out_eq]
  simp only [ld_shift _ 16 0 _ 0 0 rfl rfl, ld_shift _ 15 0 _ 0 1 rfl rfl, ld_shift _ 16 128 _ 1 0 rfl rfl, ld_shift _ 15 128 _ 1 1 rfl rfl, ld_shift _ 14 128 _ 1 2 rfl rfl, ld_shift _ 13 128 _ 1 3 rfl rfl, ld_shift _ 16 256 _ 2 0 rfl rfl, ld_shift _ 15 256 _ 2 1 rfl rfl, ld_shift _ 14 256 _ 2 2 rfl rfl, ld_shift _ 13 256 _ 2 3 rfl rfl, ld_shift _ 12 256 _ 2 4 rfl rfl, ld_shift _ 11 256 _ 2 5 rfl rfl, ld_shift _ 10 256 _ 2 6 rfl rfl, ld_shift _ 9 256 _ 2 7 rfl rfl, ld_shift _ 16 384 _ 3 0 rfl rfl, ld_shift _ 15 384 _ 3 1 rfl rfl, ld_shift _ 14 384 _ 3 2 rfl rfl, ld_shift _ 13 384 _ 3 3 rfl rfl, ld_shift _ 12 384 _ 3 4 rfl rfl, ld_shift _ 11 384 _ 3 5 rfl rfl, ld_shift _ 10 384 _ 3 6 rfl rfl, ld_shift _ 9 384 _ 3 7 rfl rfl, ld_shift _ 8 384 _ 3 8 rfl rfl, ld_shift _ 7 384 _ 3 9 rfl rfl, ld_shift _ 6 384 _ 3 10 rfl rfl, ld_shift _ 5 384 _ 3 11 rfl rfl, ld_shift _ 4 384 _ 3 12 rfl rfl, ld_shift _ 3 384 _ 3 13 rfl rfl, ld_shift _ 2 384 _ 3 14 rfl rfl, ld_shift _ 1 384 _ 3 15 rfl rfl]
  have hL : ∀ (g : Fin 4) (j : ℕ) (e : Fin 128), shiftV (uV i x0 x1 x3 x4) g j (ix2 r e) = bufT i x0 x1 x3 x4 ⟨g.val * 128 + e.val, by omega⟩ (16 + r.val - j) := fun g j e =>
    uV_apply i x0 x1 x3 x4 ⟨16 + r.val - j, by omega⟩ _
  have hn : ∀ e, k0_pay8 (BitVec.ofNat 32 (i 1).val) (ix2 r e) = BitVec.ofNat 32 (i 1).val * 512#32 + BitVec.ofNat 32 r.val := fun e => pay8_apply _ r e
  have hg : ∀ j : Fin 2048, k0_pay16 (F := Ideal) (k0_pay4 (F := Ideal) x3 x0) x5 (ix2 r j) = Ideal.logistic (up (fun k => x0 (ix3 0 r k)) (fun k => x3 (ix2 0 k)) (fun k => x5 (ix2 k j))) := fun j => by
    rw [pay16_apply]
    unfold up
    exact congrArg Ideal.logistic (Finset.sum_congr rfl fun k _ => by rw [pay4_apply])
  have h3 : k0_pay3 (F := Ideal) x0 (ix2 r n) = x0 (ix3 0 r n) := by pointwise [k0_pay3]
  rw [pay1_apply, h3]
  unfold merge
  refine congrArg _ (Finset.sum_congr rfl fun j _ => ?_)
  rw [pay17_apply _ _ _ _ _ (shiftV (uV i x0 x1 x3 x4) 3) _ _ _ _ r j _ _ hn (hL 3), pay15_apply, hg, hg]
  refine congrArg (fun a : EReal => a * x10 (ix2 j n)) (congrArg₂ (· + ·) (congrArg₂ (· * ·) rfl (Finset.sum_congr rfl fun c _ => congrArg (fun a : EReal => a * x7 (ix2 0 c) * x8 (ix2 c j)) ?_)) rfl)
  refine vec4 (f := fun g d => ∑ e : Fin 128, pooled (bufT i x0 x1 x3 x4 ⟨g.val * 128 + e.val, by omega⟩) (win g)
    (nTok (BitVec.ofNat 32 (i 1).val * 512#32 + BitVec.ofNat 32 r.val) (BitVec.ofNat 32 (win g))) (16 + r.val) * x6 (ix3 g e d)) _ _ _ _ ?_ ?_ ?_ ?_ _ _ <;> intro d
  · exact (pay9_apply _ (shiftV (uV i x0 x1 x3 x4) 0) _ r d _ _ hn (hL 0)).trans (Finset.sum_congr rfl fun e _ => congrArg _ (ld_w x6 0 0 rfl _ e d))
  · exact (pay11_apply _ (shiftV (uV i x0 x1 x3 x4) 1) _ r d _ _ hn (hL 1)).trans (Finset.sum_congr rfl fun e _ => congrArg _ (ld_w x6 1 1 rfl _ e d))
  · exact (pay13_apply _ (shiftV (uV i x0 x1 x3 x4) 2) _ r d _ _ hn (hL 2)).trans (Finset.sum_congr rfl fun e _ => congrArg _ (ld_w x6 2 2 rfl _ e d))
  · exact Finset.sum_congr rfl fun e _ => congrArg _ (ld_w x6 3 3 rfl _ e d)

end Cert.MixerIdeal.RefValue

end

end
-- ==== Proof.MixVal.lean ====
/- The mixer's output array is the formula of the program's arguments: each grid point's block at its coordinates, the host's casts, slices and reshapes read, the rows of the block before. -/
module

public import proofs.«01_k».proof.Proof.MixBlock
public import Idealize.ShloMosaic.Lib.Pipeline.ValueKit

@[expose] public section

set_option maxRecDepth 16384

noncomputable section

namespace Cert.MixerIdeal.RefValue

open Cert.MixerIdeal Cert.MixerIdeal.Gen Cert.MixerIdeal.Value Cert.FfnSpec Cert.MixSpec Idealize.ShloMosaic Idealize.ShloMosaic.TcCoe Idealize.SL.Sem
open Idealize.ShloMosaic.Pipeline (Dat)

/-- The channels that point `i` of a sequence keeps are the sequence's with fifteen zeros before it: row `q` of the point's buffer, from the first on, is place `512 i + q - 1` of them. -/
theorem bufT_eq (i : grid0.Coords) (x0 : FVec Ideal S1x512x1024 .f32) (x1 : FVec Ideal S1x16x1024 .f32) (x3 : FVec Ideal S1x1024 .f32) (x4 : FVec Ideal S1024x512 .bf16)
    (hi : (i 1).val < 16) (H : Fin 8192 → Fin 1024 → EReal) (h0 : ∀ (r : Fin 512) (k : Fin 1024), x0 (ix3 0 r k) = H ⟨512 * (i 1).val + r.val, by omega⟩ k)
    (h1 : ∀ (q : Fin 16) (k : Fin 1024), 0 < (i 1).val → x1 (ix3 0 q k) = H ⟨512 * (i 1).val - 16 + q.val, by omega⟩ k) (f : Fin 512) (q : ℕ) (hq : 1 ≤ q) (hq' : q < 528) :
    bufT i x0 x1 x3 x4 f q = past (fun t => up (H t) (fun k => x3 (ix2 0 k)) (fun k => x4 (ix2 k f))) (512 * (i 1).val + q - 1) := by
  unfold bufT past
  rw [dif_pos hq']
  by_cases h : q < 16 ∧ (i 1).val = 0
  · rw [if_pos h, dif_neg]
    have := h.2
    omega
  · rw [if_neg h, dif_pos (by omega)]
    refine congrArg (fun x => up x _ _) (funext fun k => ?_)
    unfold src
    by_cases hs : q < 16
    · have hpos : 0 < (i 1).val := Nat.pos_of_ne_zero fun h' => h ⟨hs, h'⟩
      rw [dif_pos hs, h1 _ _ hpos]
      exact congrArg (fun t => H t k) (Fin.ext (by show 512 * (i 1).val - 16 + q = 512 * (i 1).val + q - 1 - 15; omega))
    · rw [dif_neg hs, h0]
      exact congrArg (fun t => H t k) (Fin.ext (by show 512 * (i 1).val + (q - 16) = 512 * (i 1).val + q - 1 - 15; omega))

/-- A pooled number depends only on the `w` numbers up to its place. -/
theorem pooled_congr {p p' : ℕ → EReal} {w : ℕ} {n n' : EReal} {s s' : ℕ} (hw : 0 < w) (h : ∀ j, j < w → p (s - j) = p' (s' - j)) (hn : n = n') : pooled p w n s = pooled p' w n' s' := by
  unfold pooled trail
  have h0 : p s = p' s' := h 0 hw
  rw [hn, h0, Finset.sum_congr rfl fun j hj => h j (Finset.mem_range.mp hj)]

theorem win_le (g : Fin 4) : 0 < win g ∧ win g ≤ 16 := by
  fin_cases g <;> decide

theorem place (i r : ℕ) (hi : i < 16) (hr : r < 512) : BitVec.ofNat 32 i * 512#32 + BitVec.ofNat 32 r = BitVec.ofNat 32 (512 * i + r) := by
  apply BitVec.eq_of_toNat_eq
  simp only [BitVec.toNat_add, BitVec.toNat_mul, BitVec.toNat_ofNat]
  omega

variable (m : (ℓ : Loc nD τ sig) → Buf (Elt Ideal) ℓ) (c : Dev nD)

theorem readV2 (x : FVec Ideal S1x1024 .f32) (k : Fin 1024) : (shapeCast S1x1024 (shapeCast S1024 x shapeCasts_S1x1024_S1024) shapeCasts_S1024_S1x1024 : FVec Ideal S1x1024 .f32) (ix2 0 k) = x (ix2 0 k) := by
  pointwise

/-- The host's array `v2` is an entry of argument 2. -/
theorem V2 (k : Fin 1024) : (V m c main_v2 : FVec Ideal S1x1024 .f32) (ix2 0 k) = (m ((c : Thread nD τ).loc main_arg2) : FVec Ideal S1x1024 .f32) (ix2 0 k) := by
  have e : (V m c main_v2 : FVec Ideal S1x1024 .f32) = shapeCast S1x1024 (shapeCast S1024 (m ((c : Thread nD τ).loc main_arg2) : FVec Ideal S1x1024 .f32) shapeCasts_S1x1024_S1024) shapeCasts_S1024_S1x1024 := by
    simp only [V, hostOps0]
    after_results_simp
    rfl
  rw [e]
  exact readV2 _ k

theorem readV4 (x : FVec Ideal S1x1024x4680 .f32) (k : Fin 1024) (f : Fin 512) : (truncf (F := Ideal) .bf16 (extractStridedSlice S1024x512 ![0, 0] (shapeCast S1024x4680 x shapeCasts_S1x1024x4680_S1024x4680) slices_S1024x4680_S1024x512_0_0) bitsLt_bf16_f32 : FVec Ideal S1024x512 .bf16) (ix2 k f) = x (ix3 0 k ⟨f.val, by omega⟩) := by
  pointwise

/-- The host's array `v4` is an entry of argument 3. -/
theorem V4 (k : Fin 1024) (f : Fin 512) : (V m c main_v4 : FVec Ideal S1024x512 .bf16) (ix2 k f) = (m ((c : Thread nD τ).loc main_arg3) : FVec Ideal S1x1024x4680 .f32) (ix3 0 k ⟨f.val, by omega⟩) := by
  have e : (V m c main_v4 : FVec Ideal S1024x512 .bf16) = truncf (F := Ideal) .bf16 (extractStridedSlice S1024x512 ![0, 0] (shapeCast S1024x4680 (m ((c : Thread nD τ).loc main_arg3) : FVec Ideal S1x1024x4680 .f32) shapeCasts_S1x1024x4680_S1024x4680) slices_S1024x4680_S1024x512_0_0) bitsLt_bf16_f32 := by
    simp only [V, hostOps0]
    after_results_simp
    rfl
  rw [e]
  exact readV4 _ k f

theorem readV6 (x : FVec Ideal S1x1024x4680 .f32) (k : Fin 1024) (f : Fin 2048) : (truncf (F := Ideal) .bf16 (extractStridedSlice S1024x2048 ![0, 2632] (shapeCast S1024x4680 x shapeCasts_S1x1024x4680_S1024x4680) slices_S1024x4680_S1024x2048_0_2632) bitsLt_bf16_f32 : FVec Ideal S1024x2048 .bf16) (ix2 k f) = x (ix3 0 k ⟨2632 + f.val, by omega⟩) := by
  pointwise

/-- The host's array `v6` is an entry of argument 3. -/
theorem V6 (k : Fin 1024) (f : Fin 2048) : (V m c main_v6 : FVec Ideal S1024x2048 .bf16) (ix2 k f) = (m ((c : Thread nD τ).loc main_arg3) : FVec Ideal S1x1024x4680 .f32) (ix3 0 k ⟨2632 + f.val, by omega⟩) := by
  have e : (V m c main_v6 : FVec Ideal S1024x2048 .bf16) = truncf (F := Ideal) .bf16 (extractStridedSlice S1024x2048 ![0, 2632] (shapeCast S1024x4680 (m ((c : Thread nD τ).loc main_arg3) : FVec Ideal S1x1024x4680 .f32) shapeCasts_S1x1024x4680_S1024x4680) slices_S1024x4680_S1024x2048_0_2632) bitsLt_bf16_f32 := by
    simp only [V, hostOps0]
    after_results_simp
    rfl
  rw [e]
  exact readV6 _ k f

theorem readV8 (x : FVec Ideal S1x4x128x128 .f32) (g : Fin 4) (a d : Fin 128) : (truncf (F := Ideal) .bf16 (shapeCast S4x128x128 x shapeCasts_S1x4x128x128_S4x128x128) bitsLt_bf16_f32 : FVec Ideal S4x128x128 .bf16) (ix3 g a d) = x (ix4 0 g a d) := by
  pointwise

/-- The host's array `v8` is an entry of argument 4. -/
theorem V8 (g : Fin 4) (a d : Fin 128) : (V m c main_v8 : FVec Ideal S4x128x128 .bf16) (ix3 g a d) = (m ((c : Thread nD τ).loc main_arg4) : FVec Ideal S1x4x128x128 .f32) (ix4 0 g a d) := by
  have e : (V m c main_v8 : FVec Ideal S4x128x128 .bf16) = truncf (F := Ideal) .bf16 (shapeCast S4x128x128 (m ((c : Thread nD τ).loc main_arg4) : FVec Ideal S1x4x128x128 .f32) shapeCasts_S1x4x128x128_S4x128x128) bitsLt_bf16_f32 := by
    simp only [V, hostOps0]
    after_results_simp
    rfl
  rw [e]
  exact readV8 _ g a d

theorem readV10 (x : FVec Ideal S1x512 .f32) (k : Fin 512) : (shapeCast S1x512 (shapeCast S512 x shapeCasts_S1x512_S512) shapeCasts_S512_S1x512 : FVec Ideal S1x512 .f32) (ix2 0 k) = x (ix2 0 k) := by
  pointwise

/-- The host's array `v10` is an entry of argument 5. -/
theorem V10 (k : Fin 512) : (V m c main_v10 : FVec Ideal S1x512 .f32) (ix2 0 k) = (m ((c : Thread nD τ).loc main_arg5) : FVec Ideal S1x512 .f32) (ix2 0 k) := by
  have e : (V m c main_v10 : FVec Ideal S1x512 .f32) = shapeCast S1x512 (shapeCast S512 (m ((c : Thread nD τ).loc main_arg5) : FVec Ideal S1x512 .f32) shapeCasts_S1x512_S512) shapeCasts_S512_S1x512 := by
    simp only [V, hostOps0]
    after_results_simp
    rfl
  rw [e]
  exact readV10 _ k

theorem readV12 (x : FVec Ideal S1x512x1024 .f32) (f : Fin 512) (k : Fin 1024) : (truncf (F := Ideal) .bf16 (shapeCast S512x1024 x shapeCasts_S1x512x1024_S512x1024) bitsLt_bf16_f32 : FVec Ideal S512x1024 .bf16) (ix2 f k) = x (ix3 0 f k) := by
  pointwise

/-- The host's array `v12` is an entry of argument 6. -/
theorem V12 (f : Fin 512) (k : Fin 1024) : (V m c main_v12 : FVec Ideal S512x1024 .bf16) (ix2 f k) = (m ((c : Thread nD τ).loc main_arg6) : FVec Ideal S1x512x1024 .f32) (ix3 0 f k) := by
  have e : (V m c main_v12 : FVec Ideal S512x1024 .bf16) = truncf (F := Ideal) .bf16 (shapeCast S512x1024 (m ((c : Thread nD τ).loc main_arg6) : FVec Ideal S1x512x1024 .f32) shapeCasts_S1x512x1024_S512x1024) bitsLt_bf16_f32 := by
    simp only [V, hostOps0]
    after_results_simp
    rfl
  rw [e]
  exact readV12 _ f k

theorem readV14 (x : FVec Ideal S1x512x1024 .f32) (f : Fin 512) (k : Fin 1024) : (truncf (F := Ideal) .bf16 (shapeCast S512x1024 x shapeCasts_S1x512x1024_S512x1024) bitsLt_bf16_f32 : FVec Ideal S512x1024 .bf16) (ix2 f k) = x (ix3 0 f k) := by
  pointwise

/-- The host's array `v14` is an entry of argument 7. -/
theorem V14 (f : Fin 512) (k : Fin 1024) : (V m c main_v14 : FVec Ideal S512x1024 .bf16) (ix2 f k) = (m ((c : Thread nD τ).loc main_arg7) : FVec Ideal S1x512x1024 .f32) (ix3 0 f k) := by
  have e : (V m c main_v14 : FVec Ideal S512x1024 .bf16) = truncf (F := Ideal) .bf16 (shapeCast S512x1024 (m ((c : Thread nD τ).loc main_arg7) : FVec Ideal S1x512x1024 .f32) shapeCasts_S1x512x1024_S512x1024) bitsLt_bf16_f32 := by
    simp only [V, hostOps0]
    after_results_simp
    rfl
  rw [e]
  exact readV14 _ f k

theorem readV16 (x : FVec Ideal S1x1024x1024 .f32) (f k : Fin 1024) : (truncf (F := Ideal) .bf16 (shapeCast S1024x1024 x shapeCasts_S1x1024x1024_S1024x1024) bitsLt_bf16_f32 : FVec Ideal S1024x1024 .bf16) (ix2 f k) = x (ix3 0 f k) := by
  pointwise

/-- The host's array `v16` is an entry of argument 8. -/
theorem V16 (f k : Fin 1024) : (V m c main_v16 : FVec Ideal S1024x1024 .bf16) (ix2 f k) = (m ((c : Thread nD τ).loc main_arg8) : FVec Ideal S1x1024x1024 .f32) (ix3 0 f k) := by
  have e : (V m c main_v16 : FVec Ideal S1024x1024 .bf16) = truncf (F := Ideal) .bf16 (shapeCast S1024x1024 (m ((c : Thread nD τ).loc main_arg8) : FVec Ideal S1x1024x1024 .f32) shapeCasts_S1x1024x1024_S1024x1024) bitsLt_bf16_f32 := by
    simp only [V, hostOps0]
    after_results_simp
    rfl
  rw [e]
  exact readV16 _ f k

theorem idx0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])
theorem idx1 : ∀ t : Fin cfg0.N, win0_1.index t = ![(grid0.coords t 0).val, 32 * (grid0.coords t 1).val - 1, 0] :=
  (by decide +kernel : ∀ t : Fin grid0.N, win0_1.index t = ![(grid0.coords t 0).val, 32 * (grid0.coords t 1).val - 1, 0])
theorem idx2 : ∀ t : Fin cfg0.N, win0_2.index t = ![(grid0.coords t 0).val, (grid0.coords t 1).val, 0] :=
  (by decide +kernel : ∀ t : Fin grid0.N, win0_2.index t = ![(grid0.coords t 0).val, (grid0.coords t 1).val, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0, 0] :=
  (by decide +kernel : ∀ t : Fin grid0.N, win0_6.index t = ![0, 0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![(grid0.coords t 0).val, (grid0.coords t 1).val, 0] :=
  (by decide +kernel : ∀ t : Fin grid0.N, win0_11.index t = ![(grid0.coords t 0).val, (grid0.coords t 1).val, 0])

theorem lt16 (t : Fin cfg0.N) : (grid0.coords t 1).val < 16 := (grid0.coords t 1).isLt
theorem lt2 (t : Fin cfg0.N) : (grid0.coords t 0).val < 2 := (grid0.coords t 0).isLt

/-- The first argument at batch `b`, token `s`, entry `k`. -/
def H (b : Fin 2) (s : Fin 8192) (k : Fin 1024) : EReal := (m ((c : Thread nD τ).loc main_arg0) : FVec Ideal S2x8192x1024 .f32) (ix3 b s k)

theorem blk0 (t : Fin cfg0.N) (r : Fin 512) (k : Fin 1024) : (iblk m c 0 t : FVec Ideal S1x512x1024 .f32) (ix3 0 r k) =
    H m c ⟨(grid0.coords t 0).val, lt2 t⟩ ⟨512 * (grid0.coords t 1).val + r.val, by have := lt16 t; omega⟩ k := by
  unfold H
  rw [← V_main_arg0 m c]
  blk_simp [iblk]
  refine congrArg (V m c main_arg0) ?_
  blk_ext [idx0]

theorem blk1 (t : Fin cfg0.N) (q : Fin 16) (k : Fin 1024) (hi : 0 < (grid0.coords t 1).val) : (iblk m c 1 t : FVec Ideal S1x16x1024 .f32) (ix3 0 q k) =
    H m c ⟨(grid0.coords t 0).val, lt2 t⟩ ⟨512 * (grid0.coords t 1).val - 16 + q.val, by have := lt16 t; omega⟩ k := by
  unfold H
  rw [← V_main_arg0 m c]
  blk_simp [iblk]
  refine congrArg (V m c main_arg0) ?_
  blk_ext [idx1]

theorem blk2 (t : Fin cfg0.N) (r : Fin 512) (k : Fin 512) : (iblk m c 2 t : FVec Ideal S1x512x512 .bf16) (ix3 0 r k) =
    (m ((c : Thread nD τ).loc main_arg1) : FVec Ideal S2x8192x512 .bf16) (ix3 (⟨(grid0.coords t 0).val, lt2 t⟩ : Fin 2) (⟨512 * (grid0.coords t 1).val + r.val, by have := lt16 t; omega⟩ : Fin 8192) k) := by
  rw [← V_main_arg1 m c]
  blk_simp [iblk]
  refine congrArg (V m c main_arg1) ?_
  blk_ext [idx2]

theorem blk3 (t : Fin cfg0.N) (k : Fin 1024) : (iblk m c 3 t : FVec Ideal S1x1024 .f32) (ix2 0 k) = (m ((c : Thread nD τ).loc main_arg2) : FVec Ideal S1x1024 .f32) (ix2 0 k) := by
  refine Eq.trans ?_ (V2 m c k)
  blk_simp [iblk]
  refine congrArg (V m c main_v2) ?_
  blk_ext [idx3]

theorem blk4 (t : Fin cfg0.N) (k : Fin 1024) (f : Fin 512) : (iblk m c 4 t : FVec Ideal S1024x512 .bf16) (ix2 k f) = (m ((c : Thread nD τ).loc main_arg3) : FVec Ideal S1x1024x4680 .f32) (ix3 0 k ⟨f.val, by omega⟩) := by
  refine Eq.trans ?_ (V4 m c k f)
  blk_simp [iblk]
  refine congrArg (V m c main_v4) ?_
  blk_ext [idx4]

theorem blk5 (t : Fin cfg0.N) (k : Fin 1024) (f : Fin 2048) : (iblk m c 5 t : FVec Ideal S1024x2048 .bf16) (ix2 k f) = (m ((c : Thread nD τ).loc main_arg3) : FVec Ideal S1x1024x4680 .f32) (ix3 0 k ⟨2632 + f.val, by omega⟩) := by
  refine Eq.trans ?_ (V6 m c k f)
  blk_simp [iblk]
  refine congrArg (V m c main_v6) ?_
  blk_ext [idx5]

theorem blk6 (t : Fin cfg0.N) (g : Fin 4) (a d : Fin 128) : (iblk m c 6 t : FVec Ideal S4x128x128 .bf16) (ix3 g a d) = (m ((c : Thread nD τ).loc main_arg4) : FVec Ideal S1x4x128x128 .f32) (ix4 0 g a d) := by
  refine Eq.trans ?_ (V8 m c g a d)
  blk_simp [iblk]
  refine congrArg (V m c main_v8) ?_
  blk_ext [idx6]

theorem blk7 (t : Fin cfg0.N) (k : Fin 512) : (iblk m c 7 t : FVec Ideal S1x512 .f32) (ix2 0 k) = (m ((c : Thread nD τ).loc main_arg5) : FVec Ideal S1x512 .f32) (ix2 0 k) := by
  refine Eq.trans ?_ (V10 m c k)
  blk_simp [iblk]
  refine congrArg (V m c main_v10) ?_
  blk_ext [idx7]

theorem blk8 (t : Fin cfg0.N) (f : Fin 512) (k : Fin 1024) : (iblk m c 8 t : FVec Ideal S512x1024 .bf16) (ix2 f k) = (m ((c : Thread nD τ).loc main_arg6) : FVec Ideal S1x512x1024 .f32) (ix3 0 f k) := by
  refine Eq.trans ?_ (V12 m c f k)
  blk_simp [iblk]
  refine congrArg (V m c main_v12) ?_
  blk_ext [idx8]

theorem blk9 (t : Fin cfg0.N) (f : Fin 512) (k : Fin 1024) : (iblk m c 9 t : FVec Ideal S512x1024 .bf16) (ix2 f k) = (m ((c : Thread nD τ).loc main_arg7) : FVec Ideal S1x512x1024 .f32) (ix3 0 f k) := by
  refine Eq.trans ?_ (V14 m c f k)
  blk_simp [iblk]
  refine congrArg (V m c main_v14) ?_
  blk_ext [idx9]

theorem blk10 (t : Fin cfg0.N) (f k : Fin 1024) : (iblk m c 10 t : FVec Ideal S1024x1024 .bf16) (ix2 f k) = (m ((c : Thread nD τ).loc main_arg8) : FVec Ideal S1x1024x1024 .f32) (ix3 0 f k) := by
  refine Eq.trans ?_ (V16 m c f k)
  blk_simp [iblk]
  refine congrArg (V m c main_v16) ?_
  blk_ext [idx10]

/-- The formula, of the program's arguments. -/
def G (b : Fin 2) (s : Fin 8192) (n : Fin 1024) : EReal :=
  mixRow (H m c b) (fun k => (m ((c : Thread nD τ).loc main_arg1) : FVec Ideal S2x8192x512 .bf16) (ix3 b s k))
    (fun k => (m ((c : Thread nD τ).loc main_arg2) : FVec Ideal S1x1024 .f32) (ix2 0 k))
    (fun k f => (m ((c : Thread nD τ).loc main_arg3) : FVec Ideal S1x1024x4680 .f32) (ix3 0 k ⟨f.val, by omega⟩))
    (fun k f => (m ((c : Thread nD τ).loc main_arg3) : FVec Ideal S1x1024x4680 .f32) (ix3 0 k ⟨2632 + f.val, by omega⟩))
    (fun g e d => (m ((c : Thread nD τ).loc main_arg4) : FVec Ideal S1x4x128x128 .f32) (ix4 0 g e d))
    (fun k => (m ((c : Thread nD τ).loc main_arg5) : FVec Ideal S1x512 .f32) (ix2 0 k))
    (fun f k => (m ((c : Thread nD τ).loc main_arg6) : FVec Ideal S1x512x1024 .f32) (ix3 0 f k))
    (fun f k => (m ((c : Thread nD τ).loc main_arg7) : FVec Ideal S1x512x1024 .f32) (ix3 0 f k))
    (fun f k => (m ((c : Thread nD τ).loc main_arg8) : FVec Ideal S1x1024x1024 .f32) (ix3 0 f k)) s n

/-- What grid point `t` writes back at row `r`, entry `n` of its block. -/
theorem point (t : Fin cfg0.N) (r : Fin 512) (n : Fin 1024) : outsAt0 m c t (ix3 0 r n) =
    G m c ⟨(grid0.coords t 0).val, lt2 t⟩ ⟨512 * (grid0.coords t 1).val + r.val, by have := lt16 t; omega⟩ n := by
  unfold outsAt0
  refine (out_apply ..).trans ?_
  unfold G mixRow
  have e0 : (fun k => (iblk m c 0 t : FVec Ideal S1x512x1024 .f32) (ix3 0 r k)) = H m c ⟨(grid0.coords t 0).val, lt2 t⟩ ⟨512 * (grid0.coords t 1).val + r.val, by have := lt16 t; omega⟩ :=
    funext fun k => blk0 m c t r k
  have e2 : (fun k => (iblk m c 2 t : FVec Ideal S1x512x512 .bf16) (ix3 0 r k)) = fun k => (m ((c : Thread nD τ).loc main_arg1) : FVec Ideal S2x8192x512 .bf16) (ix3 (⟨(grid0.coords t 0).val, lt2 t⟩ : Fin 2) (⟨512 * (grid0.coords t 1).val + r.val, by have := lt16 t; omega⟩ : Fin 8192) k) :=
    funext fun k => blk2 m c t r k
  have e3 : (fun k => (iblk m c 3 t : FVec Ideal S1x1024 .f32) (ix2 0 k)) = (fun k => (m ((c : Thread nD τ).loc main_arg2) : FVec Ideal S1x1024 .f32) (ix2 0 k)) :=
    funext fun k => blk3 m c t k
  have e5 : ∀ j : Fin 2048, (fun k => (iblk m c 5 t : FVec Ideal S1024x2048 .bf16) (ix2 k j)) = (fun k => (m ((c : Thread nD τ).loc main_arg3) : FVec Ideal S1x1024x4680 .f32) (ix3 0 k ⟨2632 + j.val, by omega⟩)) := fun j =>
    funext fun k => blk5 m c t k j
  have e4 : ∀ j : Fin 512, (fun k => (iblk m c 4 t : FVec Ideal S1024x512 .bf16) (ix2 k j)) = (fun k => (m ((c : Thread nD τ).loc main_arg3) : FVec Ideal S1x1024x4680 .f32) (ix3 0 k ⟨j.val, by omega⟩)) := fun j =>
    funext fun k => blk4 m c t k j
  refine merge_congr e0 e2 (fun j => ?_) (fun ch => ?_) (funext fun f => funext fun k => blk8 m c t f k) (funext fun f => funext fun k => blk9 m c t f k) (funext fun f => funext fun k => blk10 m c t f k) n
  · exact congrArg Ideal.logistic (up_congr e0 e3 (e5 j))
  · refine congrArg₂ (· * ·) (Finset.sum_congr rfl fun e _ => congrArg₂ (· * ·) ?_ (blk6 m c t (grp ch) e (lane ch))) (blk7 m c t ch)
    unfold poolCh
    have hr := r.isLt
    have hw := win_le (grp ch)
    refine pooled_congr hw.1 (fun j hj => ?_) (congrArg (fun a => nTok a _) (place _ _ (lt16 t) r.isLt))
    refine (bufT_eq (grid0.coords t) _ _ _ _ (lt16 t) (H m c ⟨(grid0.coords t 0).val, lt2 t⟩) (blk0 m c t) (blk1 m c t) _ _ (by omega) (by omega)).trans ?_
    have ej : 512 * (grid0.coords t 1).val + (16 + r.val - j) - 1 = 15 + (512 * (grid0.coords t 1).val + r.val) - j := by omega
    rw [ej]
    exact congrArg (fun u => past u _) (funext fun s => up_congr rfl e3 (e4 _))

/-- The output array after the run. -/
theorem final : (dats m 0 c).arrAt 11 cfg0.N = (fun j => G m c (j 0) (j 1) (j 2) : FVec Ideal S2x8192x1024 .f32) := by
  refine (dats m 0 c).arrAt_eq_of_covers 11 _ (by decide +kernel) fun t hf y => ?_
  blk_simp
  rw [after0_11]
  obtain ⟨z, r, n, rfl⟩ : ∃ (z : Fin 1) (r : Fin 512) (n : Fin 1024), y = ix3 z r n := ⟨y 0, y 1, y 2, eq_ix3 y⟩
  obtain rfl : z = 0 := Subsingleton.elim _ _
  refine (point m c t r n).trans ?_
  have a : (win0_11.blk t).view.emb (ix3 0 r n) = ix3 (⟨(grid0.coords t 0).val, lt2 t⟩ : Fin 2) (⟨512 * (grid0.coords t 1).val + r.val, by have := lt16 t; omega⟩ : Fin 8192) n := by
    blk_ext [idx11]
  rw [a]
  rfl

end Cert.MixerIdeal.RefValue

end

end
-- ==== Proof.MixRef.lean ====
/- What the mixer's reference computes: its composed term cut into the steps of the layer, each read at an index, and the formula they make. -/
module

public import proofs.«01_k».proof.Proof.Gen.MixerReferenceIdeal.Run
public import proofs.«01_k».proof.Proof.MixSpec

@[expose] public section

set_option maxRecDepth 16384

noncomputable section

namespace Cert.MixerReferenceIdeal.RefValue

open Cert.MixerReferenceIdeal Cert.MixerReferenceIdeal.Gen Cert.MixerReferenceIdeal.Value Idealize.ShloMosaic Idealize.ShloMosaic.TcCoe Idealize.SL.Sem Idealize.ShloMosaic.StableHlo

/-- The reference's projection of the normalised rows. -/
def projT (x : FVec Ideal S2x8192x1024 .f32) (g : FVec Ideal S1x1024 .f32) (w : FVec Ideal S1x1024x4680 .f32) : FVec Ideal S2x8192x4680 .f32 :=
  Host.dotGeneral dot_S2x8192x1024_S1024x4680_S2x8192x4680_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (shapeCast _ w shapeCasts_S1x1024x4680_S1024x4680)

/-- The reference's pooling channels, in four groups. -/
def grpT (p : FVec Ideal S2x8192x4680 .f32) : FVec Ideal S2x8192x4x128 .f32 :=
  shapeCast _ (extractStridedSlice S2x8192x512 ![0, 0, 0] p slices_S2x8192x4680_S2x8192x512_0_0_0) shapeCasts_S2x8192x512_S2x8192x4x128

/-- The reference's gates. -/
def gatesT (p : FVec Ideal S2x8192x4680 .f32) : FVec Ideal S2x8192x2048 .f32 :=
  Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf (extractStridedSlice S2x8192x2048 ![0, 0, 2632] p slices_S2x8192x4680_S2x8192x2048_0_0_2632))))

/-- The reference's pooling channels with fifteen rows of zeros put before each sequence. -/
def padT (u : FVec Ideal S2x8192x4x128 .f32) : FVec Ideal S2x8207x4x128 .f32 :=
  pad S2x8207x4x128 ![0, 15, 0, 0] ![0, 0, 0, 0] ![0, 0, 0, 0] u (sitofp .f32 (constantI S_ 32 0#32)) pads_S2x8192x4x128_S2x8207x4x128_000_1500_000_000 h_S_

/-- The reference's trailing mean of group 0, less the token itself. -/
def pool0T (p : FVec Ideal S2x8207x4x128 .f32) (u : FVec Ideal S2x8192x4x128 .f32) : FVec Ideal S2x8192x128 .f32 :=
  subf (Host.divf (addf (addf (broadcastInDim S2x8192x128 ![] bcast_S_S2x8192x128 (constant S_ .f32 0x00000000#32)) (shapeCast _ (extractStridedSlice S2x8192x1x128 ![0, 15, 0, 0] p slices_S2x8207x4x128_S2x8192x1x128_0_15_0_0) shapeCasts_S2x8192x1x128_S2x8192x128)) (shapeCast _ (extractStridedSlice S2x8192x1x128 ![0, 14, 0, 0] p slices_S2x8207x4x128_S2x8192x1x128_0_14_0_0) shapeCasts_S2x8192x1x128_S2x8192x128)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 2#32))))))) (shapeCast _ (extractStridedSlice S2x8192x1x128 ![0, 0, 0, 0] u slices_S2x8192x4x128_S2x8192x1x128_0_0_0_0) shapeCasts_S2x8192x1x128_S2x8192x128)

/-- The reference's trailing mean of group 1, less the token itself. -/
def pool1T (p : FVec Ideal S2x8207x4x128 .f32) (u : FVec Ideal S2x8192x4x128 .f32) : FVec Ideal S2x8192x128 .f32 :=
  subf (Host.divf (addf (addf (addf (addf (broadcastInDim S2x8192x128 ![] bcast_S_S2x8192x128 (constant S_ .f32 0x00000000#32)) (shapeCast _ (extractStridedSlice S2x8192x1x128 ![0, 15, 1, 0] p slices_S2x8207x4x128_S2x8192x1x128_0_15_1_0) shapeCasts_S2x8192x1x128_S2x8192x128)) (shapeCast _ (extractStridedSlice S2x8192x1x128 ![0, 14, 1, 0] p slices_S2x8207x4x128_S2x8192x1x128_0_14_1_0) shapeCasts_S2x8192x1x128_S2x8192x128)) (shapeCast _ (extractStridedSlice S2x8192x1x128 ![0, 13, 1, 0] p slices_S2x8207x4x128_S2x8192x1x128_0_13_1_0) shapeCasts_S2x8192x1x128_S2x8192x128)) (shapeCast _ (extractStridedSlice S2x8192x1x128 ![0, 12, 1, 0] p slices_S2x8207x4x128_S2x8192x1x128_0_12_1_0) shapeCasts_S2x8192x1x128_S2x8192x128)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 4#32))))))) (shapeCast _ (extractStridedSlice S2x8192x1x128 ![0, 0, 1, 0] u slices_S2x8192x4x128_S2x8192x1x128_0_0_1_0) shapeCasts_S2x8192x1x128_S2x8192x128)

/-- The reference's trailing mean of group 2, less the token itself. -/
def pool2T (p : FVec Ideal S2x8207x4x128 .f32) (u : FVec Ideal S2x8192x4x128 .f32) : FVec Ideal S2x8192x128 .f32 :=
  subf (Host.divf (addf (addf (addf (addf (addf (addf (addf (addf (broadcastInDim S2x8192x128 ![] bcast_S_S2x8192x128 (constant S_ .f32 0x00000000#32)) (shapeCast _ (extractStridedSlice S2x8192x1x128 ![0, 15, 2, 0] p slices_S2x8207x4x128_S2x8192x1x128_0_15_2_0) shapeCasts_S2x8192x1x128_S2x8192x128)) (shapeCast _ (extractStridedSlice S2x8192x1x128 ![0, 14, 2, 0] p slices_S2x8207x4x128_S2x8192x1x128_0_14_2_0) shapeCasts_S2x8192x1x128_S2x8192x128)) (shapeCast _ (extractStridedSlice S2x8192x1x128 ![0, 13, 2, 0] p slices_S2x8207x4x128_S2x8192x1x128_0_13_2_0) shapeCasts_S2x8192x1x128_S2x8192x128)) (shapeCast _ (extractStridedSlice S2x8192x1x128 ![0, 12, 2, 0] p slices_S2x8207x4x128_S2x8192x1x128_0_12_2_0) shapeCasts_S2x8192x1x128_S2x8192x128)) (shapeCast _ (extractStridedSlice S2x8192x1x128 ![0, 11, 2, 0] p slices_S2x8207x4x128_S2x8192x1x128_0_11_2_0) shapeCasts_S2x8192x1x128_S2x8192x128)) (shapeCast _ (extractStridedSlice S2x8192x1x128 ![0, 10, 2, 0] p slices_S2x8207x4x128_S2x8192x1x128_0_10_2_0) shapeCasts_S2x8192x1x128_S2x8192x128)) (shapeCast _ (extractStridedSlice S2x8192x1x128 ![0, 9, 2, 0] p slices_S2x8207x4x128_S2x8192x1x128_0_9_2_0) shapeCasts_S2x8192x1x128_S2x8192x128)) (shapeCast _ (extractStridedSlice S2x8192x1x128 ![0, 8, 2, 0] p slices_S2x8207x4x128_S2x8192x1x128_0_8_2_0) shapeCasts_S2x8192x1x128_S2x8192x128)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 8#32))))))) (shapeCast _ (extractStridedSlice S2x8192x1x128 ![0, 0, 2, 0] u slices_S2x8192x4x128_S2x8192x1x128_0_0_2_0) shapeCasts_S2x8192x1x128_S2x8192x128)

/-- The reference's trailing mean of group 3, less the token itself. -/
def pool3T (p : FVec Ideal S2x8207x4x128 .f32) (u : FVec Ideal S2x8192x4x128 .f32) : FVec Ideal S2x8192x128 .f32 :=
  subf (Host.divf (addf (addf (addf (addf (addf (addf (addf (addf (addf (addf (addf (addf (addf (addf (addf (addf (broadcastInDim S2x8192x128 ![] bcast_S_S2x8192x128 (constant S_ .f32 0x00000000#32)) (shapeCast _ (extractStridedSlice S2x8192x1x128 ![0, 15, 3, 0] p slices_S2x8207x4x128_S2x8192x1x128_0_15_3_0) shapeCasts_S2x8192x1x128_S2x8192x128)) (shapeCast _ (extractStridedSlice S2x8192x1x128 ![0, 14, 3, 0] p slices_S2x8207x4x128_S2x8192x1x128_0_14_3_0) shapeCasts_S2x8192x1x128_S2x8192x128)) (shapeCast _ (extractStridedSlice S2x8192x1x128 ![0, 13, 3, 0] p slices_S2x8207x4x128_S2x8192x1x128_0_13_3_0) shapeCasts_S2x8192x1x128_S2x8192x128)) (shapeCast _ (extractStridedSlice S2x8192x1x128 ![0, 12, 3, 0] p slices_S2x8207x4x128_S2x8192x1x128_0_12_3_0) shapeCasts_S2x8192x1x128_S2x8192x128)) (shapeCast _ (extractStridedSlice S2x8192x1x128 ![0, 11, 3, 0] p slices_S2x8207x4x128_S2x8192x1x128_0_11_3_0) shapeCasts_S2x8192x1x128_S2x8192x128)) (shapeCast _ (extractStridedSlice S2x8192x1x128 ![0, 10, 3, 0] p slices_S2x8207x4x128_S2x8192x1x128_0_10_3_0) shapeCasts_S2x8192x1x128_S2x8192x128)) (shapeCast _ (extractStridedSlice S2x8192x1x128 ![0, 9, 3, 0] p slices_S2x8207x4x128_S2x8192x1x128_0_9_3_0) shapeCasts_S2x8192x1x128_S2x8192x128)) (shapeCast _ (extractStridedSlice S2x8192x1x128 ![0, 8, 3, 0] p slices_S2x8207x4x128_S2x8192x1x128_0_8_3_0) shapeCasts_S2x8192x1x128_S2x8192x128)) (shapeCast _ (extractStridedSlice S2x8192x1x128 ![0, 7, 3, 0] p slices_S2x8207x4x128_S2x8192x1x128_0_7_3_0) shapeCasts_S2x8192x1x128_S2x8192x128)) (shapeCast _ (extractStridedSlice S2x8192x1x128 ![0, 6, 3, 0] p slices_S2x8207x4x128_S2x8192x1x128_0_6_3_0) shapeCasts_S2x8192x1x128_S2x8192x128)) (shapeCast _ (extractStridedSlice S2x8192x1x128 ![0, 5, 3, 0] p slices_S2x8207x4x128_S2x8192x1x128_0_5_3_0) shapeCasts_S2x8192x1x128_S2x8192x128)) (shapeCast _ (extractStridedSlice S2x8192x1x128 ![0, 4, 3, 0] p slices_S2x8207x4x128_S2x8192x1x128_0_4_3_0) shapeCasts_S2x8192x1x128_S2x8192x128)) (shapeCast _ (extractStridedSlice S2x8192x1x128 ![0, 3, 3, 0] p slices_S2x8207x4x128_S2x8192x1x128_0_3_3_0) shapeCasts_S2x8192x1x128_S2x8192x128)) (shapeCast _ (extractStridedSlice S2x8192x1x128 ![0, 2, 3, 0] p slices_S2x8207x4x128_S2x8192x1x128_0_2_3_0) shapeCasts_S2x8192x1x128_S2x8192x128)) (shapeCast _ (extractStridedSlice S2x8192x1x128 ![0, 1, 3, 0] p slices_S2x8207x4x128_S2x8192x1x128_0_1_3_0) shapeCasts_S2x8192x1x128_S2x8192x128)) (shapeCast _ (extractStridedSlice S2x8192x1x128 ![0, 0, 3, 0] p slices_S2x8207x4x128_S2x8192x1x128_0_0_3_0) shapeCasts_S2x8192x1x128_S2x8192x128)) (broadcastInDim S2x8192x128 ![0, 1, 2] bcast_S1x8192x1_S2x8192x128_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 16#32))))))) (shapeCast _ (extractStridedSlice S2x8192x1x128 ![0, 0, 3, 0] u slices_S2x8192x4x128_S2x8192x1x128_0_0_3_0) shapeCasts_S2x8192x1x128_S2x8192x128)

/-- The four groups stacked. -/
def stackT (a b c d : FVec Ideal S2x8192x128 .f32) : FVec Ideal S2x8192x4x128 .f32 :=
  concatenate S2x8192x4x128 2 [⟨S2x8192x1x128, (broadcastInDim S2x8192x1x128 ![0, 1, 3] bcast_S2x8192x128_S2x8192x1x128_0_1_3 a)⟩, ⟨S2x8192x1x128, (broadcastInDim S2x8192x1x128 ![0, 1, 3] bcast_S2x8192x128_S2x8192x1x128_0_1_3 b)⟩, ⟨S2x8192x1x128, (broadcastInDim S2x8192x1x128 ![0, 1, 3] bcast_S2x8192x128_S2x8192x1x128_0_1_3 c)⟩, ⟨S2x8192x1x128, (broadcastInDim S2x8192x1x128 ![0, 1, 3] bcast_S2x8192x128_S2x8192x1x128_0_1_3 d)⟩] concatenates_S2x8192x1x128_S2x8192x1x128_S2x8192x1x128_S2x8192x1x128_S2x8192x4x128_d2

/-- The reference's map of each group, and the channels' scale. -/
def mixT (po : FVec Ideal S2x8192x4x128 .f32) (pw : FVec Ideal S1x4x128x128 .f32) (ps : FVec Ideal S1x512 .f32) : FVec Ideal S2x8192x512 .f32 :=
  mulf (shapeCast _ (transpose S2x8192x4x128 [2, 3, 0, 1] (Host.dotGeneral dot_S4x128x128_S2x8192x4x128_S4x128x2x8192_1_3_2_01_0_2 none (shapeCast _ pw shapeCasts_S1x4x128x128_S4x128x128) po) transposes_S4x128x2x8192_S2x8192x4x128_2_3_0_1) shapeCasts_S2x8192x4x128_S2x8192x512) (broadcastInDim S2x8192x512 ![0, 1, 2] bcast_S1x1x512_S2x8192x512_0_1_2 (broadcastInDim S1x1x512 ![2] bcast_S512_S1x1x512_2 (shapeCast _ ps shapeCasts_S1x512_S512)))

/-- The reference's last steps: the two projections, gated and added, the output projection, the residual. -/
def outT (x : FVec Ideal S2x8192x1024 .f32) (o : FVec Ideal S2x8192x512 .bf16) (ga : FVec Ideal S2x8192x2048 .f32) (mx : FVec Ideal S2x8192x512 .f32)
    (wp wa : FVec Ideal S1x512x1024 .f32) (wo : FVec Ideal S1x1024x1024 .f32) : FVec Ideal S2x8192x1024 .f32 :=
  addf x (Host.dotGeneral dot_S2x8192x1024_S1024x1024_S2x8192x1024_2_0_01_1_n_n none (addf (mulf (extractStridedSlice S2x8192x1024 ![0, 0, 0] ga slices_S2x8192x2048_S2x8192x1024_0_0_0) (Host.dotGeneral dot_S2x8192x512_S512x1024_S2x8192x1024_2_0_01_1_n_n none mx (shapeCast _ wp shapeCasts_S1x512x1024_S512x1024))) (mulf (extractStridedSlice S2x8192x1024 ![0, 0, 1024] ga slices_S2x8192x2048_S2x8192x1024_0_0_1024) (Host.dotGeneral dot_S2x8192x512_S512x1024_S2x8192x1024_2_0_01_1_n_n none (extf .f32 o bitsLt_bf16_f32) (shapeCast _ wa shapeCasts_S1x512x1024_S512x1024)))) (shapeCast _ wo shapeCasts_S1x1024x1024_S1024x1024))

/-- The reference's result, step after step. -/
def resT (x : FVec Ideal S2x8192x1024 .f32) (o : FVec Ideal S2x8192x512 .bf16) (g : FVec Ideal S1x1024 .f32) (w : FVec Ideal S1x1024x4680 .f32)
    (pw : FVec Ideal S1x4x128x128 .f32) (ps : FVec Ideal S1x512 .f32) (wp wa : FVec Ideal S1x512x1024 .f32) (wo : FVec Ideal S1x1024x1024 .f32) : FVec Ideal S2x8192x1024 .f32 :=
  have p := projT x g w
  have u := grpT p
  have q := padT u
  outT x o (gatesT p) (mixT (stackT (pool0T q u) (pool1T q u) (pool2T q u) (pool3T q u)) pw ps) wp wa wo

/-- The reference's run ends with these steps' result, its arguments unchanged. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v190) = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun _ h c => ⟨(h c).1.trans rfl, (h c).2⟩) (run m ρ)

open Cert.FfnSpec Cert.MixSpec

theorem sum_shift (p : ℕ → EReal) (w : ℕ) (hw : w ≤ 16) (s : ℕ) : (∑ j ∈ Finset.range w, p (15 + s - j)) = ∑ j ∈ Finset.range w, p (15 - j + s) :=
  Finset.sum_congr rfl fun j hj => congrArg p (by have := Finset.mem_range.mp hj; omega)

theorem sitofp_zero : (FloatOps.sitofp FTy.f32 0#32 : Ideal .f32) = 0 := by
  show (((0#32 : BitVec 32).toInt : ℝ) : EReal) = 0
  simp

theorem projT_apply (x : FVec Ideal S2x8192x1024 .f32) (g : FVec Ideal S1x1024 .f32) (w : FVec Ideal S1x1024x4680 .f32) (b : Fin 2) (s : Fin 8192) (n : Fin 4680) :
    projT x g w (ix3 b s n) = up (fun k => x (ix3 b s k)) (fun k => g (ix2 0 k)) (fun k => w (ix3 0 k n)) := by
  unfold up rms
  pointwise [projT]

theorem grpT_apply (p : FVec Ideal S2x8192x4680 .f32) (b : Fin 2) (s : Fin 8192) (g : Fin 4) (e : Fin 128) :
    grpT p (ix4 b s g e) = p (ix3 b s ⟨g.val * 128 + e.val, by omega⟩) := by
  pointwise [grpT]

theorem gatesT_apply (p : FVec Ideal S2x8192x4680 .f32) (b : Fin 2) (s : Fin 8192) (n : Fin 2048) :
    gatesT p (ix3 b s n) = Ideal.logistic (p (ix3 b s ⟨2632 + n.val, by omega⟩)) := by
  unfold Ideal.logistic
  pointwise [gatesT]

theorem padT_apply (u : FVec Ideal S2x8192x4x128 .f32) (b : Fin 2) (s : Fin 8207) (g : Fin 4) (e : Fin 128) :
    padT u (ix4 b s g e) = past (fun t => u (ix4 b t g e)) s.val := by
  unfold past
  pointwise [padT]
  rw [sitofp_zero]

theorem pool0T_apply (q : FVec Ideal S2x8207x4x128 .f32) (u : FVec Ideal S2x8192x4x128 .f32) (b : Fin 2) (s : Fin 8192) (e : Fin 128)
    (p : ℕ → EReal) (hp : ∀ t : Fin 8207, q (ix4 b t 0 e) = p t.val) (hu : u (ix4 b s 0 e) = p (15 + s.val)) :
    pool0T q u (ix3 b s e) = pooled p 2 (nTok (BitVec.ofNat 32 s.val) 2#32) (15 + s.val) := by
  unfold pooled trail nTok
  pointwise [pool0T]
  rw [sum_shift p _ (by decide)]
  simp only [hp, hu, Nat.sub_self, Finset.sum_range_succ, Finset.sum_range_zero, zero_add]
  rfl

theorem pool1T_apply (q : FVec Ideal S2x8207x4x128 .f32) (u : FVec Ideal S2x8192x4x128 .f32) (b : Fin 2) (s : Fin 8192) (e : Fin 128)
    (p : ℕ → EReal) (hp : ∀ t : Fin 8207, q (ix4 b t 1 e) = p t.val) (hu : u (ix4 b s 1 e) = p (15 + s.val)) :
    pool1T q u (ix3 b s e) = pooled p 4 (nTok (BitVec.ofNat 32 s.val) 4#32) (15 + s.val) := by
  unfold pooled trail nTok
  pointwise [pool1T]
  rw [sum_shift p _ (by decide)]
  simp only [hp, hu, Nat.sub_self, Finset.sum_range_succ, Finset.sum_range_zero, zero_add]
  rfl

theorem pool2T_apply (q : FVec Ideal S2x8207x4x128 .f32) (u : FVec Ideal S2x8192x4x128 .f32) (b : Fin 2) (s : Fin 8192) (e : Fin 128)
    (p : ℕ → EReal) (hp : ∀ t : Fin 8207, q (ix4 b t 2 e) = p t.val) (hu : u (ix4 b s 2 e) = p (15 + s.val)) :
    pool2T q u (ix3 b s e) = pooled p 8 (nTok (BitVec.ofNat 32 s.val) 8#32) (15 + s.val) := by
  unfold pooled trail nTok
  pointwise [pool2T]
  rw [sum_shift p _ (by decide)]
  simp only [hp, hu, Nat.sub_self, Finset.sum_range_succ, Finset.sum_range_zero, zero_add]
  rfl

theorem pool3T_apply (q : FVec Ideal S2x8207x4x128 .f32) (u : FVec Ideal S2x8192x4x128 .f32) (b : Fin 2) (s : Fin 8192) (e : Fin 128)
    (p : ℕ → EReal) (hp : ∀ t : Fin 8207, q (ix4 b t 3 e) = p t.val) (hu : u (ix4 b s 3 e) = p (15 + s.val)) :
    pool3T q u (ix3 b s e) = pooled p 16 (nTok (BitVec.ofNat 32 s.val) 16#32) (15 + s.val) := by
  unfold pooled trail nTok
  pointwise [pool3T]
  rw [sum_shift p _ (by decide)]
  simp only [hp, hu, Nat.sub_self, Finset.sum_range_succ, Finset.sum_range_zero, zero_add]
  rfl

theorem stackT_apply (f : Fin 4 → FVec Ideal S2x8192x128 .f32) (b : Fin 2) (s : Fin 8192) (g : Fin 4) (e : Fin 128) :
    stackT (f 0) (f 1) (f 2) (f 3) (ix4 b s g e) = f g (ix3 b s e) := by
  pointwise [stackT]
  fin_cases g <;> simp

theorem mixT_apply (po : FVec Ideal S2x8192x4x128 .f32) (pw : FVec Ideal S1x4x128x128 .f32) (ps : FVec Ideal S1x512 .f32) (b : Fin 2) (s : Fin 8192) (n : Fin 512) :
    mixT po pw ps (ix3 b s n) = (∑ e : Fin 128, po (ix4 b s (grp n) e) * pw (ix4 0 (grp n) e (lane n))) * ps (ix2 0 n) := by
  unfold grp lane
  pointwise [mixT]
  exact congrArg (· * _) (Finset.sum_congr rfl fun _ _ => mul_comm _ _)

theorem outT_apply (x : FVec Ideal S2x8192x1024 .f32) (o : FVec Ideal S2x8192x512 .bf16) (ga : FVec Ideal S2x8192x2048 .f32) (mx : FVec Ideal S2x8192x512 .f32)
    (wp wa : FVec Ideal S1x512x1024 .f32) (wo : FVec Ideal S1x1024x1024 .f32) (b : Fin 2) (s : Fin 8192) (n : Fin 1024) :
    outT x o ga mx wp wa wo (ix3 b s n) = merge (fun k => x (ix3 b s k)) (fun c => o (ix3 b s c)) (fun j => ga (ix3 b s j)) (fun c => mx (ix3 b s c))
      (fun c k => wp (ix3 0 c k)) (fun c k => wa (ix3 0 c k)) (fun j k => wo (ix3 0 j k)) n := by
  unfold merge
  pointwise [outT]

theorem poolT_apply (q : FVec Ideal S2x8207x4x128 .f32) (u : FVec Ideal S2x8192x4x128 .f32) (b : Fin 2) (s : Fin 8192) (g : Fin 4) (e : Fin 128)
    (p : ℕ → EReal) (hp : ∀ t : Fin 8207, q (ix4 b t g e) = p t.val) (hu : u (ix4 b s g e) = p (15 + s.val)) :
    stackT (pool0T q u) (pool1T q u) (pool2T q u) (pool3T q u) (ix4 b s g e) = pooled p (win g) (nTok (BitVec.ofNat 32 s.val) (BitVec.ofNat 32 (win g))) (15 + s.val) := by
  refine (stackT_apply ![pool0T q u, pool1T q u, pool2T q u, pool3T q u] b s g e).trans ?_
  fin_cases g
  · exact pool0T_apply q u b s e p hp hu
  · exact pool1T_apply q u b s e p hp hu
  · exact pool2T_apply q u b s e p hp hu
  · exact pool3T_apply q u b s e p hp hu

/-- Row `s` of sequence `b` of the reference's result is the mixer's formula. -/
theorem resT_apply (x : FVec Ideal S2x8192x1024 .f32) (o : FVec Ideal S2x8192x512 .bf16) (g : FVec Ideal S1x1024 .f32) (w : FVec Ideal S1x1024x4680 .f32)
    (pw : FVec Ideal S1x4x128x128 .f32) (ps : FVec Ideal S1x512 .f32) (wp wa : FVec Ideal S1x512x1024 .f32) (wo : FVec Ideal S1x1024x1024 .f32) (b : Fin 2) (s : Fin 8192) (n : Fin 1024) :
    resT x o g w pw ps wp wa wo (ix3 b s n) =
      mixRow (fun t k => x (ix3 b t k)) (fun c => o (ix3 b s c)) (fun k => g (ix2 0 k)) (fun k c => w (ix3 0 k ⟨c.val, by omega⟩)) (fun k j => w (ix3 0 k ⟨2632 + j.val, by omega⟩))
        (fun g e d => pw (ix4 0 g e d)) (fun c => ps (ix2 0 c)) (fun c k => wp (ix3 0 c k)) (fun c k => wa (ix3 0 c k)) (fun j k => wo (ix3 0 j k)) s n := by
  unfold resT mixRow
  dsimp only
  rw [outT_apply]
  congr 1
  · funext j
    rw [gatesT_apply, projT_apply]
  · funext c
    rw [mixT_apply]
    refine congrArg (· * _) (Finset.sum_congr rfl fun e _ => congrArg (· * _) ?_)
    have hu : ∀ t : Fin 8192, grpT (projT x g w) (ix4 b t (grp c) e) = up (fun k => x (ix3 b t k)) (fun k => g (ix2 0 k)) (fun k => w (ix3 0 k ⟨(grp c).val * 128 + e.val, by omega⟩)) := fun t => by
      rw [grpT_apply, projT_apply]
    refine poolT_apply _ _ b s (grp c) e _ (fun t => ?_) ?_
    · rw [padT_apply]
      exact congrArg (fun f => past f t.val) (funext hu)
    · rw [hu]
      unfold past
      rw [dif_pos ⟨by omega, by omega⟩]
      have : (⟨15 + s.val - 15, by omega⟩ : Fin 8192) = s := Fin.ext (by show 15 + s.val - 15 = s.val; omega)
      rw [this]

end Cert.MixerReferenceIdeal.RefValue

end

end
-- ==== Proof.MixClaim.lean ====
/- The mixer's kernel and its reference end with the same array: both are the formula of the arguments. -/
module

public import proofs.«01_k».proof.Defs
public import proofs.«01_k».proof.Proof.MixVal
public import proofs.«01_k».proof.Proof.MixRef

@[expose] public section

set_option maxRecDepth 16384

noncomputable section

namespace Cert.Proof

open Idealize.ShloMosaic Idealize.ShloMosaic.TcCoe Idealize.SL.Sem Cert.MixSpec

/-- The reference of the mixer's output runs, leaves its arguments unchanged and ends with every counter at zero: it has no semaphore. -/
theorem mixerReference_frame : Cert.quiescent_MixerReferenceIdeal := by
  intro m ρ _
  refine (θ_run _ _ _).mono (fun r h => ⟨fun c => (h c).2, funext fun g => ?_⟩) (MixerReferenceIdeal.RefValue.run_res m ρ)
  rcases g with ⟨t, s | s⟩
  · exact absurd s.isLt (Nat.not_lt_zero _)
  · exact absurd s.isLt (Nat.not_lt_zero _)

/-- From memories that agree on the arguments, the kernel and the reference of the mixer's output end with equal results at the ideal instance, the arguments unchanged. -/
theorem mixer_algebraic : Cert.algebraic_MixerIdeal_MixerReferenceIdeal := by
  intro m ρ m' ρ' _ hag
  refine ⟨fun c => (fun j => MixerIdeal.RefValue.G m c (j 0) (j 1) (j 2) : FVec Ideal MixerIdeal.S2x8192x1024 .f32),
    (θ_run _ _ _).mono (fun _ h c => ⟨(h c).1.trans (MixerIdeal.RefValue.final m c), (h c).2⟩) (MixerIdeal.Value.run_blocks m ρ),
    (θ_run _ _ _).mono (fun _ h c => ⟨(h c).1.trans ?_, (h c).2⟩) (MixerReferenceIdeal.RefValue.run_res m' ρ')⟩
  obtain ⟨h0, h1, h2, h3, h4, h5, h6, h7, h8⟩ := hag c
  rw [h0, h1, h2, h3, h4, h5, h6, h7, h8]
  funext j
  rw [eq_ix3 j]
  exact (MixerReferenceIdeal.RefValue.resT_apply _ _ _ _ _ _ _ _ _ _ _ _).trans rfl

end Cert.Proof

end

end
-- ==== Proof.ProjSpec.lean ====
/- The projections ahead of the attention, on one token: a normalised row times one column, and the rotary turn of the heads. -/
module

public import proofs.«01_k».proof.Proof.FfnSpec

@[expose] public section

noncomputable section

namespace Cert.ProjSpec

open Idealize.ShloMosaic

/-- The angle of token `s` at frequency `i` of the rotary turn. -/
def ang (s : Fin 8192) (i : Fin 8) : EReal :=
  FloatOps.sitofp (F := Ideal) FTy.f32 (BitVec.ofNat 32 s.val) * Ideal.div 1 (Ideal.pow (Ideal.ofBits FTy.f32 0x48F42400#32) (Ideal.div (FloatOps.sitofp (F := Ideal) FTy.f32 (BitVec.ofNat 32 i.val) * Ideal.ofBits FTy.f32 0x40000000#32) (Ideal.ofBits FTy.f32 0x41800000#32)))

/-- Heads of 64 channels turned: in each, channels 0 to 7 and 8 to 15 are turned together by the eight angles, the rest stay. -/
def rope {m : ℕ} (hm : 64 ∣ m) (p : Fin m → EReal) (c s : Fin 8 → EReal) (f : Fin m) : EReal :=
  if h : f.val % 64 < 8 then p f * c ⟨f.val % 64, h⟩ - p ⟨f.val + 8, by omega⟩ * s ⟨f.val % 64, h⟩
  else if h' : f.val % 64 < 16 then p f * c ⟨f.val % 64 - 8, by omega⟩ + p ⟨f.val - 8, by omega⟩ * s ⟨f.val % 64 - 8, by omega⟩
  else p f

/-- A head's 80 rows of values: its 64 channels, a one, fifteen zeros. -/
def vals (p : Fin 512 → EReal) (h : Fin 8) (d : Fin 80) : EReal :=
  if hd : d.val < 64 then p ⟨h.val * 64 + d.val, by omega⟩ else if d.val = 64 then 1 else 0

/-- The turn of one head, written as three pieces after one another. -/
theorem rope_chain (p : Fin 64 → EReal) (c s : Fin 8 → EReal) (d : Fin 64) :
    (if h : d.val < 8 then p d * c ⟨d.val, h⟩ - p ⟨8 + d.val, by omega⟩ * s ⟨d.val, h⟩
      else if h' : d.val - 8 < 8 then p ⟨8 + (d.val - 8), by omega⟩ * c ⟨d.val - 8, h'⟩ + p ⟨d.val - 8, by omega⟩ * s ⟨d.val - 8, h'⟩
      else p ⟨16 + (d.val - 8 - 8), by omega⟩) = rope (by decide) p c s d := by
  have e := Nat.mod_eq_of_lt d.isLt
  have ep : ∀ a b : Fin 64, a.val = b.val → p a = p b := fun a b h => congrArg p (Fin.ext h)
  have ec : ∀ (c : Fin 8 → EReal) (a b : Fin 8), a.val = b.val → c a = c b := fun c a b h => congrArg c (Fin.ext h)
  unfold rope
  by_cases h : d.val < 8
  · rw [dif_pos h, dif_pos (show d.val % 64 < 8 by omega)]
    exact congrArg₂ (· - ·) (congrArg₂ (· * ·) rfl (ec c _ _ e.symm)) (congrArg₂ (· * ·) (ep _ _ (Nat.add_comm _ _)) (ec s _ _ e.symm))
  · rw [dif_neg h, dif_neg (show ¬ d.val % 64 < 8 by omega)]
    by_cases h' : d.val < 16
    · rw [dif_pos (show d.val - 8 < 8 by omega), dif_pos (show d.val % 64 < 16 by omega)]
      exact congrArg₂ (· + ·) (congrArg₂ (· * ·) (ep _ _ (by show 8 + (d.val - 8) = d.val; omega)) (ec c _ _ (by show d.val - 8 = d.val % 64 - 8; omega)))
        (congrArg₂ (· * ·) rfl (ec s _ _ (by show d.val - 8 = d.val % 64 - 8; omega)))
    · rw [dif_neg (show ¬ d.val - 8 < 8 by omega), dif_neg (show ¬ d.val % 64 < 16 by omega)]
      exact ep _ _ (by show 16 + (d.val - 8 - 8) = d.val; omega)

/-- The turn of the head that holds channel `f`, at that channel. -/
theorem rope_head (p : Fin 512 → EReal) (c s : Fin 8 → EReal) (f : Fin 512) :
    rope (by decide) (fun d : Fin 64 => p ⟨f.val / 64 * 64 + d.val, by omega⟩) c s ⟨f.val % 64, by omega⟩ = rope (by decide) p c s f := by
  have ep : ∀ a b : Fin 512, a.val = b.val → p a = p b := fun a b h => congrArg p (Fin.ext h)
  have ec : ∀ (c : Fin 8 → EReal) (a b : Fin 8), a.val = b.val → c a = c b := fun c a b h => congrArg c (Fin.ext h)
  have e : f.val % 64 % 64 = f.val % 64 := Nat.mod_mod _ _
  unfold rope
  by_cases h : f.val % 64 < 8
  · rw [dif_pos (show f.val % 64 % 64 < 8 by omega), dif_pos h]
    exact congrArg₂ (· - ·) (congrArg₂ (· * ·) (ep _ _ (by show f.val / 64 * 64 + f.val % 64 = f.val; omega)) (ec c _ _ e))
      (congrArg₂ (· * ·) (ep _ _ (by show f.val / 64 * 64 + (f.val % 64 + 8) = f.val + 8; omega)) (ec s _ _ e))
  · rw [dif_neg (show ¬ f.val % 64 % 64 < 8 by omega), dif_neg h]
    by_cases h' : f.val % 64 < 16
    · rw [dif_pos (show f.val % 64 % 64 < 16 by omega), dif_pos h']
      exact congrArg₂ (· + ·) (congrArg₂ (· * ·) (ep _ _ (by show f.val / 64 * 64 + f.val % 64 = f.val; omega)) (ec c _ _ (by show f.val % 64 % 64 - 8 = f.val % 64 - 8; omega)))
        (congrArg₂ (· * ·) (ep _ _ (by show f.val / 64 * 64 + (f.val % 64 - 8) = f.val - 8; omega)) (ec s _ _ (by show f.val % 64 % 64 - 8 = f.val % 64 - 8; omega)))
    · rw [dif_neg (show ¬ f.val % 64 % 64 < 16 by omega), dif_neg h']
      exact ep _ _ (by show f.val / 64 * 64 + f.val % 64 = f.val; omega)

theorem rope_lo {m : ℕ} (hm : 64 ∣ m) (p : Fin m → EReal) (c s : Fin 8 → EReal) (f : Fin m) (b : Fin 8) (x y : EReal) (hb : f.val % 64 = b.val)
    (hx : x = p f) (hy : y = p ⟨f.val + 8, by omega⟩) : x * c b - y * s b = rope hm p c s f := by
  have hb' : (⟨f.val % 64, by omega⟩ : Fin 8) = b := Fin.ext hb
  unfold rope
  rw [dif_pos (show f.val % 64 < 8 by omega), hx, hy, hb']

theorem rope_hi {m : ℕ} (hm : 64 ∣ m) (p : Fin m → EReal) (c s : Fin 8 → EReal) (f : Fin m) (b : Fin 8) (x y : EReal) (hb : f.val % 64 = 8 + b.val)
    (hx : x = p f) (hy : y = p ⟨f.val - 8, by omega⟩) : x * c b + y * s b = rope hm p c s f := by
  have hb' : (⟨f.val % 64 - 8, by omega⟩ : Fin 8) = b := Fin.ext (by show f.val % 64 - 8 = b.val; omega)
  unfold rope
  rw [dif_neg (show ¬ f.val % 64 < 8 by omega), dif_pos (show f.val % 64 < 16 by omega), hx, hy, hb']

theorem rope_rest {m : ℕ} (hm : 64 ∣ m) (p : Fin m → EReal) (c s : Fin 8 → EReal) (f : Fin m) (x : EReal) (hf : 16 ≤ f.val % 64)
    (hx : x = p f) : x = rope hm p c s f := by
  unfold rope
  rw [dif_neg (show ¬ f.val % 64 < 8 by omega), dif_neg (show ¬ f.val % 64 < 16 by omega), hx]

theorem dite_eq_of {P : Prop} [Decidable P] {α : Type} {a : P → α} {b : ¬ P → α} {z : α} (ha : ∀ h, a h = z) (hb : ∀ h, b h = z) : dite P a b = z := by
  by_cases h : P
  · rw [dif_pos h, ha]
  · rw [dif_neg h, hb]

/-- Channel `f` of rows of 640 channels turned with tables on 128 lanes: the channel itself, the one eight lanes before, the one eight lanes after. -/
def turn (p : Fin 640 → EReal) (a b c : Fin 128 → EReal) (f : Fin 640) : EReal :=
  p f * a ⟨f.val % 128, by omega⟩ + p ⟨f.val / 128 * 128 + (f.val % 128 + 120) % 128, by omega⟩ * b ⟨f.val % 128, by omega⟩
    + p ⟨f.val / 128 * 128 + (f.val % 128 + 8) % 128, by omega⟩ * c ⟨f.val % 128, by omega⟩

theorem turn_of (p : Fin 640 → EReal) (a b c : Fin 128 → EReal) (f : Fin 640) (l : Fin 128) (i j k : Fin 640) (hl : l.val = f.val % 128) (hi : i.val = f.val)
    (hj : j.val = f.val / 128 * 128 + (f.val % 128 + 120) % 128) (hk : k.val = f.val / 128 * 128 + (f.val % 128 + 8) % 128) :
    p i * a l + p j * b l + p k * c l = turn p a b c f := by
  unfold turn
  exact congrArg₂ (· + ·) (congrArg₂ (· + ·) (congrArg₂ (· * ·) (congrArg p (Fin.ext hi)) (congrArg a (Fin.ext hl))) (congrArg₂ (· * ·) (congrArg p (Fin.ext hj)) (congrArg b (Fin.ext hl))))
    (congrArg₂ (· * ·) (congrArg p (Fin.ext hk)) (congrArg c (Fin.ext hl)))

/-- With the rotary tables on the lanes, that is the rotary turn. -/
theorem turn_eq (p : Fin 640 → EReal) (a b c : Fin 128 → EReal) (cs sn : Fin 8 → EReal) (f : Fin 640)
    (ha : ∀ l : Fin 128, a l = if h : l.val % 64 < 8 then cs ⟨l.val % 64, h⟩ else if h' : l.val % 64 < 16 then cs ⟨l.val % 64 - 8, by omega⟩ else 1)
    (hb : ∀ l : Fin 128, b l = if h : l.val % 64 < 8 then 0 else if h' : l.val % 64 < 16 then sn ⟨l.val % 64 - 8, by omega⟩ else 0)
    (hc : ∀ l : Fin 128, c l = if h : l.val % 64 < 8 then - sn ⟨l.val % 64, h⟩ else 0) :
    turn p a b c f = rope (by decide) p cs sn f := by
  have ep : ∀ a b : Fin 640, a.val = b.val → p a = p b := fun a b h => congrArg p (Fin.ext h)
  unfold turn
  rw [ha, hb, hc]
  by_cases h : f.val % 64 < 8
  · have hl : f.val % 128 % 64 < 8 := by omega
    rw [dif_pos hl, dif_pos hl, dif_pos hl, mul_zero, add_zero, mul_neg, ← sub_eq_add_neg]
    exact rope_lo _ p cs sn f ⟨f.val % 128 % 64, hl⟩ _ _ (by show f.val % 64 = f.val % 128 % 64; omega) rfl
      (ep _ _ (by show f.val / 128 * 128 + (f.val % 128 + 8) % 128 = f.val + 8; omega))
  · have hl : ¬ f.val % 128 % 64 < 8 := by omega
    rw [dif_neg hl, dif_neg hl, dif_neg hl, mul_zero, add_zero]
    by_cases h' : f.val % 64 < 16
    · have hl' : f.val % 128 % 64 < 16 := by omega
      rw [dif_pos hl', dif_pos hl']
      exact rope_hi _ p cs sn f ⟨f.val % 128 % 64 - 8, by omega⟩ _ _ (by show f.val % 64 = 8 + (f.val % 128 % 64 - 8); omega) rfl
        (ep _ _ (by show f.val / 128 * 128 + (f.val % 128 + 120) % 128 = f.val - 8; omega))
    · have hl' : ¬ f.val % 128 % 64 < 16 := by omega
      rw [dif_neg hl', dif_neg hl', mul_zero, add_zero, mul_one]
      exact rope_rest _ p cs sn f _ (by omega) rfl

/-- The turn looks at one head only. -/
theorem rope_congr {m n : ℕ} (hm : 64 ∣ m) (hn : 64 ∣ n) (p : Fin m → EReal) (q : Fin n → EReal) (c s : Fin 8 → EReal) (f : Fin m) (g : Fin n) (e : f.val % 64 = g.val % 64)
    (h : ∀ i : Fin 64, p ⟨f.val / 64 * 64 + i.val, by omega⟩ = q ⟨g.val / 64 * 64 + i.val, by omega⟩) : rope hm p c s f = rope hn q c s g := by
  have key : ∀ (a : Fin m) (b : Fin n) (i : ℕ) (hi : i < 64), a.val = f.val / 64 * 64 + i → b.val = g.val / 64 * 64 + i → p a = q b := fun a b i hi ha hb =>
    (congrArg p (Fin.ext ha)).trans ((h ⟨i, hi⟩).trans (congrArg q (Fin.ext hb.symm)))
  by_cases h1 : f.val % 64 < 8
  · refine (rope_lo hm p c s f ⟨f.val % 64, h1⟩ _ _ rfl rfl rfl).symm.trans ?_
    exact rope_lo hn q c s g ⟨f.val % 64, h1⟩ _ _ e.symm (key _ _ (f.val % 64) (by omega) (by omega) (by omega))
      (key _ _ (f.val % 64 + 8) (by omega) (by show f.val + 8 = _; omega) (by show g.val + 8 = _; omega))
  · by_cases h2 : f.val % 64 < 16
    · refine (rope_hi hm p c s f ⟨f.val % 64 - 8, by omega⟩ _ _ (by show f.val % 64 = 8 + (f.val % 64 - 8); omega) rfl rfl).symm.trans ?_
      exact rope_hi hn q c s g ⟨f.val % 64 - 8, by omega⟩ _ _ (by show g.val % 64 = 8 + (f.val % 64 - 8); omega) (key _ _ (f.val % 64) (by omega) (by omega) (by omega))
        (key _ _ (f.val % 64 - 8) (by omega) (by show f.val - 8 = _; omega) (by show g.val - 8 = _; omega))
    · refine (rope_rest hm p c s f _ (by omega) rfl).symm.trans ?_
      exact rope_rest hn q c s g _ (by omega) (key _ _ (f.val % 64) (by omega) (by omega) (by omega))

end Cert.ProjSpec
-- ==== Proof.ProjBlock.lean ====
/- What one grid point of the projection leaves in its output blocks: the stored pieces as the terms of the loaded blocks, read at an index. -/
module

public import proofs.«01_k».proof.Proof.Gen.ProjectionIdeal.Frame
public import proofs.«01_k».proof.Proof.FfnBlock
public import proofs.«01_k».proof.Proof.ProjSpec

@[expose] public section

set_option maxRecDepth 16384

noncomputable section

namespace Cert.ProjectionIdeal.RefValue

open Cert.ProjectionIdeal Cert.ProjectionIdeal.Gen Idealize.ShloMosaic Idealize.ShloMosaic.TcCoe Idealize.SL.Sem Idealize.ShloMosaic.Pipeline
open Cert.FfnIdeal.RefValue (hz2 hz3)

open Cert.FfnSpec Cert.ProjSpec

theorem pay5_apply (x0 : FVec Ideal S1x512x1024 .f32) (x1 : FVec Ideal S1x1024 .f32) (x3 : FVec Ideal S1552x1024 .bf16) (r : Fin 1552) (t : Fin 512) :
    k0_pay5 (F := Ideal) x0 x1 x3 (ix2 r t) = up (fun k => x0 (ix3 0 t k)) (fun k => x1 (ix2 0 k)) (fun k => x3 (ix2 r k)) := by
  unfold up rms
  pointwise [k0_pay5, k0_pay3]
  exact Finset.sum_congr rfl fun _ _ => mul_comm _ _

theorem pay4_apply (x0 : FVec Ideal S1x512x1024 .f32) (x1 : FVec Ideal S1x1024 .f32) (x2 : FVec Ideal S1024x640 .bf16) (t : Fin 512) (j : Fin 640) :
    k0_pay4 (F := Ideal) x0 x1 x2 (ix2 t j) = up (fun k => x0 (ix3 0 t k)) (fun k => x1 (ix2 0 k)) (fun k => x2 (ix2 k j)) := by
  unfold up rms
  pointwise [k0_pay4, k0_pay3]

theorem w_apply (v : FVec Ideal S1552x512 .f32) (h : Fin 8) (t : Fin 512) :
    k0_pay101 (F := Ideal) v (ix3 0 h t) = v (ix2 ⟨1536 + h.val, by omega⟩ t) * Ideal.ofBits FTy.f32 0x3D3504F3#32 := by
  pointwise [k0_pay101]

theorem ik_apply (v : FVec Ideal S512x640 .f32) (a b c : FVec Ideal S512x128 .f32) (t : Fin 512) (d : Fin 64) :
    k0_pay2 (F := Ideal) v (k0_pay102 a) (k0_pay103 b) (k0_pay104 c) (ix3 0 t d) = turn (fun f => v (ix2 t f)) (fun l => a (ix2 t l)) (fun l => b (ix2 t l)) (fun l => c (ix2 t l)) ⟨512 + d.val, by omega⟩ := by
  pointwise [k0_pay2, k0_pay102, k0_pay103, k0_pay104]
  exact turn_of (fun f => v (ix2 t f)) (fun l => a (ix2 t l)) (fun l => b (ix2 t l)) (fun l => c (ix2 t l)) ⟨512 + d.val, by omega⟩ ⟨d.val, by omega⟩ _ _ _ (by show d.val = (512 + d.val) % 128; omega) rfl
    (by show 512 + (d.val + 128 - 8) % 128 = (512 + d.val) / 128 * 128 + ((512 + d.val) % 128 + 120) % 128; omega)
    (by show 512 + (d.val + 128 - 120) % 128 = (512 + d.val) / 128 * 128 + ((512 + d.val) % 128 + 8) % 128; omega)

theorem ones_apply (j : S16x512.Idx) : k0_pay81 (F := Ideal) j = if (j 0).val = 0 then 1 else 0 := by
  have key : ∀ d : Fin 16, (BitVec.setWidth 32 (IntOp.cmpi CmpIPredicate.eq (BitVec.ofNat 32 d.val) 0#32)).toInt = if d.val = 0 then 1 else 0 := by decide
  pointwise [k0_pay81]
  show (((BitVec.setWidth 32 (IntOp.cmpi CmpIPredicate.eq (BitVec.ofNat 32 (j 0).val) 0#32)).toInt : ℝ) : EReal) = _
  rw [key (j 0)]
  split <;> simp

theorem v_apply_0 (v : FVec Ideal S1552x512 .f32) (j : S1x1x1x64x512.Idx) :
    k0_pay82 (F := Ideal) v j = v (ix2 ⟨1024 + (j 3).val, by have : (j 3).val < 64 := (j 3).isLt; omega⟩ (j 4)) := by
  pointwise [k0_pay82, k0_pay80]

theorem v_apply_1 (v : FVec Ideal S1552x512 .f32) (j : S1x1x1x64x512.Idx) :
    k0_pay85 (F := Ideal) (k0_pay80 v) j = v (ix2 ⟨1024 + (64 + (j 3).val), by have : (j 3).val < 64 := (j 3).isLt; omega⟩ (j 4)) := by
  pointwise [k0_pay85, k0_pay80]

theorem v_apply_2 (v : FVec Ideal S1552x512 .f32) (j : S1x1x1x64x512.Idx) :
    k0_pay87 (F := Ideal) (k0_pay80 v) j = v (ix2 ⟨1024 + (128 + (j 3).val), by have : (j 3).val < 64 := (j 3).isLt; omega⟩ (j 4)) := by
  pointwise [k0_pay87, k0_pay80]

theorem v_apply_3 (v : FVec Ideal S1552x512 .f32) (j : S1x1x1x64x512.Idx) :
    k0_pay89 (F := Ideal) (k0_pay80 v) j = v (ix2 ⟨1024 + (192 + (j 3).val), by have : (j 3).val < 64 := (j 3).isLt; omega⟩ (j 4)) := by
  pointwise [k0_pay89, k0_pay80]

theorem v_apply_4 (v : FVec Ideal S1552x512 .f32) (j : S1x1x1x64x512.Idx) :
    k0_pay92 (F := Ideal) (k0_pay80 v) j = v (ix2 ⟨1024 + (256 + (j 3).val), by have : (j 3).val < 64 := (j 3).isLt; omega⟩ (j 4)) := by
  pointwise [k0_pay92, k0_pay80]

theorem v_apply_5 (v : FVec Ideal S1552x512 .f32) (j : S1x1x1x64x512.Idx) :
    k0_pay94 (F := Ideal) (k0_pay80 v) j = v (ix2 ⟨1024 + (320 + (j 3).val), by have : (j 3).val < 64 := (j 3).isLt; omega⟩ (j 4)) := by
  pointwise [k0_pay94, k0_pay80]

theorem v_apply_6 (v : FVec Ideal S1552x512 .f32) (j : S1x1x1x64x512.Idx) :
    k0_pay96 (F := Ideal) (k0_pay80 v) j = v (ix2 ⟨1024 + (384 + (j 3).val), by have : (j 3).val < 64 := (j 3).isLt; omega⟩ (j 4)) := by
  pointwise [k0_pay96, k0_pay80]

theorem v_apply_7 (v : FVec Ideal S1552x512 .f32) (j : S1x1x1x64x512.Idx) :
    k0_pay99 (F := Ideal) (k0_pay80 v) j = v (ix2 ⟨1024 + (448 + (j 3).val), by have : (j 3).val < 64 := (j 3).isLt; omega⟩ (j 4)) := by
  pointwise [k0_pay99, k0_pay80]

theorem one_apply (j : S1x1x1x16x512.Idx) : k0_pay86 (F := Ideal) k0_pay81 j = if (j 3).val = 0 then 1 else 0 := by
  pointwise [k0_pay86, ones_apply]

/-- The turn of 512 rows of channels at row `n`, for token `t`. -/
def turned (v : FVec Ideal S512x512 .f32) (c s : FVec Ideal S8x512 .f32) (t : Fin 512) (n : ℕ) : EReal :=
  if h : n < 512 then rope (by decide) (fun f : Fin 512 => v (ix2 f t)) (fun i => c (ix2 i t)) (fun i => s (ix2 i t)) ⟨n, h⟩ else 0

/-- Pieces put after one another from row `o` on read as `G` says. -/
def Reads (j : S512x512.Idx) (G : ℕ → EReal) (o : ℕ) (xs : List ((s : Shape) × (s.Idx → EReal))) : Prop :=
  ∀ hs c hc, concatenateAt S512x512 0 j xs hs c hc = G (o + c)

theorem reads_one {n : ℕ} (f t : Fin 512) (G : ℕ → EReal) (o : ℕ) (x : (⟨2, ![n, 512]⟩ : Shape).Idx → EReal) (hx : ∀ i : Fin n, x (ix2 i t) = G (o + i.val)) :
    Reads (ix2 f t) G o [⟨⟨2, ![n, 512]⟩, x⟩] := by
  intro hs c hc
  have hc' : c < n := by rw [axisSizes_cons _ _ _ _ (hs _ List.mem_cons_self)] at hc; simpa [axisSizes] using hc
  rw [concatenateAt_singleton]
  refine Eq.trans (congrArg x ?_) (hx ⟨c, hc'⟩)
  funext b
  fin_cases b <;> rfl

theorem reads_cons {n : ℕ} (f t : Fin 512) (G : ℕ → EReal) (o : ℕ) (x : (⟨2, ![n, 512]⟩ : Shape).Idx → EReal) (q : (s : Shape) × (s.Idx → EReal)) (xs : List ((s : Shape) × (s.Idx → EReal)))
    (hx : ∀ i : Fin n, x (ix2 i t) = G (o + i.val)) (hr : Reads (ix2 f t) G (o + n) (q :: xs)) :
    Reads (ix2 f t) G o (⟨⟨2, ![n, 512]⟩, x⟩ :: q :: xs) := by
  intro hs c hc
  rw [concatenateAt_cons]
  refine dite_eq_of (fun h => ?_) fun h => ?_
  · refine Eq.trans (congrArg x ?_) (hx ⟨c, h⟩)
    funext b
    fin_cases b <;> rfl
  · have h' : n ≤ c := Nat.le_of_not_lt h
    refine (hr _ _ _).trans (congrArg G ?_)
    show o + n + (c - n) = o + c
    omega

theorem cat_apply (v : FVec Ideal S512x512 .f32) (c s : FVec Ideal S8x512 .f32) (f t : Fin 512) (xs : List ((s : Shape) × (s.Idx → EReal)))
    (h : Shape.Concatenates (xs.map (·.1)) S512x512 0) (hr : Reads (ix2 f t) (turned v c s t) 0 xs) :
    concatenate S512x512 0 xs h (ix2 f t) = rope (by decide) (fun f : Fin 512 => v (ix2 f t)) (fun i => c (ix2 i t)) (fun i => s (ix2 i t)) f := by
  rw [concatenate_apply, hr]
  unfold turned
  rw [Nat.zero_add]
  exact dif_pos f.isLt

theorem slice_apply {n : ℕ} (v : FVec Ideal S512x512 .f32) (o : ℕ) (ho : o + n ≤ 512) (h : S512x512.Slices ![o, 0] ⟨2, ![n, 512]⟩) (i : Fin n) (t : Fin 512) :
    extractStridedSlice ⟨2, ![n, 512]⟩ ![o, 0] v h (ix2 i t) = v (ix2 ⟨o + i.val, by omega⟩ t) := by
  pointwise

theorem lo_apply (v : FVec Ideal S512x512 .f32) (c s : FVec Ideal S8x512 .f32) (t : Fin 512) (o o' : ℕ) (ho : o' = o + 8 ∧ 64 ∣ o ∧ o + 64 ≤ 512) (h : S512x512.Slices ![o, 0] S8x512) (h' : S512x512.Slices ![o', 0] S8x512) (i : Fin 8) :
    subf (mulf (extractStridedSlice S8x512 ![o, 0] v h) c) (mulf (extractStridedSlice S8x512 ![o', 0] v h') s) (ix2 i t) = turned v c s t (o + i.val) := by
  obtain ⟨rfl, h64, hle⟩ := ho
  have hlt : o + i.val < 512 := by omega
  refine Eq.trans ?_ (dif_pos hlt).symm
  refine rope_lo (by decide) (fun f : Fin 512 => v (ix2 f t)) (fun i => c (ix2 i t)) (fun i => s (ix2 i t)) ⟨o + i.val, hlt⟩ i _ _ (by show (o + i.val) % 64 = i.val; omega) (slice_apply v o (by omega) h i t) ?_
  exact (slice_apply v (o + 8) (by omega) h' i t).trans (congrArg (fun r => v (ix2 r t)) (Fin.ext (by show o + 8 + i.val = o + i.val + 8; omega)))

theorem hi_apply (v : FVec Ideal S512x512 .f32) (c s : FVec Ideal S8x512 .f32) (t : Fin 512) (o o' : ℕ) (ho : o' = o + 8 ∧ 64 ∣ o ∧ o + 64 ≤ 512) (h : S512x512.Slices ![o, 0] S8x512) (h' : S512x512.Slices ![o', 0] S8x512) (i : Fin 8) :
    addf (mulf (extractStridedSlice S8x512 ![o', 0] v h') c) (mulf (extractStridedSlice S8x512 ![o, 0] v h) s) (ix2 i t) = turned v c s t (o' + i.val) := by
  obtain ⟨rfl, h64, hle⟩ := ho
  have hlt : o + 8 + i.val < 512 := by omega
  refine Eq.trans ?_ (dif_pos hlt).symm
  refine rope_hi (by decide) (fun f : Fin 512 => v (ix2 f t)) (fun i => c (ix2 i t)) (fun i => s (ix2 i t)) ⟨o + 8 + i.val, hlt⟩ i _ _ (by show (o + 8 + i.val) % 64 = 8 + i.val; omega) (slice_apply v (o + 8) (by omega) h' i t) ?_
  exact (slice_apply v o (by omega) h i t).trans (congrArg (fun r => v (ix2 r t)) (Fin.ext (by show o + i.val = o + 8 + i.val - 8; omega)))

theorem rest_apply (v : FVec Ideal S512x512 .f32) (c s : FVec Ideal S8x512 .f32) (t : Fin 512) (o o' : ℕ) (ho : o' = o + 16 ∧ 64 ∣ o ∧ o + 64 ≤ 512) (h : S512x512.Slices ![o', 0] S48x512) (i : Fin 48) :
    extractStridedSlice S48x512 ![o', 0] v h (ix2 i t) = turned v c s t (o' + i.val) := by
  obtain ⟨rfl, h64, hle⟩ := ho
  have hlt : o + 16 + i.val < 512 := by omega
  refine Eq.trans ?_ (dif_pos hlt).symm
  exact rope_rest (by decide) (fun f : Fin 512 => v (ix2 f t)) (fun i => c (ix2 i t)) (fun i => s (ix2 i t)) ⟨o + 16 + i.val, hlt⟩ _ (by show 16 ≤ (o + 16 + i.val) % 64; omega) (slice_apply v (o + 16) (by omega) h i t)

theorem scaled_apply (u : FVec Ideal S512x512 .f32) (f t : Fin 512) :
    shapeCast S1x512x512 (truncf .bf16 (mulf u (broadcast S512x512 (Scalar.ofBits (F := Ideal) .f32 0x3E38AA3B#32))) bitsLt_bf16_f32) shapeCasts_S512x512_S1x512x512 (ix3 0 f t) = u (ix2 f t) * Ideal.ofBits FTy.f32 0x3E38AA3B#32 := by
  pointwise

theorem flat_apply (u : FVec Ideal S512x512 .f32) (f t : Fin 512) :
    shapeCast S1x512x512 (truncf .bf16 u bitsLt_bf16_f32) shapeCasts_S512x512_S1x512x512 (ix3 0 f t) = u (ix2 f t) := by
  pointwise

theorem q_apply (x0 : FVec Ideal S1x512x1024 .f32) (x1 : FVec Ideal S1x1024 .f32) (x2 : FVec Ideal S1024x640 .bf16) (x3 : FVec Ideal S1552x1024 .bf16) (x4 : FVec Ideal S8x512 .f32) (x5 : FVec Ideal S8x512 .f32)  (f t : Fin 512) :
    k0_pay50 (F := Ideal) (k0_pay11 x0 x1 x3 x4 x5) (k0_pay12 x0 x1 x3 x4 x5) (k0_pay13 x0 x1 x3)
      (k0_pay17 (k0_pay7 x5) (k0_pay15 x0 x1 x3) (k0_pay16 x0 x1 x3 x4))
      (k0_pay18 (k0_pay6 x4) (k0_pay7 x5) (k0_pay14 x0 x1 x3) (k0_pay15 x0 x1 x3)) (k0_pay19 (k0_pay8 x0 x1 x3))
      (k0_pay22 (k0_pay6 x4) (k0_pay7 x5) (k0_pay8 x0 x1 x3)) (k0_pay23 (k0_pay6 x4) (k0_pay7 x5) (k0_pay8 x0 x1 x3)) (k0_pay24 (k0_pay8 x0 x1 x3))
      (k0_pay27 (k0_pay6 x4) (k0_pay7 x5) (k0_pay8 x0 x1 x3)) (k0_pay28 (k0_pay6 x4) (k0_pay7 x5) (k0_pay8 x0 x1 x3)) (k0_pay29 (k0_pay8 x0 x1 x3))
      (k0_pay32 (k0_pay6 x4) (k0_pay7 x5) (k0_pay8 x0 x1 x3)) (k0_pay33 (k0_pay6 x4) (k0_pay7 x5) (k0_pay8 x0 x1 x3)) (k0_pay34 (k0_pay8 x0 x1 x3))
      (k0_pay37 (k0_pay6 x4) (k0_pay7 x5) (k0_pay8 x0 x1 x3)) (k0_pay38 (k0_pay6 x4) (k0_pay7 x5) (k0_pay8 x0 x1 x3)) (k0_pay39 (k0_pay8 x0 x1 x3))
      (k0_pay42 (k0_pay6 x4) (k0_pay7 x5) (k0_pay8 x0 x1 x3)) (k0_pay43 (k0_pay6 x4) (k0_pay7 x5) (k0_pay8 x0 x1 x3)) (k0_pay44 (k0_pay8 x0 x1 x3))
      (k0_pay47 (k0_pay6 x4) (k0_pay7 x5) (k0_pay8 x0 x1 x3)) (k0_pay48 (k0_pay6 x4) (k0_pay7 x5) (k0_pay8 x0 x1 x3)) (k0_pay49 (k0_pay8 x0 x1 x3)) (ix3 0 f t)
      = rope (by decide) (fun f : Fin 512 => k0_pay8 (F := Ideal) x0 x1 x3 (ix2 f t)) (fun i => x4 (ix2 i t)) (fun i => x5 (ix2 i t)) f * Ideal.ofBits FTy.f32 0x3E38AA3B#32 := by
  have e6 : k0_pay6 (F := Ideal) x4 = x4 := shapeCast_self _ _
  have e7 : k0_pay7 (F := Ideal) x5 = x5 := shapeCast_self _ _
  refine (scaled_apply _ f t).trans (congrArg (· * _) ?_)
  simp only [k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, e6, e7]
  exact cat_apply (k0_pay8 x0 x1 x3) x4 x5 f t _ _
    (reads_cons f t _ _ _ _ _ (lo_apply (k0_pay8 x0 x1 x3) x4 x5 t 0 8 (by decide) _ _) (reads_cons f t _ _ _ _ _ (hi_apply (k0_pay8 x0 x1 x3) x4 x5 t 0 8 (by decide) _ _) (reads_cons f t _ _ _ _ _ (rest_apply (k0_pay8 x0 x1 x3) x4 x5 t 0 16 (by decide) _)
    (reads_cons f t _ _ _ _ _ (lo_apply (k0_pay8 x0 x1 x3) x4 x5 t 64 72 (by decide) _ _) (reads_cons f t _ _ _ _ _ (hi_apply (k0_pay8 x0 x1 x3) x4 x5 t 64 72 (by decide) _ _) (reads_cons f t _ _ _ _ _ (rest_apply (k0_pay8 x0 x1 x3) x4 x5 t 64 80 (by decide) _)
    (reads_cons f t _ _ _ _ _ (lo_apply (k0_pay8 x0 x1 x3) x4 x5 t 128 136 (by decide) _ _) (reads_cons f t _ _ _ _ _ (hi_apply (k0_pay8 x0 x1 x3) x4 x5 t 128 136 (by decide) _ _) (reads_cons f t _ _ _ _ _ (rest_apply (k0_pay8 x0 x1 x3) x4 x5 t 128 144 (by decide) _)
    (reads_cons f t _ _ _ _ _ (lo_apply (k0_pay8 x0 x1 x3) x4 x5 t 192 200 (by decide) _ _) (reads_cons f t _ _ _ _ _ (hi_apply (k0_pay8 x0 x1 x3) x4 x5 t 192 200 (by decide) _ _) (reads_cons f t _ _ _ _ _ (rest_apply (k0_pay8 x0 x1 x3) x4 x5 t 192 208 (by decide) _)
    (reads_cons f t _ _ _ _ _ (lo_apply (k0_pay8 x0 x1 x3) x4 x5 t 256 264 (by decide) _ _) (reads_cons f t _ _ _ _ _ (hi_apply (k0_pay8 x0 x1 x3) x4 x5 t 256 264 (by decide) _ _) (reads_cons f t _ _ _ _ _ (rest_apply (k0_pay8 x0 x1 x3) x4 x5 t 256 272 (by decide) _)
    (reads_cons f t _ _ _ _ _ (lo_apply (k0_pay8 x0 x1 x3) x4 x5 t 320 328 (by decide) _ _) (reads_cons f t _ _ _ _ _ (hi_apply (k0_pay8 x0 x1 x3) x4 x5 t 320 328 (by decide) _ _) (reads_cons f t _ _ _ _ _ (rest_apply (k0_pay8 x0 x1 x3) x4 x5 t 320 336 (by decide) _)
    (reads_cons f t _ _ _ _ _ (lo_apply (k0_pay8 x0 x1 x3) x4 x5 t 384 392 (by decide) _ _) (reads_cons f t _ _ _ _ _ (hi_apply (k0_pay8 x0 x1 x3) x4 x5 t 384 392 (by decide) _ _) (reads_cons f t _ _ _ _ _ (rest_apply (k0_pay8 x0 x1 x3) x4 x5 t 384 400 (by decide) _)
    (reads_cons f t _ _ _ _ _ (lo_apply (k0_pay8 x0 x1 x3) x4 x5 t 448 456 (by decide) _ _) (reads_cons f t _ _ _ _ _ (hi_apply (k0_pay8 x0 x1 x3) x4 x5 t 448 456 (by decide) _ _) (reads_one f t _ _ _ (rest_apply (k0_pay8 x0 x1 x3) x4 x5 t 448 464 (by decide) _)))))))))))))))))))))))))

theorem iq_apply (x0 : FVec Ideal S1x512x1024 .f32) (x1 : FVec Ideal S1x1024 .f32) (x2 : FVec Ideal S1024x640 .bf16) (x3 : FVec Ideal S1552x1024 .bf16) (x4 : FVec Ideal S8x512 .f32) (x5 : FVec Ideal S8x512 .f32)  (f t : Fin 512) :
    k0_pay79 (F := Ideal) (k0_pay6 x4) (k0_pay7 x5) (k0_pay51 (k0_pay5 x0 x1 x3))
      (k0_pay54 (k0_pay5 x0 x1 x3) (k0_pay6 x4) (k0_pay7 x5)) (k0_pay55 (k0_pay5 x0 x1 x3) (k0_pay6 x4) (k0_pay7 x5)) (k0_pay56 (k0_pay5 x0 x1 x3))
      (k0_pay59 (k0_pay5 x0 x1 x3) (k0_pay6 x4) (k0_pay7 x5)) (k0_pay60 (k0_pay5 x0 x1 x3) (k0_pay6 x4) (k0_pay7 x5)) (k0_pay61 (k0_pay5 x0 x1 x3))
      (k0_pay64 (k0_pay5 x0 x1 x3) (k0_pay6 x4) (k0_pay7 x5)) (k0_pay65 (k0_pay5 x0 x1 x3) (k0_pay6 x4) (k0_pay7 x5)) (k0_pay66 (k0_pay5 x0 x1 x3))
      (k0_pay69 (k0_pay5 x0 x1 x3) (k0_pay6 x4) (k0_pay7 x5)) (k0_pay70 (k0_pay5 x0 x1 x3) (k0_pay6 x4) (k0_pay7 x5)) (k0_pay71 (k0_pay5 x0 x1 x3))
      (k0_pay74 (k0_pay5 x0 x1 x3) (k0_pay6 x4) (k0_pay7 x5)) (k0_pay75 (k0_pay5 x0 x1 x3) (k0_pay6 x4) (k0_pay7 x5)) (k0_pay76 (k0_pay5 x0 x1 x3)) (k0_pay77 (k0_pay5 x0 x1 x3)) (k0_pay78 (k0_pay5 x0 x1 x3)) (ix3 0 f t)
      = rope (by decide) (fun f : Fin 512 => k0_pay51 (F := Ideal) (k0_pay5 (F := Ideal) x0 x1 x3) (ix2 f t)) (fun i => x4 (ix2 i t)) (fun i => x5 (ix2 i t)) f := by
  have e6 : k0_pay6 (F := Ideal) x4 = x4 := shapeCast_self _ _
  have e7 : k0_pay7 (F := Ideal) x5 = x5 := shapeCast_self _ _
  refine (flat_apply _ f t).trans ?_
  simp only [k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, e6, e7]
  exact cat_apply (k0_pay51 (k0_pay5 x0 x1 x3)) x4 x5 f t _ _
    (reads_cons f t _ _ _ _ _ (lo_apply (k0_pay51 (k0_pay5 x0 x1 x3)) x4 x5 t 0 8 (by decide) _ _) (reads_cons f t _ _ _ _ _ (hi_apply (k0_pay51 (k0_pay5 x0 x1 x3)) x4 x5 t 0 8 (by decide) _ _) (reads_cons f t _ _ _ _ _ (rest_apply (k0_pay51 (k0_pay5 x0 x1 x3)) x4 x5 t 0 16 (by decide) _)
    (reads_cons f t _ _ _ _ _ (lo_apply (k0_pay51 (k0_pay5 x0 x1 x3)) x4 x5 t 64 72 (by decide) _ _) (reads_cons f t _ _ _ _ _ (hi_apply (k0_pay51 (k0_pay5 x0 x1 x3)) x4 x5 t 64 72 (by decide) _ _) (reads_cons f t _ _ _ _ _ (rest_apply (k0_pay51 (k0_pay5 x0 x1 x3)) x4 x5 t 64 80 (by decide) _)
    (reads_cons f t _ _ _ _ _ (lo_apply (k0_pay51 (k0_pay5 x0 x1 x3)) x4 x5 t 128 136 (by decide) _ _) (reads_cons f t _ _ _ _ _ (hi_apply (k0_pay51 (k0_pay5 x0 x1 x3)) x4 x5 t 128 136 (by decide) _ _) (reads_cons f t _ _ _ _ _ (rest_apply (k0_pay51 (k0_pay5 x0 x1 x3)) x4 x5 t 128 144 (by decide) _)
    (reads_cons f t _ _ _ _ _ (lo_apply (k0_pay51 (k0_pay5 x0 x1 x3)) x4 x5 t 192 200 (by decide) _ _) (reads_cons f t _ _ _ _ _ (hi_apply (k0_pay51 (k0_pay5 x0 x1 x3)) x4 x5 t 192 200 (by decide) _ _) (reads_cons f t _ _ _ _ _ (rest_apply (k0_pay51 (k0_pay5 x0 x1 x3)) x4 x5 t 192 208 (by decide) _)
    (reads_cons f t _ _ _ _ _ (lo_apply (k0_pay51 (k0_pay5 x0 x1 x3)) x4 x5 t 256 264 (by decide) _ _) (reads_cons f t _ _ _ _ _ (hi_apply (k0_pay51 (k0_pay5 x0 x1 x3)) x4 x5 t 256 264 (by decide) _ _) (reads_cons f t _ _ _ _ _ (rest_apply (k0_pay51 (k0_pay5 x0 x1 x3)) x4 x5 t 256 272 (by decide) _)
    (reads_cons f t _ _ _ _ _ (lo_apply (k0_pay51 (k0_pay5 x0 x1 x3)) x4 x5 t 320 328 (by decide) _ _) (reads_cons f t _ _ _ _ _ (hi_apply (k0_pay51 (k0_pay5 x0 x1 x3)) x4 x5 t 320 328 (by decide) _ _) (reads_cons f t _ _ _ _ _ (rest_apply (k0_pay51 (k0_pay5 x0 x1 x3)) x4 x5 t 320 336 (by decide) _)
    (reads_cons f t _ _ _ _ _ (lo_apply (k0_pay51 (k0_pay5 x0 x1 x3)) x4 x5 t 384 392 (by decide) _ _) (reads_cons f t _ _ _ _ _ (hi_apply (k0_pay51 (k0_pay5 x0 x1 x3)) x4 x5 t 384 392 (by decide) _ _) (reads_cons f t _ _ _ _ _ (rest_apply (k0_pay51 (k0_pay5 x0 x1 x3)) x4 x5 t 384 400 (by decide) _)
    (reads_cons f t _ _ _ _ _ (lo_apply (k0_pay51 (k0_pay5 x0 x1 x3)) x4 x5 t 448 456 (by decide) _ _) (reads_cons f t _ _ _ _ _ (hi_apply (k0_pay51 (k0_pay5 x0 x1 x3)) x4 x5 t 448 456 (by decide) _ _) (reads_one f t _ _ _ (rest_apply (k0_pay51 (k0_pay5 x0 x1 x3)) x4 x5 t 448 464 (by decide) _)))))))))))))))))))))))))

theorem k_apply_0 (v : FVec Ideal S512x640 .f32) (a b c : FVec Ideal S512x128 .f32) (t : Fin 512) (d : Fin 128) :
    k0_pay108 (F := Ideal) (k0_pay104 c) (k0_pay106 v a b) (k0_pay107 v) (ix3 0 t d) = turn (fun f => v (ix2 t f)) (fun l => a (ix2 t l)) (fun l => b (ix2 t l)) (fun l => c (ix2 t l)) ⟨d.val, by omega⟩ := by
  pointwise [k0_pay102, k0_pay103, k0_pay104, k0_pay105, k0_pay106, k0_pay107, k0_pay108, k0_pay109, k0_pay110, k0_pay111, k0_pay1]
  exact turn_of (fun f => v (ix2 t f)) (fun l => a (ix2 t l)) (fun l => b (ix2 t l)) (fun l => c (ix2 t l)) ⟨d.val, by omega⟩ d _ _ _ (by show d.val = d.val % 128; omega) rfl
    (by show (d.val + 128 - 8) % 128 = d.val / 128 * 128 + (d.val % 128 + 120) % 128; omega)
    (by show (d.val + 128 - 120) % 128 = d.val / 128 * 128 + (d.val % 128 + 8) % 128; omega)

theorem k_apply_128 (v : FVec Ideal S512x640 .f32) (a b c : FVec Ideal S512x128 .f32) (t : Fin 512) (d : Fin 128) :
    k0_pay109 (F := Ideal) v (k0_pay102 a) (k0_pay103 b) (k0_pay104 c) (ix3 0 t d) = turn (fun f => v (ix2 t f)) (fun l => a (ix2 t l)) (fun l => b (ix2 t l)) (fun l => c (ix2 t l)) ⟨128 + d.val, by omega⟩ := by
  pointwise [k0_pay102, k0_pay103, k0_pay104, k0_pay105, k0_pay106, k0_pay107, k0_pay108, k0_pay109, k0_pay110, k0_pay111, k0_pay1]
  exact turn_of (fun f => v (ix2 t f)) (fun l => a (ix2 t l)) (fun l => b (ix2 t l)) (fun l => c (ix2 t l)) ⟨128 + d.val, by omega⟩ ⟨d.val, by omega⟩ _ _ _ (by show d.val = (128 + d.val) % 128; omega) rfl
    (by show 128 + (d.val + 128 - 8) % 128 = (128 + d.val) / 128 * 128 + ((128 + d.val) % 128 + 120) % 128; omega)
    (by show 128 + (d.val + 128 - 120) % 128 = (128 + d.val) / 128 * 128 + ((128 + d.val) % 128 + 8) % 128; omega)

theorem k_apply_256 (v : FVec Ideal S512x640 .f32) (a b c : FVec Ideal S512x128 .f32) (t : Fin 512) (d : Fin 128) :
    k0_pay110 (F := Ideal) v (k0_pay102 a) (k0_pay103 b) (k0_pay104 c) (ix3 0 t d) = turn (fun f => v (ix2 t f)) (fun l => a (ix2 t l)) (fun l => b (ix2 t l)) (fun l => c (ix2 t l)) ⟨256 + d.val, by omega⟩ := by
  pointwise [k0_pay102, k0_pay103, k0_pay104, k0_pay105, k0_pay106, k0_pay107, k0_pay108, k0_pay109, k0_pay110, k0_pay111, k0_pay1]
  exact turn_of (fun f => v (ix2 t f)) (fun l => a (ix2 t l)) (fun l => b (ix2 t l)) (fun l => c (ix2 t l)) ⟨256 + d.val, by omega⟩ ⟨d.val, by omega⟩ _ _ _ (by show d.val = (256 + d.val) % 128; omega) rfl
    (by show 256 + (d.val + 128 - 8) % 128 = (256 + d.val) / 128 * 128 + ((256 + d.val) % 128 + 120) % 128; omega)
    (by show 256 + (d.val + 128 - 120) % 128 = (256 + d.val) / 128 * 128 + ((256 + d.val) % 128 + 8) % 128; omega)

theorem k_apply_384 (v : FVec Ideal S512x640 .f32) (a b c : FVec Ideal S512x128 .f32) (t : Fin 512) (d : Fin 128) :
    k0_pay1 (F := Ideal) (k0_pay111 v (k0_pay102 a) (k0_pay103 b) (k0_pay104 c)) (ix3 0 t d) = turn (fun f => v (ix2 t f)) (fun l => a (ix2 t l)) (fun l => b (ix2 t l)) (fun l => c (ix2 t l)) ⟨384 + d.val, by omega⟩ := by
  pointwise [k0_pay102, k0_pay103, k0_pay104, k0_pay105, k0_pay106, k0_pay107, k0_pay108, k0_pay109, k0_pay110, k0_pay111, k0_pay1]
  exact turn_of (fun f => v (ix2 t f)) (fun l => a (ix2 t l)) (fun l => b (ix2 t l)) (fun l => c (ix2 t l)) ⟨384 + d.val, by omega⟩ ⟨d.val, by omega⟩ _ _ _ (by show d.val = (384 + d.val) % 128; omega) rfl
    (by show 384 + (d.val + 128 - 8) % 128 = (384 + d.val) / 128 * 128 + ((384 + d.val) % 128 + 120) % 128; omega)
    (by show 384 + (d.val + 128 - 120) % 128 = (384 + d.val) / 128 * 128 + ((384 + d.val) % 128 + 8) % 128; omega)

/-- What the four key pieces put together read as. -/
def kBlock (v : FVec Ideal S512x640 .f32) (a b c : FVec Ideal S512x128 .f32) : FVec Ideal S1x512x512 .bf16 := fun y =>
  turn (fun f => v (ix2 (y 1) f)) (fun l => a (ix2 (y 1) l)) (fun l => b (ix2 (y 1) l)) (fun l => c (ix2 (y 1) l)) ⟨(y 2).val, Nat.lt_trans (y 2).isLt (by decide)⟩

/-- What the sixteen value pieces put together read as. -/
def vBlock (v : FVec Ideal S1552x512 .f32) : FVec Ideal S1x1x8x80x512 .bf16 := fun y =>
  vals (fun f => v (ix2 ⟨1024 + f.val, by omega⟩ (y 4))) (y 2) (y 3)

theorem out_eq_9 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x640 .bf16) (harg4 : arg4.IsWhole) (arg5 : Memref sig .tc .vmem S1552x1024 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x1x8x80x512 .bf16) (harg13 : arg13.IsWhole) (arg14 : Memref sig .tc .vmem S1x8x512 .f32) (harg14 : arg14.IsWhole) (arg15 : Memref sig .tc .vmem S1x512x512 .bf16) (harg15 : arg15.IsWhole) (arg16 : Memref sig .tc .vmem S1x512x64 .bf16) (harg16 : arg16.IsWhole) (x0 : Vec Ideal S1x512x1024 .f32) (x1 : Vec Ideal S1x1024 .f32) (x2 : Vec Ideal S1024x640 .bf16) (x3 : Vec Ideal S1552x1024 .bf16) (x4 : Vec Ideal S8x512 .f32) (x5 : Vec Ideal S8x512 .f32) (x6 : Vec Ideal S512x128 .f32) (x7 : Vec Ideal S512x128 .f32) (x8 : Vec Ideal S512x128 .f32) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 = k0_pay50 (F := Ideal) (k0_pay11 x0 x1 x3 x4 x5) (k0_pay12 x0 x1 x3 x4 x5) (k0_pay13 x0 x1 x3)
      (k0_pay17 (k0_pay7 x5) (k0_pay15 x0 x1 x3) (k0_pay16 x0 x1 x3 x4))
      (k0_pay18 (k0_pay6 x4) (k0_pay7 x5) (k0_pay14 x0 x1 x3) (k0_pay15 x0 x1 x3)) (k0_pay19 (k0_pay8 x0 x1 x3))
      (k0_pay22 (k0_pay6 x4) (k0_pay7 x5) (k0_pay8 x0 x1 x3)) (k0_pay23 (k0_pay6 x4) (k0_pay7 x5) (k0_pay8 x0 x1 x3)) (k0_pay24 (k0_pay8 x0 x1 x3))
      (k0_pay27 (k0_pay6 x4) (k0_pay7 x5) (k0_pay8 x0 x1 x3)) (k0_pay28 (k0_pay6 x4) (k0_pay7 x5) (k0_pay8 x0 x1 x3)) (k0_pay29 (k0_pay8 x0 x1 x3))
      (k0_pay32 (k0_pay6 x4) (k0_pay7 x5) (k0_pay8 x0 x1 x3)) (k0_pay33 (k0_pay6 x4) (k0_pay7 x5) (k0_pay8 x0 x1 x3)) (k0_pay34 (k0_pay8 x0 x1 x3))
      (k0_pay37 (k0_pay6 x4) (k0_pay7 x5) (k0_pay8 x0 x1 x3)) (k0_pay38 (k0_pay6 x4) (k0_pay7 x5) (k0_pay8 x0 x1 x3)) (k0_pay39 (k0_pay8 x0 x1 x3))
      (k0_pay42 (k0_pay6 x4) (k0_pay7 x5) (k0_pay8 x0 x1 x3)) (k0_pay43 (k0_pay6 x4) (k0_pay7 x5) (k0_pay8 x0 x1 x3)) (k0_pay44 (k0_pay8 x0 x1 x3))
      (k0_pay47 (k0_pay6 x4) (k0_pay7 x5) (k0_pay8 x0 x1 x3)) (k0_pay48 (k0_pay6 x4) (k0_pay7 x5) (k0_pay8 x0 x1 x3)) (k0_pay49 (k0_pay8 x0 x1 x3)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  rw [View.canon_unit_zero hz3]
  simp only [View.readAt_eq_ld, View.ld_unit_zero (S := S1x512x1024) hz3, View.ld_unit_zero (S := S1x1024) hz2, View.ld_unit_zero (S := S1024x640) hz2, View.ld_unit_zero (S := S1552x1024) hz2, View.ld_unit_zero (S := S8x512) hz2, View.ld_unit_zero (S := S512x128) hz2, harg2.read_unread, harg3.read_unread, harg4.read_unread, harg5.read_unread, harg6.read_unread, harg7.read_unread, harg8.read_unread, harg9.read_unread, harg10.read_unread]

theorem out_eq_10 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x640 .bf16) (harg4 : arg4.IsWhole) (arg5 : Memref sig .tc .vmem S1552x1024 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x1x8x80x512 .bf16) (harg13 : arg13.IsWhole) (arg14 : Memref sig .tc .vmem S1x8x512 .f32) (harg14 : arg14.IsWhole) (arg15 : Memref sig .tc .vmem S1x512x512 .bf16) (harg15 : arg15.IsWhole) (arg16 : Memref sig .tc .vmem S1x512x64 .bf16) (harg16 : arg16.IsWhole) (x0 : Vec Ideal S1x512x1024 .f32) (x1 : Vec Ideal S1x1024 .f32) (x2 : Vec Ideal S1024x640 .bf16) (x3 : Vec Ideal S1552x1024 .bf16) (x4 : Vec Ideal S8x512 .f32) (x5 : Vec Ideal S8x512 .f32) (x6 : Vec Ideal S512x128 .f32) (x7 : Vec Ideal S512x128 .f32) (x8 : Vec Ideal S512x128 .f32) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 = k0_pay79 (F := Ideal) (k0_pay6 x4) (k0_pay7 x5) (k0_pay51 (k0_pay5 x0 x1 x3))
      (k0_pay54 (k0_pay5 x0 x1 x3) (k0_pay6 x4) (k0_pay7 x5)) (k0_pay55 (k0_pay5 x0 x1 x3) (k0_pay6 x4) (k0_pay7 x5)) (k0_pay56 (k0_pay5 x0 x1 x3))
      (k0_pay59 (k0_pay5 x0 x1 x3) (k0_pay6 x4) (k0_pay7 x5)) (k0_pay60 (k0_pay5 x0 x1 x3) (k0_pay6 x4) (k0_pay7 x5)) (k0_pay61 (k0_pay5 x0 x1 x3))
      (k0_pay64 (k0_pay5 x0 x1 x3) (k0_pay6 x4) (k0_pay7 x5)) (k0_pay65 (k0_pay5 x0 x1 x3) (k0_pay6 x4) (k0_pay7 x5)) (k0_pay66 (k0_pay5 x0 x1 x3))
      (k0_pay69 (k0_pay5 x0 x1 x3) (k0_pay6 x4) (k0_pay7 x5)) (k0_pay70 (k0_pay5 x0 x1 x3) (k0_pay6 x4) (k0_pay7 x5)) (k0_pay71 (k0_pay5 x0 x1 x3))
      (k0_pay74 (k0_pay5 x0 x1 x3) (k0_pay6 x4) (k0_pay7 x5)) (k0_pay75 (k0_pay5 x0 x1 x3) (k0_pay6 x4) (k0_pay7 x5)) (k0_pay76 (k0_pay5 x0 x1 x3)) (k0_pay77 (k0_pay5 x0 x1 x3)) (k0_pay78 (k0_pay5 x0 x1 x3)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  rw [View.canon_unit_zero hz3]
  simp only [View.readAt_eq_ld, View.ld_unit_zero (S := S1x512x1024) hz3, View.ld_unit_zero (S := S1x1024) hz2, View.ld_unit_zero (S := S1024x640) hz2, View.ld_unit_zero (S := S1552x1024) hz2, View.ld_unit_zero (S := S8x512) hz2, View.ld_unit_zero (S := S512x128) hz2, harg2.read_unread, harg3.read_unread, harg4.read_unread, harg5.read_unread, harg6.read_unread, harg7.read_unread, harg8.read_unread, harg9.read_unread, harg10.read_unread]

theorem out_eq_12 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x640 .bf16) (harg4 : arg4.IsWhole) (arg5 : Memref sig .tc .vmem S1552x1024 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x1x8x80x512 .bf16) (harg13 : arg13.IsWhole) (arg14 : Memref sig .tc .vmem S1x8x512 .f32) (harg14 : arg14.IsWhole) (arg15 : Memref sig .tc .vmem S1x512x512 .bf16) (harg15 : arg15.IsWhole) (arg16 : Memref sig .tc .vmem S1x512x64 .bf16) (harg16 : arg16.IsWhole) (x0 : Vec Ideal S1x512x1024 .f32) (x1 : Vec Ideal S1x1024 .f32) (x2 : Vec Ideal S1024x640 .bf16) (x3 : Vec Ideal S1552x1024 .bf16) (x4 : Vec Ideal S8x512 .f32) (x5 : Vec Ideal S8x512 .f32) (x6 : Vec Ideal S512x128 .f32) (x7 : Vec Ideal S512x128 .f32) (x8 : Vec Ideal S512x128 .f32) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 = k0_pay101 (k0_pay5 x0 x1 x3) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  rw [View.canon_unit_zero hz3]
  simp only [View.readAt_eq_ld, View.ld_unit_zero (S := S1x512x1024) hz3, View.ld_unit_zero (S := S1x1024) hz2, View.ld_unit_zero (S := S1024x640) hz2, View.ld_unit_zero (S := S1552x1024) hz2, View.ld_unit_zero (S := S8x512) hz2, View.ld_unit_zero (S := S512x128) hz2, harg2.read_unread, harg3.read_unread, harg4.read_unread, harg5.read_unread, harg6.read_unread, harg7.read_unread, harg8.read_unread, harg9.read_unread, harg10.read_unread]

theorem out_eq_14 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x640 .bf16) (harg4 : arg4.IsWhole) (arg5 : Memref sig .tc .vmem S1552x1024 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x1x8x80x512 .bf16) (harg13 : arg13.IsWhole) (arg14 : Memref sig .tc .vmem S1x8x512 .f32) (harg14 : arg14.IsWhole) (arg15 : Memref sig .tc .vmem S1x512x512 .bf16) (harg15 : arg15.IsWhole) (arg16 : Memref sig .tc .vmem S1x512x64 .bf16) (harg16 : arg16.IsWhole) (x0 : Vec Ideal S1x512x1024 .f32) (x1 : Vec Ideal S1x1024 .f32) (x2 : Vec Ideal S1024x640 .bf16) (x3 : Vec Ideal S1552x1024 .bf16) (x4 : Vec Ideal S8x512 .f32) (x5 : Vec Ideal S8x512 .f32) (x6 : Vec Ideal S512x128 .f32) (x7 : Vec Ideal S512x128 .f32) (x8 : Vec Ideal S512x128 .f32) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 = k0_pay2 (k0_pay4 x0 x1 x2) (k0_pay102 x6) (k0_pay103 x7) (k0_pay104 x8) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  rw [View.canon_unit_zero hz3]
  simp only [View.readAt_eq_ld, View.ld_unit_zero (S := S1x512x1024) hz3, View.ld_unit_zero (S := S1x1024) hz2, View.ld_unit_zero (S := S1024x640) hz2, View.ld_unit_zero (S := S1552x1024) hz2, View.ld_unit_zero (S := S8x512) hz2, View.ld_unit_zero (S := S512x128) hz2, harg2.read_unread, harg3.read_unread, harg4.read_unread, harg5.read_unread, harg6.read_unread, harg7.read_unread, harg8.read_unread, harg9.read_unread, harg10.read_unread]

theorem out_eq_13 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x640 .bf16) (harg4 : arg4.IsWhole) (arg5 : Memref sig .tc .vmem S1552x1024 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x1x8x80x512 .bf16) (harg13 : arg13.IsWhole) (arg14 : Memref sig .tc .vmem S1x8x512 .f32) (harg14 : arg14.IsWhole) (arg15 : Memref sig .tc .vmem S1x512x512 .bf16) (harg15 : arg15.IsWhole) (arg16 : Memref sig .tc .vmem S1x512x64 .bf16) (harg16 : arg16.IsWhole) (x0 : Vec Ideal S1x512x1024 .f32) (x1 : Vec Ideal S1x1024 .f32) (x2 : Vec Ideal S1024x640 .bf16) (x3 : Vec Ideal S1552x1024 .bf16) (x4 : Vec Ideal S8x512 .f32) (x5 : Vec Ideal S8x512 .f32) (x6 : Vec Ideal S512x128 .f32) (x7 : Vec Ideal S512x128 .f32) (x8 : Vec Ideal S512x128 .f32) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 = kBlock (k0_pay4 x0 x1 x2) x6 x7 x8 := by
  have hc := cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
  unfold out0_A_13
  rw [View.read_writes_eq_canon _ _ _ hc]
  funext y
  have hy := hc y
  revert hy
  unfold kernelRun0_A
  dsimp only
  sl_unfold_words
  simp only [View.readAt_eq_ld, View.ld_unit_zero (S := S1x512x1024) hz3, View.ld_unit_zero (S := S1x1024) hz2, View.ld_unit_zero (S := S1024x640) hz2, View.ld_unit_zero (S := S1552x1024) hz2, View.ld_unit_zero (S := S8x512) hz2, View.ld_unit_zero (S := S512x128) hz2, harg2.read_unread, harg3.read_unread, harg4.read_unread, harg5.read_unread, harg6.read_unread, harg7.read_unread, harg8.read_unread, harg9.read_unread, harg10.read_unread]
  intro hy
  refine View.canon_apply_of_pieces (kBlock (k0_pay4 x0 x1 x2) x6 x7 x8) _ ?_ y hy
  intro p hp
  simp only [List.mem_cons, List.not_mem_nil, or_false] at hp
  rcases hp with rfl | rfl | rfl | rfl <;> intro x
  · obtain ⟨z, t, l, rfl⟩ : ∃ (z : Fin 1) (t : Fin 512) (l : Fin 128), x = ix3 z t l := ⟨x 0, x 1, x 2, eq_ix3 x⟩
    obtain rfl : z = 0 := Subsingleton.elim _ _
    refine (k_apply_384 (k0_pay4 x0 x1 x2) x6 x7 x8 t l).trans ?_
    have e1 : (⟨0 + 1 * t.val, by omega⟩ : Fin 512) = t := Fin.ext (by show 0 + 1 * t.val = t.val; omega)
    have e2 : (⟨384 + 1 * l.val, by omega⟩ : Fin 640) = ⟨384 + l.val, by omega⟩ := Fin.ext (by show 384 + 1 * l.val = 384 + l.val; omega)
    rw [← e2]
    exact congrArg (fun t => turn (fun f => (k0_pay4 (F := Ideal) x0 x1 x2) (ix2 t f)) (fun l => x6 (ix2 t l)) (fun l => x7 (ix2 t l)) (fun l => x8 (ix2 t l)) ⟨384 + 1 * l.val, by omega⟩) e1.symm
  · obtain ⟨z, t, l, rfl⟩ : ∃ (z : Fin 1) (t : Fin 512) (l : Fin 128), x = ix3 z t l := ⟨x 0, x 1, x 2, eq_ix3 x⟩
    obtain rfl : z = 0 := Subsingleton.elim _ _
    refine (k_apply_256 (k0_pay4 x0 x1 x2) x6 x7 x8 t l).trans ?_
    have e1 : (⟨0 + 1 * t.val, by omega⟩ : Fin 512) = t := Fin.ext (by show 0 + 1 * t.val = t.val; omega)
    have e2 : (⟨256 + 1 * l.val, by omega⟩ : Fin 640) = ⟨256 + l.val, by omega⟩ := Fin.ext (by show 256 + 1 * l.val = 256 + l.val; omega)
    rw [← e2]
    exact congrArg (fun t => turn (fun f => (k0_pay4 (F := Ideal) x0 x1 x2) (ix2 t f)) (fun l => x6 (ix2 t l)) (fun l => x7 (ix2 t l)) (fun l => x8 (ix2 t l)) ⟨256 + 1 * l.val, by omega⟩) e1.symm
  · obtain ⟨z, t, l, rfl⟩ : ∃ (z : Fin 1) (t : Fin 512) (l : Fin 128), x = ix3 z t l := ⟨x 0, x 1, x 2, eq_ix3 x⟩
    obtain rfl : z = 0 := Subsingleton.elim _ _
    refine (k_apply_128 (k0_pay4 x0 x1 x2) x6 x7 x8 t l).trans ?_
    have e1 : (⟨0 + 1 * t.val, by omega⟩ : Fin 512) = t := Fin.ext (by show 0 + 1 * t.val = t.val; omega)
    have e2 : (⟨128 + 1 * l.val, by omega⟩ : Fin 640) = ⟨128 + l.val, by omega⟩ := Fin.ext (by show 128 + 1 * l.val = 128 + l.val; omega)
    rw [← e2]
    exact congrArg (fun t => turn (fun f => (k0_pay4 (F := Ideal) x0 x1 x2) (ix2 t f)) (fun l => x6 (ix2 t l)) (fun l => x7 (ix2 t l)) (fun l => x8 (ix2 t l)) ⟨128 + 1 * l.val, by omega⟩) e1.symm
  · obtain ⟨z, t, l, rfl⟩ : ∃ (z : Fin 1) (t : Fin 512) (l : Fin 128), x = ix3 z t l := ⟨x 0, x 1, x 2, eq_ix3 x⟩
    obtain rfl : z = 0 := Subsingleton.elim _ _
    refine (k_apply_0 (k0_pay4 x0 x1 x2) x6 x7 x8 t l).trans ?_
    have e1 : (⟨0 + 1 * t.val, by omega⟩ : Fin 512) = t := Fin.ext (by show 0 + 1 * t.val = t.val; omega)
    have e2 : (⟨0 + 1 * l.val, by omega⟩ : Fin 640) = ⟨l.val, by omega⟩ := Fin.ext (by show 0 + 1 * l.val = l.val; omega)
    rw [← e2]
    exact congrArg (fun t => turn (fun f => (k0_pay4 (F := Ideal) x0 x1 x2) (ix2 t f)) (fun l => x6 (ix2 t l)) (fun l => x7 (ix2 t l)) (fun l => x8 (ix2 t l)) ⟨0 + 1 * l.val, by omega⟩) e1.symm

theorem vBlock_ones (v : FVec Ideal S1552x512 .f32) (h : Fin 8) (x : S1x1x1x16x512.Idx) (y : S1x1x8x80x512.Idx) (h3 : (y 3).val = 64 + (x 3).val) :
    (if (x 3).val = 0 then 1 else 0 : EReal) = vBlock v y := by
  unfold vBlock vals
  refine Eq.trans ?_ (dif_neg (by omega)).symm
  by_cases hz : (x 3).val = 0
  · rw [if_pos hz, if_pos (by omega)]
  · rw [if_neg hz, if_neg (by omega)]

theorem vBlock_rows (v : FVec Ideal S1552x512 .f32) (n : ℕ) (x : S1x1x1x64x512.Idx) (hn : n + (x 3).val < 512) (y : S1x1x8x80x512.Idx) (h2 : (y 2).val * 64 = n) (h3 : (y 3).val = (x 3).val) (h4 : (y 4).val = (x 4).val) :
    v (ix2 ⟨1024 + (n + (x 3).val), by omega⟩ (x 4)) = vBlock v y := by
  have hx : (x 3).val < 64 := (x 3).isLt
  have e4 : x 4 = y 4 := Fin.ext h4.symm
  unfold vBlock vals
  refine Eq.trans ?_ (dif_pos (by omega)).symm
  rw [e4]
  exact congrArg (fun r => v (ix2 r (y 4))) (Fin.ext (by show 1024 + (n + (x 3).val) = 1024 + ((y 2).val * 64 + (y 3).val); omega))

theorem first_apply (v : FVec Ideal S1552x512 .f32) (j : S1x1x1x64x512.Idx) (h : 1024 + (0 + (j 3).val) < 1552) :
    k0_pay82 (F := Ideal) v j = v (ix2 ⟨1024 + (0 + (j 3).val), h⟩ (j 4)) :=
  (v_apply_0 v j).trans (congrArg (fun r => v (ix2 r (j 4))) (Fin.ext (by show 1024 + (j 3).val = 1024 + (0 + (j 3).val); omega)))

theorem one_apply_0 (j : S1x1x1x16x512.Idx) : k0_pay84 (F := Ideal) k0_pay83 j = if (j 3).val = 0 then 1 else 0 := by
  pointwise [k0_pay84, k0_pay83, ones_apply]

theorem one_apply_2 (j : S1x1x1x16x512.Idx) : k0_pay88 (F := Ideal) k0_pay81 j = if (j 3).val = 0 then 1 else 0 := by
  pointwise [k0_pay88, ones_apply]

theorem one_apply_3 (j : S1x1x1x16x512.Idx) : k0_pay91 (F := Ideal) (k0_pay90 k0_pay81) j = if (j 3).val = 0 then 1 else 0 := by
  pointwise [k0_pay91, k0_pay90, ones_apply]

theorem one_apply_4 (j : S1x1x1x16x512.Idx) : k0_pay93 (F := Ideal) k0_pay81 j = if (j 3).val = 0 then 1 else 0 := by
  pointwise [k0_pay93, ones_apply]

theorem one_apply_5 (j : S1x1x1x16x512.Idx) : k0_pay95 (F := Ideal) k0_pay81 j = if (j 3).val = 0 then 1 else 0 := by
  pointwise [k0_pay95, ones_apply]

theorem one_apply_6 (j : S1x1x1x16x512.Idx) : k0_pay98 (F := Ideal) (k0_pay97 k0_pay81) j = if (j 3).val = 0 then 1 else 0 := by
  pointwise [k0_pay98, k0_pay97, ones_apply]

theorem one_apply_7 (j : S1x1x1x16x512.Idx) : k0_pay100 (F := Ideal) k0_pay81 j = if (j 3).val = 0 then 1 else 0 := by
  pointwise [k0_pay100, ones_apply]

theorem out_eq_11 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x640 .bf16) (harg4 : arg4.IsWhole) (arg5 : Memref sig .tc .vmem S1552x1024 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x512 .bf16) (harg11 : arg11.IsWhole) (arg12 : Memref sig .tc .vmem S1x512x512 .bf16) (harg12 : arg12.IsWhole) (arg13 : Memref sig .tc .vmem S1x1x8x80x512 .bf16) (harg13 : arg13.IsWhole) (arg14 : Memref sig .tc .vmem S1x8x512 .f32) (harg14 : arg14.IsWhole) (arg15 : Memref sig .tc .vmem S1x512x512 .bf16) (harg15 : arg15.IsWhole) (arg16 : Memref sig .tc .vmem S1x512x64 .bf16) (harg16 : arg16.IsWhole) (x0 : Vec Ideal S1x512x1024 .f32) (x1 : Vec Ideal S1x1024 .f32) (x2 : Vec Ideal S1024x640 .bf16) (x3 : Vec Ideal S1552x1024 .bf16) (x4 : Vec Ideal S8x512 .f32) (x5 : Vec Ideal S8x512 .f32) (x6 : Vec Ideal S512x128 .f32) (x7 : Vec Ideal S512x128 .f32) (x8 : Vec Ideal S512x128 .f32) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 = vBlock (k0_pay5 x0 x1 x3) := by
  have hc := cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
  unfold out0_A_11
  rw [View.read_writes_eq_canon _ _ _ hc]
  funext y
  have hy := hc y
  revert hy
  unfold kernelRun0_A
  dsimp only
  sl_unfold_words
  simp only [View.readAt_eq_ld, View.ld_unit_zero (S := S1x512x1024) hz3, View.ld_unit_zero (S := S1x1024) hz2, View.ld_unit_zero (S := S1024x640) hz2, View.ld_unit_zero (S := S1552x1024) hz2, View.ld_unit_zero (S := S8x512) hz2, View.ld_unit_zero (S := S512x128) hz2, harg2.read_unread, harg3.read_unread, harg4.read_unread, harg5.read_unread, harg6.read_unread, harg7.read_unread, harg8.read_unread, harg9.read_unread, harg10.read_unread]
  intro hy
  refine View.canon_apply_of_pieces (vBlock (k0_pay5 x0 x1 x3)) _ ?_ y hy
  intro p hp
  simp only [List.mem_cons, List.not_mem_nil, or_false] at hp
  rcases hp with rfl | rfl | rfl | rfl | rfl | rfl | rfl | rfl | rfl | rfl | rfl | rfl | rfl | rfl | rfl | rfl <;> intro x
  · exact (one_apply_7 x).trans (vBlock_ones (k0_pay5 x0 x1 x3) 7 x _ (by show 64 + 1 * (x 3).val = 64 + (x 3).val; omega))
  · exact (v_apply_7 (k0_pay5 x0 x1 x3) x).trans (vBlock_rows (k0_pay5 x0 x1 x3) 448 x (by have : (x 3).val < 64 := (x 3).isLt; omega) _ (by show (7 + 1 * (x 2).val) * 64 = 448; have : (x 2).val < 1 := (x 2).isLt; omega) (by show 0 + 1 * (x 3).val = (x 3).val; omega) (by show 0 + 1 * (x 4).val = (x 4).val; omega))
  · exact (one_apply_6 x).trans (vBlock_ones (k0_pay5 x0 x1 x3) 6 x _ (by show 64 + 1 * (x 3).val = 64 + (x 3).val; omega))
  · exact (v_apply_6 (k0_pay5 x0 x1 x3) x).trans (vBlock_rows (k0_pay5 x0 x1 x3) 384 x (by have : (x 3).val < 64 := (x 3).isLt; omega) _ (by show (6 + 1 * (x 2).val) * 64 = 384; have : (x 2).val < 1 := (x 2).isLt; omega) (by show 0 + 1 * (x 3).val = (x 3).val; omega) (by show 0 + 1 * (x 4).val = (x 4).val; omega))
  · exact (one_apply_5 x).trans (vBlock_ones (k0_pay5 x0 x1 x3) 5 x _ (by show 64 + 1 * (x 3).val = 64 + (x 3).val; omega))
  · exact (v_apply_5 (k0_pay5 x0 x1 x3) x).trans (vBlock_rows (k0_pay5 x0 x1 x3) 320 x (by have : (x 3).val < 64 := (x 3).isLt; omega) _ (by show (5 + 1 * (x 2).val) * 64 = 320; have : (x 2).val < 1 := (x 2).isLt; omega) (by show 0 + 1 * (x 3).val = (x 3).val; omega) (by show 0 + 1 * (x 4).val = (x 4).val; omega))
  · exact (one_apply_4 x).trans (vBlock_ones (k0_pay5 x0 x1 x3) 4 x _ (by show 64 + 1 * (x 3).val = 64 + (x 3).val; omega))
  · exact (v_apply_4 (k0_pay5 x0 x1 x3) x).trans (vBlock_rows (k0_pay5 x0 x1 x3) 256 x (by have : (x 3).val < 64 := (x 3).isLt; omega) _ (by show (4 + 1 * (x 2).val) * 64 = 256; have : (x 2).val < 1 := (x 2).isLt; omega) (by show 0 + 1 * (x 3).val = (x 3).val; omega) (by show 0 + 1 * (x 4).val = (x 4).val; omega))
  · exact (one_apply_3 x).trans (vBlock_ones (k0_pay5 x0 x1 x3) 3 x _ (by show 64 + 1 * (x 3).val = 64 + (x 3).val; omega))
  · exact (v_apply_3 (k0_pay5 x0 x1 x3) x).trans (vBlock_rows (k0_pay5 x0 x1 x3) 192 x (by have : (x 3).val < 64 := (x 3).isLt; omega) _ (by show (3 + 1 * (x 2).val) * 64 = 192; have : (x 2).val < 1 := (x 2).isLt; omega) (by show 0 + 1 * (x 3).val = (x 3).val; omega) (by show 0 + 1 * (x 4).val = (x 4).val; omega))
  · exact (one_apply_2 x).trans (vBlock_ones (k0_pay5 x0 x1 x3) 2 x _ (by show 64 + 1 * (x 3).val = 64 + (x 3).val; omega))
  · exact (v_apply_2 (k0_pay5 x0 x1 x3) x).trans (vBlock_rows (k0_pay5 x0 x1 x3) 128 x (by have : (x 3).val < 64 := (x 3).isLt; omega) _ (by show (2 + 1 * (x 2).val) * 64 = 128; have : (x 2).val < 1 := (x 2).isLt; omega) (by show 0 + 1 * (x 3).val = (x 3).val; omega) (by show 0 + 1 * (x 4).val = (x 4).val; omega))
  · exact (one_apply x).trans (vBlock_ones (k0_pay5 x0 x1 x3) 1 x _ (by show 64 + 1 * (x 3).val = 64 + (x 3).val; omega))
  · exact (v_apply_1 (k0_pay5 x0 x1 x3) x).trans (vBlock_rows (k0_pay5 x0 x1 x3) 64 x (by have : (x 3).val < 64 := (x 3).isLt; omega) _ (by show (1 + 1 * (x 2).val) * 64 = 64; have : (x 2).val < 1 := (x 2).isLt; omega) (by show 0 + 1 * (x 3).val = (x 3).val; omega) (by show 0 + 1 * (x 4).val = (x 4).val; omega))
  · exact (one_apply_0 x).trans (vBlock_ones (k0_pay5 x0 x1 x3) 0 x _ (by show 64 + 1 * (x 3).val = 64 + (x 3).val; omega))
  · exact (first_apply (k0_pay5 x0 x1 x3) x (by have : (x 3).val < 64 := (x 3).isLt; omega)).trans (vBlock_rows (k0_pay5 x0 x1 x3) 0 x (by have : (x 3).val < 64 := (x 3).isLt; omega) _ (by show (0 + 1 * (x 2).val) * 64 = 0; have : (x 2).val < 1 := (x 2).isLt; omega) (by show 0 + 1 * (x 3).val = (x 3).val; omega) (by show 0 + 1 * (x 4).val = (x 4).val; omega))

end Cert.ProjectionIdeal.RefValue

end

end
-- ==== Proof.ProjVal.lean ====
/- The projection kernel's output arrays are formulas of the program's arguments: each grid point's blocks at its coordinates, the host's casts, slices, concatenations and tables read. -/
module

public import proofs.«01_k».proof.Proof.ProjBlock
public import proofs.«01_k».proof.Proof.Gen.ProjectionIdeal.Value
public import Idealize.ShloMosaic.Lib.Pipeline.ValueKit

@[expose] public section

set_option maxRecDepth 16384

noncomputable section

namespace Cert.ProjectionIdeal.RefValue

open Cert.ProjectionIdeal Cert.ProjectionIdeal.Gen Cert.ProjectionIdeal.Value Cert.FfnSpec Cert.ProjSpec Idealize.ShloMosaic Idealize.ShloMosaic.TcCoe Idealize.SL.Sem
open Idealize.ShloMosaic.Pipeline (Dat)

/-- The host's cosines of the tokens' angles. -/
def cosK : FVec Ideal S8192x8 .f32 :=
  Host.cos (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (mulf (sitofp .f32 (iotaInDim S8 32 0)) (broadcastInDim S8 ![] bcast_S_S8 (constant S_ .f32 0x40000000#32))) (broadcastInDim S8 ![] bcast_S_S8 (constant S_ .f32 0x41800000#32))))))))

/-- The host's sines of the tokens' angles. -/
def sinK : FVec Ideal S8192x8 .f32 :=
  Host.sin (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (mulf (sitofp .f32 (iotaInDim S8 32 0)) (broadcastInDim S8 ![] bcast_S_S8 (constant S_ .f32 0x40000000#32))) (broadcastInDim S8 ![] bcast_S_S8 (constant S_ .f32 0x41800000#32))))))))

/-- A table of 64 lanes twice on 128. -/
def tile (a : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 a shapeCasts_S8192x64_S1x8192x1x64)) shapeCasts_S1x8192x2x64_S8192x128

/-- The three tables on a head's 64 lanes. -/
def raK (c : FVec Ideal S8192x8 .f32) : FVec Ideal S8192x64 .f32 :=
  concatenate S8192x64 1 [⟨S8192x8, c⟩, ⟨S8192x8, c⟩, ⟨S8192x48, broadcastInDim S8192x48 ![] bcast_S_S8192x48 (constant (F := Ideal) S_ .f32 0x3F800000#32)⟩] concatenates_S8192x8_S8192x8_S8192x48_S8192x64_d1

def rbK (s : FVec Ideal S8192x8 .f32) : FVec Ideal S8192x64 .f32 :=
  concatenate S8192x64 1 [⟨S8192x8, broadcastInDim S8192x8 ![] bcast_S_S8192x8 (constant (F := Ideal) S_ .f32 0x00000000#32)⟩, ⟨S8192x8, s⟩, ⟨S8192x48, broadcastInDim S8192x48 ![] bcast_S_S8192x48 (constant (F := Ideal) S_ .f32 0x00000000#32)⟩] concatenates_S8192x8_S8192x8_S8192x48_S8192x64_d1

def rcK (s : FVec Ideal S8192x8 .f32) : FVec Ideal S8192x64 .f32 :=
  concatenate S8192x64 1 [⟨S8192x8, Host.negf s⟩, ⟨S8192x8, broadcastInDim S8192x8 ![] bcast_S_S8192x8 (constant (F := Ideal) S_ .f32 0x00000000#32)⟩, ⟨S8192x48, broadcastInDim S8192x48 ![] bcast_S_S8192x48 (constant (F := Ideal) S_ .f32 0x00000000#32)⟩] concatenates_S8192x8_S8192x8_S8192x48_S8192x64_d1

/-- The columns of keys, in rows by the input's entries. -/
def wrowK (w : FVec Ideal S1x1024x4680 .f32) : FVec Ideal S1024x640 .bf16 :=
  truncf .bf16 (concatenate S1024x640 1 [⟨S1024x512, extractStridedSlice S1024x512 ![0, 1024] (shapeCast S1024x4680 w shapeCasts_S1x1024x4680_S1024x4680) slices_S1024x4680_S1024x512_0_1024⟩, ⟨S1024x64, extractStridedSlice S1024x64 ![0, 2560] (shapeCast S1024x4680 w shapeCasts_S1x1024x4680_S1024x4680) slices_S1024x4680_S1024x64_0_2560⟩, ⟨S1024x64, broadcastInDim S1024x64 ![] bcast_S_S1024x64 (constant (F := Ideal) S_ .f32 0x00000000#32)⟩] concatenates_S1024x512_S1024x64_S1024x64_S1024x640_d1) bitsLt_bf16_f32

/-- The columns of queries, indexer queries, values and indexer weights, as rows. -/
def wtK (w : FVec Ideal S1x1024x4680 .f32) : FVec Ideal S1552x1024 .bf16 :=
  truncf .bf16 (transpose S1552x1024 [1, 0] (concatenate S1024x1552 1 [⟨S1024x512, extractStridedSlice S1024x512 ![0, 512] (shapeCast S1024x4680 w shapeCasts_S1x1024x4680_S1024x4680) slices_S1024x4680_S1024x512_0_512⟩, ⟨S1024x512, extractStridedSlice S1024x512 ![0, 2048] (shapeCast S1024x4680 w shapeCasts_S1x1024x4680_S1024x4680) slices_S1024x4680_S1024x512_0_2048⟩, ⟨S1024x512, extractStridedSlice S1024x512 ![0, 1536] (shapeCast S1024x4680 w shapeCasts_S1x1024x4680_S1024x4680) slices_S1024x4680_S1024x512_0_1536⟩, ⟨S1024x8, extractStridedSlice S1024x8 ![0, 2624] (shapeCast S1024x4680 w shapeCasts_S1x1024x4680_S1024x4680) slices_S1024x4680_S1024x8_0_2624⟩, ⟨S1024x8, broadcastInDim S1024x8 ![] bcast_S_S1024x8 (constant (F := Ideal) S_ .f32 0x00000000#32)⟩] concatenates_S1024x512_S1024x512_S1024x512_S1024x8_S1024x8_S1024x1552_d1) transposes_S1024x1552_S1552x1024_1_0) bitsLt_bf16_f32

theorem cosK_apply (s : Fin 8192) (i : Fin 8) : cosK (ix2 s i) = Ideal.cos (ang s i) := by
  unfold ang
  pointwise [cosK]

theorem sinK_apply (s : Fin 8192) (i : Fin 8) : sinK (ix2 s i) = Ideal.sin (ang s i) := by
  unfold ang
  pointwise [sinK]

theorem tile_apply (a : FVec Ideal S8192x64 .f32) (s : Fin 8192) (l : Fin 128) : tile a (ix2 s l) = a (ix2 s ⟨l.val % 64, by omega⟩) := by
  pointwise [tile]

theorem wrowK_apply (w : FVec Ideal S1x1024x4680 .f32) (k : Fin 1024) (f : Fin 512) : wrowK w (ix2 k ⟨f.val, by omega⟩) = w (ix3 0 k ⟨1024 + f.val, by omega⟩) := by
  pointwise [wrowK]

theorem wrowK_apply' (w : FVec Ideal S1x1024x4680 .f32) (k : Fin 1024) (f : Fin 64) : wrowK w (ix2 k ⟨512 + f.val, by omega⟩) = w (ix3 0 k ⟨2560 + f.val, by omega⟩) := by
  pointwise [wrowK]

theorem wtK_q (w : FVec Ideal S1x1024x4680 .f32) (k : Fin 1024) (f : Fin 512) : wtK w (ix2 ⟨f.val, by omega⟩ k) = w (ix3 0 k ⟨512 + f.val, by omega⟩) := by
  pointwise [wtK]

theorem wtK_iq (w : FVec Ideal S1x1024x4680 .f32) (k : Fin 1024) (f : Fin 512) : wtK w (ix2 ⟨512 + f.val, by omega⟩ k) = w (ix3 0 k ⟨2048 + f.val, by omega⟩) := by
  pointwise [wtK]

theorem wtK_v (w : FVec Ideal S1x1024x4680 .f32) (k : Fin 1024) (f : Fin 512) : wtK w (ix2 ⟨1024 + f.val, by omega⟩ k) = w (ix3 0 k ⟨1536 + f.val, by omega⟩) := by
  pointwise [wtK]
  rw [dif_neg (show ¬1024 + f.val < 512 by omega), dif_neg (show ¬1024 + f.val - 512 < 512 by omega), dif_pos (show 1024 + f.val - 512 - 512 < 512 by omega)]
  exact congrArg (fun i => w (ix3 0 k i)) (Fin.ext (by show 1536 + (1024 + f.val - 512 - 512) = 1536 + f.val; omega))

theorem wtK_w (w : FVec Ideal S1x1024x4680 .f32) (k : Fin 1024) (f : Fin 8) : wtK w (ix2 ⟨1536 + f.val, by omega⟩ k) = w (ix3 0 k ⟨2624 + f.val, by omega⟩) := by
  pointwise [wtK]
  rw [dif_neg (show ¬1536 + f.val < 512 by omega), dif_neg (show ¬1536 + f.val - 512 < 512 by omega), dif_neg (show ¬1536 + f.val - 512 - 512 < 512 by omega), dif_pos (show 1536 + f.val - 512 - 512 - 512 < 8 by omega)]
  exact congrArg (fun i => w (ix3 0 k i)) (Fin.ext (by show 2624 + (1536 + f.val - 512 - 512 - 512) = 2624 + f.val; omega))

theorem raK_apply (c : FVec Ideal S8192x8 .f32) (s : Fin 8192) (l : Fin 64) : raK c (ix2 s l) = if h : l.val < 8 then c (ix2 s ⟨l.val, h⟩) else if h' : l.val - 8 < 8 then c (ix2 s ⟨l.val - 8, h'⟩) else 1 := by
  pointwise [raK]

theorem rbK_apply (c : FVec Ideal S8192x8 .f32) (s : Fin 8192) (l : Fin 64) : rbK c (ix2 s l) = if h : l.val < 8 then 0 else if h' : l.val - 8 < 8 then c (ix2 s ⟨l.val - 8, h'⟩) else 0 := by
  pointwise [rbK]

theorem rcK_apply (c : FVec Ideal S8192x8 .f32) (s : Fin 8192) (l : Fin 64) : rcK c (ix2 s l) = if h : l.val < 8 then - c (ix2 s ⟨l.val, h⟩) else if h' : l.val - 8 < 8 then 0 else 0 := by
  pointwise [rcK]

variable (m : (ℓ : Loc nD τ sig) → Buf (Elt Ideal) ℓ) (c : Dev nD)

theorem V5 : (V m c main_v5 : FVec Ideal S1024x640 .bf16) = wrowK (m ((c : Thread nD τ).loc main_arg2)) := by
  simp only [V, hostOps0]
  after_results_simp
  rfl

theorem V13 : (V m c main_v13 : FVec Ideal S1552x1024 .bf16) = wtK (m ((c : Thread nD τ).loc main_arg2)) := by
  simp only [V, hostOps0]
  after_results_simp
  rfl

theorem V15 : (V m c main_v15 : FVec Ideal S1x1024 .f32) = shapeCast S1x1024 (shapeCast S1024 (m ((c : Thread nD τ).loc main_arg1) : FVec Ideal S1x1024 .f32) shapeCasts_S1x1024_S1024) shapeCasts_S1024_S1x1024 := by
  simp only [V, hostOps0]
  after_results_simp
  rfl

theorem V40 : (V m c main_v40 : FVec Ideal S8x8192 .f32) = transpose S8x8192 [1, 0] cosK transposes_S8192x8_S8x8192_1_0 := by
  simp only [V, hostOps0]
  after_results_simp
  rfl

theorem V41 : (V m c main_v41 : FVec Ideal S8x8192 .f32) = transpose S8x8192 [1, 0] sinK transposes_S8192x8_S8x8192_1_0 := by
  simp only [V, hostOps0]
  after_results_simp
  rfl

theorem V44 : (V m c main_v44 : FVec Ideal S8192x128 .f32) = tile (raK cosK) := by
  simp only [V, hostOps0]
  after_results_simp
  rfl

theorem V47 : (V m c main_v47 : FVec Ideal S8192x128 .f32) = tile (rbK sinK) := by
  simp only [V, hostOps0]
  after_results_simp
  rfl

theorem V50 : (V m c main_v50 : FVec Ideal S8192x128 .f32) = tile (rcK sinK) := by
  simp only [V, hostOps0]
  after_results_simp
  rfl

theorem V15_apply (k : Fin 1024) : (V m c main_v15 : FVec Ideal S1x1024 .f32) (ix2 0 k) = (m ((c : Thread nD τ).loc main_arg1) : FVec Ideal S1x1024 .f32) (ix2 0 k) := by
  rw [V15]
  pointwise

theorem readT (x : FVec Ideal S8192x8 .f32) (i : Fin 8) (s : Fin 8192) : transpose S8x8192 [1, 0] x transposes_S8192x8_S8x8192_1_0 (ix2 i s) = x (ix2 s i) := by
  pointwise

theorem V40_apply (i : Fin 8) (s : Fin 8192) : (V m c main_v40 : FVec Ideal S8x8192 .f32) (ix2 i s) = Ideal.cos (ang s i) := by
  rw [V40]
  exact (readT _ i s).trans (cosK_apply s i)

theorem V41_apply (i : Fin 8) (s : Fin 8192) : (V m c main_v41 : FVec Ideal S8x8192 .f32) (ix2 i s) = Ideal.sin (ang s i) := by
  rw [V41]
  exact (readT _ i s).trans (sinK_apply s i)

theorem V44_apply (s : Fin 8192) (l : Fin 128) : (V m c main_v44 : FVec Ideal S8192x128 .f32) (ix2 s l) =
    if h : l.val % 64 < 8 then Ideal.cos (ang s ⟨l.val % 64, h⟩) else if h' : l.val % 64 < 16 then Ideal.cos (ang s ⟨l.val % 64 - 8, by omega⟩) else 1 := by
  rw [V44]
  refine (tile_apply _ s l).trans ((raK_apply _ s _).trans ?_)
  by_cases h : l.val % 64 < 8
  · refine (dif_pos h).trans ?_
    rw [dif_pos h]
    exact cosK_apply s _
  · refine (dif_neg h).trans ?_
    rw [dif_neg h]
    by_cases h' : l.val % 64 < 16
    · refine (dif_pos (show l.val % 64 - 8 < 8 by omega)).trans ?_
      rw [dif_pos h']
      exact cosK_apply s _
    · refine (dif_neg (show ¬l.val % 64 - 8 < 8 by omega)).trans ?_
      rw [dif_neg h']

theorem V47_apply (s : Fin 8192) (l : Fin 128) : (V m c main_v47 : FVec Ideal S8192x128 .f32) (ix2 s l) =
    if h : l.val % 64 < 8 then 0 else if h' : l.val % 64 < 16 then Ideal.sin (ang s ⟨l.val % 64 - 8, by omega⟩) else 0 := by
  rw [V47]
  refine (tile_apply _ s l).trans ((rbK_apply _ s _).trans ?_)
  by_cases h : l.val % 64 < 8
  · refine (dif_pos h).trans ?_
    rw [dif_pos h]
  · refine (dif_neg h).trans ?_
    rw [dif_neg h]
    by_cases h' : l.val % 64 < 16
    · refine (dif_pos (show l.val % 64 - 8 < 8 by omega)).trans ?_
      rw [dif_pos h']
      exact sinK_apply s _
    · refine (dif_neg (show ¬l.val % 64 - 8 < 8 by omega)).trans ?_
      rw [dif_neg h']

theorem V50_apply (s : Fin 8192) (l : Fin 128) : (V m c main_v50 : FVec Ideal S8192x128 .f32) (ix2 s l) =
    if h : l.val % 64 < 8 then - Ideal.sin (ang s ⟨l.val % 64, h⟩) else 0 := by
  rw [V50]
  refine (tile_apply _ s l).trans ((rcK_apply _ s _).trans ?_)
  by_cases h : l.val % 64 < 8
  · refine (dif_pos h).trans ?_
    rw [dif_pos h]
    exact congrArg (- ·) (sinK_apply s _)
  · refine (dif_neg h).trans ?_
    rw [dif_neg h]
    exact dite_eq_of (fun _ => rfl) fun _ => rfl

theorem idx0 : ∀ t : Fin cfg0.N, win0_0.index t = ![(grid0.coords t 0).val, (grid0.coords t 1).val, 0] := (by decide +kernel : ∀ t : Fin grid0.N, win0_0.index t = ![(grid0.coords t 0).val, (grid0.coords t 1).val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, (grid0.coords t 1).val] := (by decide +kernel : ∀ t : Fin grid0.N, win0_4.index t = ![0, (grid0.coords t 1).val])
theorem idx5 : ∀ t : Fin cfg0.N, win0_5.index t = ![0, (grid0.coords t 1).val] := (by decide +kernel : ∀ t : Fin grid0.N, win0_5.index t = ![0, (grid0.coords t 1).val])
theorem idx6 : ∀ t : Fin cfg0.N, win0_6.index t = ![(grid0.coords t 1).val, 0] := (by decide +kernel : ∀ t : Fin grid0.N, win0_6.index t = ![(grid0.coords t 1).val, 0])
theorem idx7 : ∀ t : Fin cfg0.N, win0_7.index t = ![(grid0.coords t 1).val, 0] := (by decide +kernel : ∀ t : Fin grid0.N, win0_7.index t = ![(grid0.coords t 1).val, 0])
theorem idx8 : ∀ t : Fin cfg0.N, win0_8.index t = ![(grid0.coords t 1).val, 0] := (by decide +kernel : ∀ t : Fin grid0.N, win0_8.index t = ![(grid0.coords t 1).val, 0])
theorem idx9 : ∀ t : Fin cfg0.N, win0_9.index t = ![(grid0.coords t 0).val, 0, (grid0.coords t 1).val] := (by decide +kernel : ∀ t : Fin grid0.N, win0_9.index t = ![(grid0.coords t 0).val, 0, (grid0.coords t 1).val])
theorem idx10 : ∀ t : Fin cfg0.N, win0_10.index t = ![(grid0.coords t 0).val, 0, (grid0.coords t 1).val] := (by decide +kernel : ∀ t : Fin grid0.N, win0_10.index t = ![(grid0.coords t 0).val, 0, (grid0.coords t 1).val])
theorem idx11 : ∀ t : Fin cfg0.N, win0_11.index t = ![(grid0.coords t 0).val, (grid0.coords t 1).val, 0, 0, 0] := (by decide +kernel : ∀ t : Fin grid0.N, win0_11.index t = ![(grid0.coords t 0).val, (grid0.coords t 1).val, 0, 0, 0])
theorem idx12 : ∀ t : Fin cfg0.N, win0_12.index t = ![(grid0.coords t 0).val, 0, (grid0.coords t 1).val] := (by decide +kernel : ∀ t : Fin grid0.N, win0_12.index t = ![(grid0.coords t 0).val, 0, (grid0.coords t 1).val])
theorem idx13 : ∀ t : Fin cfg0.N, win0_13.index t = ![(grid0.coords t 0).val, (grid0.coords t 1).val, 0] := (by decide +kernel : ∀ t : Fin grid0.N, win0_13.index t = ![(grid0.coords t 0).val, (grid0.coords t 1).val, 0])
theorem idx14 : ∀ t : Fin cfg0.N, win0_14.index t = ![(grid0.coords t 0).val, (grid0.coords t 1).val, 0] := (by decide +kernel : ∀ t : Fin grid0.N, win0_14.index t = ![(grid0.coords t 0).val, (grid0.coords t 1).val, 0])

theorem lt16 (t : Fin cfg0.N) : (grid0.coords t 1).val < 16 := (grid0.coords t 1).isLt
theorem lt2 (t : Fin cfg0.N) : (grid0.coords t 0).val < 2 := (grid0.coords t 0).isLt

/-- The token of row `q` of grid point `t`. -/
def tok (t : Fin cfg0.N) (q : Fin 512) : Fin 8192 := ⟨512 * (grid0.coords t 1).val + q.val, by have := lt16 t; omega⟩

/-- The sequence of grid point `t`. -/
def bat (t : Fin cfg0.N) : Fin 2 := ⟨(grid0.coords t 0).val, lt2 t⟩

theorem blk0 (t : Fin cfg0.N) (q : Fin 512) (k : Fin 1024) : (iblk m c 0 t : FVec Ideal S1x512x1024 .f32) (ix3 0 q k) = (m ((c : Thread nD τ).loc main_arg0) : FVec Ideal S2x8192x1024 .f32) (ix3 (bat t) (tok t q) k) := by
  unfold bat tok
  rw [← V_main_arg0 m c]
  blk_simp [iblk]
  refine congrArg (V m c main_arg0) ?_
  blk_ext [idx0]

theorem blk1 (t : Fin cfg0.N) (k : Fin 1024) : (iblk m c 1 t : FVec Ideal S1x1024 .f32) (ix2 0 k) = (V m c main_v15 : FVec Ideal S1x1024 .f32) (ix2 0 k) := by
  blk_simp [iblk]
  refine congrArg (V m c main_v15) ?_
  blk_ext [idx1]

theorem blk2 (t : Fin cfg0.N) (k : Fin 1024) (j : Fin 640) : (iblk m c 2 t : FVec Ideal S1024x640 .bf16) (ix2 k j) = (V m c main_v5 : FVec Ideal S1024x640 .bf16) (ix2 k j) := by
  blk_simp [iblk]
  refine congrArg (V m c main_v5) ?_
  blk_ext [idx2]

theorem blk3 (t : Fin cfg0.N) (r : Fin 1552) (k : Fin 1024) : (iblk m c 3 t : FVec Ideal S1552x1024 .bf16) (ix2 r k) = (V m c main_v13 : FVec Ideal S1552x1024 .bf16) (ix2 r k) := by
  blk_simp [iblk]
  refine congrArg (V m c main_v13) ?_
  blk_ext [idx3]

theorem blk4 (t : Fin cfg0.N) (i : Fin 8) (q : Fin 512) : (iblk m c 4 t : FVec Ideal S8x512 .f32) (ix2 i q) = (V m c main_v40 : FVec Ideal S8x8192 .f32) (ix2 i (tok t q)) := by
  unfold tok
  blk_simp [iblk]
  refine congrArg (V m c main_v40) ?_
  blk_ext [idx4]

theorem blk5 (t : Fin cfg0.N) (i : Fin 8) (q : Fin 512) : (iblk m c 5 t : FVec Ideal S8x512 .f32) (ix2 i q) = (V m c main_v41 : FVec Ideal S8x8192 .f32) (ix2 i (tok t q)) := by
  unfold tok
  blk_simp [iblk]
  refine congrArg (V m c main_v41) ?_
  blk_ext [idx5]

theorem blk6 (t : Fin cfg0.N) (q : Fin 512) (l : Fin 128) : (iblk m c 6 t : FVec Ideal S512x128 .f32) (ix2 q l) = (V m c main_v44 : FVec Ideal S8192x128 .f32) (ix2 (tok t q) l) := by
  unfold tok
  blk_simp [iblk]
  refine congrArg (V m c main_v44) ?_
  blk_ext [idx6]

theorem blk7 (t : Fin cfg0.N) (q : Fin 512) (l : Fin 128) : (iblk m c 7 t : FVec Ideal S512x128 .f32) (ix2 q l) = (V m c main_v47 : FVec Ideal S8192x128 .f32) (ix2 (tok t q) l) := by
  unfold tok
  blk_simp [iblk]
  refine congrArg (V m c main_v47) ?_
  blk_ext [idx7]

theorem blk8 (t : Fin cfg0.N) (q : Fin 512) (l : Fin 128) : (iblk m c 8 t : FVec Ideal S512x128 .f32) (ix2 q l) = (V m c main_v50 : FVec Ideal S8192x128 .f32) (ix2 (tok t q) l) := by
  unfold tok
  blk_simp [iblk]
  refine congrArg (V m c main_v50) ?_
  blk_ext [idx8]

theorem up_congr {x x' g g' w w' : Fin 1024 → EReal} (hx : ∀ k, x k = x' k) (hg : ∀ k, g k = g' k) (hw : ∀ k, w k = w' k) : up x g w = up x' g' w' := by
  obtain rfl : x = x' := funext hx
  obtain rfl : g = g' := funext hg
  obtain rfl : w = w' := funext hw
  rfl

theorem rope_of {n : ℕ} (hn : 64 ∣ n) {p p' : Fin n → EReal} {a a' b b' : Fin 8 → EReal} (hp : ∀ f, p f = p' f) (ha : ∀ i, a i = a' i) (hb : ∀ i, b i = b' i) (f : Fin n) : rope hn p a b f = rope hn p' a' b' f := by
  obtain rfl : p = p' := funext hp
  obtain rfl : a = a' := funext ha
  obtain rfl : b = b' := funext hb
  rfl

/-- Column `j` of the projection of token `s` of sequence `b`. -/
def P (b : Fin 2) (s : Fin 8192) (j : Fin 4680) : EReal :=
  up (fun k => (m ((c : Thread nD τ).loc main_arg0) : FVec Ideal S2x8192x1024 .f32) (ix3 b s k)) (fun k => (m ((c : Thread nD τ).loc main_arg1) : FVec Ideal S1x1024 .f32) (ix2 0 k))
    (fun k => (m ((c : Thread nD τ).loc main_arg2) : FVec Ideal S1x1024x4680 .f32) (ix3 0 k j))

/-- A row of the transposed product is the projection's column that the host put there. -/
theorem row_eq (t : Fin cfg0.N) (r : Fin 1552) (n : Fin 4680) (q : Fin 512) (hw : ∀ k, wtK (m ((c : Thread nD τ).loc main_arg2)) (ix2 r k) = (m ((c : Thread nD τ).loc main_arg2) : FVec Ideal S1x1024x4680 .f32) (ix3 0 k n)) :
    k0_pay5 (F := Ideal) (iblk m c 0 t) (iblk m c 1 t) (iblk m c 3 t) (ix2 r q) = P m c (bat t) (tok t q) n := by
  refine (pay5_apply _ _ _ r q).trans (up_congr (fun k => blk0 m c t q k) (fun k => (blk1 m c t k).trans (V15_apply m c k)) fun k => (blk3 m c t r k).trans ?_)
  rw [V13]
  exact hw k

/-- A column of the other product likewise. -/
theorem col_eq (t : Fin cfg0.N) (j : Fin 640) (n : Fin 4680) (q : Fin 512) (hw : ∀ k, wrowK (m ((c : Thread nD τ).loc main_arg2)) (ix2 k j) = (m ((c : Thread nD τ).loc main_arg2) : FVec Ideal S1x1024x4680 .f32) (ix3 0 k n)) :
    k0_pay4 (F := Ideal) (iblk m c 0 t) (iblk m c 1 t) (iblk m c 2 t) (ix2 q j) = P m c (bat t) (tok t q) n := by
  refine (pay4_apply _ _ _ q j).trans (up_congr (fun k => blk0 m c t q k) (fun k => (blk1 m c t k).trans (V15_apply m c k)) fun k => (blk2 m c t k j).trans ?_)
  rw [V5]
  exact hw k

theorem pay8_apply (x0 : FVec Ideal S1x512x1024 .f32) (x1 : FVec Ideal S1x1024 .f32) (x3 : FVec Ideal S1552x1024 .bf16) (f q : Fin 512) : k0_pay8 (F := Ideal) x0 x1 x3 (ix2 f q) = k0_pay5 (F := Ideal) x0 x1 x3 (ix2 ⟨f.val, by omega⟩ q) := by
  pointwise [k0_pay8]

theorem pay51_apply (v : FVec Ideal S1552x512 .f32) (f q : Fin 512) : k0_pay51 (F := Ideal) v (ix2 f q) = v (ix2 ⟨512 + f.val, by omega⟩ q) := by
  pointwise [k0_pay51]

/-- The six results, of the program's arguments: queries, indexer queries, values, indexer weights, keys, indexer keys. -/
def G9 (b : Fin 2) (f : Fin 512) (s : Fin 8192) : EReal :=
  rope (by decide) (fun f : Fin 512 => P m c b s ⟨512 + f.val, by omega⟩) (fun i => Ideal.cos (ang s i)) (fun i => Ideal.sin (ang s i)) f * Ideal.ofBits FTy.f32 0x3E38AA3B#32

def G10 (b : Fin 2) (f : Fin 512) (s : Fin 8192) : EReal :=
  rope (by decide) (fun f : Fin 512 => P m c b s ⟨2048 + f.val, by omega⟩) (fun i => Ideal.cos (ang s i)) (fun i => Ideal.sin (ang s i)) f

def G11 (b : Fin 2) (n : Fin 16) (h : Fin 8) (d : Fin 80) (q : Fin 512) : EReal :=
  vals (fun f : Fin 512 => P m c b ⟨n.val * 512 + q.val, by omega⟩ ⟨1536 + f.val, by omega⟩) h d

def G12 (b : Fin 2) (h : Fin 8) (s : Fin 8192) : EReal := P m c b s ⟨2624 + h.val, by omega⟩ * Ideal.ofBits FTy.f32 0x3D3504F3#32

def G13 (b : Fin 2) (s : Fin 8192) (f : Fin 512) : EReal :=
  rope (by decide) (fun f : Fin 512 => P m c b s ⟨1024 + f.val, by omega⟩) (fun i => Ideal.cos (ang s i)) (fun i => Ideal.sin (ang s i)) f

def G14 (b : Fin 2) (s : Fin 8192) (d : Fin 64) : EReal :=
  rope (by decide) (fun d : Fin 64 => P m c b s ⟨2560 + d.val, by omega⟩) (fun i => Ideal.cos (ang s i)) (fun i => Ideal.sin (ang s i)) d

theorem point9 (t : Fin cfg0.N) (f q : Fin 512) : (outsAt0 m c t).1 (ix3 0 f q) = G9 m c (bat t) f (tok t q) := by
  unfold outsAt0
  dsimp only
  rw [out_eq_9]
  refine (q_apply _ _ (iblk m c 2 t) _ _ _ f q).trans (congrArg (· * _) ?_)
  exact rope_of _ (fun f => (pay8_apply _ _ _ f q).trans (row_eq m c t _ _ q fun k => wtK_q _ k f)) (fun i => (blk4 m c t i q).trans (V40_apply m c i _)) (fun i => (blk5 m c t i q).trans (V41_apply m c i _)) f

theorem point10 (t : Fin cfg0.N) (f q : Fin 512) : (outsAt0 m c t).2.1 (ix3 0 f q) = G10 m c (bat t) f (tok t q) := by
  unfold outsAt0
  dsimp only
  rw [out_eq_10]
  refine (iq_apply _ _ (iblk m c 2 t) _ _ _ f q).trans ?_
  exact rope_of _ (fun f => (pay51_apply _ f q).trans (row_eq m c t _ _ q fun k => wtK_iq _ k f)) (fun i => (blk4 m c t i q).trans (V40_apply m c i _)) (fun i => (blk5 m c t i q).trans (V41_apply m c i _)) f

theorem point11 (t : Fin cfg0.N) (h : Fin 8) (d : Fin 80) (q : Fin 512) : (outsAt0 m c t).2.2.1 (ix5 0 0 h d q) = G11 m c (bat t) ⟨(grid0.coords t 1).val, lt16 t⟩ h d q := by
  unfold outsAt0
  dsimp only
  rw [out_eq_11]
  show vals (fun f => k0_pay5 (F := Ideal) (iblk m c 0 t) (iblk m c 1 t) (iblk m c 3 t) (ix2 ⟨1024 + f.val, by omega⟩ q)) h d = _
  refine congrArg (fun p => vals p h d) (funext fun f => ?_)
  refine (row_eq m c t _ _ q fun k => wtK_v _ k f).trans (congrArg (fun s => P m c (bat t) s ⟨1536 + f.val, by omega⟩) (Fin.ext ?_))
  show 512 * (grid0.coords t 1).val + q.val = (grid0.coords t 1).val * 512 + q.val
  omega

theorem point12 (t : Fin cfg0.N) (h : Fin 8) (q : Fin 512) : (outsAt0 m c t).2.2.2.1 (ix3 0 h q) = G12 m c (bat t) h (tok t q) := by
  unfold outsAt0
  dsimp only
  rw [out_eq_12]
  refine (w_apply _ h q).trans (congrArg (· * _) ?_)
  exact row_eq m c t _ _ q fun k => wtK_w _ k h

/-- The turn by the tables is the rotary turn by the token's angles. -/
theorem turn_blk (t : Fin cfg0.N) (q : Fin 512) (p : Fin 640 → EReal) (f : Fin 640) :
    turn p (fun l => (iblk m c 6 t : FVec Ideal S512x128 .f32) (ix2 q l)) (fun l => (iblk m c 7 t : FVec Ideal S512x128 .f32) (ix2 q l)) (fun l => (iblk m c 8 t : FVec Ideal S512x128 .f32) (ix2 q l)) f
      = rope (by decide) p (fun i => Ideal.cos (ang (tok t q) i)) (fun i => Ideal.sin (ang (tok t q) i)) f :=
  turn_eq p _ _ _ _ _ f (fun l => (blk6 m c t q l).trans (V44_apply m c _ l)) (fun l => (blk7 m c t q l).trans (V47_apply m c _ l)) (fun l => (blk8 m c t q l).trans (V50_apply m c _ l))

theorem point13 (t : Fin cfg0.N) (q f : Fin 512) : (outsAt0 m c t).2.2.2.2.1 (ix3 0 q f) = G13 m c (bat t) (tok t q) f := by
  unfold outsAt0
  dsimp only
  rw [out_eq_13]
  refine (turn_blk m c t q (fun f => k0_pay4 (F := Ideal) (iblk m c 0 t) (iblk m c 1 t) (iblk m c 2 t) (ix2 q f)) ⟨f.val, by omega⟩).trans ?_
  refine rope_congr _ _ _ _ _ _ _ f rfl fun i => ?_
  exact col_eq m c t _ _ q fun k => wrowK_apply _ k ⟨f.val / 64 * 64 + i.val, by omega⟩

theorem point14 (t : Fin cfg0.N) (q : Fin 512) (d : Fin 64) : (outsAt0 m c t).2.2.2.2.2 (ix3 0 q d) = G14 m c (bat t) (tok t q) d := by
  unfold outsAt0
  dsimp only
  rw [out_eq_14]
  refine (ik_apply _ _ _ _ q d).trans ?_
  refine (turn_blk m c t q (fun f => k0_pay4 (F := Ideal) (iblk m c 0 t) (iblk m c 1 t) (iblk m c 2 t) (ix2 q f)) ⟨512 + d.val, by omega⟩).trans ?_
  refine rope_congr _ _ _ _ _ _ _ d (by show (512 + d.val) % 64 = d.val % 64; omega) fun i => ?_
  refine Eq.trans (congrArg (fun j => k0_pay4 (F := Ideal) (iblk m c 0 t) (iblk m c 1 t) (iblk m c 2 t) (ix2 q j)) (Fin.ext ?_)) ((col_eq m c t _ _ q fun k => wrowK_apply' _ k i).trans (congrArg (fun j => P m c (bat t) (tok t q) j) (Fin.ext ?_)))
  · show (512 + d.val) / 64 * 64 + i.val = 512 + i.val
    omega
  · show 2560 + i.val = 2560 + (d.val / 64 * 64 + i.val)
    omega

theorem final9 : (dats m 0 c).arrAt 9 cfg0.N = (fun j => G9 m c (j 0) (j 1) (j 2) : FVec Ideal S2x512x8192 .bf16) := by
  refine (dats m 0 c).arrAt_eq_of_covers 9 _ (by decide +kernel) fun t hf y => ?_
  blk_simp
  rw [after0_9]
  obtain ⟨z, a, b, rfl⟩ : ∃ (z : Fin 1) (a : Fin 512) (b : Fin 512), y = ix3 z a b := ⟨y 0, y 1, y 2, eq_ix3 y⟩
  obtain rfl : z = 0 := Subsingleton.elim _ _
  refine (point9 m c t a b).trans ?_
  have e : (win0_9.blk t).view.emb (ix3 0 a b) = ix3 (bat t) a (tok t b) := by
    unfold bat tok
    blk_ext [idx9]
  rw [e]
  rfl

theorem final10 : (dats m 0 c).arrAt 10 cfg0.N = (fun j => G10 m c (j 0) (j 1) (j 2) : FVec Ideal S2x512x8192 .bf16) := by
  refine (dats m 0 c).arrAt_eq_of_covers 10 _ (by decide +kernel) fun t hf y => ?_
  blk_simp
  rw [after0_10]
  obtain ⟨z, a, b, rfl⟩ : ∃ (z : Fin 1) (a : Fin 512) (b : Fin 512), y = ix3 z a b := ⟨y 0, y 1, y 2, eq_ix3 y⟩
  obtain rfl : z = 0 := Subsingleton.elim _ _
  refine (point10 m c t a b).trans ?_
  have e : (win0_10.blk t).view.emb (ix3 0 a b) = ix3 (bat t) a (tok t b) := by
    unfold bat tok
    blk_ext [idx10]
  rw [e]
  rfl

theorem final12 : (dats m 0 c).arrAt 12 cfg0.N = (fun j => G12 m c (j 0) (j 1) (j 2) : FVec Ideal S2x8x8192 .f32) := by
  refine (dats m 0 c).arrAt_eq_of_covers 12 _ (by decide +kernel) fun t hf y => ?_
  blk_simp
  rw [after0_12]
  obtain ⟨z, a, b, rfl⟩ : ∃ (z : Fin 1) (a : Fin 8) (b : Fin 512), y = ix3 z a b := ⟨y 0, y 1, y 2, eq_ix3 y⟩
  obtain rfl : z = 0 := Subsingleton.elim _ _
  refine (point12 m c t a b).trans ?_
  have e : (win0_12.blk t).view.emb (ix3 0 a b) = ix3 (bat t) a (tok t b) := by
    unfold bat tok
    blk_ext [idx12]
  rw [e]
  rfl

theorem final13 : (dats m 0 c).arrAt 13 cfg0.N = (fun j => G13 m c (j 0) (j 1) (j 2) : FVec Ideal S2x8192x512 .bf16) := by
  refine (dats m 0 c).arrAt_eq_of_covers 13 _ (by decide +kernel) fun t hf y => ?_
  blk_simp
  rw [after0_13]
  obtain ⟨z, a, b, rfl⟩ : ∃ (z : Fin 1) (a : Fin 512) (b : Fin 512), y = ix3 z a b := ⟨y 0, y 1, y 2, eq_ix3 y⟩
  obtain rfl : z = 0 := Subsingleton.elim _ _
  refine (point13 m c t a b).trans ?_
  have e : (win0_13.blk t).view.emb (ix3 0 a b) = ix3 (bat t) (tok t a) b := by
    unfold bat tok
    blk_ext [idx13]
  rw [e]
  rfl

theorem final14 : (dats m 0 c).arrAt 14 cfg0.N = (fun j => G14 m c (j 0) (j 1) (j 2) : FVec Ideal S2x8192x64 .bf16) := by
  refine (dats m 0 c).arrAt_eq_of_covers 14 _ (by decide +kernel) fun t hf y => ?_
  blk_simp
  rw [after0_14]
  obtain ⟨z, a, b, rfl⟩ : ∃ (z : Fin 1) (a : Fin 512) (b : Fin 64), y = ix3 z a b := ⟨y 0, y 1, y 2, eq_ix3 y⟩
  obtain rfl : z = 0 := Subsingleton.elim _ _
  refine (point14 m c t a b).trans ?_
  have e : (win0_14.blk t).view.emb (ix3 0 a b) = ix3 (bat t) (tok t a) b := by
    unfold bat tok
    blk_ext [idx14]
  rw [e]
  rfl

theorem final11 : (dats m 0 c).arrAt 11 cfg0.N = (fun j => G11 m c (j 0) (j 1) (j 2) (j 3) (j 4) : FVec Ideal S2x16x8x80x512 .bf16) := by
  refine (dats m 0 c).arrAt_eq_of_covers 11 _ (by decide +kernel) fun t hf y => ?_
  blk_simp
  rw [after0_11]
  obtain ⟨z, z', h, d, q, rfl⟩ : ∃ (z z' : Fin 1) (h : Fin 8) (d : Fin 80) (q : Fin 512), y = ix5 z z' h d q := ⟨y 0, y 1, y 2, y 3, y 4, eq_ix5 y⟩
  obtain rfl : z = 0 := Subsingleton.elim _ _
  obtain rfl : z' = 0 := Subsingleton.elim _ _
  refine (point11 m c t h d q).trans ?_
  have e : (win0_11.blk t).view.emb (ix5 0 0 h d q) = ix5 (bat t) (⟨(grid0.coords t 1).val, lt16 t⟩ : Fin 16) h d q := by
    unfold bat
    blk_ext [idx11]
  rw [e]
  rfl

end Cert.ProjectionIdeal.RefValue

end

end
-- ==== Proof.ProjRef.lean ====
/- What the projection's reference computes: its composed terms cut into the steps of the layer, each read at an index. -/
module

public import proofs.«01_k».proof.Proof.Gen.ProjectionReferenceIdeal.Run
public import proofs.«01_k».proof.Proof.ProjSpec

@[expose] public section

set_option maxRecDepth 16384

noncomputable section

namespace Cert.ProjectionReferenceIdeal.RefValue

open Cert.ProjectionReferenceIdeal Cert.ProjectionReferenceIdeal.Gen Cert.ProjectionReferenceIdeal.Value Idealize.ShloMosaic Idealize.ShloMosaic.TcCoe Idealize.SL.Sem Idealize.ShloMosaic.StableHlo

/-- The reference's projection of the normalised rows. -/
def projT (x : FVec Ideal S2x8192x1024 .f32) (g : FVec Ideal S1x1024 .f32) (w : FVec Ideal S1x1024x4680 .f32) : FVec Ideal S2x8192x4680 .f32 :=
  Host.dotGeneral dot_S2x8192x1024_S1024x4680_S2x8192x4680_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (shapeCast _ w shapeCasts_S1x1024x4680_S1024x4680)

/-- The reference's cosines of the tokens' angles. -/
def cosT : FVec Ideal S8192x8 .f32 :=
  Host.cos (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (mulf (sitofp .f32 (iotaInDim S8 32 0)) (broadcastInDim S8 ![] bcast_S_S8 (constant S_ .f32 0x40000000#32))) (broadcastInDim S8 ![] bcast_S_S8 (constant S_ .f32 0x41800000#32))))))))

/-- The reference's sines of the tokens' angles. -/
def sinT : FVec Ideal S8192x8 .f32 :=
  Host.sin (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (mulf (sitofp .f32 (iotaInDim S8 32 0)) (broadcastInDim S8 ![] bcast_S_S8 (constant S_ .f32 0x40000000#32))) (broadcastInDim S8 ![] bcast_S_S8 (constant S_ .f32 0x41800000#32))))))))

/-- The reference's rotary turn of eight heads. -/
def ropeT (h : FVec Ideal S2x8192x8x64 .f32) (c s : FVec Ideal S8192x8 .f32) : FVec Ideal S2x8192x8x64 .f32 :=
  ((concatenate S2x8192x8x64 3 [⟨S2x8192x8x8, ((subf (mulf (extractStridedSlice S2x8192x8x8 ![0, 0, 0, 0] h slices_S2x8192x8x64_S2x8192x8x8_0_0_0_0) (broadcastInDim S2x8192x8x8 ![0, 1, 2, 3] bcast_S1x8192x1x8_S2x8192x8x8_0_1_2_3 (broadcastInDim S1x8192x1x8 ![1, 3] bcast_S8192x8_S1x8192x1x8_1_3 c))) (mulf (extractStridedSlice S2x8192x8x8 ![0, 0, 0, 8] h slices_S2x8192x8x64_S2x8192x8x8_0_0_0_8) (broadcastInDim S2x8192x8x8 ![0, 1, 2, 3] bcast_S1x8192x1x8_S2x8192x8x8_0_1_2_3 (broadcastInDim S1x8192x1x8 ![1, 3] bcast_S8192x8_S1x8192x1x8_1_3 s)))))⟩, ⟨S2x8192x8x8, ((addf (mulf (extractStridedSlice S2x8192x8x8 ![0, 0, 0, 8] h slices_S2x8192x8x64_S2x8192x8x8_0_0_0_8) (broadcastInDim S2x8192x8x8 ![0, 1, 2, 3] bcast_S1x8192x1x8_S2x8192x8x8_0_1_2_3 (broadcastInDim S1x8192x1x8 ![1, 3] bcast_S8192x8_S1x8192x1x8_1_3 c))) (mulf (extractStridedSlice S2x8192x8x8 ![0, 0, 0, 0] h slices_S2x8192x8x64_S2x8192x8x8_0_0_0_0) (broadcastInDim S2x8192x8x8 ![0, 1, 2, 3] bcast_S1x8192x1x8_S2x8192x8x8_0_1_2_3 (broadcastInDim S1x8192x1x8 ![1, 3] bcast_S8192x8_S1x8192x1x8_1_3 s)))))⟩, ⟨S2x8192x8x48, ((extractStridedSlice S2x8192x8x48 ![0, 0, 0, 16] h slices_S2x8192x8x64_S2x8192x8x48_0_0_0_16))⟩] concatenates_S2x8192x8x8_S2x8192x8x8_S2x8192x8x48_S2x8192x8x64_d3))

/-- The reference's rotary turn of one head. -/
def rope1T (h : FVec Ideal S2x8192x1x64 .f32) (c s : FVec Ideal S8192x8 .f32) : FVec Ideal S2x8192x1x64 .f32 :=
  ((concatenate S2x8192x1x64 3 [⟨S2x8192x1x8, ((subf (mulf (extractStridedSlice S2x8192x1x8 ![0, 0, 0, 0] h slices_S2x8192x1x64_S2x8192x1x8_0_0_0_0) (broadcastInDim S2x8192x1x8 ![0, 1, 2, 3] bcast_S1x8192x1x8_S2x8192x1x8_0_1_2_3 (broadcastInDim S1x8192x1x8 ![1, 3] bcast_S8192x8_S1x8192x1x8_1_3 c))) (mulf (extractStridedSlice S2x8192x1x8 ![0, 0, 0, 8] h slices_S2x8192x1x64_S2x8192x1x8_0_0_0_8) (broadcastInDim S2x8192x1x8 ![0, 1, 2, 3] bcast_S1x8192x1x8_S2x8192x1x8_0_1_2_3 (broadcastInDim S1x8192x1x8 ![1, 3] bcast_S8192x8_S1x8192x1x8_1_3 s)))))⟩, ⟨S2x8192x1x8, ((addf (mulf (extractStridedSlice S2x8192x1x8 ![0, 0, 0, 8] h slices_S2x8192x1x64_S2x8192x1x8_0_0_0_8) (broadcastInDim S2x8192x1x8 ![0, 1, 2, 3] bcast_S1x8192x1x8_S2x8192x1x8_0_1_2_3 (broadcastInDim S1x8192x1x8 ![1, 3] bcast_S8192x8_S1x8192x1x8_1_3 c))) (mulf (extractStridedSlice S2x8192x1x8 ![0, 0, 0, 0] h slices_S2x8192x1x64_S2x8192x1x8_0_0_0_0) (broadcastInDim S2x8192x1x8 ![0, 1, 2, 3] bcast_S1x8192x1x8_S2x8192x1x8_0_1_2_3 (broadcastInDim S1x8192x1x8 ![1, 3] bcast_S8192x8_S1x8192x1x8_1_3 s)))))⟩, ⟨S2x8192x1x48, ((extractStridedSlice S2x8192x1x48 ![0, 0, 0, 16] h slices_S2x8192x1x64_S2x8192x1x48_0_0_0_16))⟩] concatenates_S2x8192x1x8_S2x8192x1x8_S2x8192x1x48_S2x8192x1x64_d3))

/-- 512 channels in eight heads. -/
def headsT (u : FVec Ideal S2x8192x512 .f32) : FVec Ideal S2x8192x8x64 .f32 :=
  shapeCast _ u shapeCasts_S2x8192x512_S2x8192x8x64

/-- Scaled heads, channels by tokens. -/
def scaledT (v : FVec Ideal S2x8192x8x64 .f32) : FVec Ideal S2x512x8192 .bf16 :=
  truncf .bf16 (transpose S2x512x8192 [0, 2, 1] (shapeCast _ (mulf v (broadcastInDim S2x8192x8x64 ![] bcast_S_S2x8192x8x64 (constant S_ .f32 0x3E38AA3B#32))) shapeCasts_S2x8192x8x64_S2x8192x512) transposes_S2x8192x512_S2x512x8192_0_2_1) bitsLt_bf16_f32

/-- Heads, channels by tokens. -/
def turnedT (v : FVec Ideal S2x8192x8x64 .f32) : FVec Ideal S2x512x8192 .bf16 :=
  truncf .bf16 (transpose S2x512x8192 [0, 2, 1] (shapeCast _ v shapeCasts_S2x8192x8x64_S2x8192x512) transposes_S2x8192x512_S2x512x8192_0_2_1) bitsLt_bf16_f32

/-- Heads, tokens by channels. -/
def flatT (v : FVec Ideal S2x8192x8x64 .f32) : FVec Ideal S2x8192x512 .bf16 :=
  truncf .bf16 (shapeCast _ v shapeCasts_S2x8192x8x64_S2x8192x512) bitsLt_bf16_f32

/-- One head, tokens by channels. -/
def flat1T (v : FVec Ideal S2x8192x1x64 .f32) : FVec Ideal S2x8192x64 .bf16 :=
  truncf .bf16 (shapeCast _ v shapeCasts_S2x8192x1x64_S2x8192x64) bitsLt_bf16_f32

/-- The reference's queries, scaled, channels by tokens. -/
def qT (p : FVec Ideal S2x8192x4680 .f32) : FVec Ideal S2x512x8192 .bf16 :=
  scaledT (ropeT (headsT (extractStridedSlice S2x8192x512 ![0, 0, 512] p slices_S2x8192x4680_S2x8192x512_0_0_512)) cosT sinT)

/-- The reference's index queries, channels by tokens. -/
def iqT (p : FVec Ideal S2x8192x4680 .f32) : FVec Ideal S2x512x8192 .bf16 :=
  turnedT (ropeT (headsT (extractStridedSlice S2x8192x512 ![0, 0, 2048] p slices_S2x8192x4680_S2x8192x512_0_0_2048)) cosT sinT)

/-- The reference's values, with a row of ones and fifteen of zeros put under each head's. -/
def vT (p : FVec Ideal S2x8192x4680 .f32) : FVec Ideal S2x16x8x80x512 .bf16 :=
  truncf .bf16 (transpose S2x16x8x80x512 [0, 1, 3, 4, 2] ((concatenate S2x16x512x8x80 4 [⟨S2x16x512x8x64, ((shapeCast _ (extractStridedSlice S2x8192x512 ![0, 0, 1536] p slices_S2x8192x4680_S2x8192x512_0_0_1536) shapeCasts_S2x8192x512_S2x16x512x8x64))⟩, ⟨S2x16x512x8x1, ((broadcastInDim S2x16x512x8x1 ![] bcast_S_S2x16x512x8x1 (constant S_ .f32 0x3F800000#32)))⟩, ⟨S2x16x512x8x15, ((broadcastInDim S2x16x512x8x15 ![] bcast_S_S2x16x512x8x15 (constant S_ .f32 0x00000000#32)))⟩] concatenates_S2x16x512x8x64_S2x16x512x8x1_S2x16x512x8x15_S2x16x512x8x80_d4)) transposes_S2x16x512x8x80_S2x16x8x80x512_0_1_3_4_2) bitsLt_bf16_f32

/-- The reference's index weights, scaled. -/
def wT (p : FVec Ideal S2x8192x4680 .f32) : FVec Ideal S2x8x8192 .f32 :=
  transpose S2x8x8192 [0, 2, 1] (mulf (extractStridedSlice S2x8192x8 ![0, 0, 2624] p slices_S2x8192x4680_S2x8192x8_0_0_2624) (broadcastInDim S2x8192x8 ![] bcast_S_S2x8192x8 (constant S_ .f32 0x3D3504F3#32))) transposes_S2x8192x8_S2x8x8192_0_2_1

/-- The reference's keys. -/
def kT (p : FVec Ideal S2x8192x4680 .f32) : FVec Ideal S2x8192x512 .bf16 :=
  flatT (ropeT (headsT (extractStridedSlice S2x8192x512 ![0, 0, 1024] p slices_S2x8192x4680_S2x8192x512_0_0_1024)) cosT sinT)

/-- The 64 channels of the index keys, as one head. -/
def head1T (p : FVec Ideal S2x8192x4680 .f32) : FVec Ideal S2x8192x1x64 .f32 :=
  shapeCast _ (extractStridedSlice S2x8192x64 ![0, 0, 2560] p slices_S2x8192x4680_S2x8192x64_0_0_2560) shapeCasts_S2x8192x64_S2x8192x1x64

/-- The reference's index keys. -/
def ikT (p : FVec Ideal S2x8192x4680 .f32) : FVec Ideal S2x8192x64 .bf16 :=
  flat1T (rope1T (head1T p) cosT sinT)

/-- The reference's run ends with these steps' results, its arguments unchanged. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111) = qT (projT (m ((c.tc : Thread nD τ).loc main_arg0)) (m ((c.tc : Thread nD τ).loc main_arg1)) (m ((c.tc : Thread nD τ).loc main_arg2)))
      ∧ r.2.mem ((c.tc : Thread nD τ).loc main_v114) = iqT (projT (m ((c.tc : Thread nD τ).loc main_arg0)) (m ((c.tc : Thread nD τ).loc main_arg1)) (m ((c.tc : Thread nD τ).loc main_arg2)))
      ∧ r.2.mem ((c.tc : Thread nD τ).loc main_v116) = vT (projT (m ((c.tc : Thread nD τ).loc main_arg0)) (m ((c.tc : Thread nD τ).loc main_arg1)) (m ((c.tc : Thread nD τ).loc main_arg2)))
      ∧ r.2.mem ((c.tc : Thread nD τ).loc main_v117) = wT (projT (m ((c.tc : Thread nD τ).loc main_arg0)) (m ((c.tc : Thread nD τ).loc main_arg1)) (m ((c.tc : Thread nD τ).loc main_arg2)))
      ∧ r.2.mem ((c.tc : Thread nD τ).loc main_v119) = kT (projT (m ((c.tc : Thread nD τ).loc main_arg0)) (m ((c.tc : Thread nD τ).loc main_arg1)) (m ((c.tc : Thread nD τ).loc main_arg2)))
      ∧ r.2.mem ((c.tc : Thread nD τ).loc main_v121) = ikT (projT (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans rfl, (h c).2.1.trans rfl, (h c).2.2.1.trans rfl, (h c).2.2.2.1.trans rfl, (h c).2.2.2.2.1.trans rfl, (h c).2.2.2.2.2.1.trans rfl, (h c).2.2.2.2.2.2⟩) (run m ρ)

open Cert.FfnSpec Cert.ProjSpec

open Cert.FfnSpec Cert.ProjSpec

theorem projT_apply (x : FVec Ideal S2x8192x1024 .f32) (g : FVec Ideal S1x1024 .f32) (w : FVec Ideal S1x1024x4680 .f32) (b : Fin 2) (s : Fin 8192) (j : Fin 4680) :
    projT x g w (ix3 b s j) = up (fun k => x (ix3 b s k)) (fun k => g (ix2 0 k)) (fun k => w (ix3 0 k j)) := by
  unfold up rms
  pointwise [projT]

theorem cosT_apply (s : Fin 8192) (i : Fin 8) : cosT (ix2 s i) = Ideal.cos (ang s i) := by
  unfold ang
  pointwise [cosT]

theorem sinT_apply (s : Fin 8192) (i : Fin 8) : sinT (ix2 s i) = Ideal.sin (ang s i) := by
  unfold ang
  pointwise [sinT]

theorem ropeT_apply (v : FVec Ideal S2x8192x8x64 .f32) (c s : FVec Ideal S8192x8 .f32) (b : Fin 2) (t : Fin 8192) (h : Fin 8) (d : Fin 64) :
    ropeT v c s (ix4 b t h d) = rope (by decide) (fun d : Fin 64 => v (ix4 b t h d)) (fun i => c (ix2 t i)) (fun i => s (ix2 t i)) d := by
  pointwise [ropeT]
  exact rope_chain (fun d : Fin 64 => v (ix4 b t h d)) (fun i => c (ix2 t i)) (fun i => s (ix2 t i)) d

theorem rope1T_apply (v : FVec Ideal S2x8192x1x64 .f32) (c s : FVec Ideal S8192x8 .f32) (b : Fin 2) (t : Fin 8192) (d : Fin 64) :
    rope1T v c s (ix4 b t 0 d) = rope (by decide) (fun d : Fin 64 => v (ix4 b t 0 d)) (fun i => c (ix2 t i)) (fun i => s (ix2 t i)) d := by
  pointwise [rope1T]
  exact rope_chain (fun d : Fin 64 => v (ix4 b t 0 d)) (fun i => c (ix2 t i)) (fun i => s (ix2 t i)) d

theorem headsT_apply (u : FVec Ideal S2x8192x512 .f32) (b : Fin 2) (t : Fin 8192) (h : Fin 8) (d : Fin 64) :
    headsT u (ix4 b t h d) = u (ix3 b t ⟨h.val * 64 + d.val, by omega⟩) := by
  pointwise [headsT]

theorem head1T_apply (p : FVec Ideal S2x8192x4680 .f32) (b : Fin 2) (t : Fin 8192) (d : Fin 64) :
    head1T p (ix4 b t 0 d) = p (ix3 b t ⟨2560 + d.val, by omega⟩) := by
  pointwise [head1T]

theorem scaledT_apply (v : FVec Ideal S2x8192x8x64 .f32) (b : Fin 2) (t : Fin 8192) (f : Fin 512) :
    scaledT v (ix3 b f t) = v (ix4 b t ⟨f.val / 64, by omega⟩ ⟨f.val % 64, by omega⟩) * Ideal.ofBits FTy.f32 0x3E38AA3B#32 := by
  pointwise [scaledT]

theorem turnedT_apply (v : FVec Ideal S2x8192x8x64 .f32) (b : Fin 2) (t : Fin 8192) (f : Fin 512) :
    turnedT v (ix3 b f t) = v (ix4 b t ⟨f.val / 64, by omega⟩ ⟨f.val % 64, by omega⟩) := by
  pointwise [turnedT]

theorem flatT_apply (v : FVec Ideal S2x8192x8x64 .f32) (b : Fin 2) (t : Fin 8192) (f : Fin 512) :
    flatT v (ix3 b t f) = v (ix4 b t ⟨f.val / 64, by omega⟩ ⟨f.val % 64, by omega⟩) := by
  pointwise [flatT]

theorem flat1T_apply (v : FVec Ideal S2x8192x1x64 .f32) (b : Fin 2) (t : Fin 8192) (d : Fin 64) :
    flat1T v (ix3 b t d) = v (ix4 b t 0 d) := by
  pointwise [flat1T]

/-- The turned heads cut from 512 consecutive columns of the projection. -/
theorem heads_apply (p : Fin 512 → EReal) (u : FVec Ideal S2x8192x512 .f32) (b : Fin 2) (t : Fin 8192) (f : Fin 512) (hp : ∀ f, u (ix3 b t f) = p f) :
    ropeT (headsT u) cosT sinT (ix4 b t ⟨f.val / 64, by omega⟩ ⟨f.val % 64, by omega⟩) = rope (by decide) p (fun i => Ideal.cos (ang t i)) (fun i => Ideal.sin (ang t i)) f := by
  rw [ropeT_apply]
  simp only [headsT_apply, hp, cosT_apply, sinT_apply]
  exact rope_head p _ _ f

theorem slice_apply (p : FVec Ideal S2x8192x4680 .f32) (b : Fin 2) (t : Fin 8192) (f : Fin 512) (o : ℕ) (ho : o + 512 ≤ 4680) (h : S2x8192x4680.Slices ![0, 0, o] S2x8192x512) :
    extractStridedSlice S2x8192x512 ![0, 0, o] p h (ix3 b t f) = p (ix3 b t ⟨o + f.val, by omega⟩) := by
  pointwise

theorem qT_apply (p : FVec Ideal S2x8192x4680 .f32) (b : Fin 2) (t : Fin 8192) (f : Fin 512) :
    qT p (ix3 b f t) = rope (by decide) (fun f : Fin 512 => p (ix3 b t ⟨512 + f.val, by omega⟩)) (fun i => Ideal.cos (ang t i)) (fun i => Ideal.sin (ang t i)) f * Ideal.ofBits FTy.f32 0x3E38AA3B#32 :=
  (scaledT_apply _ b t f).trans (congrArg (· * _) (heads_apply _ _ b t f fun f => slice_apply p b t f 512 (by decide) _))

theorem iqT_apply (p : FVec Ideal S2x8192x4680 .f32) (b : Fin 2) (t : Fin 8192) (f : Fin 512) :
    iqT p (ix3 b f t) = rope (by decide) (fun f : Fin 512 => p (ix3 b t ⟨2048 + f.val, by omega⟩)) (fun i => Ideal.cos (ang t i)) (fun i => Ideal.sin (ang t i)) f :=
  (turnedT_apply _ b t f).trans (heads_apply _ _ b t f fun f => slice_apply p b t f 2048 (by decide) _)

theorem kT_apply (p : FVec Ideal S2x8192x4680 .f32) (b : Fin 2) (t : Fin 8192) (f : Fin 512) :
    kT p (ix3 b t f) = rope (by decide) (fun f : Fin 512 => p (ix3 b t ⟨1024 + f.val, by omega⟩)) (fun i => Ideal.cos (ang t i)) (fun i => Ideal.sin (ang t i)) f :=
  (flatT_apply _ b t f).trans (heads_apply _ _ b t f fun f => slice_apply p b t f 1024 (by decide) _)

theorem ikT_apply (p : FVec Ideal S2x8192x4680 .f32) (b : Fin 2) (t : Fin 8192) (f : Fin 64) :
    ikT p (ix3 b t f) = rope (by decide) (fun f : Fin 64 => p (ix3 b t ⟨2560 + f.val, by omega⟩)) (fun i => Ideal.cos (ang t i)) (fun i => Ideal.sin (ang t i)) f := by
  refine (flat1T_apply _ b t f).trans ((rope1T_apply _ _ _ b t f).trans ?_)
  simp only [head1T_apply, cosT_apply, sinT_apply]

theorem wT_apply (p : FVec Ideal S2x8192x4680 .f32) (b : Fin 2) (t : Fin 8192) (h : Fin 8) :
    wT p (ix3 b h t) = p (ix3 b t ⟨2624 + h.val, by omega⟩) * Ideal.ofBits FTy.f32 0x3D3504F3#32 := by
  pointwise [wT]

theorem vT_apply (p : FVec Ideal S2x8192x4680 .f32) (b : Fin 2) (n : Fin 16) (h : Fin 8) (d : Fin 80) (t : Fin 512) :
    vT p (ix5 b n h d t) = vals (fun f : Fin 512 => p (ix3 b ⟨n.val * 512 + t.val, by omega⟩ ⟨1536 + f.val, by omega⟩)) h d := by
  unfold vals
  pointwise [vT]
  by_cases hd : d.val < 64
  · simp only [dif_pos hd]
  · have e : d.val - 64 < 1 ↔ d.val = 64 := by omega
    simp only [dif_neg hd, dite_eq_ite, e]

end Cert.ProjectionReferenceIdeal.RefValue
-- ==== Proof.ProjClaim.lean ====
/- The projection kernel and its reference end with the same six arrays: both are the formulas of the arguments. -/
module

public import proofs.«01_k».proof.Defs
public import proofs.«01_k».proof.Proof.ProjVal
public import proofs.«01_k».proof.Proof.ProjRef

@[expose] public section

set_option maxRecDepth 16384

noncomputable section

namespace Cert.Proof

open Idealize.ShloMosaic Idealize.ShloMosaic.TcCoe Idealize.SL.Sem Cert.FfnSpec Cert.ProjSpec
open Cert.ProjectionReferenceIdeal.RefValue (projT projT_apply qT qT_apply iqT iqT_apply vT vT_apply wT wT_apply kT kT_apply ikT ikT_apply)
open Cert.ProjectionIdeal.RefValue (rope_of P G9 G10 G11 G12 G13 G14)

variable (m : (ℓ : Loc ProjectionIdeal.nD ProjectionIdeal.τ ProjectionIdeal.sig) → Buf (Elt Ideal) ℓ) (c : Dev ProjectionIdeal.nD)

/-- The reference's projection is the kernel's, at an index. -/
theorem proj_eq (b : Fin 2) (s : Fin 8192) (j : Fin 4680) :
    projT (m ((c : Thread ProjectionIdeal.nD ProjectionIdeal.τ).loc ProjectionIdeal.main_arg0)) (m ((c : Thread ProjectionIdeal.nD ProjectionIdeal.τ).loc ProjectionIdeal.main_arg1)) (m ((c : Thread ProjectionIdeal.nD ProjectionIdeal.τ).loc ProjectionIdeal.main_arg2)) (ix3 b s j) = P m c b s j :=
  projT_apply _ _ _ b s j

theorem q_eq (b : Fin 2) (f : Fin 512) (s : Fin 8192) :
    qT (projT (m ((c : Thread ProjectionIdeal.nD ProjectionIdeal.τ).loc ProjectionIdeal.main_arg0)) (m ((c : Thread ProjectionIdeal.nD ProjectionIdeal.τ).loc ProjectionIdeal.main_arg1)) (m ((c : Thread ProjectionIdeal.nD ProjectionIdeal.τ).loc ProjectionIdeal.main_arg2))) (ix3 b f s) = G9 m c b f s :=
  (qT_apply _ b s f).trans (congrArg (· * _) (rope_of _ (fun _ => proj_eq m c _ _ _) (fun _ => rfl) (fun _ => rfl) _))

theorem iq_eq (b : Fin 2) (f : Fin 512) (s : Fin 8192) :
    iqT (projT (m ((c : Thread ProjectionIdeal.nD ProjectionIdeal.τ).loc ProjectionIdeal.main_arg0)) (m ((c : Thread ProjectionIdeal.nD ProjectionIdeal.τ).loc ProjectionIdeal.main_arg1)) (m ((c : Thread ProjectionIdeal.nD ProjectionIdeal.τ).loc ProjectionIdeal.main_arg2))) (ix3 b f s) = G10 m c b f s :=
  (iqT_apply _ b s f).trans (rope_of _ (fun _ => proj_eq m c _ _ _) (fun _ => rfl) (fun _ => rfl) _)

theorem v_eq (b : Fin 2) (n : Fin 16) (h : Fin 8) (d : Fin 80) (t : Fin 512) :
    vT (projT (m ((c : Thread ProjectionIdeal.nD ProjectionIdeal.τ).loc ProjectionIdeal.main_arg0)) (m ((c : Thread ProjectionIdeal.nD ProjectionIdeal.τ).loc ProjectionIdeal.main_arg1)) (m ((c : Thread ProjectionIdeal.nD ProjectionIdeal.τ).loc ProjectionIdeal.main_arg2))) (ix5 b n h d t) = G11 m c b n h d t :=
  (vT_apply _ b n h d t).trans (congrArg (fun p => vals p h d) (funext fun _ => proj_eq m c _ _ _))

theorem w_eq (b : Fin 2) (h : Fin 8) (s : Fin 8192) :
    wT (projT (m ((c : Thread ProjectionIdeal.nD ProjectionIdeal.τ).loc ProjectionIdeal.main_arg0)) (m ((c : Thread ProjectionIdeal.nD ProjectionIdeal.τ).loc ProjectionIdeal.main_arg1)) (m ((c : Thread ProjectionIdeal.nD ProjectionIdeal.τ).loc ProjectionIdeal.main_arg2))) (ix3 b h s) = G12 m c b h s :=
  (wT_apply _ b s h).trans (congrArg (· * _) (proj_eq m c _ _ _))

theorem k_eq (b : Fin 2) (s : Fin 8192) (f : Fin 512) :
    kT (projT (m ((c : Thread ProjectionIdeal.nD ProjectionIdeal.τ).loc ProjectionIdeal.main_arg0)) (m ((c : Thread ProjectionIdeal.nD ProjectionIdeal.τ).loc ProjectionIdeal.main_arg1)) (m ((c : Thread ProjectionIdeal.nD ProjectionIdeal.τ).loc ProjectionIdeal.main_arg2))) (ix3 b s f) = G13 m c b s f :=
  (kT_apply _ b s f).trans (rope_of _ (fun _ => proj_eq m c _ _ _) (fun _ => rfl) (fun _ => rfl) _)

theorem ik_eq (b : Fin 2) (s : Fin 8192) (d : Fin 64) :
    ikT (projT (m ((c : Thread ProjectionIdeal.nD ProjectionIdeal.τ).loc ProjectionIdeal.main_arg0)) (m ((c : Thread ProjectionIdeal.nD ProjectionIdeal.τ).loc ProjectionIdeal.main_arg1)) (m ((c : Thread ProjectionIdeal.nD ProjectionIdeal.τ).loc ProjectionIdeal.main_arg2))) (ix3 b s d) = G14 m c b s d :=
  (ikT_apply _ b s d).trans (rope_of _ (fun _ => proj_eq m c _ _ _) (fun _ => rfl) (fun _ => rfl) _)

/-- The reference of the projection runs, leaves its arguments unchanged and ends with every counter at zero: it has no semaphore. -/
theorem projectionReference_frame : Cert.quiescent_ProjectionReferenceIdeal := by
  intro m ρ _
  refine (θ_run _ _ _).mono (fun r h => ⟨fun c => (h c).2.2.2.2.2.2, funext fun g => ?_⟩) (ProjectionReferenceIdeal.RefValue.run_res m ρ)
  rcases g with ⟨t, s | s⟩
  · exact absurd s.isLt (Nat.not_lt_zero _)
  · exact absurd s.isLt (Nat.not_lt_zero _)

/-- From memories that agree on the arguments, the kernel and the reference of the projection end with equal results at the ideal instance, the arguments unchanged. -/
theorem projection_algebraic : Cert.algebraic_ProjectionIdeal_ProjectionReferenceIdeal := by
  intro m ρ m' ρ' _ hag
  have hk := ProjectionIdeal.Value.run_blocks m ρ
  have hr := ProjectionReferenceIdeal.RefValue.run_res m' ρ'
  refine ⟨fun c => (fun j => G9 m c (j 0) (j 1) (j 2) : FVec Ideal ProjectionIdeal.S2x512x8192 .bf16), fun c => (fun j => G10 m c (j 0) (j 1) (j 2) : FVec Ideal ProjectionIdeal.S2x512x8192 .bf16),
    fun c => (fun j => G11 m c (j 0) (j 1) (j 2) (j 3) (j 4) : FVec Ideal ProjectionIdeal.S2x16x8x80x512 .bf16), fun c => (fun j => G12 m c (j 0) (j 1) (j 2) : FVec Ideal ProjectionIdeal.S2x8x8192 .f32),
    fun c => (fun j => G13 m c (j 0) (j 1) (j 2) : FVec Ideal ProjectionIdeal.S2x8192x512 .bf16), fun c => (fun j => G14 m c (j 0) (j 1) (j 2) : FVec Ideal ProjectionIdeal.S2x8192x64 .bf16), ?_, ?_⟩
  · refine (θ_run _ _ _).mono (fun _ h c => ?_) hk
    obtain ⟨h9, h10, h11, h12, h13, h14, ha⟩ := h c
    exact ⟨h9.trans (ProjectionIdeal.RefValue.final9 m c), h10.trans (ProjectionIdeal.RefValue.final10 m c), h11.trans (ProjectionIdeal.RefValue.final11 m c),
      h12.trans (ProjectionIdeal.RefValue.final12 m c), h13.trans (ProjectionIdeal.RefValue.final13 m c), h14.trans (ProjectionIdeal.RefValue.final14 m c), ha⟩
  · refine (θ_run _ _ _).mono (fun _ h c => ?_) hr
    obtain ⟨h9, h10, h11, h12, h13, h14, ha⟩ := h c
    obtain ⟨a0, a1, a2⟩ := hag c
    rw [a0, a1, a2] at h9 h10 h11 h12 h13 h14
    exact ⟨h9.trans (funext fun j => (congrArg (qT _) (eq_ix3 j)).trans (q_eq m c _ _ _)), h10.trans (funext fun j => (congrArg (iqT _) (eq_ix3 j)).trans (iq_eq m c _ _ _)),
      h11.trans (funext fun j => (congrArg (vT _) (eq_ix5 j)).trans (v_eq m c _ _ _ _ _)), h12.trans (funext fun j => (congrArg (wT _) (eq_ix3 j)).trans (w_eq m c _ _ _)),
      h13.trans (funext fun j => (congrArg (kT _) (eq_ix3 j)).trans (k_eq m c _ _ _)), h14.trans (funext fun j => (congrArg (ikT _) (eq_ix3 j)).trans (ik_eq m c _ _ _)), ha⟩

end Cert.Proof

end

end
-- ==== Proof.AttnKeep.lean ====
/-
  The attention's frame, part one: the vocabulary. `Keeps c bd R p P` says that the program `p` runs from the resource `R`
  to the resource `R` and returns a value of which `P` holds. `R` is meant to be the buffers the kernel is handed, each at
  SOME contents, so every load and every store keeps it, and so does every program made of loads, stores, branches and
  counted loops.
-/
module

public import proofs.«01_k».proof.Proof.Gen.Attention
public import Idealize.ShloMosaic.Lib.Tactic
public import Idealize.ShloMosaic.Lib.Pipeline.Kit
public import Idealize.ShloMosaic.Lib.Scf

@[expose] public section

noncomputable section

namespace Cert.Proof.Attn

open Cert.Attention Cert.Attention.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ
local notation "Pr" => Prog (TpuEff nD τ sig (Elt F) (Λ₀ F) Proc.tc)

/-- The variants of the calls: natural numbers, the trips a while still has to run. -/
abbrev 𝒱₀ : Variants := Variants.nat

/-- A memref's elements held whole at some contents. -/
abbrev held (c : Dev nD) {sp : Space} {S : Shape} {e : EltTy} (m : Memref sig .tc sp S e) : sProp 𝕄 :=
  iprop(∃ d, owns (c : Thread nD τ) m fullShare d)

/-- The resource `R` holds the memref `m`: it may be taken out and put back at any contents. -/
class Has (c : Dev nD) (R : sProp 𝕄) {sp : Space} {S : Shape} {e : EltTy} (m : Memref sig .tc sp S e) : Prop where
  take : R ⊢ iprop(held (F := F) c m ∗ (held c m -∗ R))

/-- The program runs from `R` to `R`, and its value satisfies `P`. -/
structure Keeps (c : Dev nD) (bd : Option ℕ) (R : sProp 𝕄) {α : Type} (p : Pr α) (P : α → Prop) : Prop where
  run : R ⊢ wp frame (wpE (defs₀ (F := F)) 𝒱₀ (c : Thread nD τ) bd) Set.univ p (fun v => iprop(⌜P v⌝ ∗ R))

variable {c : Dev nD} {bd : Option ℕ} {R : sProp (MT nD τ sig Unit (Elt F) ℕ (UR sig nD τ) ℕ)}

/-- Returning a value keeps `R`. -/
theorem keeps_pure {α : Type} (a : α) {P : α → Prop} (h : P a) : Keeps (F := F) c bd R (pure a) P :=
  ⟨by
    rw [Prog.pure_eq_ret, wp_ret]
    iintro H; imodintro
    isplitr; · ipureintro; exact h
    iexact H⟩

/-- One program after another. -/
theorem keeps_bind {α β : Type} {p : Pr α} {k : α → Pr β} {Q : α → Prop} {P : β → Prop}
    (h : Keeps (F := F) c bd R p Q) (h' : ∀ v, Q v → Keeps c bd R (k v) P) : Keeps c bd R (p >>= k) P :=
  ⟨by
    rw [wp_bind]
    refine h.run.trans (wp_mono _ _ _ fun v => ?_)
    iintro ⟨%hv, H⟩
    iapply (h' v hv).run; iexact H⟩

/-- A load through a memref that `R` holds. -/
theorem keeps_load {cs : CoreSpace} {S : Shape} {e : EltTy} {m : Memref sig .tc cs S e} [Has (F := F) c R m]
    {r : LoadRect S} {hl : m.view.LoadsAt r} :
    Keeps (F := F) c bd R (Prog.lift (.load m r hl)) (fun _ => True) :=
  ⟨by
    refine (Has.take (c := c) (R := R) (m := m)).trans ?_
    unfold held owns Prog.lift
    iintro ⟨⟨%d, %f, %hf, H⟩, Hk⟩
    iapply (wp_load 𝒱₀ (c : Thread nD τ) bd Set.univ (m := m) (View.setOn_subset_set _ _)) $$ H; iintro H
    rw [wp_ret]; imodintro
    isplitr; · ipureintro; trivial
    iapply Hk
    iexists d, f; isplitr; · ipureintro; exact hf
    iexact H⟩

/-- A store through a memref that `R` holds. -/
theorem keeps_store {cs : CoreSpace} {S : Shape} {e : EltTy} {m : Memref sig .tc cs S e} [Has (F := F) c R m]
    {r : Rect S} {w : r.shape.Idx → Elt F e} {Mk : Finset r.shape.Idx} {hx : (m.access r).Stores Mk}
    {hm : Mk = Finset.univ ∨ ∀ a, r.stride a = 1} :
    Keeps (F := F) c bd R (Prog.lift (.store m r w Mk hx hm)) (fun _ => True) :=
  ⟨by
    refine (Has.take (c := c) (R := R) (m := m)).trans ?_
    unfold held owns Prog.lift
    iintro ⟨⟨%d, %f, %hf, H⟩, Hk⟩
    iapply (wp_store 𝒱₀ (c : Thread nD τ) bd Set.univ (m := m) (r := r) (Mk := Mk) (S := m.view.set) (f := f)
      (((m.view.slice r).setOn_subset_set Mk).trans (m.view.set_slice_subset r))) $$ H
    iintro H
    rw [wp_ret]; imodintro
    isplitr; · ipureintro; trivial
    iapply Hk
    iexists _, _; isplitr; swap; · iexact H
    ipureintro; rfl⟩

/-- A counted loop whose trips keep `R`. -/
theorem keeps_for {w : ℕ} {σ : Type} {l : Scf.Loop w} {hok : l.OK} {init : σ} {body : Fin l.trips → σ → Pr σ}
    (h : ∀ k acc, Keeps (F := F) c bd R (body k acc) (fun _ => True)) :
    Keeps c bd R (Scf.Loop.for l hok init body) (fun _ => True) :=
  ⟨by
    iintro H
    iapply (Scf.wp_for frame (wpE (defs₀ (F := F)) 𝒱₀ (c : Thread nD τ) bd) Set.univ _ _ _ hok init body
      (fun _ _ => R) fun k acc => (h k acc).run.trans (wp_mono _ _ _ fun v => ?_))
    · iintro ⟨-, H⟩; iexact H
    isplitl [H]; · iexact H
    iintro %acc H
    isplitr; · ipureintro; trivial
    iexact H⟩

/-- A branch both of whose sides keep `R`. -/
theorem keeps_ite {q : Prop} {_ : Decidable q} {α : Type} {p p' : Pr α} {P : α → Prop}
    (h : q → Keeps (F := F) c bd R p P) (h' : ¬q → Keeps c bd R p' P) : Keeps c bd R (if q then p else p') P := by
  by_cases hq : q
  · rw [if_pos hq]; exact h hq
  · rw [if_neg hq]; exact h' hq

/-- The same, each side given the evidence of the condition. -/
theorem keeps_dite {q : Prop} {_ : Decidable q} {α : Type} {p : q → Pr α} {p' : ¬q → Pr α} {P : α → Prop}
    (h : ∀ hq, Keeps (F := F) c bd R (p hq) P) (h' : ∀ hq, Keeps c bd R (p' hq) P) : Keeps c bd R (dite q p p') P := by
  by_cases hq : q
  · rw [dif_pos hq]; exact h hq
  · rw [dif_neg hq]; exact h' hq

/-- A call of a label whose body, entered at a variant `n` below the caller's, keeps `R`. -/
theorem keeps_call {l : (Λ₀ F).Label} {a : (Λ₀ F).Args l} {P : (Λ₀ F).Result l → Prop} (n : ℕ) (hn : ∀ u ∈ bd, n < u)
    (h : Keeps (F := F) c (some n) R (defs₀ Proc.tc l a) P) : Keeps c bd R (Prog.lift (.call l a)) P :=
  ⟨by
    unfold Prog.lift
    refine BIBase.Entails.trans ?_ (wp_call 𝒱₀ (c : Thread nD τ) bd Set.univ n hn)
    refine h.run.trans (wp_mono _ _ _ fun v => ?_)
    iintro H
    rw [wp_ret]; imodintro
    iexact H⟩

/-- What is said of the value may be weakened. -/
theorem Keeps.weaken {α : Type} {p : Pr α} {P Q : α → Prop} (h : Keeps (F := F) c bd R p P) (hPQ : ∀ v, P v → Q v) :
    Keeps c bd R p Q :=
  ⟨h.run.trans (wp_mono _ _ _ fun v => by
    iintro ⟨%hv, H⟩
    isplitr; · ipureintro; exact hPQ v hv
    iexact H)⟩

end Cert.Proof.Attn

end
-- ==== Proof.AttnParts1.lean ====
/-
  The attention's frame: stretch 1 of the parts of the kernel's body, each of which keeps the buffers it is handed.
-/
module

public import proofs.«01_k».proof.Proof.AttnKeep

@[expose] public section

set_option maxHeartbeats 4000000
set_option synthInstance.maxHeartbeats 400000
set_option synthInstance.maxSize 4096

noncomputable section

namespace Cert.Proof.Attn

open Cert.Attention Cert.Attention.Gen
open Idealize.ShloMosaic Idealize.ShloMosaic.TcCoe
open Idealize.SL Idealize.SL.BI Idealize.SL.Sem

variable {F : FTy → Type} [BitOps F] [Facts]
variable {c : Dev nD} {bd : Option ℕ} {R : sProp (MT nD τ sig Unit (Elt F) ℕ (UR sig nD τ) ℕ)}
variable {i : grid0.Coords}
variable {arg2 : Memref sig .tc .vmem S1x512x256 .bf16} {harg2 : arg2.IsWhole} [Has (F := F) c R arg2]
variable {arg3 : Memref sig .tc .vmem S1x8x256 .f32} {harg3 : arg3.IsWhole} [Has (F := F) c R arg3]
variable {arg4 : Memref sig .tc .vmem S1x512x256 .bf16} {harg4 : arg4.IsWhole} [Has (F := F) c R arg4]
variable {arg5 : Memref sig .tc .vmem S1x8192x64 .bf16} {harg5 : arg5.IsWhole} [Has (F := F) c R arg5]
variable {arg6 : Memref sig .tc .vmem S1x8192x512 .bf16} {harg6 : arg6.IsWhole} [Has (F := F) c R arg6]
variable {arg7 : Memref sig .tc .vmem S1x16x8x80x512 .bf16} {harg7 : arg7.IsWhole} [Has (F := F) c R arg7]
variable {arg8 : Memref sig .tc .vmem S1x256x512 .bf16} {harg8 : arg8.IsWhole} [Has (F := F) c R arg8]
variable {arg9 : Memref sig .tc .vmem S8192x256 .i32} {harg9 : arg9.IsWhole} [Has (F := F) c R arg9]
variable {arg10 : Memref sig .tc .vmem S8192x256 .i16} {harg10 : arg10.IsWhole} [Has (F := F) c R arg10]
variable {arg11 : Memref sig .tc .vmem S8x128x256 .bf16} {harg11 : arg11.IsWhole} [Has (F := F) c R arg11]
variable {arg12 : Memref sig .tc .vmem S8x80x256 .f32} {harg12 : arg12.IsWhole} [Has (F := F) c R arg12]
variable {arg13 : Memref sig .tc .vmem S8x256 .f32} {harg13 : arg13.IsWhole} [Has (F := F) c R arg13]
variable {arg14 : Memref sig .tc .vmem S8x256 .f32} {harg14 : arg14.IsWhole} [Has (F := F) c R arg14]
variable {arg15 : Memref sig .tc .vmem S512x256 .f32} {harg15 : arg15.IsWhole} [Has (F := F) c R arg15]
variable {arg16 : Memref sig .tc .vmem S512x256 .f32} {harg16 : arg16.IsWhole} [Has (F := F) c R arg16]
variable {arg17 : Memref sig .tc .vmem S1x512x256 .f32} {harg17 : arg17.IsWhole} [Has (F := F) c R arg17]
variable {arg18 : Memref sig .tc .vmem S1x512x256 .f32} {harg18 : arg18.IsWhole} [Has (F := F) c R arg18]
variable {arg19 : Memref sig .tc .vmem S1x512x256 .f32} {harg19 : arg19.IsWhole} [Has (F := F) c R arg19]
variable {arg20 : Memref sig .tc .vmem S1x512x256 .f32} {harg20 : arg20.IsWhole} [Has (F := F) c R arg20]
variable {arg21 : Memref sig .tc .vmem S1x512x256 .f32} {harg21 : arg21.IsWhole} [Has (F := F) c R arg21]
variable {arg22 : Memref sig .tc .vmem S1x512x256 .f32} {harg22 : arg22.IsWhole} [Has (F := F) c R arg22]
variable {arg23 : Memref sig .tc .vmem S1x512x256 .f32} {harg23 : arg23.IsWhole} [Has (F := F) c R arg23]
variable {arg24 : Memref sig .tc .vmem S1x512x256 .f32} {harg24 : arg24.IsWhole} [Has (F := F) c R arg24]
variable {arg25 : Memref sig .tc .vmem S1x512x256 .bf16} {harg25 : arg25.IsWhole} [Has (F := F) c R arg25]
variable {arg26 : Memref sig .tc .vmem S1x512x256 .bf16} {harg26 : arg26.IsWhole} [Has (F := F) c R arg26]
variable {arg27 : Memref sig .tc .vmem S1x512x256 .bf16} {harg27 : arg27.IsWhole} [Has (F := F) c R arg27]
variable {arg28 : Memref sig .tc .vmem S1x512x256 .bf16} {harg28 : arg28.IsWhole} [Has (F := F) c R arg28]
variable {arg29 : Memref sig .tc .vmem S1x512x256 .bf16} {harg29 : arg29.IsWhole} [Has (F := F) c R arg29]
variable {arg30 : Memref sig .tc .vmem S1x512x256 .bf16} {harg30 : arg30.IsWhole} [Has (F := F) c R arg30]
variable {arg31 : Memref sig .tc .vmem S1x512x256 .bf16} {harg31 : arg31.IsWhole} [Has (F := F) c R arg31]
variable {arg32 : Memref sig .tc .vmem S1x512x256 .bf16} {harg32 : arg32.IsWhole} [Has (F := F) c R arg32]

/-- Part 1 of the body keeps the buffers. -/
theorem keep_part1 {c0_i32_0 c1_i32_2 k0_t1} :
    Keeps c bd R (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 c0_i32_0 c1_i32_2 k0_t1) (fun _ => True) := by
  unfold k0_part1
  repeat' first
    | exact keeps_pure _ trivial
    | refine keeps_bind keeps_load fun _ _ => ?_
    | refine keeps_bind keeps_store fun _ _ => ?_

/-- Part 2 of the body keeps the buffers. -/
theorem keep_part2 {v892 v911 v916 v917} :
    Keeps c bd R (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v892 v911 v916 v917) (fun _ => True) := by
  unfold k0_part2
  repeat' first
    | exact keeps_pure _ trivial
    | refine keeps_bind keeps_load fun _ _ => ?_
    | refine keeps_bind keeps_store fun _ _ => ?_

/-- Part 3 of the body keeps the buffers. -/
theorem keep_part3 {k0_t1 v889 v892 v951} :
    Keeps c bd R (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v889 v892 v951) (fun _ => True) := by
  unfold k0_part3
  repeat' first
    | exact keeps_pure _ trivial
    | refine keeps_bind keeps_load fun _ _ => ?_
    | refine keeps_bind keeps_store fun _ _ => ?_

/-- Part 4 of the body keeps the buffers. -/
theorem keep_part4 {k0_t1 v888 v988} :
    Keeps c bd R (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v888 v988) (fun _ => True) := by
  unfold k0_part4
  repeat' first
    | exact keeps_pure _ trivial
    | refine keeps_bind keeps_load fun _ _ => ?_
    | refine keeps_bind keeps_store fun _ _ => ?_

/-- Part 5 of the body keeps the buffers. -/
theorem keep_part5 {v996 v1015 v1020 v1021} :
    Keeps c bd R (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v996 v1015 v1020 v1021) (fun _ => True) := by
  unfold k0_part5
  repeat' first
    | exact keeps_pure _ trivial
    | refine keeps_bind keeps_load fun _ _ => ?_
    | refine keeps_bind keeps_store fun _ _ => ?_

/-- Part 6 of the body keeps the buffers. -/
theorem keep_part6 {k0_t1 v993 v996 v1055} :
    Keeps c bd R (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v993 v996 v1055) (fun _ => True) := by
  unfold k0_part6
  repeat' first
    | exact keeps_pure _ trivial
    | refine keeps_bind keeps_load fun _ _ => ?_
    | refine keeps_bind keeps_store fun _ _ => ?_

/-- Part 7 of the body keeps the buffers. -/
theorem keep_part7 {k0_t1 v888 v1092} :
    Keeps c bd R (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v888 v1092) (fun _ => True) := by
  unfold k0_part7
  repeat' first
    | exact keeps_pure _ trivial
    | refine keeps_bind keeps_load fun _ _ => ?_
    | refine keeps_bind keeps_store fun _ _ => ?_

/-- Part 8 of the body keeps the buffers. -/
theorem keep_part8 {v1100 v1119 v1124 v1125} :
    Keeps c bd R (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1100 v1119 v1124 v1125) (fun _ => True) := by
  unfold k0_part8
  repeat' first
    | exact keeps_pure _ trivial
    | refine keeps_bind keeps_load fun _ _ => ?_
    | refine keeps_bind keeps_store fun _ _ => ?_

/-- Part 9 of the body keeps the buffers. -/
theorem keep_part9 {k0_t1 v1097 v1100 v1159} :
    Keeps c bd R (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1097 v1100 v1159) (fun _ => True) := by
  unfold k0_part9
  repeat' first
    | exact keeps_pure _ trivial
    | refine keeps_bind keeps_load fun _ _ => ?_
    | refine keeps_bind keeps_store fun _ _ => ?_

/-- Part 10 of the body keeps the buffers. -/
theorem keep_part10 {k0_t1 v888 v1196} :
    Keeps c bd R (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v888 v1196) (fun _ => True) := by
  unfold k0_part10
  repeat' first
    | exact keeps_pure _ trivial
    | refine keeps_bind keeps_load fun _ _ => ?_
    | refine keeps_bind keeps_store fun _ _ => ?_

/-- Part 11 of the body keeps the buffers. -/
theorem keep_part11 {v1204 v1223 v1228 v1229} :
    Keeps c bd R (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1204 v1223 v1228 v1229) (fun _ => True) := by
  unfold k0_part11
  repeat' first
    | exact keeps_pure _ trivial
    | refine keeps_bind keeps_load fun _ _ => ?_
    | refine keeps_bind keeps_store fun _ _ => ?_

/-- Part 12 of the body keeps the buffers. -/
theorem keep_part12 {k0_t1 v1201 v1204 v1263} :
    Keeps c bd R (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t1 v1201 v1204 v1263) (fun _ => True) := by
  unfold k0_part12
  repeat' first
    | exact keeps_pure _ trivial
    | refine keeps_bind keeps_load fun _ _ => ?_
    | refine keeps_bind keeps_store fun _ _ => ?_

/-- Part 13 of the body keeps the buffers. -/
theorem keep_part13 {v8 c1_i32_3 k0_t2} :
    Keeps c bd R (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v8 c1_i32_3 k0_t2) (fun _ => True) := by
  unfold k0_part13
  repeat' first
    | exact keeps_pure _ trivial
    | refine keeps_bind keeps_load fun _ _ => ?_
    | refine keeps_bind keeps_store fun _ _ => ?_

/-- Part 14 of the body keeps the buffers. -/
theorem keep_part14 {v892 v911 v916 v917} :
    Keeps c bd R (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v892 v911 v916 v917) (fun _ => True) := by
  unfold k0_part14
  repeat' first
    | exact keeps_pure _ trivial
    | refine keeps_bind keeps_load fun _ _ => ?_
    | refine keeps_bind keeps_store fun _ _ => ?_

/-- Part 15 of the body keeps the buffers. -/
theorem keep_part15 {k0_t2 v889 v892 v951} :
    Keeps c bd R (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t2 v889 v892 v951) (fun _ => True) := by
  unfold k0_part15
  repeat' first
    | exact keeps_pure _ trivial
    | refine keeps_bind keeps_load fun _ _ => ?_
    | refine keeps_bind keeps_store fun _ _ => ?_

/-- Part 16 of the body keeps the buffers. -/
theorem keep_part16 {k0_t2 v888 v988} :
    Keeps c bd R (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t2 v888 v988) (fun _ => True) := by
  unfold k0_part16
  repeat' first
    | exact keeps_pure _ trivial
    | refine keeps_bind keeps_load fun _ _ => ?_
    | refine keeps_bind keeps_store fun _ _ => ?_

/-- Part 17 of the body keeps the buffers. -/
theorem keep_part17 {v996 v1015 v1020 v1021} :
    Keeps c bd R (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v996 v1015 v1020 v1021) (fun _ => True) := by
  unfold k0_part17
  repeat' first
    | exact keeps_pure _ trivial
    | refine keeps_bind keeps_load fun _ _ => ?_
    | refine keeps_bind keeps_store fun _ _ => ?_

/-- Part 18 of the body keeps the buffers. -/
theorem keep_part18 {k0_t2 v993 v996 v1055} :
    Keeps c bd R (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t2 v993 v996 v1055) (fun _ => True) := by
  unfold k0_part18
  repeat' first
    | exact keeps_pure _ trivial
    | refine keeps_bind keeps_load fun _ _ => ?_
    | refine keeps_bind keeps_store fun _ _ => ?_

/-- Part 19 of the body keeps the buffers. -/
theorem keep_part19 {k0_t2 v888 v1092} :
    Keeps c bd R (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t2 v888 v1092) (fun _ => True) := by
  unfold k0_part19
  repeat' first
    | exact keeps_pure _ trivial
    | refine keeps_bind keeps_load fun _ _ => ?_
    | refine keeps_bind keeps_store fun _ _ => ?_

/-- Part 20 of the body keeps the buffers. -/
theorem keep_part20 {v1100 v1119 v1124 v1125} :
    Keeps c bd R (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1100 v1119 v1124 v1125) (fun _ => True) := by
  unfold k0_part20
  repeat' first
    | exact keeps_pure _ trivial
    | refine keeps_bind keeps_load fun _ _ => ?_
    | refine keeps_bind keeps_store fun _ _ => ?_

/-- Part 21 of the body keeps the buffers. -/
theorem keep_part21 {k0_t2 v1097 v1100 v1159} :
    Keeps c bd R (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t2 v1097 v1100 v1159) (fun _ => True) := by
  unfold k0_part21
  repeat' first
    | exact keeps_pure _ trivial
    | refine keeps_bind keeps_load fun _ _ => ?_
    | refine keeps_bind keeps_store fun _ _ => ?_

/-- Part 22 of the body keeps the buffers. -/
theorem keep_part22 {k0_t2 v888 v1196} :
    Keeps c bd R (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t2 v888 v1196) (fun _ => True) := by
  unfold k0_part22
  repeat' first
    | exact keeps_pure _ trivial
    | refine keeps_bind keeps_load fun _ _ => ?_
    | refine keeps_bind keeps_store fun _ _ => ?_

/-- Part 23 of the body keeps the buffers. -/
theorem keep_part23 {v1204 v1223 v1228 v1229} :
    Keeps c bd R (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1204 v1223 v1228 v1229) (fun _ => True) := by
  unfold k0_part23
  repeat' first
    | exact keeps_pure _ trivial
    | refine keeps_bind keeps_load fun _ _ => ?_
    | refine keeps_bind keeps_store fun _ _ => ?_

/-- Part 24 of the body keeps the buffers. -/
theorem keep_part24 {k0_t2 v1201 v1204 v1263} :
    Keeps c bd R (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t2 v1201 v1204 v1263) (fun _ => True) := by
  unfold k0_part24
  repeat' first
    | exact keeps_pure _ trivial
    | refine keeps_bind keeps_load fun _ _ => ?_
    | refine keeps_bind keeps_store fun _ _ => ?_

/-- Part 25 of the body keeps the buffers. -/
theorem keep_part25 {v897 v898 v899 c0_i32_660 c1_i32_662 k0_t4} :
    Keeps c bd R (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v897 v898 v899 c0_i32_660 c1_i32_662 k0_t4) (fun _ => True) := by
  unfold k0_part25
  repeat' first
    | exact keeps_pure _ trivial
    | refine keeps_bind keeps_load fun _ _ => ?_
    | refine keeps_bind keeps_store fun _ _ => ?_

/-- Part 26 of the body keeps the buffers. -/
theorem keep_part26 {v897 v898 v899 v922 c1_i32_663 k0_t5} :
    Keeps c bd R (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v897 v898 v899 v922 c1_i32_663 k0_t5) (fun _ => True) := by
  unfold k0_part26
  repeat' first
    | exact keeps_pure _ trivial
    | refine keeps_bind keeps_load fun _ _ => ?_
    | refine keeps_bind keeps_store fun _ _ => ?_

/-- Part 27 of the body keeps the buffers. -/
theorem keep_part27 {v1 c0_i32_305 c1_i32_307 k0_t3 arg34} :
    Keeps c bd R (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 c0_i32_305 c1_i32_307 k0_t3 arg34) (fun _ => True) := by
  unfold k0_part27
  refine keeps_bind (keeps_for fun _ _ => ?_) fun _ _ => ?_
  · refine keeps_bind keep_part25 fun _ _ => ?_
    exact keeps_pure _ trivial
  refine keeps_bind (keeps_for fun _ _ => ?_) fun _ _ => ?_
  · refine keeps_bind keep_part26 fun _ _ => ?_
    exact keeps_pure _ trivial
  exact keeps_pure _ trivial

/-- Part 28 of the body keeps the buffers. -/
theorem keep_part28 {v479 v530 v915 c0_i32_673 c1_i32_675 k0_t17} :
    Keeps c bd R (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v479 v530 v915 c0_i32_673 c1_i32_675 k0_t17) (fun _ => True) := by
  unfold k0_part28
  repeat' first
    | exact keeps_pure _ trivial
    | refine keeps_bind keeps_load fun _ _ => ?_
    | refine keeps_bind keeps_store fun _ _ => ?_

/-- Part 29 of the body keeps the buffers. -/
theorem keep_part29 {v479 v530 v915 v947 v949 v995 v997} :
    Keeps c bd R (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v479 v530 v915 v947 v949 v995 v997) (fun _ => True) := by
  unfold k0_part29
  repeat' first
    | exact keeps_pure _ trivial
    | refine keeps_bind keeps_load fun _ _ => ?_
    | refine keeps_bind keeps_store fun _ _ => ?_

/-- Part 30 of the body keeps the buffers. -/
theorem keep_part30 {v479 v530 v915 v947 v949 v1050 v1051} :
    Keeps c bd R (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v479 v530 v915 v947 v949 v1050 v1051) (fun _ => True) := by
  unfold k0_part30
  repeat' first
    | exact keeps_pure _ trivial
    | refine keeps_bind keeps_load fun _ _ => ?_
    | refine keeps_bind keeps_store fun _ _ => ?_

/-- Part 31 of the body keeps the buffers. -/
theorem keep_part31 {v479 v530 v915 v947 v949 v1103 v1105 v1106} :
    Keeps c bd R (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v479 v530 v915 v947 v949 v1103 v1105 v1106) (fun _ => True) := by
  unfold k0_part31
  repeat' first
    | exact keeps_pure _ trivial
    | refine keeps_bind keeps_load fun _ _ => ?_
    | refine keeps_bind keeps_store fun _ _ => ?_

/-- Part 32 of the body keeps the buffers. -/
theorem keep_part32 {v479 v530 v915 v947 v949 v1160 c168_i32} :
    Keeps c bd R (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v479 v530 v915 v947 v949 v1160 c168_i32) (fun _ => True) := by
  unfold k0_part32
  repeat' first
    | exact keeps_pure _ trivial
    | refine keeps_bind keeps_load fun _ _ => ?_
    | refine keeps_bind keeps_store fun _ _ => ?_

/-- Part 33 of the body keeps the buffers. -/
theorem keep_part33 {v479 v530 v915 v947 v949 v959 v969 v1213 v1215} :
    Keeps c bd R (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v479 v530 v915 v947 v949 v959 v969 v1213 v1215) (fun _ => True) := by
  unfold k0_part33
  repeat' first
    | exact keeps_pure _ trivial
    | refine keeps_bind keeps_load fun _ _ => ?_
    | refine keeps_bind keeps_store fun _ _ => ?_

/-- Part 34 of the body keeps the buffers. -/
theorem keep_part34 {v479 v530 v915 v938 c1_i32_676 k0_t18} :
    Keeps c bd R (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v479 v530 v915 v938 c1_i32_676 k0_t18) (fun _ => True) := by
  unfold k0_part34
  repeat' first
    | exact keeps_pure _ trivial
    | refine keeps_bind keeps_load fun _ _ => ?_
    | refine keeps_bind keeps_store fun _ _ => ?_

/-- Part 35 of the body keeps the buffers. -/
theorem keep_part35 {v479 v530 v915 v947 v949 v995 v997} :
    Keeps c bd R (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v479 v530 v915 v947 v949 v995 v997) (fun _ => True) := by
  unfold k0_part35
  repeat' first
    | exact keeps_pure _ trivial
    | refine keeps_bind keeps_load fun _ _ => ?_
    | refine keeps_bind keeps_store fun _ _ => ?_

/-- Part 36 of the body keeps the buffers. -/
theorem keep_part36 {v479 v530 v915 v947 v949 v1050 v1051} :
    Keeps c bd R (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v479 v530 v915 v947 v949 v1050 v1051) (fun _ => True) := by
  unfold k0_part36
  repeat' first
    | exact keeps_pure _ trivial
    | refine keeps_bind keeps_load fun _ _ => ?_
    | refine keeps_bind keeps_store fun _ _ => ?_

/-- Part 37 of the body keeps the buffers. -/
theorem keep_part37 {v479 v530 v915 v947 v949 v1103 v1105 v1106} :
    Keeps c bd R (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v479 v530 v915 v947 v949 v1103 v1105 v1106) (fun _ => True) := by
  unfold k0_part37
  repeat' first
    | exact keeps_pure _ trivial
    | refine keeps_bind keeps_load fun _ _ => ?_
    | refine keeps_bind keeps_store fun _ _ => ?_

/-- Part 38 of the body keeps the buffers. -/
theorem keep_part38 {v479 v530 v915 v947 v949 v1160 c168_i32} :
    Keeps c bd R (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v479 v530 v915 v947 v949 v1160 c168_i32) (fun _ => True) := by
  unfold k0_part38
  repeat' first
    | exact keeps_pure _ trivial
    | refine keeps_bind keeps_load fun _ _ => ?_
    | refine keeps_bind keeps_store fun _ _ => ?_

/-- Part 39 of the body keeps the buffers. -/
theorem keep_part39 {v479 v530 v915 v947 v949 v959 v969 v1213 v1215} :
    Keeps c bd R (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v479 v530 v915 v947 v949 v959 v969 v1213 v1215) (fun _ => True) := by
  unfold k0_part39
  repeat' first
    | exact keeps_pure _ trivial
    | refine keeps_bind keeps_load fun _ _ => ?_
    | refine keeps_bind keeps_store fun _ _ => ?_

/-- Part 40 of the body keeps the buffers. -/
theorem keep_part40 {c0_i32_447 c1_i32_449 k0_t21} :
    Keeps c bd R (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 c0_i32_447 c1_i32_449 k0_t21) (fun _ => True) := by
  unfold k0_part40
  repeat' first
    | exact keeps_pure _ trivial
    | refine keeps_bind keeps_load fun _ _ => ?_
    | refine keeps_bind keeps_store fun _ _ => ?_

/-- Part 41 of the body keeps the buffers. -/
theorem keep_part41 {k0_t21 v888 v909 v912 v913} :
    Keeps c bd R (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t21 v888 v909 v912 v913) (fun _ => True) := by
  unfold k0_part41
  repeat' first
    | exact keeps_pure _ trivial
    | refine keeps_bind keeps_load fun _ _ => ?_
    | refine keeps_bind keeps_store fun _ _ => ?_

/-- Part 42 of the body keeps the buffers. -/
theorem keep_part42 {k0_t21 v888 v939 v940} :
    Keeps c bd R (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t21 v888 v939 v940) (fun _ => True) := by
  unfold k0_part42
  repeat' first
    | exact keeps_pure _ trivial
    | refine keeps_bind keeps_load fun _ _ => ?_
    | refine keeps_bind keeps_store fun _ _ => ?_

/-- Part 43 of the body keeps the buffers. -/
theorem keep_part43 {k0_t21 v888 v969} :
    Keeps c bd R (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t21 v888 v969) (fun _ => True) := by
  unfold k0_part43
  repeat' first
    | exact keeps_pure _ trivial
    | refine keeps_bind keeps_load fun _ _ => ?_
    | refine keeps_bind keeps_store fun _ _ => ?_

/-- Part 44 of the body keeps the buffers. -/
theorem keep_part44 {v549 k0_t21 arg33 v996 v997} :
    Keeps c bd R (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v549 k0_t21 arg33 v996 v997) (fun _ => True) := by
  unfold k0_part44
  repeat' first
    | exact keeps_pure _ trivial
    | refine keeps_bind keeps_load fun _ _ => ?_
    | refine keeps_bind keeps_store fun _ _ => ?_

/-- Part 45 of the body keeps the buffers. -/
theorem keep_part45 {k0_t21 v1010 v1030} :
    Keeps c bd R (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t21 v1010 v1030) (fun _ => True) := by
  unfold k0_part45
  repeat' first
    | exact keeps_pure _ trivial
    | refine keeps_bind keeps_load fun _ _ => ?_
    | refine keeps_bind keeps_store fun _ _ => ?_

/-- Part 46 of the body keeps the buffers. -/
theorem keep_part46 {k0_t21 v1010 v1057} :
    Keeps c bd R (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t21 v1010 v1057) (fun _ => True) := by
  unfold k0_part46
  repeat' first
    | exact keeps_pure _ trivial
    | refine keeps_bind keeps_load fun _ _ => ?_
    | refine keeps_bind keeps_store fun _ _ => ?_

/-- Part 47 of the body keeps the buffers. -/
theorem keep_part47 {k0_t21 v1010 v1087} :
    Keeps c bd R (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t21 v1010 v1087) (fun _ => True) := by
  unfold k0_part47
  repeat' first
    | exact keeps_pure _ trivial
    | refine keeps_bind keeps_load fun _ _ => ?_
    | refine keeps_bind keeps_store fun _ _ => ?_

/-- Part 48 of the body keeps the buffers. -/
theorem keep_part48 {k0_t21 v1010 v1114 v1115} :
    Keeps c bd R (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t21 v1010 v1114 v1115) (fun _ => True) := by
  unfold k0_part48
  repeat' first
    | exact keeps_pure _ trivial
    | refine keeps_bind keeps_load fun _ _ => ?_
    | refine keeps_bind keeps_store fun _ _ => ?_

/-- Part 49 of the body keeps the buffers. -/
theorem keep_part49 {k0_t21 v1010 v1144} :
    Keeps c bd R (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t21 v1010 v1144) (fun _ => True) := by
  unfold k0_part49
  repeat' first
    | exact keeps_pure _ trivial
    | refine keeps_bind keeps_load fun _ _ => ?_
    | refine keeps_bind keeps_store fun _ _ => ?_

/-- Part 50 of the body keeps the buffers. -/
theorem keep_part50 {k0_t21} :
    Keeps c bd R (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t21) (fun _ => True) := by
  unfold k0_part50
  repeat' first
    | exact keeps_pure _ trivial
    | refine keeps_bind keeps_load fun _ _ => ?_
    | refine keeps_bind keeps_store fun _ _ => ?_

/-- Part 51 of the body keeps the buffers. -/
theorem keep_part51 {v1184 v1188 v1192 v1196 v1198 v1199} :
    Keeps c bd R (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1184 v1188 v1192 v1196 v1198 v1199) (fun _ => True) := by
  unfold k0_part51
  repeat' first
    | exact keeps_pure _ trivial
    | refine keeps_bind keeps_load fun _ _ => ?_
    | refine keeps_bind keeps_store fun _ _ => ?_

/-- Part 52 of the body keeps the buffers. -/
theorem keep_part52 {v1211 v1216 v1221 v1226 v1228 v1229} :
    Keeps c bd R (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1211 v1216 v1221 v1226 v1228 v1229) (fun _ => True) := by
  unfold k0_part52
  repeat' first
    | exact keeps_pure _ trivial
    | refine keeps_bind keeps_load fun _ _ => ?_
    | refine keeps_bind keeps_store fun _ _ => ?_

/-- Part 53 of the body keeps the buffers. -/
theorem keep_part53 {v1241 v1246 v1251 v1256 v1258 v1259} :
    Keeps c bd R (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1241 v1246 v1251 v1256 v1258 v1259) (fun _ => True) := by
  unfold k0_part53
  repeat' first
    | exact keeps_pure _ trivial
    | refine keeps_bind keeps_load fun _ _ => ?_
    | refine keeps_bind keeps_store fun _ _ => ?_

/-- Part 54 of the body keeps the buffers. -/
theorem keep_part54 {v1271 v1276 v1281 v1286 v1288 v1289} :
    Keeps c bd R (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1271 v1276 v1281 v1286 v1288 v1289) (fun _ => True) := by
  unfold k0_part54
  repeat' first
    | exact keeps_pure _ trivial
    | refine keeps_bind keeps_load fun _ _ => ?_
    | refine keeps_bind keeps_store fun _ _ => ?_

/-- Part 55 of the body keeps the buffers. -/
theorem keep_part55 {v1301 v1306 v1311 v1316 v1318 v1319} :
    Keeps c bd R (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1301 v1306 v1311 v1316 v1318 v1319) (fun _ => True) := by
  unfold k0_part55
  repeat' first
    | exact keeps_pure _ trivial
    | refine keeps_bind keeps_load fun _ _ => ?_
    | refine keeps_bind keeps_store fun _ _ => ?_

/-- Part 56 of the body keeps the buffers. -/
theorem keep_part56 {v1331 v1336 v1341 v1346 v1348 v1349} :
    Keeps c bd R (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1331 v1336 v1341 v1346 v1348 v1349) (fun _ => True) := by
  unfold k0_part56
  repeat' first
    | exact keeps_pure _ trivial
    | refine keeps_bind keeps_load fun _ _ => ?_
    | refine keeps_bind keeps_store fun _ _ => ?_

/-- Part 57 of the body keeps the buffers. -/
theorem keep_part57 {v1361 v1366 v1371 v1376 v1378 v1379} :
    Keeps c bd R (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1361 v1366 v1371 v1376 v1378 v1379) (fun _ => True) := by
  unfold k0_part57
  repeat' first
    | exact keeps_pure _ trivial
    | refine keeps_bind keeps_load fun _ _ => ?_
    | refine keeps_bind keeps_store fun _ _ => ?_

/-- Part 58 of the body keeps the buffers. -/
theorem keep_part58 {v1391 v1396 v1401 v1406 v1408 v1409} :
    Keeps c bd R (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1391 v1396 v1401 v1406 v1408 v1409) (fun _ => True) := by
  unfold k0_part58
  repeat' first
    | exact keeps_pure _ trivial
    | refine keeps_bind keeps_load fun _ _ => ?_
    | refine keeps_bind keeps_store fun _ _ => ?_

/-- Part 59 of the body keeps the buffers. -/
theorem keep_part59 {v1421 v1426 v1431 v1436 v1438 v1439} :
    Keeps c bd R (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1421 v1426 v1431 v1436 v1438 v1439) (fun _ => True) := by
  unfold k0_part59
  repeat' first
    | exact keeps_pure _ trivial
    | refine keeps_bind keeps_load fun _ _ => ?_
    | refine keeps_bind keeps_store fun _ _ => ?_

/-- Part 60 of the body keeps the buffers. -/
theorem keep_part60 {v1451 v1456 v1461 v1466 v1468 v1469} :
    Keeps c bd R (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1451 v1456 v1461 v1466 v1468 v1469) (fun _ => True) := by
  unfold k0_part60
  repeat' first
    | exact keeps_pure _ trivial
    | refine keeps_bind keeps_load fun _ _ => ?_
    | refine keeps_bind keeps_store fun _ _ => ?_

end Cert.Proof.Attn

end
-- ==== Proof.AttnParts2.lean ====
/-
  The attention's frame: stretch 2 of the parts of the kernel's body, each of which keeps the buffers it is handed.
-/
module

public import proofs.«01_k».proof.Proof.AttnParts1

@[expose] public section

set_option maxHeartbeats 4000000
set_option synthInstance.maxHeartbeats 400000
set_option synthInstance.maxSize 4096

noncomputable section

namespace Cert.Proof.Attn

open Cert.Attention Cert.Attention.Gen
open Idealize.ShloMosaic Idealize.ShloMosaic.TcCoe
open Idealize.SL Idealize.SL.BI Idealize.SL.Sem

variable {F : FTy → Type} [BitOps F] [Facts]
variable {c : Dev nD} {bd : Option ℕ} {R : sProp (MT nD τ sig Unit (Elt F) ℕ (UR sig nD τ) ℕ)}
variable {i : grid0.Coords}
variable {arg2 : Memref sig .tc .vmem S1x512x256 .bf16} {harg2 : arg2.IsWhole} [Has (F := F) c R arg2]
variable {arg3 : Memref sig .tc .vmem S1x8x256 .f32} {harg3 : arg3.IsWhole} [Has (F := F) c R arg3]
variable {arg4 : Memref sig .tc .vmem S1x512x256 .bf16} {harg4 : arg4.IsWhole} [Has (F := F) c R arg4]
variable {arg5 : Memref sig .tc .vmem S1x8192x64 .bf16} {harg5 : arg5.IsWhole} [Has (F := F) c R arg5]
variable {arg6 : Memref sig .tc .vmem S1x8192x512 .bf16} {harg6 : arg6.IsWhole} [Has (F := F) c R arg6]
variable {arg7 : Memref sig .tc .vmem S1x16x8x80x512 .bf16} {harg7 : arg7.IsWhole} [Has (F := F) c R arg7]
variable {arg8 : Memref sig .tc .vmem S1x256x512 .bf16} {harg8 : arg8.IsWhole} [Has (F := F) c R arg8]
variable {arg9 : Memref sig .tc .vmem S8192x256 .i32} {harg9 : arg9.IsWhole} [Has (F := F) c R arg9]
variable {arg10 : Memref sig .tc .vmem S8192x256 .i16} {harg10 : arg10.IsWhole} [Has (F := F) c R arg10]
variable {arg11 : Memref sig .tc .vmem S8x128x256 .bf16} {harg11 : arg11.IsWhole} [Has (F := F) c R arg11]
variable {arg12 : Memref sig .tc .vmem S8x80x256 .f32} {harg12 : arg12.IsWhole} [Has (F := F) c R arg12]
variable {arg13 : Memref sig .tc .vmem S8x256 .f32} {harg13 : arg13.IsWhole} [Has (F := F) c R arg13]
variable {arg14 : Memref sig .tc .vmem S8x256 .f32} {harg14 : arg14.IsWhole} [Has (F := F) c R arg14]
variable {arg15 : Memref sig .tc .vmem S512x256 .f32} {harg15 : arg15.IsWhole} [Has (F := F) c R arg15]
variable {arg16 : Memref sig .tc .vmem S512x256 .f32} {harg16 : arg16.IsWhole} [Has (F := F) c R arg16]
variable {arg17 : Memref sig .tc .vmem S1x512x256 .f32} {harg17 : arg17.IsWhole} [Has (F := F) c R arg17]
variable {arg18 : Memref sig .tc .vmem S1x512x256 .f32} {harg18 : arg18.IsWhole} [Has (F := F) c R arg18]
variable {arg19 : Memref sig .tc .vmem S1x512x256 .f32} {harg19 : arg19.IsWhole} [Has (F := F) c R arg19]
variable {arg20 : Memref sig .tc .vmem S1x512x256 .f32} {harg20 : arg20.IsWhole} [Has (F := F) c R arg20]
variable {arg21 : Memref sig .tc .vmem S1x512x256 .f32} {harg21 : arg21.IsWhole} [Has (F := F) c R arg21]
variable {arg22 : Memref sig .tc .vmem S1x512x256 .f32} {harg22 : arg22.IsWhole} [Has (F := F) c R arg22]
variable {arg23 : Memref sig .tc .vmem S1x512x256 .f32} {harg23 : arg23.IsWhole} [Has (F := F) c R arg23]
variable {arg24 : Memref sig .tc .vmem S1x512x256 .f32} {harg24 : arg24.IsWhole} [Has (F := F) c R arg24]
variable {arg25 : Memref sig .tc .vmem S1x512x256 .bf16} {harg25 : arg25.IsWhole} [Has (F := F) c R arg25]
variable {arg26 : Memref sig .tc .vmem S1x512x256 .bf16} {harg26 : arg26.IsWhole} [Has (F := F) c R arg26]
variable {arg27 : Memref sig .tc .vmem S1x512x256 .bf16} {harg27 : arg27.IsWhole} [Has (F := F) c R arg27]
variable {arg28 : Memref sig .tc .vmem S1x512x256 .bf16} {harg28 : arg28.IsWhole} [Has (F := F) c R arg28]
variable {arg29 : Memref sig .tc .vmem S1x512x256 .bf16} {harg29 : arg29.IsWhole} [Has (F := F) c R arg29]
variable {arg30 : Memref sig .tc .vmem S1x512x256 .bf16} {harg30 : arg30.IsWhole} [Has (F := F) c R arg30]
variable {arg31 : Memref sig .tc .vmem S1x512x256 .bf16} {harg31 : arg31.IsWhole} [Has (F := F) c R arg31]
variable {arg32 : Memref sig .tc .vmem S1x512x256 .bf16} {harg32 : arg32.IsWhole} [Has (F := F) c R arg32]

/-- Part 61 of the body keeps the buffers. -/
theorem keep_part61 {v1500 v1501} :
    Keeps c bd R (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1500 v1501) (fun _ => True) := by
  unfold k0_part61
  repeat' first
    | exact keeps_pure _ trivial
    | refine keeps_bind keeps_load fun _ _ => ?_
    | refine keeps_bind keeps_store fun _ _ => ?_

/-- Part 62 of the body keeps the buffers. -/
theorem keep_part62 {v1515 v1519 v1523 v1527 v1529 v1530} :
    Keeps c bd R (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1515 v1519 v1523 v1527 v1529 v1530) (fun _ => True) := by
  unfold k0_part62
  repeat' first
    | exact keeps_pure _ trivial
    | refine keeps_bind keeps_load fun _ _ => ?_
    | refine keeps_bind keeps_store fun _ _ => ?_

/-- Part 63 of the body keeps the buffers. -/
theorem keep_part63 {v1542 v1547 v1552 v1557 v1559 v1560} :
    Keeps c bd R (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1542 v1547 v1552 v1557 v1559 v1560) (fun _ => True) := by
  unfold k0_part63
  repeat' first
    | exact keeps_pure _ trivial
    | refine keeps_bind keeps_load fun _ _ => ?_
    | refine keeps_bind keeps_store fun _ _ => ?_

/-- Part 64 of the body keeps the buffers. -/
theorem keep_part64 {v1572 v1577 v1582 v1587 v1589 v1590} :
    Keeps c bd R (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1572 v1577 v1582 v1587 v1589 v1590) (fun _ => True) := by
  unfold k0_part64
  repeat' first
    | exact keeps_pure _ trivial
    | refine keeps_bind keeps_load fun _ _ => ?_
    | refine keeps_bind keeps_store fun _ _ => ?_

/-- Part 65 of the body keeps the buffers. -/
theorem keep_part65 {v1602 v1607 v1612 v1617 v1619 v1620} :
    Keeps c bd R (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1602 v1607 v1612 v1617 v1619 v1620) (fun _ => True) := by
  unfold k0_part65
  repeat' first
    | exact keeps_pure _ trivial
    | refine keeps_bind keeps_load fun _ _ => ?_
    | refine keeps_bind keeps_store fun _ _ => ?_

/-- Part 66 of the body keeps the buffers. -/
theorem keep_part66 {v1632 v1637 v1642 v1647 v1649 v1650} :
    Keeps c bd R (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1632 v1637 v1642 v1647 v1649 v1650) (fun _ => True) := by
  unfold k0_part66
  repeat' first
    | exact keeps_pure _ trivial
    | refine keeps_bind keeps_load fun _ _ => ?_
    | refine keeps_bind keeps_store fun _ _ => ?_

/-- Part 67 of the body keeps the buffers. -/
theorem keep_part67 {v1662 v1667 v1672 v1677 v1679 v1680} :
    Keeps c bd R (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1662 v1667 v1672 v1677 v1679 v1680) (fun _ => True) := by
  unfold k0_part67
  repeat' first
    | exact keeps_pure _ trivial
    | refine keeps_bind keeps_load fun _ _ => ?_
    | refine keeps_bind keeps_store fun _ _ => ?_

/-- Part 68 of the body keeps the buffers. -/
theorem keep_part68 {v1692 v1697 v1702 v1707 v1709 v1710} :
    Keeps c bd R (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1692 v1697 v1702 v1707 v1709 v1710) (fun _ => True) := by
  unfold k0_part68
  repeat' first
    | exact keeps_pure _ trivial
    | refine keeps_bind keeps_load fun _ _ => ?_
    | refine keeps_bind keeps_store fun _ _ => ?_

/-- Part 69 of the body keeps the buffers. -/
theorem keep_part69 {v1722 v1727 v1732 v1737 v1739 v1740} :
    Keeps c bd R (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1722 v1727 v1732 v1737 v1739 v1740) (fun _ => True) := by
  unfold k0_part69
  repeat' first
    | exact keeps_pure _ trivial
    | refine keeps_bind keeps_load fun _ _ => ?_
    | refine keeps_bind keeps_store fun _ _ => ?_

/-- Part 70 of the body keeps the buffers. -/
theorem keep_part70 {v1752 v1757 v1762 v1767 v1769 v1770} :
    Keeps c bd R (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1752 v1757 v1762 v1767 v1769 v1770) (fun _ => True) := by
  unfold k0_part70
  repeat' first
    | exact keeps_pure _ trivial
    | refine keeps_bind keeps_load fun _ _ => ?_
    | refine keeps_bind keeps_store fun _ _ => ?_

/-- Part 71 of the body keeps the buffers. -/
theorem keep_part71 {v1782 v1787 v1792 v1797 v1799 v1800} :
    Keeps c bd R (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1782 v1787 v1792 v1797 v1799 v1800) (fun _ => True) := by
  unfold k0_part71
  repeat' first
    | exact keeps_pure _ trivial
    | refine keeps_bind keeps_load fun _ _ => ?_
    | refine keeps_bind keeps_store fun _ _ => ?_

/-- Part 72 of the body keeps the buffers. -/
theorem keep_part72 {v1831 v1832} :
    Keeps c bd R (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1831 v1832) (fun _ => True) := by
  unfold k0_part72
  repeat' first
    | exact keeps_pure _ trivial
    | refine keeps_bind keeps_load fun _ _ => ?_
    | refine keeps_bind keeps_store fun _ _ => ?_

/-- Part 73 of the body keeps the buffers. -/
theorem keep_part73 {v1846 v1850 v1854 v1858 v1860 v1861} :
    Keeps c bd R (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1846 v1850 v1854 v1858 v1860 v1861) (fun _ => True) := by
  unfold k0_part73
  repeat' first
    | exact keeps_pure _ trivial
    | refine keeps_bind keeps_load fun _ _ => ?_
    | refine keeps_bind keeps_store fun _ _ => ?_

/-- Part 74 of the body keeps the buffers. -/
theorem keep_part74 {v1873 v1878 v1883 v1888 v1890 v1891} :
    Keeps c bd R (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1873 v1878 v1883 v1888 v1890 v1891) (fun _ => True) := by
  unfold k0_part74
  repeat' first
    | exact keeps_pure _ trivial
    | refine keeps_bind keeps_load fun _ _ => ?_
    | refine keeps_bind keeps_store fun _ _ => ?_

/-- Part 75 of the body keeps the buffers. -/
theorem keep_part75 {v1903 v1908 v1913 v1918 v1920 v1921} :
    Keeps c bd R (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1903 v1908 v1913 v1918 v1920 v1921) (fun _ => True) := by
  unfold k0_part75
  repeat' first
    | exact keeps_pure _ trivial
    | refine keeps_bind keeps_load fun _ _ => ?_
    | refine keeps_bind keeps_store fun _ _ => ?_

/-- Part 76 of the body keeps the buffers. -/
theorem keep_part76 {v1933 v1938 v1943 v1948 v1950 v1951} :
    Keeps c bd R (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1933 v1938 v1943 v1948 v1950 v1951) (fun _ => True) := by
  unfold k0_part76
  repeat' first
    | exact keeps_pure _ trivial
    | refine keeps_bind keeps_load fun _ _ => ?_
    | refine keeps_bind keeps_store fun _ _ => ?_

/-- Part 77 of the body keeps the buffers. -/
theorem keep_part77 {v1963 v1968 v1973 v1978 v1980 v1981} :
    Keeps c bd R (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1963 v1968 v1973 v1978 v1980 v1981) (fun _ => True) := by
  unfold k0_part77
  repeat' first
    | exact keeps_pure _ trivial
    | refine keeps_bind keeps_load fun _ _ => ?_
    | refine keeps_bind keeps_store fun _ _ => ?_

/-- Part 78 of the body keeps the buffers. -/
theorem keep_part78 {v1993 v1998 v2003 v2008 v2010 v2011} :
    Keeps c bd R (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1993 v1998 v2003 v2008 v2010 v2011) (fun _ => True) := by
  unfold k0_part78
  repeat' first
    | exact keeps_pure _ trivial
    | refine keeps_bind keeps_load fun _ _ => ?_
    | refine keeps_bind keeps_store fun _ _ => ?_

/-- Part 79 of the body keeps the buffers. -/
theorem keep_part79 {v2023 v2028 v2033 v2038 v2040 v2041} :
    Keeps c bd R (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2023 v2028 v2033 v2038 v2040 v2041) (fun _ => True) := by
  unfold k0_part79
  repeat' first
    | exact keeps_pure _ trivial
    | refine keeps_bind keeps_load fun _ _ => ?_
    | refine keeps_bind keeps_store fun _ _ => ?_

/-- Part 80 of the body keeps the buffers. -/
theorem keep_part80 {v2053 v2058 v2063 v2068 v2070 v2071} :
    Keeps c bd R (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2053 v2058 v2063 v2068 v2070 v2071) (fun _ => True) := by
  unfold k0_part80
  repeat' first
    | exact keeps_pure _ trivial
    | refine keeps_bind keeps_load fun _ _ => ?_
    | refine keeps_bind keeps_store fun _ _ => ?_

/-- Part 81 of the body keeps the buffers. -/
theorem keep_part81 {v2083 v2088 v2093 v2098 v2100 v2101} :
    Keeps c bd R (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2083 v2088 v2093 v2098 v2100 v2101) (fun _ => True) := by
  unfold k0_part81
  repeat' first
    | exact keeps_pure _ trivial
    | refine keeps_bind keeps_load fun _ _ => ?_
    | refine keeps_bind keeps_store fun _ _ => ?_

/-- Part 82 of the body keeps the buffers. -/
theorem keep_part82 {v2113 v2118 v2123 v2128 v2130 v2131} :
    Keeps c bd R (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2113 v2118 v2123 v2128 v2130 v2131) (fun _ => True) := by
  unfold k0_part82
  repeat' first
    | exact keeps_pure _ trivial
    | refine keeps_bind keeps_load fun _ _ => ?_
    | refine keeps_bind keeps_store fun _ _ => ?_

/-- Part 83 of the body keeps the buffers. -/
theorem keep_part83 {v2162 v2163} :
    Keeps c bd R (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2162 v2163) (fun _ => True) := by
  unfold k0_part83
  repeat' first
    | exact keeps_pure _ trivial
    | refine keeps_bind keeps_load fun _ _ => ?_
    | refine keeps_bind keeps_store fun _ _ => ?_

/-- Part 84 of the body keeps the buffers. -/
theorem keep_part84 {v2177 v2181 v2185 v2189 v2191 v2192} :
    Keeps c bd R (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2177 v2181 v2185 v2189 v2191 v2192) (fun _ => True) := by
  unfold k0_part84
  repeat' first
    | exact keeps_pure _ trivial
    | refine keeps_bind keeps_load fun _ _ => ?_
    | refine keeps_bind keeps_store fun _ _ => ?_

/-- Part 85 of the body keeps the buffers. -/
theorem keep_part85 {v2204 v2209 v2214 v2219 v2221 v2222} :
    Keeps c bd R (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2204 v2209 v2214 v2219 v2221 v2222) (fun _ => True) := by
  unfold k0_part85
  repeat' first
    | exact keeps_pure _ trivial
    | refine keeps_bind keeps_load fun _ _ => ?_
    | refine keeps_bind keeps_store fun _ _ => ?_

/-- Part 86 of the body keeps the buffers. -/
theorem keep_part86 {v2234 v2239 v2244 v2249 v2251 v2252} :
    Keeps c bd R (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2234 v2239 v2244 v2249 v2251 v2252) (fun _ => True) := by
  unfold k0_part86
  repeat' first
    | exact keeps_pure _ trivial
    | refine keeps_bind keeps_load fun _ _ => ?_
    | refine keeps_bind keeps_store fun _ _ => ?_

/-- Part 87 of the body keeps the buffers. -/
theorem keep_part87 {v2264 v2269 v2274 v2279 v2281 v2282} :
    Keeps c bd R (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2264 v2269 v2274 v2279 v2281 v2282) (fun _ => True) := by
  unfold k0_part87
  repeat' first
    | exact keeps_pure _ trivial
    | refine keeps_bind keeps_load fun _ _ => ?_
    | refine keeps_bind keeps_store fun _ _ => ?_

/-- Part 88 of the body keeps the buffers. -/
theorem keep_part88 {v2294 v2299 v2304 v2309 v2311 v2312} :
    Keeps c bd R (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2294 v2299 v2304 v2309 v2311 v2312) (fun _ => True) := by
  unfold k0_part88
  repeat' first
    | exact keeps_pure _ trivial
    | refine keeps_bind keeps_load fun _ _ => ?_
    | refine keeps_bind keeps_store fun _ _ => ?_

/-- Part 89 of the body keeps the buffers. -/
theorem keep_part89 {v2324 v2329 v2334 v2339 v2341 v2342} :
    Keeps c bd R (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2324 v2329 v2334 v2339 v2341 v2342) (fun _ => True) := by
  unfold k0_part89
  repeat' first
    | exact keeps_pure _ trivial
    | refine keeps_bind keeps_load fun _ _ => ?_
    | refine keeps_bind keeps_store fun _ _ => ?_

/-- Part 90 of the body keeps the buffers. -/
theorem keep_part90 {v2354 v2359 v2364 v2369 v2371 v2372} :
    Keeps c bd R (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2354 v2359 v2364 v2369 v2371 v2372) (fun _ => True) := by
  unfold k0_part90
  repeat' first
    | exact keeps_pure _ trivial
    | refine keeps_bind keeps_load fun _ _ => ?_
    | refine keeps_bind keeps_store fun _ _ => ?_

/-- Part 91 of the body keeps the buffers. -/
theorem keep_part91 {v2384 v2389 v2394 v2399 v2401 v2402} :
    Keeps c bd R (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2384 v2389 v2394 v2399 v2401 v2402) (fun _ => True) := by
  unfold k0_part91
  repeat' first
    | exact keeps_pure _ trivial
    | refine keeps_bind keeps_load fun _ _ => ?_
    | refine keeps_bind keeps_store fun _ _ => ?_

/-- Part 92 of the body keeps the buffers. -/
theorem keep_part92 {v2414 v2419 v2424 v2429 v2431 v2432} :
    Keeps c bd R (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2414 v2419 v2424 v2429 v2431 v2432) (fun _ => True) := by
  unfold k0_part92
  repeat' first
    | exact keeps_pure _ trivial
    | refine keeps_bind keeps_load fun _ _ => ?_
    | refine keeps_bind keeps_store fun _ _ => ?_

/-- Part 93 of the body keeps the buffers. -/
theorem keep_part93 {v2444 v2449 v2454 v2459 v2461 v2462} :
    Keeps c bd R (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2444 v2449 v2454 v2459 v2461 v2462) (fun _ => True) := by
  unfold k0_part93
  repeat' first
    | exact keeps_pure _ trivial
    | refine keeps_bind keeps_load fun _ _ => ?_
    | refine keeps_bind keeps_store fun _ _ => ?_

/-- Part 94 of the body keeps the buffers. -/
theorem keep_part94 {v2493 v2494} :
    Keeps c bd R (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2493 v2494) (fun _ => True) := by
  unfold k0_part94
  repeat' first
    | exact keeps_pure _ trivial
    | refine keeps_bind keeps_load fun _ _ => ?_
    | refine keeps_bind keeps_store fun _ _ => ?_

/-- Part 95 of the body keeps the buffers. -/
theorem keep_part95 {v2508 v2512 v2516 v2520 v2522 v2523} :
    Keeps c bd R (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2508 v2512 v2516 v2520 v2522 v2523) (fun _ => True) := by
  unfold k0_part95
  repeat' first
    | exact keeps_pure _ trivial
    | refine keeps_bind keeps_load fun _ _ => ?_
    | refine keeps_bind keeps_store fun _ _ => ?_

/-- Part 96 of the body keeps the buffers. -/
theorem keep_part96 {v2535 v2540 v2545 v2550 v2552 v2553} :
    Keeps c bd R (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2535 v2540 v2545 v2550 v2552 v2553) (fun _ => True) := by
  unfold k0_part96
  repeat' first
    | exact keeps_pure _ trivial
    | refine keeps_bind keeps_load fun _ _ => ?_
    | refine keeps_bind keeps_store fun _ _ => ?_

/-- Part 97 of the body keeps the buffers. -/
theorem keep_part97 {v2565 v2570 v2575 v2580 v2582 v2583} :
    Keeps c bd R (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2565 v2570 v2575 v2580 v2582 v2583) (fun _ => True) := by
  unfold k0_part97
  repeat' first
    | exact keeps_pure _ trivial
    | refine keeps_bind keeps_load fun _ _ => ?_
    | refine keeps_bind keeps_store fun _ _ => ?_

/-- Part 98 of the body keeps the buffers. -/
theorem keep_part98 {v2595 v2600 v2605 v2610 v2612 v2613} :
    Keeps c bd R (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2595 v2600 v2605 v2610 v2612 v2613) (fun _ => True) := by
  unfold k0_part98
  repeat' first
    | exact keeps_pure _ trivial
    | refine keeps_bind keeps_load fun _ _ => ?_
    | refine keeps_bind keeps_store fun _ _ => ?_

/-- Part 99 of the body keeps the buffers. -/
theorem keep_part99 {v2625 v2630 v2635 v2640 v2642 v2643} :
    Keeps c bd R (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2625 v2630 v2635 v2640 v2642 v2643) (fun _ => True) := by
  unfold k0_part99
  repeat' first
    | exact keeps_pure _ trivial
    | refine keeps_bind keeps_load fun _ _ => ?_
    | refine keeps_bind keeps_store fun _ _ => ?_

/-- Part 100 of the body keeps the buffers. -/
theorem keep_part100 {v2655 v2660 v2665 v2670 v2672 v2673} :
    Keeps c bd R (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2655 v2660 v2665 v2670 v2672 v2673) (fun _ => True) := by
  unfold k0_part100
  repeat' first
    | exact keeps_pure _ trivial
    | refine keeps_bind keeps_load fun _ _ => ?_
    | refine keeps_bind keeps_store fun _ _ => ?_

/-- Part 101 of the body keeps the buffers. -/
theorem keep_part101 {v2685 v2690 v2695 v2700 v2702 v2703} :
    Keeps c bd R (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2685 v2690 v2695 v2700 v2702 v2703) (fun _ => True) := by
  unfold k0_part101
  repeat' first
    | exact keeps_pure _ trivial
    | refine keeps_bind keeps_load fun _ _ => ?_
    | refine keeps_bind keeps_store fun _ _ => ?_

/-- Part 102 of the body keeps the buffers. -/
theorem keep_part102 {v2715 v2720 v2725 v2730 v2732 v2733} :
    Keeps c bd R (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2715 v2720 v2725 v2730 v2732 v2733) (fun _ => True) := by
  unfold k0_part102
  repeat' first
    | exact keeps_pure _ trivial
    | refine keeps_bind keeps_load fun _ _ => ?_
    | refine keeps_bind keeps_store fun _ _ => ?_

/-- Part 103 of the body keeps the buffers. -/
theorem keep_part103 {v2745 v2750 v2755 v2760 v2762 v2763} :
    Keeps c bd R (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2745 v2750 v2755 v2760 v2762 v2763) (fun _ => True) := by
  unfold k0_part103
  repeat' first
    | exact keeps_pure _ trivial
    | refine keeps_bind keeps_load fun _ _ => ?_
    | refine keeps_bind keeps_store fun _ _ => ?_

/-- Part 104 of the body keeps the buffers. -/
theorem keep_part104 {v2775 v2780 v2785 v2790 v2792 v2793} :
    Keeps c bd R (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2775 v2780 v2785 v2790 v2792 v2793) (fun _ => True) := by
  unfold k0_part104
  repeat' first
    | exact keeps_pure _ trivial
    | refine keeps_bind keeps_load fun _ _ => ?_
    | refine keeps_bind keeps_store fun _ _ => ?_

/-- Part 105 of the body keeps the buffers. -/
theorem keep_part105 {v2824 v2825} :
    Keeps c bd R (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2824 v2825) (fun _ => True) := by
  unfold k0_part105
  repeat' first
    | exact keeps_pure _ trivial
    | refine keeps_bind keeps_load fun _ _ => ?_
    | refine keeps_bind keeps_store fun _ _ => ?_

/-- Part 106 of the body keeps the buffers. -/
theorem keep_part106 {v2839 v2843 v2847 v2851 v2853 v2854} :
    Keeps c bd R (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2839 v2843 v2847 v2851 v2853 v2854) (fun _ => True) := by
  unfold k0_part106
  repeat' first
    | exact keeps_pure _ trivial
    | refine keeps_bind keeps_load fun _ _ => ?_
    | refine keeps_bind keeps_store fun _ _ => ?_

/-- Part 107 of the body keeps the buffers. -/
theorem keep_part107 {v2866 v2871 v2876 v2881 v2883 v2884} :
    Keeps c bd R (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2866 v2871 v2876 v2881 v2883 v2884) (fun _ => True) := by
  unfold k0_part107
  repeat' first
    | exact keeps_pure _ trivial
    | refine keeps_bind keeps_load fun _ _ => ?_
    | refine keeps_bind keeps_store fun _ _ => ?_

/-- Part 108 of the body keeps the buffers. -/
theorem keep_part108 {v2896 v2901 v2906 v2911 v2913 v2914} :
    Keeps c bd R (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2896 v2901 v2906 v2911 v2913 v2914) (fun _ => True) := by
  unfold k0_part108
  repeat' first
    | exact keeps_pure _ trivial
    | refine keeps_bind keeps_load fun _ _ => ?_
    | refine keeps_bind keeps_store fun _ _ => ?_

/-- Part 109 of the body keeps the buffers. -/
theorem keep_part109 {v2926 v2931 v2936 v2941 v2943 v2944} :
    Keeps c bd R (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2926 v2931 v2936 v2941 v2943 v2944) (fun _ => True) := by
  unfold k0_part109
  repeat' first
    | exact keeps_pure _ trivial
    | refine keeps_bind keeps_load fun _ _ => ?_
    | refine keeps_bind keeps_store fun _ _ => ?_

/-- Part 110 of the body keeps the buffers. -/
theorem keep_part110 {v2956 v2961 v2966 v2971 v2973 v2974} :
    Keeps c bd R (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2956 v2961 v2966 v2971 v2973 v2974) (fun _ => True) := by
  unfold k0_part110
  repeat' first
    | exact keeps_pure _ trivial
    | refine keeps_bind keeps_load fun _ _ => ?_
    | refine keeps_bind keeps_store fun _ _ => ?_

/-- Part 111 of the body keeps the buffers. -/
theorem keep_part111 {v2986 v2991 v2996 v3001 v3003 v3004} :
    Keeps c bd R (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2986 v2991 v2996 v3001 v3003 v3004) (fun _ => True) := by
  unfold k0_part111
  repeat' first
    | exact keeps_pure _ trivial
    | refine keeps_bind keeps_load fun _ _ => ?_
    | refine keeps_bind keeps_store fun _ _ => ?_

/-- Part 112 of the body keeps the buffers. -/
theorem keep_part112 {v3016 v3021 v3026 v3031 v3033 v3034} :
    Keeps c bd R (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3016 v3021 v3026 v3031 v3033 v3034) (fun _ => True) := by
  unfold k0_part112
  repeat' first
    | exact keeps_pure _ trivial
    | refine keeps_bind keeps_load fun _ _ => ?_
    | refine keeps_bind keeps_store fun _ _ => ?_

/-- Part 113 of the body keeps the buffers. -/
theorem keep_part113 {v3046 v3051 v3056 v3061 v3063 v3064} :
    Keeps c bd R (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3046 v3051 v3056 v3061 v3063 v3064) (fun _ => True) := by
  unfold k0_part113
  repeat' first
    | exact keeps_pure _ trivial
    | refine keeps_bind keeps_load fun _ _ => ?_
    | refine keeps_bind keeps_store fun _ _ => ?_

/-- Part 114 of the body keeps the buffers. -/
theorem keep_part114 {v3076 v3081 v3086 v3091 v3093 v3094} :
    Keeps c bd R (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3076 v3081 v3086 v3091 v3093 v3094) (fun _ => True) := by
  unfold k0_part114
  repeat' first
    | exact keeps_pure _ trivial
    | refine keeps_bind keeps_load fun _ _ => ?_
    | refine keeps_bind keeps_store fun _ _ => ?_

/-- Part 115 of the body keeps the buffers. -/
theorem keep_part115 {v3106 v3111 v3116 v3121 v3123 v3124} :
    Keeps c bd R (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3106 v3111 v3116 v3121 v3123 v3124) (fun _ => True) := by
  unfold k0_part115
  repeat' first
    | exact keeps_pure _ trivial
    | refine keeps_bind keeps_load fun _ _ => ?_
    | refine keeps_bind keeps_store fun _ _ => ?_

/-- Part 116 of the body keeps the buffers. -/
theorem keep_part116 {v3155 v3156} :
    Keeps c bd R (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3155 v3156) (fun _ => True) := by
  unfold k0_part116
  repeat' first
    | exact keeps_pure _ trivial
    | refine keeps_bind keeps_load fun _ _ => ?_
    | refine keeps_bind keeps_store fun _ _ => ?_

/-- Part 117 of the body keeps the buffers. -/
theorem keep_part117 {v3170 v3174 v3178 v3182 v3184 v3185} :
    Keeps c bd R (k0_part117 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3170 v3174 v3178 v3182 v3184 v3185) (fun _ => True) := by
  unfold k0_part117
  repeat' first
    | exact keeps_pure _ trivial
    | refine keeps_bind keeps_load fun _ _ => ?_
    | refine keeps_bind keeps_store fun _ _ => ?_

/-- Part 118 of the body keeps the buffers. -/
theorem keep_part118 {v3197 v3202 v3207 v3212 v3214 v3215} :
    Keeps c bd R (k0_part118 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3197 v3202 v3207 v3212 v3214 v3215) (fun _ => True) := by
  unfold k0_part118
  repeat' first
    | exact keeps_pure _ trivial
    | refine keeps_bind keeps_load fun _ _ => ?_
    | refine keeps_bind keeps_store fun _ _ => ?_

/-- Part 119 of the body keeps the buffers. -/
theorem keep_part119 {v3227 v3232 v3237 v3242 v3244 v3245} :
    Keeps c bd R (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3227 v3232 v3237 v3242 v3244 v3245) (fun _ => True) := by
  unfold k0_part119
  repeat' first
    | exact keeps_pure _ trivial
    | refine keeps_bind keeps_load fun _ _ => ?_
    | refine keeps_bind keeps_store fun _ _ => ?_

/-- Part 120 of the body keeps the buffers. -/
theorem keep_part120 {v3257 v3262 v3267 v3272 v3274 v3275} :
    Keeps c bd R (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3257 v3262 v3267 v3272 v3274 v3275) (fun _ => True) := by
  unfold k0_part120
  repeat' first
    | exact keeps_pure _ trivial
    | refine keeps_bind keeps_load fun _ _ => ?_
    | refine keeps_bind keeps_store fun _ _ => ?_

/-- Part 121 of the body keeps the buffers. -/
theorem keep_part121 {v3287 v3292 v3297 v3302 v3304 v3305} :
    Keeps c bd R (k0_part121 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3287 v3292 v3297 v3302 v3304 v3305) (fun _ => True) := by
  unfold k0_part121
  repeat' first
    | exact keeps_pure _ trivial
    | refine keeps_bind keeps_load fun _ _ => ?_
    | refine keeps_bind keeps_store fun _ _ => ?_

/-- Part 122 of the body keeps the buffers. -/
theorem keep_part122 {v3317 v3322 v3327 v3332 v3334 v3335} :
    Keeps c bd R (k0_part122 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3317 v3322 v3327 v3332 v3334 v3335) (fun _ => True) := by
  unfold k0_part122
  repeat' first
    | exact keeps_pure _ trivial
    | refine keeps_bind keeps_load fun _ _ => ?_
    | refine keeps_bind keeps_store fun _ _ => ?_

/-- Part 123 of the body keeps the buffers. -/
theorem keep_part123 {v3347 v3352 v3357 v3362 v3364 v3365} :
    Keeps c bd R (k0_part123 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3347 v3352 v3357 v3362 v3364 v3365) (fun _ => True) := by
  unfold k0_part123
  repeat' first
    | exact keeps_pure _ trivial
    | refine keeps_bind keeps_load fun _ _ => ?_
    | refine keeps_bind keeps_store fun _ _ => ?_

/-- Part 124 of the body keeps the buffers. -/
theorem keep_part124 {v3377 v3382 v3387 v3392 v3394 v3395} :
    Keeps c bd R (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3377 v3382 v3387 v3392 v3394 v3395) (fun _ => True) := by
  unfold k0_part124
  repeat' first
    | exact keeps_pure _ trivial
    | refine keeps_bind keeps_load fun _ _ => ?_
    | refine keeps_bind keeps_store fun _ _ => ?_

/-- Part 125 of the body keeps the buffers. -/
theorem keep_part125 {v3407 v3412 v3417 v3422 v3424 v3425} :
    Keeps c bd R (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3407 v3412 v3417 v3422 v3424 v3425) (fun _ => True) := by
  unfold k0_part125
  repeat' first
    | exact keeps_pure _ trivial
    | refine keeps_bind keeps_load fun _ _ => ?_
    | refine keeps_bind keeps_store fun _ _ => ?_

/-- Part 126 of the body keeps the buffers. -/
theorem keep_part126 {v3437 v3442 v3447 v3452 v3454 v3455} :
    Keeps c bd R (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3437 v3442 v3447 v3452 v3454 v3455) (fun _ => True) := by
  unfold k0_part126
  repeat' first
    | exact keeps_pure _ trivial
    | refine keeps_bind keeps_load fun _ _ => ?_
    | refine keeps_bind keeps_store fun _ _ => ?_

/-- Part 127 of the body keeps the buffers. -/
theorem keep_part127 {v3486 v3487} :
    Keeps c bd R (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3486 v3487) (fun _ => True) := by
  unfold k0_part127
  repeat' first
    | exact keeps_pure _ trivial
    | refine keeps_bind keeps_load fun _ _ => ?_
    | refine keeps_bind keeps_store fun _ _ => ?_

/-- Part 128 of the body keeps the buffers. -/
theorem keep_part128 {v3501 v3505 v3509 v3513 v3515 v3516} :
    Keeps c bd R (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3501 v3505 v3509 v3513 v3515 v3516) (fun _ => True) := by
  unfold k0_part128
  repeat' first
    | exact keeps_pure _ trivial
    | refine keeps_bind keeps_load fun _ _ => ?_
    | refine keeps_bind keeps_store fun _ _ => ?_

/-- Part 129 of the body keeps the buffers. -/
theorem keep_part129 {v3528 v3533 v3538 v3543 v3545 v3546} :
    Keeps c bd R (k0_part129 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3528 v3533 v3538 v3543 v3545 v3546) (fun _ => True) := by
  unfold k0_part129
  repeat' first
    | exact keeps_pure _ trivial
    | refine keeps_bind keeps_load fun _ _ => ?_
    | refine keeps_bind keeps_store fun _ _ => ?_

/-- Part 130 of the body keeps the buffers. -/
theorem keep_part130 {v3558 v3563 v3568 v3573 v3575 v3576} :
    Keeps c bd R (k0_part130 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3558 v3563 v3568 v3573 v3575 v3576) (fun _ => True) := by
  unfold k0_part130
  repeat' first
    | exact keeps_pure _ trivial
    | refine keeps_bind keeps_load fun _ _ => ?_
    | refine keeps_bind keeps_store fun _ _ => ?_

/-- Part 131 of the body keeps the buffers. -/
theorem keep_part131 {v3588 v3593 v3598 v3603 v3605 v3606} :
    Keeps c bd R (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3588 v3593 v3598 v3603 v3605 v3606) (fun _ => True) := by
  unfold k0_part131
  repeat' first
    | exact keeps_pure _ trivial
    | refine keeps_bind keeps_load fun _ _ => ?_
    | refine keeps_bind keeps_store fun _ _ => ?_

/-- Part 132 of the body keeps the buffers. -/
theorem keep_part132 {v3618 v3623 v3628 v3633 v3635 v3636} :
    Keeps c bd R (k0_part132 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3618 v3623 v3628 v3633 v3635 v3636) (fun _ => True) := by
  unfold k0_part132
  repeat' first
    | exact keeps_pure _ trivial
    | refine keeps_bind keeps_load fun _ _ => ?_
    | refine keeps_bind keeps_store fun _ _ => ?_

/-- Part 133 of the body keeps the buffers. -/
theorem keep_part133 {v3648 v3653 v3658 v3663 v3665 v3666} :
    Keeps c bd R (k0_part133 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3648 v3653 v3658 v3663 v3665 v3666) (fun _ => True) := by
  unfold k0_part133
  repeat' first
    | exact keeps_pure _ trivial
    | refine keeps_bind keeps_load fun _ _ => ?_
    | refine keeps_bind keeps_store fun _ _ => ?_

/-- Part 134 of the body keeps the buffers. -/
theorem keep_part134 {v3678 v3683 v3688 v3693 v3695 v3696} :
    Keeps c bd R (k0_part134 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3678 v3683 v3688 v3693 v3695 v3696) (fun _ => True) := by
  unfold k0_part134
  repeat' first
    | exact keeps_pure _ trivial
    | refine keeps_bind keeps_load fun _ _ => ?_
    | refine keeps_bind keeps_store fun _ _ => ?_

/-- Part 135 of the body keeps the buffers. -/
theorem keep_part135 {v3708 v3713 v3718 v3723 v3725 v3726} :
    Keeps c bd R (k0_part135 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3708 v3713 v3718 v3723 v3725 v3726) (fun _ => True) := by
  unfold k0_part135
  repeat' first
    | exact keeps_pure _ trivial
    | refine keeps_bind keeps_load fun _ _ => ?_
    | refine keeps_bind keeps_store fun _ _ => ?_

/-- Part 136 of the body keeps the buffers. -/
theorem keep_part136 {v3738 v3743 v3748 v3753 v3755 v3756} :
    Keeps c bd R (k0_part136 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3738 v3743 v3748 v3753 v3755 v3756) (fun _ => True) := by
  unfold k0_part136
  repeat' first
    | exact keeps_pure _ trivial
    | refine keeps_bind keeps_load fun _ _ => ?_
    | refine keeps_bind keeps_store fun _ _ => ?_

/-- Part 137 of the body keeps the buffers. -/
theorem keep_part137 {v3768 v3773 v3778 v3783 v3785 v3786} :
    Keeps c bd R (k0_part137 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3768 v3773 v3778 v3783 v3785 v3786) (fun _ => True) := by
  unfold k0_part137
  repeat' first
    | exact keeps_pure _ trivial
    | refine keeps_bind keeps_load fun _ _ => ?_
    | refine keeps_bind keeps_store fun _ _ => ?_

/-- Part 138 of the body keeps the buffers. -/
theorem keep_part138 {v3817 v3818} :
    Keeps c bd R (k0_part138 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3817 v3818) (fun _ => True) := by
  unfold k0_part138
  repeat' first
    | exact keeps_pure _ trivial
    | refine keeps_bind keeps_load fun _ _ => ?_
    | refine keeps_bind keeps_store fun _ _ => ?_

/-- Part 139 of the body keeps the buffers. -/
theorem keep_part139 {v3849} :
    Keeps c bd R (k0_part139 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3849) (fun _ => True) := by
  unfold k0_part139
  repeat' first
    | exact keeps_pure _ trivial
    | refine keeps_bind keeps_load fun _ _ => ?_
    | refine keeps_bind keeps_store fun _ _ => ?_

/-- Part 140 of the body keeps the buffers. -/
theorem keep_part140 {v3880 v3881} :
    Keeps c bd R (k0_part140 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3880 v3881) (fun _ => True) := by
  unfold k0_part140
  repeat' first
    | exact keeps_pure _ trivial
    | refine keeps_bind keeps_load fun _ _ => ?_
    | refine keeps_bind keeps_store fun _ _ => ?_

/-- Part 141 of the body keeps the buffers. -/
theorem keep_part141 {v549 c0_i32_447 c1_i32_449 k0_t21} :
    Keeps c bd R (k0_part141 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v549 c0_i32_447 c1_i32_449 k0_t21) (fun _ => True) := by
  unfold k0_part141
  refine keeps_bind keep_part40 fun _ _ => ?_
  refine keeps_bind keep_part41 fun _ _ => ?_
  refine keeps_bind keep_part42 fun _ _ => ?_
  refine keeps_bind keep_part43 fun _ _ => ?_
  refine keeps_bind keep_part44 fun _ _ => ?_
  refine keeps_bind keep_part45 fun _ _ => ?_
  refine keeps_bind keep_part46 fun _ _ => ?_
  refine keeps_bind keep_part47 fun _ _ => ?_
  refine keeps_bind keep_part48 fun _ _ => ?_
  refine keeps_bind keep_part49 fun _ _ => ?_
  refine keeps_bind keep_part50 fun _ _ => ?_
  refine keeps_bind keep_part51 fun _ _ => ?_
  refine keeps_bind keep_part52 fun _ _ => ?_
  refine keeps_bind keep_part53 fun _ _ => ?_
  refine keeps_bind keep_part54 fun _ _ => ?_
  refine keeps_bind keep_part55 fun _ _ => ?_
  refine keeps_bind keep_part56 fun _ _ => ?_
  refine keeps_bind keep_part57 fun _ _ => ?_
  refine keeps_bind keep_part58 fun _ _ => ?_
  refine keeps_bind keep_part59 fun _ _ => ?_
  refine keeps_bind keep_part60 fun _ _ => ?_
  refine keeps_bind keep_part61 fun _ _ => ?_
  refine keeps_bind keep_part62 fun _ _ => ?_
  refine keeps_bind keep_part63 fun _ _ => ?_
  refine keeps_bind keep_part64 fun _ _ => ?_
  refine keeps_bind keep_part65 fun _ _ => ?_
  refine keeps_bind keep_part66 fun _ _ => ?_
  refine keeps_bind keep_part67 fun _ _ => ?_
  refine keeps_bind keep_part68 fun _ _ => ?_
  refine keeps_bind keep_part69 fun _ _ => ?_
  refine keeps_bind keep_part70 fun _ _ => ?_
  refine keeps_bind keep_part71 fun _ _ => ?_
  refine keeps_bind keep_part72 fun _ _ => ?_
  refine keeps_bind keep_part73 fun _ _ => ?_
  refine keeps_bind keep_part74 fun _ _ => ?_
  refine keeps_bind keep_part75 fun _ _ => ?_
  refine keeps_bind keep_part76 fun _ _ => ?_
  refine keeps_bind keep_part77 fun _ _ => ?_
  refine keeps_bind keep_part78 fun _ _ => ?_
  refine keeps_bind keep_part79 fun _ _ => ?_
  refine keeps_bind keep_part80 fun _ _ => ?_
  refine keeps_bind keep_part81 fun _ _ => ?_
  refine keeps_bind keep_part82 fun _ _ => ?_
  refine keeps_bind keep_part83 fun _ _ => ?_
  refine keeps_bind keep_part84 fun _ _ => ?_
  refine keeps_bind keep_part85 fun _ _ => ?_
  refine keeps_bind keep_part86 fun _ _ => ?_
  refine keeps_bind keep_part87 fun _ _ => ?_
  refine keeps_bind keep_part88 fun _ _ => ?_
  refine keeps_bind keep_part89 fun _ _ => ?_
  refine keeps_bind keep_part90 fun _ _ => ?_
  refine keeps_bind keep_part91 fun _ _ => ?_
  refine keeps_bind keep_part92 fun _ _ => ?_
  refine keeps_bind keep_part93 fun _ _ => ?_
  refine keeps_bind keep_part94 fun _ _ => ?_
  refine keeps_bind keep_part95 fun _ _ => ?_
  refine keeps_bind keep_part96 fun _ _ => ?_
  refine keeps_bind keep_part97 fun _ _ => ?_
  refine keeps_bind keep_part98 fun _ _ => ?_
  refine keeps_bind keep_part99 fun _ _ => ?_
  exact keeps_pure _ trivial

end Cert.Proof.Attn

end
-- ==== Proof.AttnParts3.lean ====
/-
  The attention's frame: stretch 3 of the parts of the kernel's body, each of which keeps the buffers it is handed.
-/
module

public import proofs.«01_k».proof.Proof.AttnParts2

@[expose] public section

set_option maxHeartbeats 4000000
set_option synthInstance.maxHeartbeats 400000
set_option synthInstance.maxSize 4096

noncomputable section

namespace Cert.Proof.Attn

open Cert.Attention Cert.Attention.Gen
open Idealize.ShloMosaic Idealize.ShloMosaic.TcCoe
open Idealize.SL Idealize.SL.BI Idealize.SL.Sem

variable {F : FTy → Type} [BitOps F] [Facts]
variable {c : Dev nD} {bd : Option ℕ} {R : sProp (MT nD τ sig Unit (Elt F) ℕ (UR sig nD τ) ℕ)}
variable {i : grid0.Coords}
variable {arg2 : Memref sig .tc .vmem S1x512x256 .bf16} {harg2 : arg2.IsWhole} [Has (F := F) c R arg2]
variable {arg3 : Memref sig .tc .vmem S1x8x256 .f32} {harg3 : arg3.IsWhole} [Has (F := F) c R arg3]
variable {arg4 : Memref sig .tc .vmem S1x512x256 .bf16} {harg4 : arg4.IsWhole} [Has (F := F) c R arg4]
variable {arg5 : Memref sig .tc .vmem S1x8192x64 .bf16} {harg5 : arg5.IsWhole} [Has (F := F) c R arg5]
variable {arg6 : Memref sig .tc .vmem S1x8192x512 .bf16} {harg6 : arg6.IsWhole} [Has (F := F) c R arg6]
variable {arg7 : Memref sig .tc .vmem S1x16x8x80x512 .bf16} {harg7 : arg7.IsWhole} [Has (F := F) c R arg7]
variable {arg8 : Memref sig .tc .vmem S1x256x512 .bf16} {harg8 : arg8.IsWhole} [Has (F := F) c R arg8]
variable {arg9 : Memref sig .tc .vmem S8192x256 .i32} {harg9 : arg9.IsWhole} [Has (F := F) c R arg9]
variable {arg10 : Memref sig .tc .vmem S8192x256 .i16} {harg10 : arg10.IsWhole} [Has (F := F) c R arg10]
variable {arg11 : Memref sig .tc .vmem S8x128x256 .bf16} {harg11 : arg11.IsWhole} [Has (F := F) c R arg11]
variable {arg12 : Memref sig .tc .vmem S8x80x256 .f32} {harg12 : arg12.IsWhole} [Has (F := F) c R arg12]
variable {arg13 : Memref sig .tc .vmem S8x256 .f32} {harg13 : arg13.IsWhole} [Has (F := F) c R arg13]
variable {arg14 : Memref sig .tc .vmem S8x256 .f32} {harg14 : arg14.IsWhole} [Has (F := F) c R arg14]
variable {arg15 : Memref sig .tc .vmem S512x256 .f32} {harg15 : arg15.IsWhole} [Has (F := F) c R arg15]
variable {arg16 : Memref sig .tc .vmem S512x256 .f32} {harg16 : arg16.IsWhole} [Has (F := F) c R arg16]
variable {arg17 : Memref sig .tc .vmem S1x512x256 .f32} {harg17 : arg17.IsWhole} [Has (F := F) c R arg17]
variable {arg18 : Memref sig .tc .vmem S1x512x256 .f32} {harg18 : arg18.IsWhole} [Has (F := F) c R arg18]
variable {arg19 : Memref sig .tc .vmem S1x512x256 .f32} {harg19 : arg19.IsWhole} [Has (F := F) c R arg19]
variable {arg20 : Memref sig .tc .vmem S1x512x256 .f32} {harg20 : arg20.IsWhole} [Has (F := F) c R arg20]
variable {arg21 : Memref sig .tc .vmem S1x512x256 .f32} {harg21 : arg21.IsWhole} [Has (F := F) c R arg21]
variable {arg22 : Memref sig .tc .vmem S1x512x256 .f32} {harg22 : arg22.IsWhole} [Has (F := F) c R arg22]
variable {arg23 : Memref sig .tc .vmem S1x512x256 .f32} {harg23 : arg23.IsWhole} [Has (F := F) c R arg23]
variable {arg24 : Memref sig .tc .vmem S1x512x256 .f32} {harg24 : arg24.IsWhole} [Has (F := F) c R arg24]
variable {arg25 : Memref sig .tc .vmem S1x512x256 .bf16} {harg25 : arg25.IsWhole} [Has (F := F) c R arg25]
variable {arg26 : Memref sig .tc .vmem S1x512x256 .bf16} {harg26 : arg26.IsWhole} [Has (F := F) c R arg26]
variable {arg27 : Memref sig .tc .vmem S1x512x256 .bf16} {harg27 : arg27.IsWhole} [Has (F := F) c R arg27]
variable {arg28 : Memref sig .tc .vmem S1x512x256 .bf16} {harg28 : arg28.IsWhole} [Has (F := F) c R arg28]
variable {arg29 : Memref sig .tc .vmem S1x512x256 .bf16} {harg29 : arg29.IsWhole} [Has (F := F) c R arg29]
variable {arg30 : Memref sig .tc .vmem S1x512x256 .bf16} {harg30 : arg30.IsWhole} [Has (F := F) c R arg30]
variable {arg31 : Memref sig .tc .vmem S1x512x256 .bf16} {harg31 : arg31.IsWhole} [Has (F := F) c R arg31]
variable {arg32 : Memref sig .tc .vmem S1x512x256 .bf16} {harg32 : arg32.IsWhole} [Has (F := F) c R arg32]

/-- Part 142 of the body keeps the buffers. -/
theorem keep_part142 {v2655 v2660 v2665 v2670 v2672 v2673} :
    Keeps c bd R (k0_part142 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2655 v2660 v2665 v2670 v2672 v2673) (fun _ => True) := by
  unfold k0_part142
  refine keeps_bind keep_part100 fun _ _ => ?_
  refine keeps_bind keep_part101 fun _ _ => ?_
  refine keeps_bind keep_part102 fun _ _ => ?_
  refine keeps_bind keep_part103 fun _ _ => ?_
  refine keeps_bind keep_part104 fun _ _ => ?_
  refine keeps_bind keep_part105 fun _ _ => ?_
  refine keeps_bind keep_part106 fun _ _ => ?_
  refine keeps_bind keep_part107 fun _ _ => ?_
  refine keeps_bind keep_part108 fun _ _ => ?_
  refine keeps_bind keep_part109 fun _ _ => ?_
  refine keeps_bind keep_part110 fun _ _ => ?_
  refine keeps_bind keep_part111 fun _ _ => ?_
  refine keeps_bind keep_part112 fun _ _ => ?_
  refine keeps_bind keep_part113 fun _ _ => ?_
  refine keeps_bind keep_part114 fun _ _ => ?_
  refine keeps_bind keep_part115 fun _ _ => ?_
  refine keeps_bind keep_part116 fun _ _ => ?_
  refine keeps_bind keep_part117 fun _ _ => ?_
  refine keeps_bind keep_part118 fun _ _ => ?_
  refine keeps_bind keep_part119 fun _ _ => ?_
  refine keeps_bind keep_part120 fun _ _ => ?_
  refine keeps_bind keep_part121 fun _ _ => ?_
  refine keeps_bind keep_part122 fun _ _ => ?_
  refine keeps_bind keep_part123 fun _ _ => ?_
  refine keeps_bind keep_part124 fun _ _ => ?_
  refine keeps_bind keep_part125 fun _ _ => ?_
  refine keeps_bind keep_part126 fun _ _ => ?_
  refine keeps_bind keep_part127 fun _ _ => ?_
  refine keeps_bind keep_part128 fun _ _ => ?_
  refine keeps_bind keep_part129 fun _ _ => ?_
  refine keeps_bind keep_part130 fun _ _ => ?_
  refine keeps_bind keep_part131 fun _ _ => ?_
  refine keeps_bind keep_part132 fun _ _ => ?_
  refine keeps_bind keep_part133 fun _ _ => ?_
  refine keeps_bind keep_part134 fun _ _ => ?_
  refine keeps_bind keep_part135 fun _ _ => ?_
  refine keeps_bind keep_part136 fun _ _ => ?_
  refine keeps_bind keep_part137 fun _ _ => ?_
  refine keeps_bind keep_part138 fun _ _ => ?_
  refine keeps_bind keep_part139 fun _ _ => ?_
  refine keeps_bind keep_part140 fun _ _ => ?_
  repeat first
    | refine keeps_bind keeps_load fun _ _ => ?_
    | refine keeps_bind keeps_store fun _ _ => ?_
  exact keeps_pure _ trivial

/-- Part 143 of the body keeps the buffers. -/
theorem keep_part143 {v687 c1_i32_450 k0_t22} :
    Keeps c bd R (k0_part143 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v687 c1_i32_450 k0_t22) (fun _ => True) := by
  unfold k0_part143
  repeat' first
    | exact keeps_pure _ trivial
    | refine keeps_bind keeps_load fun _ _ => ?_
    | refine keeps_bind keeps_store fun _ _ => ?_

/-- Part 144 of the body keeps the buffers. -/
theorem keep_part144 {k0_t22 v888 v909 v912 v913} :
    Keeps c bd R (k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t22 v888 v909 v912 v913) (fun _ => True) := by
  unfold k0_part144
  repeat' first
    | exact keeps_pure _ trivial
    | refine keeps_bind keeps_load fun _ _ => ?_
    | refine keeps_bind keeps_store fun _ _ => ?_

/-- Part 145 of the body keeps the buffers. -/
theorem keep_part145 {k0_t22 v888 v939 v940} :
    Keeps c bd R (k0_part145 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t22 v888 v939 v940) (fun _ => True) := by
  unfold k0_part145
  repeat' first
    | exact keeps_pure _ trivial
    | refine keeps_bind keeps_load fun _ _ => ?_
    | refine keeps_bind keeps_store fun _ _ => ?_

/-- Part 146 of the body keeps the buffers. -/
theorem keep_part146 {k0_t22 v888 v969} :
    Keeps c bd R (k0_part146 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t22 v888 v969) (fun _ => True) := by
  unfold k0_part146
  repeat' first
    | exact keeps_pure _ trivial
    | refine keeps_bind keeps_load fun _ _ => ?_
    | refine keeps_bind keeps_store fun _ _ => ?_

/-- Part 147 of the body keeps the buffers. -/
theorem keep_part147 {v549 k0_t22 arg33 v996 v997} :
    Keeps c bd R (k0_part147 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v549 k0_t22 arg33 v996 v997) (fun _ => True) := by
  unfold k0_part147
  repeat' first
    | exact keeps_pure _ trivial
    | refine keeps_bind keeps_load fun _ _ => ?_
    | refine keeps_bind keeps_store fun _ _ => ?_

/-- Part 148 of the body keeps the buffers. -/
theorem keep_part148 {k0_t22 v1010 v1030} :
    Keeps c bd R (k0_part148 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t22 v1010 v1030) (fun _ => True) := by
  unfold k0_part148
  repeat' first
    | exact keeps_pure _ trivial
    | refine keeps_bind keeps_load fun _ _ => ?_
    | refine keeps_bind keeps_store fun _ _ => ?_

/-- Part 149 of the body keeps the buffers. -/
theorem keep_part149 {k0_t22 v1010 v1057} :
    Keeps c bd R (k0_part149 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t22 v1010 v1057) (fun _ => True) := by
  unfold k0_part149
  repeat' first
    | exact keeps_pure _ trivial
    | refine keeps_bind keeps_load fun _ _ => ?_
    | refine keeps_bind keeps_store fun _ _ => ?_

/-- Part 150 of the body keeps the buffers. -/
theorem keep_part150 {k0_t22 v1010 v1087} :
    Keeps c bd R (k0_part150 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t22 v1010 v1087) (fun _ => True) := by
  unfold k0_part150
  repeat' first
    | exact keeps_pure _ trivial
    | refine keeps_bind keeps_load fun _ _ => ?_
    | refine keeps_bind keeps_store fun _ _ => ?_

/-- Part 151 of the body keeps the buffers. -/
theorem keep_part151 {k0_t22 v1010 v1114 v1115} :
    Keeps c bd R (k0_part151 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t22 v1010 v1114 v1115) (fun _ => True) := by
  unfold k0_part151
  repeat' first
    | exact keeps_pure _ trivial
    | refine keeps_bind keeps_load fun _ _ => ?_
    | refine keeps_bind keeps_store fun _ _ => ?_

/-- Part 152 of the body keeps the buffers. -/
theorem keep_part152 {k0_t22 v1010 v1144} :
    Keeps c bd R (k0_part152 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t22 v1010 v1144) (fun _ => True) := by
  unfold k0_part152
  repeat' first
    | exact keeps_pure _ trivial
    | refine keeps_bind keeps_load fun _ _ => ?_
    | refine keeps_bind keeps_store fun _ _ => ?_

/-- Part 153 of the body keeps the buffers. -/
theorem keep_part153 {k0_t22} :
    Keeps c bd R (k0_part153 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 k0_t22) (fun _ => True) := by
  unfold k0_part153
  repeat' first
    | exact keeps_pure _ trivial
    | refine keeps_bind keeps_load fun _ _ => ?_
    | refine keeps_bind keeps_store fun _ _ => ?_

/-- Part 154 of the body keeps the buffers. -/
theorem keep_part154 {v1184 v1188 v1192 v1196 v1198 v1199} :
    Keeps c bd R (k0_part154 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1184 v1188 v1192 v1196 v1198 v1199) (fun _ => True) := by
  unfold k0_part154
  repeat' first
    | exact keeps_pure _ trivial
    | refine keeps_bind keeps_load fun _ _ => ?_
    | refine keeps_bind keeps_store fun _ _ => ?_

/-- Part 155 of the body keeps the buffers. -/
theorem keep_part155 {v1211 v1216 v1221 v1226 v1228 v1229} :
    Keeps c bd R (k0_part155 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1211 v1216 v1221 v1226 v1228 v1229) (fun _ => True) := by
  unfold k0_part155
  repeat' first
    | exact keeps_pure _ trivial
    | refine keeps_bind keeps_load fun _ _ => ?_
    | refine keeps_bind keeps_store fun _ _ => ?_

/-- Part 156 of the body keeps the buffers. -/
theorem keep_part156 {v1241 v1246 v1251 v1256 v1258 v1259} :
    Keeps c bd R (k0_part156 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1241 v1246 v1251 v1256 v1258 v1259) (fun _ => True) := by
  unfold k0_part156
  repeat' first
    | exact keeps_pure _ trivial
    | refine keeps_bind keeps_load fun _ _ => ?_
    | refine keeps_bind keeps_store fun _ _ => ?_

/-- Part 157 of the body keeps the buffers. -/
theorem keep_part157 {v1271 v1276 v1281 v1286 v1288 v1289} :
    Keeps c bd R (k0_part157 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1271 v1276 v1281 v1286 v1288 v1289) (fun _ => True) := by
  unfold k0_part157
  repeat' first
    | exact keeps_pure _ trivial
    | refine keeps_bind keeps_load fun _ _ => ?_
    | refine keeps_bind keeps_store fun _ _ => ?_

/-- Part 158 of the body keeps the buffers. -/
theorem keep_part158 {v1301 v1306 v1311 v1316 v1318 v1319} :
    Keeps c bd R (k0_part158 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1301 v1306 v1311 v1316 v1318 v1319) (fun _ => True) := by
  unfold k0_part158
  repeat' first
    | exact keeps_pure _ trivial
    | refine keeps_bind keeps_load fun _ _ => ?_
    | refine keeps_bind keeps_store fun _ _ => ?_

/-- Part 159 of the body keeps the buffers. -/
theorem keep_part159 {v1331 v1336 v1341 v1346 v1348 v1349} :
    Keeps c bd R (k0_part159 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1331 v1336 v1341 v1346 v1348 v1349) (fun _ => True) := by
  unfold k0_part159
  repeat' first
    | exact keeps_pure _ trivial
    | refine keeps_bind keeps_load fun _ _ => ?_
    | refine keeps_bind keeps_store fun _ _ => ?_

/-- Part 160 of the body keeps the buffers. -/
theorem keep_part160 {v1361 v1366 v1371 v1376 v1378 v1379} :
    Keeps c bd R (k0_part160 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1361 v1366 v1371 v1376 v1378 v1379) (fun _ => True) := by
  unfold k0_part160
  repeat' first
    | exact keeps_pure _ trivial
    | refine keeps_bind keeps_load fun _ _ => ?_
    | refine keeps_bind keeps_store fun _ _ => ?_

/-- Part 161 of the body keeps the buffers. -/
theorem keep_part161 {v1391 v1396 v1401 v1406 v1408 v1409} :
    Keeps c bd R (k0_part161 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1391 v1396 v1401 v1406 v1408 v1409) (fun _ => True) := by
  unfold k0_part161
  repeat' first
    | exact keeps_pure _ trivial
    | refine keeps_bind keeps_load fun _ _ => ?_
    | refine keeps_bind keeps_store fun _ _ => ?_

/-- Part 162 of the body keeps the buffers. -/
theorem keep_part162 {v1421 v1426 v1431 v1436 v1438 v1439} :
    Keeps c bd R (k0_part162 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1421 v1426 v1431 v1436 v1438 v1439) (fun _ => True) := by
  unfold k0_part162
  repeat' first
    | exact keeps_pure _ trivial
    | refine keeps_bind keeps_load fun _ _ => ?_
    | refine keeps_bind keeps_store fun _ _ => ?_

/-- Part 163 of the body keeps the buffers. -/
theorem keep_part163 {v1451 v1456 v1461 v1466 v1468 v1469} :
    Keeps c bd R (k0_part163 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1451 v1456 v1461 v1466 v1468 v1469) (fun _ => True) := by
  unfold k0_part163
  repeat' first
    | exact keeps_pure _ trivial
    | refine keeps_bind keeps_load fun _ _ => ?_
    | refine keeps_bind keeps_store fun _ _ => ?_

/-- Part 164 of the body keeps the buffers. -/
theorem keep_part164 {v1500 v1501} :
    Keeps c bd R (k0_part164 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1500 v1501) (fun _ => True) := by
  unfold k0_part164
  repeat' first
    | exact keeps_pure _ trivial
    | refine keeps_bind keeps_load fun _ _ => ?_
    | refine keeps_bind keeps_store fun _ _ => ?_

/-- Part 165 of the body keeps the buffers. -/
theorem keep_part165 {v1515 v1519 v1523 v1527 v1529 v1530} :
    Keeps c bd R (k0_part165 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1515 v1519 v1523 v1527 v1529 v1530) (fun _ => True) := by
  unfold k0_part165
  repeat' first
    | exact keeps_pure _ trivial
    | refine keeps_bind keeps_load fun _ _ => ?_
    | refine keeps_bind keeps_store fun _ _ => ?_

/-- Part 166 of the body keeps the buffers. -/
theorem keep_part166 {v1542 v1547 v1552 v1557 v1559 v1560} :
    Keeps c bd R (k0_part166 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1542 v1547 v1552 v1557 v1559 v1560) (fun _ => True) := by
  unfold k0_part166
  repeat' first
    | exact keeps_pure _ trivial
    | refine keeps_bind keeps_load fun _ _ => ?_
    | refine keeps_bind keeps_store fun _ _ => ?_

/-- Part 167 of the body keeps the buffers. -/
theorem keep_part167 {v1572 v1577 v1582 v1587 v1589 v1590} :
    Keeps c bd R (k0_part167 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1572 v1577 v1582 v1587 v1589 v1590) (fun _ => True) := by
  unfold k0_part167
  repeat' first
    | exact keeps_pure _ trivial
    | refine keeps_bind keeps_load fun _ _ => ?_
    | refine keeps_bind keeps_store fun _ _ => ?_

/-- Part 168 of the body keeps the buffers. -/
theorem keep_part168 {v1602 v1607 v1612 v1617 v1619 v1620} :
    Keeps c bd R (k0_part168 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1602 v1607 v1612 v1617 v1619 v1620) (fun _ => True) := by
  unfold k0_part168
  repeat' first
    | exact keeps_pure _ trivial
    | refine keeps_bind keeps_load fun _ _ => ?_
    | refine keeps_bind keeps_store fun _ _ => ?_

/-- Part 169 of the body keeps the buffers. -/
theorem keep_part169 {v1632 v1637 v1642 v1647 v1649 v1650} :
    Keeps c bd R (k0_part169 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1632 v1637 v1642 v1647 v1649 v1650) (fun _ => True) := by
  unfold k0_part169
  repeat' first
    | exact keeps_pure _ trivial
    | refine keeps_bind keeps_load fun _ _ => ?_
    | refine keeps_bind keeps_store fun _ _ => ?_

/-- Part 170 of the body keeps the buffers. -/
theorem keep_part170 {v1662 v1667 v1672 v1677 v1679 v1680} :
    Keeps c bd R (k0_part170 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1662 v1667 v1672 v1677 v1679 v1680) (fun _ => True) := by
  unfold k0_part170
  repeat' first
    | exact keeps_pure _ trivial
    | refine keeps_bind keeps_load fun _ _ => ?_
    | refine keeps_bind keeps_store fun _ _ => ?_

/-- Part 171 of the body keeps the buffers. -/
theorem keep_part171 {v1692 v1697 v1702 v1707 v1709 v1710} :
    Keeps c bd R (k0_part171 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1692 v1697 v1702 v1707 v1709 v1710) (fun _ => True) := by
  unfold k0_part171
  repeat' first
    | exact keeps_pure _ trivial
    | refine keeps_bind keeps_load fun _ _ => ?_
    | refine keeps_bind keeps_store fun _ _ => ?_

/-- Part 172 of the body keeps the buffers. -/
theorem keep_part172 {v1722 v1727 v1732 v1737 v1739 v1740} :
    Keeps c bd R (k0_part172 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1722 v1727 v1732 v1737 v1739 v1740) (fun _ => True) := by
  unfold k0_part172
  repeat' first
    | exact keeps_pure _ trivial
    | refine keeps_bind keeps_load fun _ _ => ?_
    | refine keeps_bind keeps_store fun _ _ => ?_

/-- Part 173 of the body keeps the buffers. -/
theorem keep_part173 {v1752 v1757 v1762 v1767 v1769 v1770} :
    Keeps c bd R (k0_part173 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1752 v1757 v1762 v1767 v1769 v1770) (fun _ => True) := by
  unfold k0_part173
  repeat' first
    | exact keeps_pure _ trivial
    | refine keeps_bind keeps_load fun _ _ => ?_
    | refine keeps_bind keeps_store fun _ _ => ?_

/-- Part 174 of the body keeps the buffers. -/
theorem keep_part174 {v1782 v1787 v1792 v1797 v1799 v1800} :
    Keeps c bd R (k0_part174 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1782 v1787 v1792 v1797 v1799 v1800) (fun _ => True) := by
  unfold k0_part174
  repeat' first
    | exact keeps_pure _ trivial
    | refine keeps_bind keeps_load fun _ _ => ?_
    | refine keeps_bind keeps_store fun _ _ => ?_

/-- Part 175 of the body keeps the buffers. -/
theorem keep_part175 {v1831 v1832} :
    Keeps c bd R (k0_part175 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1831 v1832) (fun _ => True) := by
  unfold k0_part175
  repeat' first
    | exact keeps_pure _ trivial
    | refine keeps_bind keeps_load fun _ _ => ?_
    | refine keeps_bind keeps_store fun _ _ => ?_

/-- Part 176 of the body keeps the buffers. -/
theorem keep_part176 {v1846 v1850 v1854 v1858 v1860 v1861} :
    Keeps c bd R (k0_part176 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1846 v1850 v1854 v1858 v1860 v1861) (fun _ => True) := by
  unfold k0_part176
  repeat' first
    | exact keeps_pure _ trivial
    | refine keeps_bind keeps_load fun _ _ => ?_
    | refine keeps_bind keeps_store fun _ _ => ?_

/-- Part 177 of the body keeps the buffers. -/
theorem keep_part177 {v1873 v1878 v1883 v1888 v1890 v1891} :
    Keeps c bd R (k0_part177 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1873 v1878 v1883 v1888 v1890 v1891) (fun _ => True) := by
  unfold k0_part177
  repeat' first
    | exact keeps_pure _ trivial
    | refine keeps_bind keeps_load fun _ _ => ?_
    | refine keeps_bind keeps_store fun _ _ => ?_

/-- Part 178 of the body keeps the buffers. -/
theorem keep_part178 {v1903 v1908 v1913 v1918 v1920 v1921} :
    Keeps c bd R (k0_part178 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1903 v1908 v1913 v1918 v1920 v1921) (fun _ => True) := by
  unfold k0_part178
  repeat' first
    | exact keeps_pure _ trivial
    | refine keeps_bind keeps_load fun _ _ => ?_
    | refine keeps_bind keeps_store fun _ _ => ?_

/-- Part 179 of the body keeps the buffers. -/
theorem keep_part179 {v1933 v1938 v1943 v1948 v1950 v1951} :
    Keeps c bd R (k0_part179 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1933 v1938 v1943 v1948 v1950 v1951) (fun _ => True) := by
  unfold k0_part179
  repeat' first
    | exact keeps_pure _ trivial
    | refine keeps_bind keeps_load fun _ _ => ?_
    | refine keeps_bind keeps_store fun _ _ => ?_

/-- Part 180 of the body keeps the buffers. -/
theorem keep_part180 {v1963 v1968 v1973 v1978 v1980 v1981} :
    Keeps c bd R (k0_part180 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1963 v1968 v1973 v1978 v1980 v1981) (fun _ => True) := by
  unfold k0_part180
  repeat' first
    | exact keeps_pure _ trivial
    | refine keeps_bind keeps_load fun _ _ => ?_
    | refine keeps_bind keeps_store fun _ _ => ?_

/-- Part 181 of the body keeps the buffers. -/
theorem keep_part181 {v1993 v1998 v2003 v2008 v2010 v2011} :
    Keeps c bd R (k0_part181 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1993 v1998 v2003 v2008 v2010 v2011) (fun _ => True) := by
  unfold k0_part181
  repeat' first
    | exact keeps_pure _ trivial
    | refine keeps_bind keeps_load fun _ _ => ?_
    | refine keeps_bind keeps_store fun _ _ => ?_

/-- Part 182 of the body keeps the buffers. -/
theorem keep_part182 {v2023 v2028 v2033 v2038 v2040 v2041} :
    Keeps c bd R (k0_part182 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2023 v2028 v2033 v2038 v2040 v2041) (fun _ => True) := by
  unfold k0_part182
  repeat' first
    | exact keeps_pure _ trivial
    | refine keeps_bind keeps_load fun _ _ => ?_
    | refine keeps_bind keeps_store fun _ _ => ?_

/-- Part 183 of the body keeps the buffers. -/
theorem keep_part183 {v2053 v2058 v2063 v2068 v2070 v2071} :
    Keeps c bd R (k0_part183 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2053 v2058 v2063 v2068 v2070 v2071) (fun _ => True) := by
  unfold k0_part183
  repeat' first
    | exact keeps_pure _ trivial
    | refine keeps_bind keeps_load fun _ _ => ?_
    | refine keeps_bind keeps_store fun _ _ => ?_

/-- Part 184 of the body keeps the buffers. -/
theorem keep_part184 {v2083 v2088 v2093 v2098 v2100 v2101} :
    Keeps c bd R (k0_part184 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2083 v2088 v2093 v2098 v2100 v2101) (fun _ => True) := by
  unfold k0_part184
  repeat' first
    | exact keeps_pure _ trivial
    | refine keeps_bind keeps_load fun _ _ => ?_
    | refine keeps_bind keeps_store fun _ _ => ?_

/-- Part 185 of the body keeps the buffers. -/
theorem keep_part185 {v2113 v2118 v2123 v2128 v2130 v2131} :
    Keeps c bd R (k0_part185 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2113 v2118 v2123 v2128 v2130 v2131) (fun _ => True) := by
  unfold k0_part185
  repeat' first
    | exact keeps_pure _ trivial
    | refine keeps_bind keeps_load fun _ _ => ?_
    | refine keeps_bind keeps_store fun _ _ => ?_

/-- Part 186 of the body keeps the buffers. -/
theorem keep_part186 {v2162 v2163} :
    Keeps c bd R (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2162 v2163) (fun _ => True) := by
  unfold k0_part186
  repeat' first
    | exact keeps_pure _ trivial
    | refine keeps_bind keeps_load fun _ _ => ?_
    | refine keeps_bind keeps_store fun _ _ => ?_

/-- Part 187 of the body keeps the buffers. -/
theorem keep_part187 {v2177 v2181 v2185 v2189 v2191 v2192} :
    Keeps c bd R (k0_part187 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2177 v2181 v2185 v2189 v2191 v2192) (fun _ => True) := by
  unfold k0_part187
  repeat' first
    | exact keeps_pure _ trivial
    | refine keeps_bind keeps_load fun _ _ => ?_
    | refine keeps_bind keeps_store fun _ _ => ?_

/-- Part 188 of the body keeps the buffers. -/
theorem keep_part188 {v2204 v2209 v2214 v2219 v2221 v2222} :
    Keeps c bd R (k0_part188 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2204 v2209 v2214 v2219 v2221 v2222) (fun _ => True) := by
  unfold k0_part188
  repeat' first
    | exact keeps_pure _ trivial
    | refine keeps_bind keeps_load fun _ _ => ?_
    | refine keeps_bind keeps_store fun _ _ => ?_

/-- Part 189 of the body keeps the buffers. -/
theorem keep_part189 {v2234 v2239 v2244 v2249 v2251 v2252} :
    Keeps c bd R (k0_part189 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2234 v2239 v2244 v2249 v2251 v2252) (fun _ => True) := by
  unfold k0_part189
  repeat' first
    | exact keeps_pure _ trivial
    | refine keeps_bind keeps_load fun _ _ => ?_
    | refine keeps_bind keeps_store fun _ _ => ?_

/-- Part 190 of the body keeps the buffers. -/
theorem keep_part190 {v2264 v2269 v2274 v2279 v2281 v2282} :
    Keeps c bd R (k0_part190 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2264 v2269 v2274 v2279 v2281 v2282) (fun _ => True) := by
  unfold k0_part190
  repeat' first
    | exact keeps_pure _ trivial
    | refine keeps_bind keeps_load fun _ _ => ?_
    | refine keeps_bind keeps_store fun _ _ => ?_

/-- Part 191 of the body keeps the buffers. -/
theorem keep_part191 {v2294 v2299 v2304 v2309 v2311 v2312} :
    Keeps c bd R (k0_part191 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2294 v2299 v2304 v2309 v2311 v2312) (fun _ => True) := by
  unfold k0_part191
  repeat' first
    | exact keeps_pure _ trivial
    | refine keeps_bind keeps_load fun _ _ => ?_
    | refine keeps_bind keeps_store fun _ _ => ?_

/-- Part 192 of the body keeps the buffers. -/
theorem keep_part192 {v2324 v2329 v2334 v2339 v2341 v2342} :
    Keeps c bd R (k0_part192 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2324 v2329 v2334 v2339 v2341 v2342) (fun _ => True) := by
  unfold k0_part192
  repeat' first
    | exact keeps_pure _ trivial
    | refine keeps_bind keeps_load fun _ _ => ?_
    | refine keeps_bind keeps_store fun _ _ => ?_

/-- Part 193 of the body keeps the buffers. -/
theorem keep_part193 {v2354 v2359 v2364 v2369 v2371 v2372} :
    Keeps c bd R (k0_part193 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2354 v2359 v2364 v2369 v2371 v2372) (fun _ => True) := by
  unfold k0_part193
  repeat' first
    | exact keeps_pure _ trivial
    | refine keeps_bind keeps_load fun _ _ => ?_
    | refine keeps_bind keeps_store fun _ _ => ?_

/-- Part 194 of the body keeps the buffers. -/
theorem keep_part194 {v2384 v2389 v2394 v2399 v2401 v2402} :
    Keeps c bd R (k0_part194 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2384 v2389 v2394 v2399 v2401 v2402) (fun _ => True) := by
  unfold k0_part194
  repeat' first
    | exact keeps_pure _ trivial
    | refine keeps_bind keeps_load fun _ _ => ?_
    | refine keeps_bind keeps_store fun _ _ => ?_

/-- Part 195 of the body keeps the buffers. -/
theorem keep_part195 {v2414 v2419 v2424 v2429 v2431 v2432} :
    Keeps c bd R (k0_part195 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2414 v2419 v2424 v2429 v2431 v2432) (fun _ => True) := by
  unfold k0_part195
  repeat' first
    | exact keeps_pure _ trivial
    | refine keeps_bind keeps_load fun _ _ => ?_
    | refine keeps_bind keeps_store fun _ _ => ?_

/-- Part 196 of the body keeps the buffers. -/
theorem keep_part196 {v2444 v2449 v2454 v2459 v2461 v2462} :
    Keeps c bd R (k0_part196 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2444 v2449 v2454 v2459 v2461 v2462) (fun _ => True) := by
  unfold k0_part196
  repeat' first
    | exact keeps_pure _ trivial
    | refine keeps_bind keeps_load fun _ _ => ?_
    | refine keeps_bind keeps_store fun _ _ => ?_

/-- Part 197 of the body keeps the buffers. -/
theorem keep_part197 {v2493 v2494} :
    Keeps c bd R (k0_part197 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2493 v2494) (fun _ => True) := by
  unfold k0_part197
  repeat' first
    | exact keeps_pure _ trivial
    | refine keeps_bind keeps_load fun _ _ => ?_
    | refine keeps_bind keeps_store fun _ _ => ?_

/-- Part 198 of the body keeps the buffers. -/
theorem keep_part198 {v2508 v2512 v2516 v2520 v2522 v2523} :
    Keeps c bd R (k0_part198 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2508 v2512 v2516 v2520 v2522 v2523) (fun _ => True) := by
  unfold k0_part198
  repeat' first
    | exact keeps_pure _ trivial
    | refine keeps_bind keeps_load fun _ _ => ?_
    | refine keeps_bind keeps_store fun _ _ => ?_

/-- Part 199 of the body keeps the buffers. -/
theorem keep_part199 {v2535 v2540 v2545 v2550 v2552 v2553} :
    Keeps c bd R (k0_part199 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2535 v2540 v2545 v2550 v2552 v2553) (fun _ => True) := by
  unfold k0_part199
  repeat' first
    | exact keeps_pure _ trivial
    | refine keeps_bind keeps_load fun _ _ => ?_
    | refine keeps_bind keeps_store fun _ _ => ?_

/-- Part 200 of the body keeps the buffers. -/
theorem keep_part200 {v2565 v2570 v2575 v2580 v2582 v2583} :
    Keeps c bd R (k0_part200 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2565 v2570 v2575 v2580 v2582 v2583) (fun _ => True) := by
  unfold k0_part200
  repeat' first
    | exact keeps_pure _ trivial
    | refine keeps_bind keeps_load fun _ _ => ?_
    | refine keeps_bind keeps_store fun _ _ => ?_

end Cert.Proof.Attn

end
-- ==== Proof.AttnParts4.lean ====
/-
  The attention's frame: stretch 4 of the parts of the kernel's body, each of which keeps the buffers it is handed.
-/
module

public import proofs.«01_k».proof.Proof.AttnParts3

@[expose] public section

set_option maxHeartbeats 4000000
set_option synthInstance.maxHeartbeats 400000
set_option synthInstance.maxSize 4096

noncomputable section

namespace Cert.Proof.Attn

open Cert.Attention Cert.Attention.Gen
open Idealize.ShloMosaic Idealize.ShloMosaic.TcCoe
open Idealize.SL Idealize.SL.BI Idealize.SL.Sem

variable {F : FTy → Type} [BitOps F] [Facts]
variable {c : Dev nD} {bd : Option ℕ} {R : sProp (MT nD τ sig Unit (Elt F) ℕ (UR sig nD τ) ℕ)}
variable {i : grid0.Coords}
variable {arg2 : Memref sig .tc .vmem S1x512x256 .bf16} {harg2 : arg2.IsWhole} [Has (F := F) c R arg2]
variable {arg3 : Memref sig .tc .vmem S1x8x256 .f32} {harg3 : arg3.IsWhole} [Has (F := F) c R arg3]
variable {arg4 : Memref sig .tc .vmem S1x512x256 .bf16} {harg4 : arg4.IsWhole} [Has (F := F) c R arg4]
variable {arg5 : Memref sig .tc .vmem S1x8192x64 .bf16} {harg5 : arg5.IsWhole} [Has (F := F) c R arg5]
variable {arg6 : Memref sig .tc .vmem S1x8192x512 .bf16} {harg6 : arg6.IsWhole} [Has (F := F) c R arg6]
variable {arg7 : Memref sig .tc .vmem S1x16x8x80x512 .bf16} {harg7 : arg7.IsWhole} [Has (F := F) c R arg7]
variable {arg8 : Memref sig .tc .vmem S1x256x512 .bf16} {harg8 : arg8.IsWhole} [Has (F := F) c R arg8]
variable {arg9 : Memref sig .tc .vmem S8192x256 .i32} {harg9 : arg9.IsWhole} [Has (F := F) c R arg9]
variable {arg10 : Memref sig .tc .vmem S8192x256 .i16} {harg10 : arg10.IsWhole} [Has (F := F) c R arg10]
variable {arg11 : Memref sig .tc .vmem S8x128x256 .bf16} {harg11 : arg11.IsWhole} [Has (F := F) c R arg11]
variable {arg12 : Memref sig .tc .vmem S8x80x256 .f32} {harg12 : arg12.IsWhole} [Has (F := F) c R arg12]
variable {arg13 : Memref sig .tc .vmem S8x256 .f32} {harg13 : arg13.IsWhole} [Has (F := F) c R arg13]
variable {arg14 : Memref sig .tc .vmem S8x256 .f32} {harg14 : arg14.IsWhole} [Has (F := F) c R arg14]
variable {arg15 : Memref sig .tc .vmem S512x256 .f32} {harg15 : arg15.IsWhole} [Has (F := F) c R arg15]
variable {arg16 : Memref sig .tc .vmem S512x256 .f32} {harg16 : arg16.IsWhole} [Has (F := F) c R arg16]
variable {arg17 : Memref sig .tc .vmem S1x512x256 .f32} {harg17 : arg17.IsWhole} [Has (F := F) c R arg17]
variable {arg18 : Memref sig .tc .vmem S1x512x256 .f32} {harg18 : arg18.IsWhole} [Has (F := F) c R arg18]
variable {arg19 : Memref sig .tc .vmem S1x512x256 .f32} {harg19 : arg19.IsWhole} [Has (F := F) c R arg19]
variable {arg20 : Memref sig .tc .vmem S1x512x256 .f32} {harg20 : arg20.IsWhole} [Has (F := F) c R arg20]
variable {arg21 : Memref sig .tc .vmem S1x512x256 .f32} {harg21 : arg21.IsWhole} [Has (F := F) c R arg21]
variable {arg22 : Memref sig .tc .vmem S1x512x256 .f32} {harg22 : arg22.IsWhole} [Has (F := F) c R arg22]
variable {arg23 : Memref sig .tc .vmem S1x512x256 .f32} {harg23 : arg23.IsWhole} [Has (F := F) c R arg23]
variable {arg24 : Memref sig .tc .vmem S1x512x256 .f32} {harg24 : arg24.IsWhole} [Has (F := F) c R arg24]
variable {arg25 : Memref sig .tc .vmem S1x512x256 .bf16} {harg25 : arg25.IsWhole} [Has (F := F) c R arg25]
variable {arg26 : Memref sig .tc .vmem S1x512x256 .bf16} {harg26 : arg26.IsWhole} [Has (F := F) c R arg26]
variable {arg27 : Memref sig .tc .vmem S1x512x256 .bf16} {harg27 : arg27.IsWhole} [Has (F := F) c R arg27]
variable {arg28 : Memref sig .tc .vmem S1x512x256 .bf16} {harg28 : arg28.IsWhole} [Has (F := F) c R arg28]
variable {arg29 : Memref sig .tc .vmem S1x512x256 .bf16} {harg29 : arg29.IsWhole} [Has (F := F) c R arg29]
variable {arg30 : Memref sig .tc .vmem S1x512x256 .bf16} {harg30 : arg30.IsWhole} [Has (F := F) c R arg30]
variable {arg31 : Memref sig .tc .vmem S1x512x256 .bf16} {harg31 : arg31.IsWhole} [Has (F := F) c R arg31]
variable {arg32 : Memref sig .tc .vmem S1x512x256 .bf16} {harg32 : arg32.IsWhole} [Has (F := F) c R arg32]

/-- Part 201 of the body keeps the buffers. -/
theorem keep_part201 {v2595 v2600 v2605 v2610 v2612 v2613} :
    Keeps c bd R (k0_part201 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2595 v2600 v2605 v2610 v2612 v2613) (fun _ => True) := by
  unfold k0_part201
  repeat' first
    | exact keeps_pure _ trivial
    | refine keeps_bind keeps_load fun _ _ => ?_
    | refine keeps_bind keeps_store fun _ _ => ?_

/-- Part 202 of the body keeps the buffers. -/
theorem keep_part202 {v2625 v2630 v2635 v2640 v2642 v2643} :
    Keeps c bd R (k0_part202 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2625 v2630 v2635 v2640 v2642 v2643) (fun _ => True) := by
  unfold k0_part202
  repeat' first
    | exact keeps_pure _ trivial
    | refine keeps_bind keeps_load fun _ _ => ?_
    | refine keeps_bind keeps_store fun _ _ => ?_

/-- Part 203 of the body keeps the buffers. -/
theorem keep_part203 {v2655 v2660 v2665 v2670 v2672 v2673} :
    Keeps c bd R (k0_part203 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2655 v2660 v2665 v2670 v2672 v2673) (fun _ => True) := by
  unfold k0_part203
  repeat' first
    | exact keeps_pure _ trivial
    | refine keeps_bind keeps_load fun _ _ => ?_
    | refine keeps_bind keeps_store fun _ _ => ?_

/-- Part 204 of the body keeps the buffers. -/
theorem keep_part204 {v2685 v2690 v2695 v2700 v2702 v2703} :
    Keeps c bd R (k0_part204 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2685 v2690 v2695 v2700 v2702 v2703) (fun _ => True) := by
  unfold k0_part204
  repeat' first
    | exact keeps_pure _ trivial
    | refine keeps_bind keeps_load fun _ _ => ?_
    | refine keeps_bind keeps_store fun _ _ => ?_

/-- Part 205 of the body keeps the buffers. -/
theorem keep_part205 {v2715 v2720 v2725 v2730 v2732 v2733} :
    Keeps c bd R (k0_part205 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2715 v2720 v2725 v2730 v2732 v2733) (fun _ => True) := by
  unfold k0_part205
  repeat' first
    | exact keeps_pure _ trivial
    | refine keeps_bind keeps_load fun _ _ => ?_
    | refine keeps_bind keeps_store fun _ _ => ?_

/-- Part 206 of the body keeps the buffers. -/
theorem keep_part206 {v2745 v2750 v2755 v2760 v2762 v2763} :
    Keeps c bd R (k0_part206 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2745 v2750 v2755 v2760 v2762 v2763) (fun _ => True) := by
  unfold k0_part206
  repeat' first
    | exact keeps_pure _ trivial
    | refine keeps_bind keeps_load fun _ _ => ?_
    | refine keeps_bind keeps_store fun _ _ => ?_

/-- Part 207 of the body keeps the buffers. -/
theorem keep_part207 {v2775 v2780 v2785 v2790 v2792 v2793} :
    Keeps c bd R (k0_part207 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2775 v2780 v2785 v2790 v2792 v2793) (fun _ => True) := by
  unfold k0_part207
  repeat' first
    | exact keeps_pure _ trivial
    | refine keeps_bind keeps_load fun _ _ => ?_
    | refine keeps_bind keeps_store fun _ _ => ?_

/-- Part 208 of the body keeps the buffers. -/
theorem keep_part208 {v2824 v2825} :
    Keeps c bd R (k0_part208 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2824 v2825) (fun _ => True) := by
  unfold k0_part208
  repeat' first
    | exact keeps_pure _ trivial
    | refine keeps_bind keeps_load fun _ _ => ?_
    | refine keeps_bind keeps_store fun _ _ => ?_

/-- Part 209 of the body keeps the buffers. -/
theorem keep_part209 {v2839 v2843 v2847 v2851 v2853 v2854} :
    Keeps c bd R (k0_part209 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2839 v2843 v2847 v2851 v2853 v2854) (fun _ => True) := by
  unfold k0_part209
  repeat' first
    | exact keeps_pure _ trivial
    | refine keeps_bind keeps_load fun _ _ => ?_
    | refine keeps_bind keeps_store fun _ _ => ?_

/-- Part 210 of the body keeps the buffers. -/
theorem keep_part210 {v2866 v2871 v2876 v2881 v2883 v2884} :
    Keeps c bd R (k0_part210 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2866 v2871 v2876 v2881 v2883 v2884) (fun _ => True) := by
  unfold k0_part210
  repeat' first
    | exact keeps_pure _ trivial
    | refine keeps_bind keeps_load fun _ _ => ?_
    | refine keeps_bind keeps_store fun _ _ => ?_

/-- Part 211 of the body keeps the buffers. -/
theorem keep_part211 {v2896 v2901 v2906 v2911 v2913 v2914} :
    Keeps c bd R (k0_part211 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2896 v2901 v2906 v2911 v2913 v2914) (fun _ => True) := by
  unfold k0_part211
  repeat' first
    | exact keeps_pure _ trivial
    | refine keeps_bind keeps_load fun _ _ => ?_
    | refine keeps_bind keeps_store fun _ _ => ?_

/-- Part 212 of the body keeps the buffers. -/
theorem keep_part212 {v2926 v2931 v2936 v2941 v2943 v2944} :
    Keeps c bd R (k0_part212 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2926 v2931 v2936 v2941 v2943 v2944) (fun _ => True) := by
  unfold k0_part212
  repeat' first
    | exact keeps_pure _ trivial
    | refine keeps_bind keeps_load fun _ _ => ?_
    | refine keeps_bind keeps_store fun _ _ => ?_

/-- Part 213 of the body keeps the buffers. -/
theorem keep_part213 {v2956 v2961 v2966 v2971 v2973 v2974} :
    Keeps c bd R (k0_part213 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2956 v2961 v2966 v2971 v2973 v2974) (fun _ => True) := by
  unfold k0_part213
  repeat' first
    | exact keeps_pure _ trivial
    | refine keeps_bind keeps_load fun _ _ => ?_
    | refine keeps_bind keeps_store fun _ _ => ?_

/-- Part 214 of the body keeps the buffers. -/
theorem keep_part214 {v2986 v2991 v2996 v3001 v3003 v3004} :
    Keeps c bd R (k0_part214 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2986 v2991 v2996 v3001 v3003 v3004) (fun _ => True) := by
  unfold k0_part214
  repeat' first
    | exact keeps_pure _ trivial
    | refine keeps_bind keeps_load fun _ _ => ?_
    | refine keeps_bind keeps_store fun _ _ => ?_

/-- Part 215 of the body keeps the buffers. -/
theorem keep_part215 {v3016 v3021 v3026 v3031 v3033 v3034} :
    Keeps c bd R (k0_part215 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3016 v3021 v3026 v3031 v3033 v3034) (fun _ => True) := by
  unfold k0_part215
  repeat' first
    | exact keeps_pure _ trivial
    | refine keeps_bind keeps_load fun _ _ => ?_
    | refine keeps_bind keeps_store fun _ _ => ?_

/-- Part 216 of the body keeps the buffers. -/
theorem keep_part216 {v3046 v3051 v3056 v3061 v3063 v3064} :
    Keeps c bd R (k0_part216 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3046 v3051 v3056 v3061 v3063 v3064) (fun _ => True) := by
  unfold k0_part216
  repeat' first
    | exact keeps_pure _ trivial
    | refine keeps_bind keeps_load fun _ _ => ?_
    | refine keeps_bind keeps_store fun _ _ => ?_

/-- Part 217 of the body keeps the buffers. -/
theorem keep_part217 {v3076 v3081 v3086 v3091 v3093 v3094} :
    Keeps c bd R (k0_part217 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3076 v3081 v3086 v3091 v3093 v3094) (fun _ => True) := by
  unfold k0_part217
  repeat' first
    | exact keeps_pure _ trivial
    | refine keeps_bind keeps_load fun _ _ => ?_
    | refine keeps_bind keeps_store fun _ _ => ?_

/-- Part 218 of the body keeps the buffers. -/
theorem keep_part218 {v3106 v3111 v3116 v3121 v3123 v3124} :
    Keeps c bd R (k0_part218 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3106 v3111 v3116 v3121 v3123 v3124) (fun _ => True) := by
  unfold k0_part218
  repeat' first
    | exact keeps_pure _ trivial
    | refine keeps_bind keeps_load fun _ _ => ?_
    | refine keeps_bind keeps_store fun _ _ => ?_

/-- Part 219 of the body keeps the buffers. -/
theorem keep_part219 {v3155 v3156} :
    Keeps c bd R (k0_part219 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3155 v3156) (fun _ => True) := by
  unfold k0_part219
  repeat' first
    | exact keeps_pure _ trivial
    | refine keeps_bind keeps_load fun _ _ => ?_
    | refine keeps_bind keeps_store fun _ _ => ?_

/-- Part 220 of the body keeps the buffers. -/
theorem keep_part220 {v3170 v3174 v3178 v3182 v3184 v3185} :
    Keeps c bd R (k0_part220 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3170 v3174 v3178 v3182 v3184 v3185) (fun _ => True) := by
  unfold k0_part220
  repeat' first
    | exact keeps_pure _ trivial
    | refine keeps_bind keeps_load fun _ _ => ?_
    | refine keeps_bind keeps_store fun _ _ => ?_

/-- Part 221 of the body keeps the buffers. -/
theorem keep_part221 {v3197 v3202 v3207 v3212 v3214 v3215} :
    Keeps c bd R (k0_part221 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3197 v3202 v3207 v3212 v3214 v3215) (fun _ => True) := by
  unfold k0_part221
  repeat' first
    | exact keeps_pure _ trivial
    | refine keeps_bind keeps_load fun _ _ => ?_
    | refine keeps_bind keeps_store fun _ _ => ?_

/-- Part 222 of the body keeps the buffers. -/
theorem keep_part222 {v3227 v3232 v3237 v3242 v3244 v3245} :
    Keeps c bd R (k0_part222 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3227 v3232 v3237 v3242 v3244 v3245) (fun _ => True) := by
  unfold k0_part222
  repeat' first
    | exact keeps_pure _ trivial
    | refine keeps_bind keeps_load fun _ _ => ?_
    | refine keeps_bind keeps_store fun _ _ => ?_

/-- Part 223 of the body keeps the buffers. -/
theorem keep_part223 {v3257 v3262 v3267 v3272 v3274 v3275} :
    Keeps c bd R (k0_part223 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3257 v3262 v3267 v3272 v3274 v3275) (fun _ => True) := by
  unfold k0_part223
  repeat' first
    | exact keeps_pure _ trivial
    | refine keeps_bind keeps_load fun _ _ => ?_
    | refine keeps_bind keeps_store fun _ _ => ?_

/-- Part 224 of the body keeps the buffers. -/
theorem keep_part224 {v3287 v3292 v3297 v3302 v3304 v3305} :
    Keeps c bd R (k0_part224 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3287 v3292 v3297 v3302 v3304 v3305) (fun _ => True) := by
  unfold k0_part224
  repeat' first
    | exact keeps_pure _ trivial
    | refine keeps_bind keeps_load fun _ _ => ?_
    | refine keeps_bind keeps_store fun _ _ => ?_

/-- Part 225 of the body keeps the buffers. -/
theorem keep_part225 {v3317 v3322 v3327 v3332 v3334 v3335} :
    Keeps c bd R (k0_part225 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3317 v3322 v3327 v3332 v3334 v3335) (fun _ => True) := by
  unfold k0_part225
  repeat' first
    | exact keeps_pure _ trivial
    | refine keeps_bind keeps_load fun _ _ => ?_
    | refine keeps_bind keeps_store fun _ _ => ?_

/-- Part 226 of the body keeps the buffers. -/
theorem keep_part226 {v3347 v3352 v3357 v3362 v3364 v3365} :
    Keeps c bd R (k0_part226 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3347 v3352 v3357 v3362 v3364 v3365) (fun _ => True) := by
  unfold k0_part226
  repeat' first
    | exact keeps_pure _ trivial
    | refine keeps_bind keeps_load fun _ _ => ?_
    | refine keeps_bind keeps_store fun _ _ => ?_

/-- Part 227 of the body keeps the buffers. -/
theorem keep_part227 {v3377 v3382 v3387 v3392 v3394 v3395} :
    Keeps c bd R (k0_part227 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3377 v3382 v3387 v3392 v3394 v3395) (fun _ => True) := by
  unfold k0_part227
  repeat' first
    | exact keeps_pure _ trivial
    | refine keeps_bind keeps_load fun _ _ => ?_
    | refine keeps_bind keeps_store fun _ _ => ?_

/-- Part 228 of the body keeps the buffers. -/
theorem keep_part228 {v3407 v3412 v3417 v3422 v3424 v3425} :
    Keeps c bd R (k0_part228 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3407 v3412 v3417 v3422 v3424 v3425) (fun _ => True) := by
  unfold k0_part228
  repeat' first
    | exact keeps_pure _ trivial
    | refine keeps_bind keeps_load fun _ _ => ?_
    | refine keeps_bind keeps_store fun _ _ => ?_

/-- Part 229 of the body keeps the buffers. -/
theorem keep_part229 {v3437 v3442 v3447 v3452 v3454 v3455} :
    Keeps c bd R (k0_part229 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3437 v3442 v3447 v3452 v3454 v3455) (fun _ => True) := by
  unfold k0_part229
  repeat' first
    | exact keeps_pure _ trivial
    | refine keeps_bind keeps_load fun _ _ => ?_
    | refine keeps_bind keeps_store fun _ _ => ?_

/-- Part 230 of the body keeps the buffers. -/
theorem keep_part230 {v3486 v3487} :
    Keeps c bd R (k0_part230 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3486 v3487) (fun _ => True) := by
  unfold k0_part230
  repeat' first
    | exact keeps_pure _ trivial
    | refine keeps_bind keeps_load fun _ _ => ?_
    | refine keeps_bind keeps_store fun _ _ => ?_

/-- Part 231 of the body keeps the buffers. -/
theorem keep_part231 {v3501 v3505 v3509 v3513 v3515 v3516} :
    Keeps c bd R (k0_part231 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3501 v3505 v3509 v3513 v3515 v3516) (fun _ => True) := by
  unfold k0_part231
  repeat' first
    | exact keeps_pure _ trivial
    | refine keeps_bind keeps_load fun _ _ => ?_
    | refine keeps_bind keeps_store fun _ _ => ?_

/-- Part 232 of the body keeps the buffers. -/
theorem keep_part232 {v3528 v3533 v3538 v3543 v3545 v3546} :
    Keeps c bd R (k0_part232 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3528 v3533 v3538 v3543 v3545 v3546) (fun _ => True) := by
  unfold k0_part232
  repeat' first
    | exact keeps_pure _ trivial
    | refine keeps_bind keeps_load fun _ _ => ?_
    | refine keeps_bind keeps_store fun _ _ => ?_

/-- Part 233 of the body keeps the buffers. -/
theorem keep_part233 {v3558 v3563 v3568 v3573 v3575 v3576} :
    Keeps c bd R (k0_part233 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3558 v3563 v3568 v3573 v3575 v3576) (fun _ => True) := by
  unfold k0_part233
  repeat' first
    | exact keeps_pure _ trivial
    | refine keeps_bind keeps_load fun _ _ => ?_
    | refine keeps_bind keeps_store fun _ _ => ?_

/-- Part 234 of the body keeps the buffers. -/
theorem keep_part234 {v3588 v3593 v3598 v3603 v3605 v3606} :
    Keeps c bd R (k0_part234 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3588 v3593 v3598 v3603 v3605 v3606) (fun _ => True) := by
  unfold k0_part234
  repeat' first
    | exact keeps_pure _ trivial
    | refine keeps_bind keeps_load fun _ _ => ?_
    | refine keeps_bind keeps_store fun _ _ => ?_

/-- Part 235 of the body keeps the buffers. -/
theorem keep_part235 {v3618 v3623 v3628 v3633 v3635 v3636} :
    Keeps c bd R (k0_part235 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3618 v3623 v3628 v3633 v3635 v3636) (fun _ => True) := by
  unfold k0_part235
  repeat' first
    | exact keeps_pure _ trivial
    | refine keeps_bind keeps_load fun _ _ => ?_
    | refine keeps_bind keeps_store fun _ _ => ?_

/-- Part 236 of the body keeps the buffers. -/
theorem keep_part236 {v3648 v3653 v3658 v3663 v3665 v3666} :
    Keeps c bd R (k0_part236 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3648 v3653 v3658 v3663 v3665 v3666) (fun _ => True) := by
  unfold k0_part236
  repeat' first
    | exact keeps_pure _ trivial
    | refine keeps_bind keeps_load fun _ _ => ?_
    | refine keeps_bind keeps_store fun _ _ => ?_

/-- Part 237 of the body keeps the buffers. -/
theorem keep_part237 {v3678 v3683 v3688 v3693 v3695 v3696} :
    Keeps c bd R (k0_part237 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3678 v3683 v3688 v3693 v3695 v3696) (fun _ => True) := by
  unfold k0_part237
  repeat' first
    | exact keeps_pure _ trivial
    | refine keeps_bind keeps_load fun _ _ => ?_
    | refine keeps_bind keeps_store fun _ _ => ?_

/-- Part 238 of the body keeps the buffers. -/
theorem keep_part238 {v3708 v3713 v3718 v3723 v3725 v3726} :
    Keeps c bd R (k0_part238 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3708 v3713 v3718 v3723 v3725 v3726) (fun _ => True) := by
  unfold k0_part238
  repeat' first
    | exact keeps_pure _ trivial
    | refine keeps_bind keeps_load fun _ _ => ?_
    | refine keeps_bind keeps_store fun _ _ => ?_

/-- Part 239 of the body keeps the buffers. -/
theorem keep_part239 {v3738 v3743 v3748 v3753 v3755 v3756} :
    Keeps c bd R (k0_part239 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3738 v3743 v3748 v3753 v3755 v3756) (fun _ => True) := by
  unfold k0_part239
  repeat' first
    | exact keeps_pure _ trivial
    | refine keeps_bind keeps_load fun _ _ => ?_
    | refine keeps_bind keeps_store fun _ _ => ?_

/-- Part 240 of the body keeps the buffers. -/
theorem keep_part240 {v3768 v3773 v3778 v3783 v3785 v3786} :
    Keeps c bd R (k0_part240 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3768 v3773 v3778 v3783 v3785 v3786) (fun _ => True) := by
  unfold k0_part240
  repeat' first
    | exact keeps_pure _ trivial
    | refine keeps_bind keeps_load fun _ _ => ?_
    | refine keeps_bind keeps_store fun _ _ => ?_

/-- Part 241 of the body keeps the buffers. -/
theorem keep_part241 {v3817 v3818} :
    Keeps c bd R (k0_part241 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3817 v3818) (fun _ => True) := by
  unfold k0_part241
  repeat' first
    | exact keeps_pure _ trivial
    | refine keeps_bind keeps_load fun _ _ => ?_
    | refine keeps_bind keeps_store fun _ _ => ?_

/-- Part 242 of the body keeps the buffers. -/
theorem keep_part242 {v3849} :
    Keeps c bd R (k0_part242 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3849) (fun _ => True) := by
  unfold k0_part242
  repeat' first
    | exact keeps_pure _ trivial
    | refine keeps_bind keeps_load fun _ _ => ?_
    | refine keeps_bind keeps_store fun _ _ => ?_

/-- Part 243 of the body keeps the buffers. -/
theorem keep_part243 {v3880 v3881} :
    Keeps c bd R (k0_part243 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v3880 v3881) (fun _ => True) := by
  unfold k0_part243
  repeat' first
    | exact keeps_pure _ trivial
    | refine keeps_bind keeps_load fun _ _ => ?_
    | refine keeps_bind keeps_store fun _ _ => ?_

/-- Part 244 of the body keeps the buffers. -/
theorem keep_part244 {v549 v687 c1_i32_450 k0_t22} :
    Keeps c bd R (k0_part244 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v549 v687 c1_i32_450 k0_t22) (fun _ => True) := by
  unfold k0_part244
  refine keeps_bind keep_part143 fun _ _ => ?_
  refine keeps_bind keep_part144 fun _ _ => ?_
  refine keeps_bind keep_part145 fun _ _ => ?_
  refine keeps_bind keep_part146 fun _ _ => ?_
  refine keeps_bind keep_part147 fun _ _ => ?_
  refine keeps_bind keep_part148 fun _ _ => ?_
  refine keeps_bind keep_part149 fun _ _ => ?_
  refine keeps_bind keep_part150 fun _ _ => ?_
  refine keeps_bind keep_part151 fun _ _ => ?_
  refine keeps_bind keep_part152 fun _ _ => ?_
  refine keeps_bind keep_part153 fun _ _ => ?_
  refine keeps_bind keep_part154 fun _ _ => ?_
  refine keeps_bind keep_part155 fun _ _ => ?_
  refine keeps_bind keep_part156 fun _ _ => ?_
  refine keeps_bind keep_part157 fun _ _ => ?_
  refine keeps_bind keep_part158 fun _ _ => ?_
  refine keeps_bind keep_part159 fun _ _ => ?_
  refine keeps_bind keep_part160 fun _ _ => ?_
  refine keeps_bind keep_part161 fun _ _ => ?_
  refine keeps_bind keep_part162 fun _ _ => ?_
  refine keeps_bind keep_part163 fun _ _ => ?_
  refine keeps_bind keep_part164 fun _ _ => ?_
  refine keeps_bind keep_part165 fun _ _ => ?_
  refine keeps_bind keep_part166 fun _ _ => ?_
  refine keeps_bind keep_part167 fun _ _ => ?_
  refine keeps_bind keep_part168 fun _ _ => ?_
  refine keeps_bind keep_part169 fun _ _ => ?_
  refine keeps_bind keep_part170 fun _ _ => ?_
  refine keeps_bind keep_part171 fun _ _ => ?_
  refine keeps_bind keep_part172 fun _ _ => ?_
  refine keeps_bind keep_part173 fun _ _ => ?_
  refine keeps_bind keep_part174 fun _ _ => ?_
  refine keeps_bind keep_part175 fun _ _ => ?_
  refine keeps_bind keep_part176 fun _ _ => ?_
  refine keeps_bind keep_part177 fun _ _ => ?_
  refine keeps_bind keep_part178 fun _ _ => ?_
  refine keeps_bind keep_part179 fun _ _ => ?_
  refine keeps_bind keep_part180 fun _ _ => ?_
  refine keeps_bind keep_part181 fun _ _ => ?_
  refine keeps_bind keep_part182 fun _ _ => ?_
  refine keeps_bind keep_part183 fun _ _ => ?_
  refine keeps_bind keep_part184 fun _ _ => ?_
  refine keeps_bind keep_part185 fun _ _ => ?_
  refine keeps_bind keep_part186 fun _ _ => ?_
  refine keeps_bind keep_part187 fun _ _ => ?_
  refine keeps_bind keep_part188 fun _ _ => ?_
  refine keeps_bind keep_part189 fun _ _ => ?_
  refine keeps_bind keep_part190 fun _ _ => ?_
  refine keeps_bind keep_part191 fun _ _ => ?_
  refine keeps_bind keep_part192 fun _ _ => ?_
  refine keeps_bind keep_part193 fun _ _ => ?_
  refine keeps_bind keep_part194 fun _ _ => ?_
  refine keeps_bind keep_part195 fun _ _ => ?_
  refine keeps_bind keep_part196 fun _ _ => ?_
  refine keeps_bind keep_part197 fun _ _ => ?_
  refine keeps_bind keep_part198 fun _ _ => ?_
  refine keeps_bind keep_part199 fun _ _ => ?_
  refine keeps_bind keep_part200 fun _ _ => ?_
  refine keeps_bind keep_part201 fun _ _ => ?_
  refine keeps_bind keep_part202 fun _ _ => ?_
  exact keeps_pure _ trivial

/-- Part 245 of the body keeps the buffers. -/
theorem keep_part245 {v2655 v2660 v2665 v2670 v2672 v2673} :
    Keeps c bd R (k0_part245 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2655 v2660 v2665 v2670 v2672 v2673) (fun _ => True) := by
  unfold k0_part245
  refine keeps_bind keep_part203 fun _ _ => ?_
  refine keeps_bind keep_part204 fun _ _ => ?_
  refine keeps_bind keep_part205 fun _ _ => ?_
  refine keeps_bind keep_part206 fun _ _ => ?_
  refine keeps_bind keep_part207 fun _ _ => ?_
  refine keeps_bind keep_part208 fun _ _ => ?_
  refine keeps_bind keep_part209 fun _ _ => ?_
  refine keeps_bind keep_part210 fun _ _ => ?_
  refine keeps_bind keep_part211 fun _ _ => ?_
  refine keeps_bind keep_part212 fun _ _ => ?_
  refine keeps_bind keep_part213 fun _ _ => ?_
  refine keeps_bind keep_part214 fun _ _ => ?_
  refine keeps_bind keep_part215 fun _ _ => ?_
  refine keeps_bind keep_part216 fun _ _ => ?_
  refine keeps_bind keep_part217 fun _ _ => ?_
  refine keeps_bind keep_part218 fun _ _ => ?_
  refine keeps_bind keep_part219 fun _ _ => ?_
  refine keeps_bind keep_part220 fun _ _ => ?_
  refine keeps_bind keep_part221 fun _ _ => ?_
  refine keeps_bind keep_part222 fun _ _ => ?_
  refine keeps_bind keep_part223 fun _ _ => ?_
  refine keeps_bind keep_part224 fun _ _ => ?_
  refine keeps_bind keep_part225 fun _ _ => ?_
  refine keeps_bind keep_part226 fun _ _ => ?_
  refine keeps_bind keep_part227 fun _ _ => ?_
  refine keeps_bind keep_part228 fun _ _ => ?_
  refine keeps_bind keep_part229 fun _ _ => ?_
  refine keeps_bind keep_part230 fun _ _ => ?_
  refine keeps_bind keep_part231 fun _ _ => ?_
  refine keeps_bind keep_part232 fun _ _ => ?_
  refine keeps_bind keep_part233 fun _ _ => ?_
  refine keeps_bind keep_part234 fun _ _ => ?_
  refine keeps_bind keep_part235 fun _ _ => ?_
  refine keeps_bind keep_part236 fun _ _ => ?_
  refine keeps_bind keep_part237 fun _ _ => ?_
  refine keeps_bind keep_part238 fun _ _ => ?_
  refine keeps_bind keep_part239 fun _ _ => ?_
  refine keeps_bind keep_part240 fun _ _ => ?_
  refine keeps_bind keep_part241 fun _ _ => ?_
  refine keeps_bind keep_part242 fun _ _ => ?_
  refine keeps_bind keep_part243 fun _ _ => ?_
  repeat first
    | refine keeps_bind keeps_load fun _ _ => ?_
    | refine keeps_bind keeps_store fun _ _ => ?_
  exact keeps_pure _ trivial

/-- Part 246 of the body keeps the buffers. -/
theorem keep_part246 :
    Keeps c bd R (k0_part246 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) (fun _ => True) := by
  unfold k0_part246
  refine keeps_bind (keeps_for fun _ _ => ?_) fun _ _ => ?_
  · refine keeps_bind keep_part1 fun _ _ => ?_
    refine keeps_bind keep_part2 fun _ _ => ?_
    refine keeps_bind keep_part3 fun _ _ => ?_
    refine keeps_bind keep_part4 fun _ _ => ?_
    refine keeps_bind keep_part5 fun _ _ => ?_
    refine keeps_bind keep_part6 fun _ _ => ?_
    refine keeps_bind keep_part7 fun _ _ => ?_
    refine keeps_bind keep_part8 fun _ _ => ?_
    refine keeps_bind keep_part9 fun _ _ => ?_
    refine keeps_bind keep_part10 fun _ _ => ?_
    refine keeps_bind keep_part11 fun _ _ => ?_
    refine keeps_bind keep_part12 fun _ _ => ?_
    refine keeps_bind keeps_load fun _ _ => ?_
    refine keeps_bind keeps_store fun _ _ => ?_
    exact keeps_pure _ trivial
  refine keeps_bind (keeps_for fun _ _ => ?_) fun _ _ => ?_
  · refine keeps_bind keep_part13 fun _ _ => ?_
    refine keeps_bind keep_part14 fun _ _ => ?_
    refine keeps_bind keep_part15 fun _ _ => ?_
    refine keeps_bind keep_part16 fun _ _ => ?_
    refine keeps_bind keep_part17 fun _ _ => ?_
    refine keeps_bind keep_part18 fun _ _ => ?_
    refine keeps_bind keep_part19 fun _ _ => ?_
    refine keeps_bind keep_part20 fun _ _ => ?_
    refine keeps_bind keep_part21 fun _ _ => ?_
    refine keeps_bind keep_part22 fun _ _ => ?_
    refine keeps_bind keep_part23 fun _ _ => ?_
    refine keeps_bind keep_part24 fun _ _ => ?_
    refine keeps_bind keeps_load fun _ _ => ?_
    refine keeps_bind keeps_store fun _ _ => ?_
    exact keeps_pure _ trivial
  repeat first
    | refine keeps_bind keeps_load fun _ _ => ?_
    | refine keeps_bind keeps_store fun _ _ => ?_
  exact keeps_pure _ trivial

/-- Part 247 of the body keeps the buffers. -/
theorem keep_part247 {v14 v23 v28} :
    Keeps c bd R (k0_part247 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v14 v23 v28) (fun _ => True) := by
  unfold k0_part247
  repeat' first
    | exact keeps_pure _ trivial
    | refine keeps_bind keeps_load fun _ _ => ?_
    | refine keeps_bind keeps_store fun _ _ => ?_

/-- Part 248 of the body keeps the buffers. -/
theorem keep_part248 {v14 v63} :
    Keeps c bd R (k0_part248 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v14 v63) (fun _ => True) := by
  unfold k0_part248
  repeat' first
    | exact keeps_pure _ trivial
    | refine keeps_bind keeps_load fun _ _ => ?_
    | refine keeps_bind keeps_store fun _ _ => ?_

/-- Part 249 of the body keeps the buffers. -/
theorem keep_part249 {v2 v3 v10 v11 v98} :
    Keeps c bd R (k0_part249 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2 v3 v10 v11 v98) (fun _ => True) := by
  unfold k0_part249
  repeat' first
    | exact keeps_pure _ trivial
    | refine keeps_bind keeps_load fun _ _ => ?_
    | refine keeps_bind keeps_store fun _ _ => ?_

/-- Part 250 of the body keeps the buffers. -/
theorem keep_part250 {v123 v132 v134 cst_75} :
    Keeps c bd R (k0_part250 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v123 v132 v134 cst_75) (fun _ => True) := by
  unfold k0_part250
  repeat' first
    | exact keeps_pure _ trivial
    | refine keeps_bind keeps_load fun _ _ => ?_
    | refine keeps_bind keeps_store fun _ _ => ?_

end Cert.Proof.Attn

end
-- ==== Proof.AttnParts5.lean ====
/-
  The attention's frame: stretch 5 of the parts of the kernel's body, each of which keeps the buffers it is handed.
-/
module

public import proofs.«01_k».proof.Proof.AttnParts4

@[expose] public section

set_option maxHeartbeats 4000000
set_option synthInstance.maxHeartbeats 400000
set_option synthInstance.maxSize 4096

noncomputable section

namespace Cert.Proof.Attn

open Cert.Attention Cert.Attention.Gen
open Idealize.ShloMosaic Idealize.ShloMosaic.TcCoe
open Idealize.SL Idealize.SL.BI Idealize.SL.Sem

variable {F : FTy → Type} [BitOps F] [Facts]
variable {c : Dev nD} {bd : Option ℕ} {R : sProp (MT nD τ sig Unit (Elt F) ℕ (UR sig nD τ) ℕ)}
variable {i : grid0.Coords}
variable {arg2 : Memref sig .tc .vmem S1x512x256 .bf16} {harg2 : arg2.IsWhole} [Has (F := F) c R arg2]
variable {arg3 : Memref sig .tc .vmem S1x8x256 .f32} {harg3 : arg3.IsWhole} [Has (F := F) c R arg3]
variable {arg4 : Memref sig .tc .vmem S1x512x256 .bf16} {harg4 : arg4.IsWhole} [Has (F := F) c R arg4]
variable {arg5 : Memref sig .tc .vmem S1x8192x64 .bf16} {harg5 : arg5.IsWhole} [Has (F := F) c R arg5]
variable {arg6 : Memref sig .tc .vmem S1x8192x512 .bf16} {harg6 : arg6.IsWhole} [Has (F := F) c R arg6]
variable {arg7 : Memref sig .tc .vmem S1x16x8x80x512 .bf16} {harg7 : arg7.IsWhole} [Has (F := F) c R arg7]
variable {arg8 : Memref sig .tc .vmem S1x256x512 .bf16} {harg8 : arg8.IsWhole} [Has (F := F) c R arg8]
variable {arg9 : Memref sig .tc .vmem S8192x256 .i32} {harg9 : arg9.IsWhole} [Has (F := F) c R arg9]
variable {arg10 : Memref sig .tc .vmem S8192x256 .i16} {harg10 : arg10.IsWhole} [Has (F := F) c R arg10]
variable {arg11 : Memref sig .tc .vmem S8x128x256 .bf16} {harg11 : arg11.IsWhole} [Has (F := F) c R arg11]
variable {arg12 : Memref sig .tc .vmem S8x80x256 .f32} {harg12 : arg12.IsWhole} [Has (F := F) c R arg12]
variable {arg13 : Memref sig .tc .vmem S8x256 .f32} {harg13 : arg13.IsWhole} [Has (F := F) c R arg13]
variable {arg14 : Memref sig .tc .vmem S8x256 .f32} {harg14 : arg14.IsWhole} [Has (F := F) c R arg14]
variable {arg15 : Memref sig .tc .vmem S512x256 .f32} {harg15 : arg15.IsWhole} [Has (F := F) c R arg15]
variable {arg16 : Memref sig .tc .vmem S512x256 .f32} {harg16 : arg16.IsWhole} [Has (F := F) c R arg16]
variable {arg17 : Memref sig .tc .vmem S1x512x256 .f32} {harg17 : arg17.IsWhole} [Has (F := F) c R arg17]
variable {arg18 : Memref sig .tc .vmem S1x512x256 .f32} {harg18 : arg18.IsWhole} [Has (F := F) c R arg18]
variable {arg19 : Memref sig .tc .vmem S1x512x256 .f32} {harg19 : arg19.IsWhole} [Has (F := F) c R arg19]
variable {arg20 : Memref sig .tc .vmem S1x512x256 .f32} {harg20 : arg20.IsWhole} [Has (F := F) c R arg20]
variable {arg21 : Memref sig .tc .vmem S1x512x256 .f32} {harg21 : arg21.IsWhole} [Has (F := F) c R arg21]
variable {arg22 : Memref sig .tc .vmem S1x512x256 .f32} {harg22 : arg22.IsWhole} [Has (F := F) c R arg22]
variable {arg23 : Memref sig .tc .vmem S1x512x256 .f32} {harg23 : arg23.IsWhole} [Has (F := F) c R arg23]
variable {arg24 : Memref sig .tc .vmem S1x512x256 .f32} {harg24 : arg24.IsWhole} [Has (F := F) c R arg24]
variable {arg25 : Memref sig .tc .vmem S1x512x256 .bf16} {harg25 : arg25.IsWhole} [Has (F := F) c R arg25]
variable {arg26 : Memref sig .tc .vmem S1x512x256 .bf16} {harg26 : arg26.IsWhole} [Has (F := F) c R arg26]
variable {arg27 : Memref sig .tc .vmem S1x512x256 .bf16} {harg27 : arg27.IsWhole} [Has (F := F) c R arg27]
variable {arg28 : Memref sig .tc .vmem S1x512x256 .bf16} {harg28 : arg28.IsWhole} [Has (F := F) c R arg28]
variable {arg29 : Memref sig .tc .vmem S1x512x256 .bf16} {harg29 : arg29.IsWhole} [Has (F := F) c R arg29]
variable {arg30 : Memref sig .tc .vmem S1x512x256 .bf16} {harg30 : arg30.IsWhole} [Has (F := F) c R arg30]
variable {arg31 : Memref sig .tc .vmem S1x512x256 .bf16} {harg31 : arg31.IsWhole} [Has (F := F) c R arg31]
variable {arg32 : Memref sig .tc .vmem S1x512x256 .bf16} {harg32 : arg32.IsWhole} [Has (F := F) c R arg32]

/-- Part 251 of the body keeps the buffers. -/
theorem keep_part251 {v123 v162 v167} :
    Keeps c bd R (k0_part251 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v123 v162 v167) (fun _ => True) := by
  unfold k0_part251
  repeat' first
    | exact keeps_pure _ trivial
    | refine keeps_bind keeps_load fun _ _ => ?_
    | refine keeps_bind keeps_store fun _ _ => ?_

/-- Part 252 of the body keeps the buffers. -/
theorem keep_part252 {v2 v3 v10 v120 v202} :
    Keeps c bd R (k0_part252 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2 v3 v10 v120 v202) (fun _ => True) := by
  unfold k0_part252
  repeat' first
    | exact keeps_pure _ trivial
    | refine keeps_bind keeps_load fun _ _ => ?_
    | refine keeps_bind keeps_store fun _ _ => ?_

/-- Part 253 of the body keeps the buffers. -/
theorem keep_part253 {v232 v237 v240} :
    Keeps c bd R (k0_part253 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v232 v237 v240) (fun _ => True) := by
  unfold k0_part253
  repeat' first
    | exact keeps_pure _ trivial
    | refine keeps_bind keeps_load fun _ _ => ?_
    | refine keeps_bind keeps_store fun _ _ => ?_

/-- Part 254 of the body keeps the buffers. -/
theorem keep_part254 {v232 v271 v273} :
    Keeps c bd R (k0_part254 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v232 v271 v273) (fun _ => True) := by
  unfold k0_part254
  repeat' first
    | exact keeps_pure _ trivial
    | refine keeps_bind keeps_load fun _ _ => ?_
    | refine keeps_bind keeps_store fun _ _ => ?_

/-- Part 255 of the body keeps the buffers. -/
theorem keep_part255 {v2 v3 v10 v229 v301 v306} :
    Keeps c bd R (k0_part255 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v2 v3 v10 v229 v301 v306) (fun _ => True) := by
  unfold k0_part255
  repeat' first
    | exact keeps_pure _ trivial
    | refine keeps_bind keeps_load fun _ _ => ?_
    | refine keeps_bind keeps_store fun _ _ => ?_

/-- Part 256 of the body keeps the buffers. -/
theorem keep_part256 {v341 v344 v345} :
    Keeps c bd R (k0_part256 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v341 v344 v345) (fun _ => True) := by
  unfold k0_part256
  repeat' first
    | exact keeps_pure _ trivial
    | refine keeps_bind keeps_load fun _ _ => ?_
    | refine keeps_bind keeps_store fun _ _ => ?_

/-- Part 257 of the body keeps the buffers. -/
theorem keep_part257 {v341 v370 v375 v378} :
    Keeps c bd R (k0_part257 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v341 v370 v375 v378) (fun _ => True) := by
  unfold k0_part257
  repeat' first
    | exact keeps_pure _ trivial
    | refine keeps_bind keeps_load fun _ _ => ?_
    | refine keeps_bind keeps_store fun _ _ => ?_

/-- Part 258 of the body keeps the buffers. -/
theorem keep_part258 {arg1 v2 v3 v338 v341 v410 v411} :
    Keeps c bd R (k0_part258 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg1 v2 v3 v338 v341 v410 v411) (fun _ => True) := by
  unfold k0_part258
  repeat' first
    | exact keeps_pure _ trivial
    | refine keeps_bind keeps_load fun _ _ => ?_
    | refine keeps_bind keeps_store fun _ _ => ?_

/-- Part 260 of the body keeps the buffers, and its counter starts at 16. -/
theorem keep_part260 {arg1 v1 v483_1 v487 c256_i32_311 v488} :
    Keeps c bd R (k0_part260 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg1 v1 v483_1 v487 c256_i32_311 v488) (fun r => r.2.2 = 16#32) := by
  unfold k0_part260
  refine keeps_bind (keeps_for fun _ _ => ?_) fun _ _ => ?_
  · refine keeps_bind keeps_load fun _ _ => ?_
    refine keeps_bind keeps_load fun _ _ => ?_
    refine keeps_bind keeps_store fun _ _ => ?_
    exact keeps_pure _ trivial
  refine keeps_bind (keeps_for fun _ _ => ?_) fun _ _ => ?_
  · refine keeps_bind keeps_load fun _ _ => ?_
    refine keeps_bind keeps_load fun _ _ => ?_
    refine keeps_bind keeps_store fun _ _ => ?_
    exact keeps_pure _ trivial
  exact keeps_pure _ rfl

/-- Part 262 of the body keeps the buffers. -/
theorem keep_part262 {v550 v564} :
    Keeps c bd R (k0_part262 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v550 v564) (fun _ => True) := by
  unfold k0_part262
  repeat' first
    | exact keeps_pure _ trivial
    | refine keeps_bind keeps_load fun _ _ => ?_
    | refine keeps_bind keeps_store fun _ _ => ?_

/-- Part 263 of the body keeps the buffers. -/
theorem keep_part263 {v550 v597} :
    Keeps c bd R (k0_part263 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v550 v597) (fun _ => True) := by
  unfold k0_part263
  repeat' first
    | exact keeps_pure _ trivial
    | refine keeps_bind keeps_load fun _ _ => ?_
    | refine keeps_bind keeps_store fun _ _ => ?_

/-- Part 264 of the body keeps the buffers. -/
theorem keep_part264 {v550 v630} :
    Keeps c bd R (k0_part264 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v550 v630) (fun _ => True) := by
  unfold k0_part264
  repeat' first
    | exact keeps_pure _ trivial
    | refine keeps_bind keeps_load fun _ _ => ?_
    | refine keeps_bind keeps_store fun _ _ => ?_

/-- Part 265 of the body keeps the buffers. -/
theorem keep_part265 {v464 v659} :
    Keeps c bd R (k0_part265 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v464 v659) (fun _ => True) := by
  unfold k0_part265
  repeat' first
    | exact keeps_pure _ trivial
    | refine keeps_bind keeps_load fun _ _ => ?_
    | refine keeps_bind keeps_store fun _ _ => ?_

/-- Part 266 of the body keeps the buffers. -/
theorem keep_part266 {v464 v549 c0_i32_447 v687 c1_i32_449} :
    Keeps c bd R (k0_part266 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v464 v549 c0_i32_447 v687 c1_i32_449) (fun _ => True) := by
  unfold k0_part266
  refine keeps_bind (keeps_for fun _ _ => ?_) fun _ _ => ?_
  · refine keeps_bind keep_part141 fun _ _ => ?_
    refine keeps_bind keep_part142 fun _ _ => ?_
    refine keeps_bind keeps_store fun _ _ => ?_
    exact keeps_pure _ trivial
  refine keeps_bind (keeps_for fun _ _ => ?_) fun _ _ => ?_
  · refine keeps_bind keep_part244 fun _ _ => ?_
    refine keeps_bind keep_part245 fun _ _ => ?_
    refine keeps_bind keeps_store fun _ _ => ?_
    exact keeps_pure _ trivial
  repeat first
    | refine keeps_bind keeps_load fun _ _ => ?_
    | refine keeps_bind keeps_store fun _ _ => ?_
  exact keeps_pure _ trivial

/-- Part 267 of the body keeps the buffers. -/
theorem keep_part267 {v688 v709 v712 v713} :
    Keeps c bd R (k0_part267 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v688 v709 v712 v713) (fun _ => True) := by
  unfold k0_part267
  repeat' first
    | exact keeps_pure _ trivial
    | refine keeps_bind keeps_load fun _ _ => ?_
    | refine keeps_bind keeps_store fun _ _ => ?_

/-- Part 268 of the body keeps the buffers. -/
theorem keep_part268 {v688 v739 v740} :
    Keeps c bd R (k0_part268 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v688 v739 v740) (fun _ => True) := by
  unfold k0_part268
  repeat' first
    | exact keeps_pure _ trivial
    | refine keeps_bind keeps_load fun _ _ => ?_
    | refine keeps_bind keeps_store fun _ _ => ?_

/-- Part 269 of the body keeps the buffers. -/
theorem keep_part269 {v688 v769} :
    Keeps c bd R (k0_part269 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v688 v769) (fun _ => True) := by
  unfold k0_part269
  repeat' first
    | exact keeps_pure _ trivial
    | refine keeps_bind keeps_load fun _ _ => ?_
    | refine keeps_bind keeps_store fun _ _ => ?_

/-- Part 270 of the body keeps the buffers. -/
theorem keep_part270 {v796 v797} :
    Keeps c bd R (k0_part270 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v796 v797) (fun _ => True) := by
  unfold k0_part270
  repeat' first
    | exact keeps_pure _ trivial
    | refine keeps_bind keeps_load fun _ _ => ?_
    | refine keeps_bind keeps_store fun _ _ => ?_

/-- Part 271 of the body keeps the buffers. -/
theorem keep_part271 :
    Keeps c bd R (k0_part271 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) (fun _ => True) := by
  unfold k0_part271
  repeat' first
    | exact keeps_pure _ trivial
    | refine keeps_bind keeps_load fun _ _ => ?_
    | refine keeps_bind keeps_store fun _ _ => ?_

/-- Part 273 of the body keeps the buffers. -/
theorem keep_part273 {v483_2 v517 arg33 arg34 arg35 arg36 arg37 v897 v898 v899 c0_i32_658 c1_i32_660 k0_t8} :
    Keeps c bd R (k0_part273 (F := F) i arg10 harg10 v483_2 v517 arg33 arg34 arg35 arg36 arg37 v897 v898 v899 c0_i32_658 c1_i32_660 k0_t8) (fun _ => True) := by
  unfold k0_part273
  repeat' first
    | exact keeps_pure _ trivial
    | refine keeps_bind keeps_load fun _ _ => ?_
    | refine keeps_bind keeps_store fun _ _ => ?_

/-- Part 274 of the body keeps the buffers. -/
theorem keep_part274 {v483_2 v517 arg33 arg34 arg35 arg36 arg37 v897 v898 v899 v922 c1_i32_661 k0_t9} :
    Keeps c bd R (k0_part274 (F := F) i arg10 harg10 v483_2 v517 arg33 arg34 arg35 arg36 arg37 v897 v898 v899 v922 c1_i32_661 k0_t9) (fun _ => True) := by
  unfold k0_part274
  repeat' first
    | exact keeps_pure _ trivial
    | refine keeps_bind keeps_load fun _ _ => ?_
    | refine keeps_bind keeps_store fun _ _ => ?_

/-- Part 275 of the body keeps the buffers. -/
theorem keep_part275 {v483_2 v517 arg33 arg34 arg35 arg36 arg37 v945 v946 v947 c0_i32_679 c1_i32_681 k0_t10} :
    Keeps c bd R (k0_part275 (F := F) i arg10 harg10 v483_2 v517 arg33 arg34 arg35 arg36 arg37 v945 v946 v947 c0_i32_679 c1_i32_681 k0_t10) (fun _ => True) := by
  unfold k0_part275
  repeat' first
    | exact keeps_pure _ trivial
    | refine keeps_bind keeps_load fun _ _ => ?_
    | refine keeps_bind keeps_store fun _ _ => ?_

/-- Part 276 of the body keeps the buffers. -/
theorem keep_part276 {v483_2 v517 arg33 arg34 arg35 arg36 arg37 v945 v946 v947 v970 c1_i32_682 k0_t11} :
    Keeps c bd R (k0_part276 (F := F) i arg10 harg10 v483_2 v517 arg33 arg34 arg35 arg36 arg37 v945 v946 v947 v970 c1_i32_682 k0_t11) (fun _ => True) := by
  unfold k0_part276
  repeat' first
    | exact keeps_pure _ trivial
    | refine keeps_bind keeps_load fun _ _ => ?_
    | refine keeps_bind keeps_store fun _ _ => ?_

/-- Part 277 of the body keeps the buffers. -/
theorem keep_part277 {v483_2 v517 arg33 arg34 arg35 arg36 arg37 v993 v994 v995 c0_i32_700 c1_i32_702 k0_t12} :
    Keeps c bd R (k0_part277 (F := F) i arg10 harg10 v483_2 v517 arg33 arg34 arg35 arg36 arg37 v993 v994 v995 c0_i32_700 c1_i32_702 k0_t12) (fun _ => True) := by
  unfold k0_part277
  repeat' first
    | exact keeps_pure _ trivial
    | refine keeps_bind keeps_load fun _ _ => ?_
    | refine keeps_bind keeps_store fun _ _ => ?_

/-- Part 278 of the body keeps the buffers. -/
theorem keep_part278 {v483_2 v517 arg33 arg34 arg35 arg36 arg37 v993 v994 v995 v1018 c1_i32_703 k0_t13} :
    Keeps c bd R (k0_part278 (F := F) i arg10 harg10 v483_2 v517 arg33 arg34 arg35 arg36 arg37 v993 v994 v995 v1018 c1_i32_703 k0_t13) (fun _ => True) := by
  unfold k0_part278
  repeat' first
    | exact keeps_pure _ trivial
    | refine keeps_bind keeps_load fun _ _ => ?_
    | refine keeps_bind keeps_store fun _ _ => ?_

/-- Part 279 of the body keeps the buffers. -/
theorem keep_part279 {v483_2 v517 arg33 arg34 arg35 arg36 arg37 v1041 v1042 v1043 c0_i32_721 c1_i32_723 k0_t14} :
    Keeps c bd R (k0_part279 (F := F) i arg10 harg10 v483_2 v517 arg33 arg34 arg35 arg36 arg37 v1041 v1042 v1043 c0_i32_721 c1_i32_723 k0_t14) (fun _ => True) := by
  unfold k0_part279
  repeat' first
    | exact keeps_pure _ trivial
    | refine keeps_bind keeps_load fun _ _ => ?_
    | refine keeps_bind keeps_store fun _ _ => ?_

/-- Part 280 of the body keeps the buffers. -/
theorem keep_part280 {v483_2 v517 arg33 arg34 arg35 arg36 arg37 v1041 v1042 v1043 v1066 c1_i32_724 k0_t15} :
    Keeps c bd R (k0_part280 (F := F) i arg10 harg10 v483_2 v517 arg33 arg34 arg35 arg36 arg37 v1041 v1042 v1043 v1066 c1_i32_724 k0_t15) (fun _ => True) := by
  unfold k0_part280
  repeat' first
    | exact keeps_pure _ trivial
    | refine keeps_bind keeps_load fun _ _ => ?_
    | refine keeps_bind keeps_store fun _ _ => ?_

/-- Part 281 of the body keeps the buffers. -/
theorem keep_part281 {v483_2 v517 arg33 arg34 arg35 arg36 arg37 v1} :
    Keeps c bd R (k0_part281 (F := F) i arg10 harg10 v483_2 v517 arg33 arg34 arg35 arg36 arg37 v1) (fun _ => True) := by
  unfold k0_part281
  refine keeps_bind (keeps_for fun _ _ => ?_) fun _ _ => ?_
  · refine keeps_bind keep_part273 fun _ _ => ?_
    exact keeps_pure _ trivial
  refine keeps_bind (keeps_for fun _ _ => ?_) fun _ _ => ?_
  · refine keeps_bind keep_part274 fun _ _ => ?_
    exact keeps_pure _ trivial
  exact keeps_pure _ trivial

/-- Part 282 of the body keeps the buffers, and counts one trip more than `arg33`. -/
theorem keep_part282 {v483_2 v517 arg33 arg34 arg35 arg36 arg37 v1 v890 v927} :
    Keeps c bd R (k0_part282 (F := F) i arg10 harg10 v483_2 v517 arg33 arg34 arg35 arg36 arg37 v1 v890 v927) (fun r => r.2.2.2.1 = Scalar.addi arg33 1#32) := by
  unfold k0_part282
  repeat' first
    | exact keeps_pure _ rfl
    | refine keeps_bind keeps_load fun _ _ => ?_
    | refine keeps_bind keeps_store fun _ _ => ?_

/-- Part 283 of the body keeps the buffers, and counts one trip more than `v934`. -/
theorem keep_part283 {v483_2 v517 arg33 arg34 arg35 arg36 arg37 v1 v931 v932 v933 v934 v938 v945 v946 v947 v965 c0_i32_679 v969} :
    Keeps c bd R (k0_part283 (F := F) i arg10 harg10 v483_2 v517 arg33 arg34 arg35 arg36 arg37 v1 v931 v932 v933 v934 v938 v945 v946 v947 v965 c0_i32_679 v969) (fun r => r.2.2.2.1 = Scalar.addi v934 1#32) := by
  unfold k0_part283
  refine keeps_bind (keeps_for fun _ _ => ?_) fun _ _ => ?_
  · refine keeps_bind keep_part275 fun _ _ => ?_
    exact keeps_pure _ trivial
  refine keeps_bind (keeps_for fun _ _ => ?_) fun _ _ => ?_
  · refine keeps_bind keep_part276 fun _ _ => ?_
    exact keeps_pure _ trivial
  exact keeps_pure _ rfl

/-- Part 284 of the body keeps the buffers, and counts one trip more than `v982`. -/
theorem keep_part284 {v483_2 v517 arg33 arg34 arg35 arg36 arg37 v1 v979 v980 v981 v982 v986 v993 v994 v995 v996 v1010 v1011} :
    Keeps c bd R (k0_part284 (F := F) i arg10 harg10 v483_2 v517 arg33 arg34 arg35 arg36 arg37 v1 v979 v980 v981 v982 v986 v993 v994 v995 v996 v1010 v1011) (fun r => r.2.2.2.1 = Scalar.addi v982 1#32) := by
  unfold k0_part284
  refine keeps_bind (keeps_for fun _ _ => ?_) fun _ _ => ?_
  · refine keeps_bind keep_part277 fun _ _ => ?_
    exact keeps_pure _ trivial
  refine keeps_bind (keeps_for fun _ _ => ?_) fun _ _ => ?_
  · refine keeps_bind keep_part278 fun _ _ => ?_
    exact keeps_pure _ trivial
  exact keeps_pure _ rfl

end Cert.Proof.Attn

end
-- ==== Proof.AttnBody.lean ====
/-
  The attention's frame: its while loop, which runs at most four trips, the three parts of the body around it, and the
  body whole.
-/
module

public import proofs.«01_k».proof.Proof.AttnParts5

@[expose] public section

set_option maxHeartbeats 4000000
set_option synthInstance.maxHeartbeats 400000
set_option synthInstance.maxSize 4096

noncomputable section

namespace Cert.Proof.Attn

open Cert.Attention Cert.Attention.Gen
open Idealize.ShloMosaic Idealize.ShloMosaic.TcCoe
open Idealize.SL Idealize.SL.BI Idealize.SL.Sem

variable {F : FTy → Type} [BitOps F] [Facts]
variable {c : Dev nD} {bd : Option ℕ} {R : sProp (MT nD τ sig Unit (Elt F) ℕ (UR sig nD τ) ℕ)}
variable {i : grid0.Coords}
variable {arg2 : Memref sig .tc .vmem S1x512x256 .bf16} {harg2 : arg2.IsWhole} [Has (F := F) c R arg2]
variable {arg3 : Memref sig .tc .vmem S1x8x256 .f32} {harg3 : arg3.IsWhole} [Has (F := F) c R arg3]
variable {arg4 : Memref sig .tc .vmem S1x512x256 .bf16} {harg4 : arg4.IsWhole} [Has (F := F) c R arg4]
variable {arg5 : Memref sig .tc .vmem S1x8192x64 .bf16} {harg5 : arg5.IsWhole} [Has (F := F) c R arg5]
variable {arg6 : Memref sig .tc .vmem S1x8192x512 .bf16} {harg6 : arg6.IsWhole} [Has (F := F) c R arg6]
variable {arg7 : Memref sig .tc .vmem S1x16x8x80x512 .bf16} {harg7 : arg7.IsWhole} [Has (F := F) c R arg7]
variable {arg8 : Memref sig .tc .vmem S1x256x512 .bf16} {harg8 : arg8.IsWhole} [Has (F := F) c R arg8]
variable {arg9 : Memref sig .tc .vmem S8192x256 .i32} {harg9 : arg9.IsWhole} [Has (F := F) c R arg9]
variable {arg10 : Memref sig .tc .vmem S8192x256 .i16} {harg10 : arg10.IsWhole} [Has (F := F) c R arg10]
variable {arg11 : Memref sig .tc .vmem S8x128x256 .bf16} {harg11 : arg11.IsWhole} [Has (F := F) c R arg11]
variable {arg12 : Memref sig .tc .vmem S8x80x256 .f32} {harg12 : arg12.IsWhole} [Has (F := F) c R arg12]
variable {arg13 : Memref sig .tc .vmem S8x256 .f32} {harg13 : arg13.IsWhole} [Has (F := F) c R arg13]
variable {arg14 : Memref sig .tc .vmem S8x256 .f32} {harg14 : arg14.IsWhole} [Has (F := F) c R arg14]
variable {arg15 : Memref sig .tc .vmem S512x256 .f32} {harg15 : arg15.IsWhole} [Has (F := F) c R arg15]
variable {arg16 : Memref sig .tc .vmem S512x256 .f32} {harg16 : arg16.IsWhole} [Has (F := F) c R arg16]
variable {arg17 : Memref sig .tc .vmem S1x512x256 .f32} {harg17 : arg17.IsWhole} [Has (F := F) c R arg17]
variable {arg18 : Memref sig .tc .vmem S1x512x256 .f32} {harg18 : arg18.IsWhole} [Has (F := F) c R arg18]
variable {arg19 : Memref sig .tc .vmem S1x512x256 .f32} {harg19 : arg19.IsWhole} [Has (F := F) c R arg19]
variable {arg20 : Memref sig .tc .vmem S1x512x256 .f32} {harg20 : arg20.IsWhole} [Has (F := F) c R arg20]
variable {arg21 : Memref sig .tc .vmem S1x512x256 .f32} {harg21 : arg21.IsWhole} [Has (F := F) c R arg21]
variable {arg22 : Memref sig .tc .vmem S1x512x256 .f32} {harg22 : arg22.IsWhole} [Has (F := F) c R arg22]
variable {arg23 : Memref sig .tc .vmem S1x512x256 .f32} {harg23 : arg23.IsWhole} [Has (F := F) c R arg23]
variable {arg24 : Memref sig .tc .vmem S1x512x256 .f32} {harg24 : arg24.IsWhole} [Has (F := F) c R arg24]
variable {arg25 : Memref sig .tc .vmem S1x512x256 .bf16} {harg25 : arg25.IsWhole} [Has (F := F) c R arg25]
variable {arg26 : Memref sig .tc .vmem S1x512x256 .bf16} {harg26 : arg26.IsWhole} [Has (F := F) c R arg26]
variable {arg27 : Memref sig .tc .vmem S1x512x256 .bf16} {harg27 : arg27.IsWhole} [Has (F := F) c R arg27]
variable {arg28 : Memref sig .tc .vmem S1x512x256 .bf16} {harg28 : arg28.IsWhole} [Has (F := F) c R arg28]
variable {arg29 : Memref sig .tc .vmem S1x512x256 .bf16} {harg29 : arg29.IsWhole} [Has (F := F) c R arg29]
variable {arg30 : Memref sig .tc .vmem S1x512x256 .bf16} {harg30 : arg30.IsWhole} [Has (F := F) c R arg30]
variable {arg31 : Memref sig .tc .vmem S1x512x256 .bf16} {harg31 : arg31.IsWhole} [Has (F := F) c R arg31]
variable {arg32 : Memref sig .tc .vmem S1x512x256 .bf16} {harg32 : arg32.IsWhole} [Has (F := F) c R arg32]

/-- At the counter's bound the while's condition fails. -/
theorem at_bound (x : BitVec 1) : ¬ Scalar.andi (Scalar.cmpi .slt (32#32) (32#32)) x = 1#1 := by
  revert x; decide

/-- With `n + 1` trips of four left the counter, four more, has `n` left. -/
theorem one_trip {n : ℕ} (hn : n < 4) :
    Scalar.addi (Scalar.addi (Scalar.addi (Scalar.addi (BitVec.ofNat 32 (32 - 4 * (n + 1))) 1#32) 1#32) 1#32) 1#32
      = BitVec.ofNat 32 (32 - 4 * n) := by
  match n, hn with
  | 0, _ | 1, _ | 2, _ | 3, _ => rfl

/-- The while keeps the buffers from any counter with `n` trips of at most four left, entered at the variant `n`. -/
theorem keep_while (n : ℕ) (hn : n ≤ 4) : ∀ {v483_2 v517 arg33 arg34 arg35 arg36 arg37},
    arg33 = BitVec.ofNat 32 (32 - 4 * n) →
    Keeps c (some n) R (cc0_while1 (F := F) i arg10 harg10 v483_2 v517 arg33 arg34 arg35 arg36 arg37) (fun _ => True) := by
  induction n with
  | zero =>
    intro _ _ _ _ _ _ _ h
    subst h
    unfold cc0_while1
    exact keeps_ite (fun h => absurd h (at_bound _)) fun _ => keeps_pure _ trivial
  | succ n ih =>
    intro _ _ _ _ _ _ _ h
    unfold cc0_while1
    refine keeps_ite (fun _ => ?_) fun _ => keeps_pure _ trivial
    refine keeps_bind keep_part281 fun _ _ => ?_
    refine keeps_bind keep_part282 fun _ h₁ => ?_
    refine keeps_bind keep_part283 fun _ h₂ => ?_
    refine keeps_bind keep_part284 fun _ h₃ => ?_
    refine keeps_bind (keeps_for fun _ _ => ?_) fun _ _ => ?_
    · refine keeps_bind keep_part279 fun _ _ => ?_
      exact keeps_pure _ trivial
    refine keeps_bind (keeps_for fun _ _ => ?_) fun _ _ => ?_
    · refine keeps_bind keep_part280 fun _ _ => ?_
      exact keeps_pure _ trivial
    refine keeps_call n (fun u hu => by cases hu; exact Nat.lt_succ_self n) (ih (by omega) ?_)
    rw [h₃, h₂, h₁, h, one_trip (by omega)]

/-- Part 259 of the body keeps the buffers. -/
theorem keep_part259 {arg1 v1 v447 c2_i32_287 v448 v450 v451} :
    Keeps c bd R (k0_part259 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg1 v1 v447 c2_i32_287 v448 v450 v451) (fun _ => True) := by
  unfold k0_part259
  refine keeps_dite (F := F) (fun _ => ?_) fun _ => ?_
  on_goal 1 =>
    refine keeps_bind keeps_load fun _ _ => ?_
    refine keeps_bind keeps_store fun _ _ => ?_
  all_goals
    refine keeps_bind (keeps_for fun _ _ => ?_) fun _ _ => ?_
    · refine keeps_bind keep_part27 fun _ _ => ?_
      exact keeps_pure _ trivial
    exact keeps_pure _ trivial

/-- Part 261 of the body, which runs the while, keeps the buffers when the counter starts at 16. -/
theorem keep_part261 {v1 v479 v480 v483_0 v483_1 v483_2 v517 v527 c16_i32_330} (h : c16_i32_330 = 16#32) :
    Keeps c none R (k0_part261 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 v1 v479 v480 v483_0 v483_1 v483_2 v517 v527 c16_i32_330) (fun _ => True) := by
  unfold k0_part261
  refine keeps_bind (keeps_call 4 (fun _ hu => nomatch hu) (keep_while 4 le_rfl h)) fun _ _ => ?_
  refine keeps_ite (F := F) (fun _ => ?_) fun _ => ?_
  on_goal 1 =>
    refine keeps_bind (keeps_for fun _ _ => ?_) fun _ _ => ?_
    · refine keeps_bind (keeps_for fun _ _ => ?_) fun _ _ => ?_
      · refine keeps_bind keep_part28 fun _ _ => ?_
        refine keeps_bind keep_part29 fun _ _ => ?_
        refine keeps_bind keep_part30 fun _ _ => ?_
        refine keeps_bind keep_part31 fun _ _ => ?_
        refine keeps_bind keep_part32 fun _ _ => ?_
        refine keeps_bind keep_part33 fun _ _ => ?_
        exact keeps_pure _ trivial
      refine keeps_bind (keeps_for fun _ _ => ?_) fun _ _ => ?_
      · refine keeps_bind keep_part34 fun _ _ => ?_
        refine keeps_bind keep_part35 fun _ _ => ?_
        refine keeps_bind keep_part36 fun _ _ => ?_
        refine keeps_bind keep_part37 fun _ _ => ?_
        refine keeps_bind keep_part38 fun _ _ => ?_
        refine keeps_bind keep_part39 fun _ _ => ?_
        exact keeps_pure _ trivial
      exact keeps_pure _ trivial
    refine keeps_bind (keeps_for fun _ _ => ?_) fun _ _ => ?_
    · refine keeps_bind keeps_load fun _ _ => ?_
      refine keeps_bind keeps_load fun _ _ => ?_
      refine keeps_bind keeps_store fun _ _ => ?_
      exact keeps_pure _ trivial
    refine keeps_bind (keeps_for fun _ _ => ?_) fun _ _ => ?_
    · refine keeps_bind keeps_load fun _ _ => ?_
      refine keeps_bind keeps_load fun _ _ => ?_
      refine keeps_bind keeps_store fun _ _ => ?_
      exact keeps_pure _ trivial
  all_goals
    repeat first
      | refine keeps_bind keeps_load fun _ _ => ?_
      | refine keeps_bind keeps_store fun _ _ => ?_
    exact keeps_pure _ trivial

/-- Part 272 of the body keeps the buffers. -/
theorem keep_part272 :
    Keeps c none R (k0_part272 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) (fun _ => True) := by
  unfold k0_part272
  refine keeps_bind keep_part246 fun _ _ => ?_
  refine keeps_bind keep_part247 fun _ _ => ?_
  refine keeps_bind keep_part248 fun _ _ => ?_
  refine keeps_bind keep_part249 fun _ _ => ?_
  refine keeps_bind keep_part250 fun _ _ => ?_
  refine keeps_bind keep_part251 fun _ _ => ?_
  refine keeps_bind keep_part252 fun _ _ => ?_
  refine keeps_bind keep_part253 fun _ _ => ?_
  refine keeps_bind keep_part254 fun _ _ => ?_
  refine keeps_bind keep_part255 fun _ _ => ?_
  refine keeps_bind keep_part256 fun _ _ => ?_
  refine keeps_bind keep_part257 fun _ _ => ?_
  refine keeps_bind keep_part258 fun _ _ => ?_
  refine keeps_bind keep_part259 fun _ _ => ?_
  refine keeps_bind keep_part260 fun _ h => ?_
  refine keeps_bind (keep_part261 h) fun _ _ => ?_
  refine keeps_bind keep_part262 fun _ _ => ?_
  refine keeps_bind keep_part263 fun _ _ => ?_
  refine keeps_bind keep_part264 fun _ _ => ?_
  refine keeps_bind keep_part265 fun _ _ => ?_
  refine keeps_bind keep_part266 fun _ _ => ?_
  refine keeps_bind keep_part267 fun _ _ => ?_
  refine keeps_bind keep_part268 fun _ _ => ?_
  refine keeps_bind keep_part269 fun _ _ => ?_
  refine keeps_bind keep_part270 fun _ _ => ?_
  refine keeps_bind keep_part271 fun _ _ => ?_
  repeat first
    | refine keeps_bind keeps_load fun _ _ => ?_
    | refine keeps_bind keeps_store fun _ _ => ?_
  exact keeps_pure _ trivial

/-- The kernel's body keeps the buffers. -/
theorem keep_body :
    Keeps c none R (cc0_topk_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) (fun _ => True) := by
  unfold cc0_topk_attention
  refine keeps_bind keep_part272 fun _ _ => ?_
  repeat first
    | refine keeps_bind keeps_load fun _ _ => ?_
    | refine keeps_bind keeps_store fun _ _ => ?_
  exact keeps_pure _ trivial

end Cert.Proof.Attn

end
-- ==== Proof.AttnRun.lean ====
/-
  The attention's frame: the body at a grid point, and the launch.
-/
module

public import proofs.«01_k».proof.Proof.Gen.Attention.Launch
public import Idealize.ShloMosaic.Lib.Pipeline.Frame
public import Idealize.ShloMosaic.Lib.StableHlo.RunHlo
public import Idealize.ShloMosaic.PureOps.BitExact
public import proofs.«01_k».proof.Proof.AttnBody

@[expose] public section

set_option maxHeartbeats 4000000
set_option synthInstance.maxHeartbeats 400000
set_option synthInstance.maxSize 4096

noncomputable section

namespace Cert.Proof.Attn

open Cert.Attention Cert.Attention.Gen
open Idealize.ShloMosaic Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [Facts]
variable (m : (ℓ : Loc nD τ sig) → Buf (Elt F) ℓ) (g : Dev nD → PrngReg)
variable {c : Dev nD} {bd : Option ℕ} {R : sProp (MT nD τ sig Unit (Elt F) ℕ (UR sig nD τ) ℕ)}

/-- A memref held beside anything is held. -/
instance hasLeft {sp : Space} {S : Shape} {e : EltTy} {m : Memref sig .tc sp S e} :
    Has (F := F) c iprop(held c m ∗ R) m where
  take := by
    iintro ⟨H, HR⟩
    isplitl [H]; · iexact H
    iintro H
    isplitl [H]; · iexact H
    iexact HR

/-- What one side holds, both sides hold. -/
instance (priority := low) hasRight {sp : Space} {S : Shape} {e : EltTy} {m : Memref sig .tc sp S e}
    {A : sProp (MT nD τ sig Unit (Elt F) ℕ (UR sig nD τ) ℕ)} [h : Has (F := F) c R m] : Has (F := F) c iprop(A ∗ R) m where
  take := by
    iintro ⟨HA, HR⟩
    icases (h.take) $$ HR with ⟨H, Hk⟩
    isplitl [H]; · iexact H
    iintro H
    isplitl [HA]; · iexact HA
    iapply Hk; iexact H

/-- What the run says of the region: its arrays are as the launch finds them, nothing is said of what the body leaves in a
    staging buffer, the scratch is held at some contents, the shares are full and nothing is owed. -/
def rdat (c : Dev nD) : Pipeline.RDat τ (Elt F) Unit ℕ (UR sig nD τ) ℕ (cfg0 (F := F)) c where
  A w := m ((c : Thread nD τ).loc (Pipeline.arrRef spec0 w))
  after _ _ _ _ := True
  Φ _ := Pipeline.ΦA spec0 c
  q _ := fullShare
  owed _ := 0

/-- The body of the region at point `t`, from the staging buffers, the scratch and anything else, back to them. -/
theorem body_at (c : Dev nD) (t : Fin (cfg0 (F := F)).N) (A : sProp (MT nD τ sig Unit (Elt F) ℕ (UR sig nD τ) ℕ)) :
    iprop(held (F := F) c (win0_0.stage (cfg0 (F := F).slots t 0)) ∗ held (F := F) c (win0_1.stage (cfg0 (F := F).slots t 1)) ∗ held (F := F) c (win0_2.stage (cfg0 (F := F).slots t 2)) ∗ held (F := F) c (win0_3.stage (cfg0 (F := F).slots t 3)) ∗ held (F := F) c (win0_4.stage (cfg0 (F := F).slots t 4)) ∗ held (F := F) c (win0_5.stage (cfg0 (F := F).slots t 5)) ∗ held (F := F) c (win0_6.stage (cfg0 (F := F).slots t 6)) ∗ held (F := F) c (Memref.whole cc0_scratch0) ∗ held (F := F) c (Memref.whole cc0_scratch1) ∗ held (F := F) c (Memref.whole cc0_scratch2) ∗ held (F := F) c (Memref.whole cc0_scratch3) ∗ held (F := F) c (Memref.whole cc0_scratch4) ∗ held (F := F) c (Memref.whole cc0_scratch5) ∗ held (F := F) c (Memref.whole cc0_scratch6) ∗ held (F := F) c (Memref.whole cc0_scratch7) ∗ held (F := F) c (Memref.whole cc0_scratch8) ∗ held (F := F) c (Memref.whole cc0_scratch9) ∗ held (F := F) c (Memref.whole cc0_scratch10) ∗ held (F := F) c (Memref.whole cc0_scratch11) ∗ held (F := F) c (Memref.whole cc0_scratch12) ∗ held (F := F) c (Memref.whole cc0_scratch13) ∗ held (F := F) c (Memref.whole cc0_scratch14) ∗ held (F := F) c (Memref.whole cc0_scratch15) ∗ held (F := F) c (Memref.whole cc0_scratch16) ∗ held (F := F) c (Memref.whole cc0_scratch17) ∗ held (F := F) c (Memref.whole cc0_scratch18) ∗ held (F := F) c (Memref.whole cc0_scratch19) ∗ held (F := F) c (Memref.whole cc0_scratch20) ∗ held (F := F) c (Memref.whole cc0_scratch21) ∗ held (F := F) c (Memref.whole cc0_scratch22) ∗ held (F := F) c (Memref.whole cc0_scratch23) ∗ A)
      ⊢ wp frame (wpE (defs₀ (F := F)) 𝒱₀ (c : Thread nD τ) none) Set.univ
          (defs₀ .tc (cfg0 (F := F)).body ((cfg0 (F := F)).bodyArgs t ((cfg0 (F := F)).slots t)))
          (fun _ => iprop(⌜True⌝ ∗ held (F := F) c (win0_0.stage (cfg0 (F := F).slots t 0)) ∗ held (F := F) c (win0_1.stage (cfg0 (F := F).slots t 1)) ∗ held (F := F) c (win0_2.stage (cfg0 (F := F).slots t 2)) ∗ held (F := F) c (win0_3.stage (cfg0 (F := F).slots t 3)) ∗ held (F := F) c (win0_4.stage (cfg0 (F := F).slots t 4)) ∗ held (F := F) c (win0_5.stage (cfg0 (F := F).slots t 5)) ∗ held (F := F) c (win0_6.stage (cfg0 (F := F).slots t 6)) ∗ held (F := F) c (Memref.whole cc0_scratch0) ∗ held (F := F) c (Memref.whole cc0_scratch1) ∗ held (F := F) c (Memref.whole cc0_scratch2) ∗ held (F := F) c (Memref.whole cc0_scratch3) ∗ held (F := F) c (Memref.whole cc0_scratch4) ∗ held (F := F) c (Memref.whole cc0_scratch5) ∗ held (F := F) c (Memref.whole cc0_scratch6) ∗ held (F := F) c (Memref.whole cc0_scratch7) ∗ held (F := F) c (Memref.whole cc0_scratch8) ∗ held (F := F) c (Memref.whole cc0_scratch9) ∗ held (F := F) c (Memref.whole cc0_scratch10) ∗ held (F := F) c (Memref.whole cc0_scratch11) ∗ held (F := F) c (Memref.whole cc0_scratch12) ∗ held (F := F) c (Memref.whole cc0_scratch13) ∗ held (F := F) c (Memref.whole cc0_scratch14) ∗ held (F := F) c (Memref.whole cc0_scratch15) ∗ held (F := F) c (Memref.whole cc0_scratch16) ∗ held (F := F) c (Memref.whole cc0_scratch17) ∗ held (F := F) c (Memref.whole cc0_scratch18) ∗ held (F := F) c (Memref.whole cc0_scratch19) ∗ held (F := F) c (Memref.whole cc0_scratch20) ∗ held (F := F) c (Memref.whole cc0_scratch21) ∗ held (F := F) c (Memref.whole cc0_scratch22) ∗ held (F := F) c (Memref.whole cc0_scratch23) ∗ A)) := by
  unfold defs₀; rw [Defs.onTc_tc]
  exact (keep_body (c := c) (R := iprop(held (F := F) c (win0_0.stage (cfg0 (F := F).slots t 0)) ∗ held (F := F) c (win0_1.stage (cfg0 (F := F).slots t 1)) ∗ held (F := F) c (win0_2.stage (cfg0 (F := F).slots t 2)) ∗ held (F := F) c (win0_3.stage (cfg0 (F := F).slots t 3)) ∗ held (F := F) c (win0_4.stage (cfg0 (F := F).slots t 4)) ∗ held (F := F) c (win0_5.stage (cfg0 (F := F).slots t 5)) ∗ held (F := F) c (win0_6.stage (cfg0 (F := F).slots t 6)) ∗ held (F := F) c (Memref.whole cc0_scratch0) ∗ held (F := F) c (Memref.whole cc0_scratch1) ∗ held (F := F) c (Memref.whole cc0_scratch2) ∗ held (F := F) c (Memref.whole cc0_scratch3) ∗ held (F := F) c (Memref.whole cc0_scratch4) ∗ held (F := F) c (Memref.whole cc0_scratch5) ∗ held (F := F) c (Memref.whole cc0_scratch6) ∗ held (F := F) c (Memref.whole cc0_scratch7) ∗ held (F := F) c (Memref.whole cc0_scratch8) ∗ held (F := F) c (Memref.whole cc0_scratch9) ∗ held (F := F) c (Memref.whole cc0_scratch10) ∗ held (F := F) c (Memref.whole cc0_scratch11) ∗ held (F := F) c (Memref.whole cc0_scratch12) ∗ held (F := F) c (Memref.whole cc0_scratch13) ∗ held (F := F) c (Memref.whole cc0_scratch14) ∗ held (F := F) c (Memref.whole cc0_scratch15) ∗ held (F := F) c (Memref.whole cc0_scratch16) ∗ held (F := F) c (Memref.whole cc0_scratch17) ∗ held (F := F) c (Memref.whole cc0_scratch18) ∗ held (F := F) c (Memref.whole cc0_scratch19) ∗ held (F := F) c (Memref.whole cc0_scratch20) ∗ held (F := F) c (Memref.whole cc0_scratch21) ∗ held (F := F) c (Memref.whole cc0_scratch22) ∗ held (F := F) c (Memref.whole cc0_scratch23) ∗ A))).run

/-- The body obligation of the region. -/
theorem body_ob (c : Dev nD) : (rdat m c).BodyObligation (defs₀ (F := F)) 𝒱₀ () Set.univ := fun t Y _ => by
  rw [bigSep_W0, bigSep_W0]
  rw [show (rdat m c).Φ t.succ = Pipeline.ΦA spec0 c from rfl, show (rdat m c).Φ t.castSucc = Pipeline.ΦA spec0 c from rfl,
    show (rdat m c).owesAt () t.succ = (rdat m c).owesAt () t.castSucc from rfl]
  unfold Pipeline.ΦA
  rw [scopedRest0_eq]
  refine BIBase.Entails.trans ?_ ((body_at c t iprop((∃ r, prngReg c r) ∗ (rdat m c).owesAt () t.castSucc)).trans (wp_mono _ _ _ fun v => ?_))
  · simp only [held, owns_whole]
    iintro ⟨⟨⟨H7, H8, H9, H10, H11, H12, H13, H14, H15, H16, H17, H18, H19, H20, H21, H22, H23, H24, H25, H26, H27, H28, H29, H30⟩, Hg⟩, Ho, H0, H1, H2, H3, H4, H5, H6⟩
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [Hg]; · iexact Hg
    iexact Ho
  · simp only [held, owns_whole]
    iintro ⟨-, H0, H1, H2, H3, H4, H5, H6, H7, H8, H9, H10, H11, H12, H13, H14, H15, H16, H17, H18, H19, H20, H21, H22, H23, H24, H25, H26, H27, H28, H29, H30, Hg, Ho⟩
    isplitl [H7 H8 H9 H10 H11 H12 H13 H14 H15 H16 H17 H18 H19 H20 H21 H22 H23 H24 H25 H26 H27 H28 H29 H30 Hg]
    · isplitr [Hg]
      · isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        iexact H30
      · iexact Hg
    isplitl [Ho]; · iexact Ho
    isplitl [H0]
    · icases H0 with ⟨%d, H⟩; iexists d; isplitr; · ipureintro; trivial
      iexact H
    isplitl [H1]
    · icases H1 with ⟨%d, H⟩; iexists d; isplitr; · ipureintro; trivial
      iexact H
    isplitl [H2]
    · icases H2 with ⟨%d, H⟩; iexists d; isplitr; · ipureintro; trivial
      iexact H
    isplitl [H3]
    · icases H3 with ⟨%d, H⟩; iexists d; isplitr; · ipureintro; trivial
      iexact H
    isplitl [H4]
    · icases H4 with ⟨%d, H⟩; iexists d; isplitr; · ipureintro; trivial
      iexact H
    isplitl [H5]
    · icases H5 with ⟨%d, H⟩; iexists d; isplitr; · ipureintro; trivial
      iexact H
    icases H6 with ⟨%d, H⟩; iexists d; isplitr; · ipureintro; trivial
    iexact H

/-- The attention's frame: from any memory with its semaphores at zero every run of @main ends, its arguments as they were and
    its semaphores at zero. -/
theorem run_frame [∀ e, Nonempty (Elt F e)] : θ_run (defs (F := F)) (onTc (τ := τ) (main (F := F))) ⟨m, fun _ => 0, g⟩
    (fun r => Pipeline.RDat.FramePost (cfg0 (F := F)) (rdat m) (fun c b => m ((c.tc : Thread nD τ).loc b)) r ∧ r.2.sem = fun _ => 0) :=
  Pipeline.RDat.θ_run_frame cfgs 0 launch0 defs₀ 𝒱₀ (rdat m) m g main (body_ob m)
    (fun c => (rdat m c).share_full fun _ => rfl) (fun _ _ => rfl) _
    (Pipeline.hmain_region cfgs 0 defs₀ 𝒱₀ m main fun c => (main_chain c).trans rfl) (fun _ _ => rfl) (fun _ _ => rfl) _ fun _ h => h

/-- The same, argument by argument. -/
theorem attention_frame (m : (ℓ : Loc nD τ sig) → Buf (Elt Bits) ℓ) (g : Dev nD → PrngReg) :
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_mono (run_frame (F := Bits) m g) fun r ⟨h, hs⟩ =>
    ⟨fun c => ⟨h.arr_in c 0 rfl, h.arr_in c 1 rfl, h.arr_in c 2 rfl, h.arr_in c 3 rfl, h.arr_in c 4 rfl, h.arr_in c 5 rfl⟩, hs⟩

end Cert.Proof.Attn

end
-- ==== Proof.lean ====
/- The certificate: the frames, and the results of the projection, of the mixer and of the feed-forward layer equal to their references'. -/
module

public import proofs.«01_k».proof.Defs
public import proofs.«01_k».proof.Proof.Gen.Ffn.Frame
public import proofs.«01_k».proof.Proof.Gen.FfnIdeal.Frame
public import proofs.«01_k».proof.Proof.Gen.FfnReferenceIdeal.Run
public import proofs.«01_k».proof.Proof.Gen.Mixer.Frame
public import proofs.«01_k».proof.Proof.Gen.MixerIdeal.Frame
public import proofs.«01_k».proof.Proof.Gen.MixerReferenceIdeal.Run
public import proofs.«01_k».proof.Proof.Gen.Projection.Frame
public import proofs.«01_k».proof.Proof.Gen.ProjectionIdeal.Frame
public import proofs.«01_k».proof.Proof.Gen.ProjectionIdeal.Value
public import proofs.«01_k».proof.Proof.Gen.ProjectionReferenceIdeal.Run
public import proofs.«01_k».proof.Proof.Gen.Attention
public import proofs.«01_k».proof.Proof.Gen.Attention.Launch
public import proofs.«01_k».proof.Proof.FfnClaim
public import proofs.«01_k».proof.Proof.MixClaim
public import proofs.«01_k».proof.Proof.ProjClaim
public import proofs.«01_k».proof.Proof.AttnRun

@[expose] public section

set_option maxRecDepth 16384

/-- Everything the certificate claims. -/
theorem Cert.Proof.claim : Cert.Claim :=
  ⟨Cert.Ffn.Gen.facts, Cert.FfnIdeal.Gen.facts, Cert.FfnReferenceIdeal.Gen.facts,
    Cert.Mixer.Gen.facts, Cert.MixerIdeal.Gen.facts, Cert.MixerReferenceIdeal.Gen.facts,
    Cert.Attention.Gen.facts,
    Cert.Projection.Gen.facts, Cert.ProjectionIdeal.Gen.facts, Cert.ProjectionReferenceIdeal.Gen.facts,
    fun m ρ _ => Cert.Ffn.Gen.frame m ρ, fun m ρ _ => Cert.FfnIdeal.Gen.frame m ρ, Cert.Proof.ffnReference_frame,
    fun m ρ _ => Cert.Mixer.Gen.frame m ρ, fun m ρ _ => Cert.MixerIdeal.Gen.frame m ρ, Cert.Proof.mixerReference_frame,
    fun m ρ _ => Cert.Proof.Attn.attention_frame m ρ,
    fun m ρ _ => Cert.Projection.Gen.frame m ρ, fun m ρ _ => Cert.ProjectionIdeal.Gen.frame m ρ, Cert.Proof.projectionReference_frame,
    trivial, Cert.Proof.ffn_algebraic, trivial, Cert.Proof.mixer_algebraic,
    trivial, Cert.Proof.projection_algebraic⟩

end
